-- ==== Defs.lean ====
def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite [hPre_finite : Cert.Pre_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_in [hPre_finite_in : Cert.Pre_finite_in.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9)) (m ((c.tc : Thread Cert.InBwdRefIdeal.nD Cert.InBwdRefIdeal.τ).loc Cert.InBwdRefIdeal.main_arg10))) = (fun _ => 1#1)

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out [hPre_finite_out : Cert.Pre_finite_out.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6)) (m ((c.tc : Thread Cert.OutBwdRefIdeal.nD Cert.OutBwdRefIdeal.τ).loc Cert.OutBwdRefIdeal.main_arg7))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5)
      ∧ r.2.mem ((c.tc : Thread Cert.Delta.nD Cert.Delta.τ).loc Cert.Delta.main_arg6) = m ((c.tc : Thread Cert.Delta.nD Cert.Delta.τ).loc Cert.Delta.main_arg6)
      ∧ r.2.mem ((c.tc : Thread Cert.Delta.nD Cert.Delta.τ).loc Cert.Delta.main_arg7) = m ((c.tc : Thread Cert.Delta.nD Cert.Delta.τ).loc Cert.Delta.main_arg7))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6)
      ∧ r.2.mem ((c.tc : Thread Cert.DeltaIdeal.nD Cert.DeltaIdeal.τ).loc Cert.DeltaIdeal.main_arg7) = m ((c.tc : Thread Cert.DeltaIdeal.nD Cert.DeltaIdeal.τ).loc Cert.DeltaIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite [hFfnBwdRefIdeal : Cert.FfnBwdRefIdeal.Facts] [hPre_finite : Cert.Pre_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10))
      ∧ r.2.sem = fun _ => 0)

def quiescent_InBwdRefIdeal_pre_finite_in [hInBwdRefIdeal : Cert.InBwdRefIdeal.Facts] [hPre_finite_in : Cert.Pre_finite_in.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_in m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6)
      ∧ r.2.mem ((c.tc : Thread Cert.OutBwd.nD Cert.OutBwd.τ).loc Cert.OutBwd.main_arg7) = m ((c.tc : Thread Cert.OutBwd.nD Cert.OutBwd.τ).loc Cert.OutBwd.main_arg7))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6)
      ∧ r.2.mem ((c.tc : Thread Cert.OutBwdRefIdeal.nD Cert.OutBwdRefIdeal.τ).loc Cert.OutBwdRefIdeal.main_arg7) = m ((c.tc : Thread Cert.OutBwdRefIdeal.nD Cert.OutBwdRefIdeal.τ).loc Cert.OutBwdRefIdeal.main_arg7))
      ∧ r.2.sem = fun _ => 0)

def quiescent_OutBwdRefIdeal_pre_finite_out [hOutBwdRefIdeal : Cert.OutBwdRefIdeal.Facts] [hPre_finite_out : Cert.Pre_finite_out.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6)
      ∧ r.2.mem ((c.tc : Thread Cert.OutBwdRefIdeal.nD Cert.OutBwdRefIdeal.τ).loc Cert.OutBwdRefIdeal.main_arg7) = m ((c.tc : Thread Cert.OutBwdRefIdeal.nD Cert.OutBwdRefIdeal.τ).loc Cert.OutBwdRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0)
      ∧ r.2.mem ((c.tc : Thread Cert.SumDev.nD Cert.SumDev.τ).loc Cert.SumDev.main_arg1) = m ((c.tc : Thread Cert.SumDev.nD Cert.SumDev.τ).loc Cert.SumDev.main_arg1)
      ∧ r.2.mem ((c.tc : Thread Cert.SumDev.nD Cert.SumDev.τ).loc Cert.SumDev.main_arg2) = m ((c.tc : Thread Cert.SumDev.nD Cert.SumDev.τ).loc Cert.SumDev.main_arg2))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
      ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
      ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0)
      ∧ r.2.mem ((c.tc : Thread Cert.SumDevRefIdeal.nD Cert.SumDevRefIdeal.τ).loc Cert.SumDevRefIdeal.main_arg1) = m ((c.tc : Thread Cert.SumDevRefIdeal.nD Cert.SumDevRefIdeal.τ).loc Cert.SumDevRefIdeal.main_arg1)
      ∧ r.2.mem ((c.tc : Thread Cert.SumDevRefIdeal.nD Cert.SumDevRefIdeal.τ).loc Cert.SumDevRefIdeal.main_arg2) = m ((c.tc : Thread Cert.SumDevRefIdeal.nD Cert.SumDevRefIdeal.τ).loc Cert.SumDevRefIdeal.main_arg2))
      ∧ r.2.sem = fun _ => 0)

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v0_0)) (v1 : (c : Dev Cert.SconvIdeal.nD) → Buf (Elt Ideal) ((c.tc : Thread Cert.SconvIdeal.nD Cert.SconvIdeal.τ).loc Cert.SconvIdeal.main_v0_1)) (v2 : (c : Dev Cert.SconvIdeal.nD) → Buf (Elt Ideal) ((c.tc : Thread Cert.SconvIdeal.nD Cert.SconvIdeal.τ).loc Cert.SconvIdeal.main_v0_2)) (v3 : (c : Dev Cert.SconvIdeal.nD) → Buf (Elt Ideal) ((c.tc : Thread Cert.SconvIdeal.nD Cert.SconvIdeal.τ).loc Cert.SconvIdeal.main_v0_3)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0_0) = v0 c
          ∧ r.2.mem ((c.tc : Thread Cert.SconvIdeal.nD Cert.SconvIdeal.τ).loc Cert.SconvIdeal.main_v0_1) = v1 c
          ∧ r.2.mem ((c.tc : Thread Cert.SconvIdeal.nD Cert.SconvIdeal.τ).loc Cert.SconvIdeal.main_v0_2) = v2 c
          ∧ r.2.mem ((c.tc : Thread Cert.SconvIdeal.nD Cert.SconvIdeal.τ).loc Cert.SconvIdeal.main_v0_3) = v3 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v31) = v0 c
          ∧ r.2.mem ((c.tc : Thread Cert.SconvRefIdeal.nD Cert.SconvRefIdeal.τ).loc Cert.SconvRefIdeal.main_v66) = v1 c
          ∧ r.2.mem ((c.tc : Thread Cert.SconvRefIdeal.nD Cert.SconvRefIdeal.τ).loc Cert.SconvRefIdeal.main_v65) = v2 c
          ∧ r.2.mem ((c.tc : Thread Cert.SconvRefIdeal.nD Cert.SconvRefIdeal.τ).loc Cert.SconvRefIdeal.main_v62) = v3 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Delta_DeltaIdeal : Prop :=
  True

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v12) = v0 c
          ∧ r.2.mem ((c.tc : Thread Cert.FfnFwdRefIdeal.nD Cert.FfnFwdRefIdeal.τ).loc Cert.FfnFwdRefIdeal.main_v14) = v1 c
          ∧ r.2.mem ((c.tc : Thread Cert.FfnFwdRefIdeal.nD Cert.FfnFwdRefIdeal.τ).loc Cert.FfnFwdRefIdeal.main_v16) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_FfnBwd_FfnBwdIdeal : Prop :=
  True

def algebraic_FfnBwdIdeal_FfnBwdRefIdeal_pre_finite [hFfnBwdIdeal : Cert.FfnBwdIdeal.Facts] [hFfnBwdRefIdeal : Cert.FfnBwdRefIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v8_0)) (v1 : (c : Dev Cert.FfnBwdIdeal.nD) → Buf (Elt Ideal) ((c.tc : Thread Cert.FfnBwdIdeal.nD Cert.FfnBwdIdeal.τ).loc Cert.FfnBwdIdeal.main_v8_1)) (v2 : (c : Dev Cert.FfnBwdIdeal.nD) → Buf (Elt Ideal) ((c.tc : Thread Cert.FfnBwdIdeal.nD Cert.FfnBwdIdeal.τ).loc Cert.FfnBwdIdeal.main_v8_2)) (v3 : (c : Dev Cert.FfnBwdIdeal.nD) → Buf (Elt Ideal) ((c.tc : Thread Cert.FfnBwdIdeal.nD Cert.FfnBwdIdeal.τ).loc Cert.FfnBwdIdeal.main_v8_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v8_0) = v0 c
          ∧ r.2.mem ((c.tc : Thread Cert.FfnBwdIdeal.nD Cert.FfnBwdIdeal.τ).loc Cert.FfnBwdIdeal.main_v8_1) = v1 c
          ∧ r.2.mem ((c.tc : Thread Cert.FfnBwdIdeal.nD Cert.FfnBwdIdeal.τ).loc Cert.FfnBwdIdeal.main_v8_2) = v2 c
          ∧ r.2.mem ((c.tc : Thread Cert.FfnBwdIdeal.nD Cert.FfnBwdIdeal.τ).loc Cert.FfnBwdIdeal.main_v8_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v22) = v0 c
          ∧ r.2.mem ((c.tc : Thread Cert.FfnBwdRefIdeal.nD Cert.FfnBwdRefIdeal.τ).loc Cert.FfnBwdRefIdeal.main_v27) = v1 c
          ∧ r.2.mem ((c.tc : Thread Cert.FfnBwdRefIdeal.nD Cert.FfnBwdRefIdeal.τ).loc Cert.FfnBwdRefIdeal.main_v25) = v2 c
          ∧ r.2.mem ((c.tc : Thread Cert.FfnBwdRefIdeal.nD Cert.FfnBwdRefIdeal.τ).loc Cert.FfnBwdRefIdeal.main_v23) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v1_0)) (v1 : (c : Dev Cert.InFwdIdeal.nD) → Buf (Elt Ideal) ((c.tc : Thread Cert.InFwdIdeal.nD Cert.InFwdIdeal.τ).loc Cert.InFwdIdeal.main_v1_1)) (v2 : (c : Dev Cert.InFwdIdeal.nD) → Buf (Elt Ideal) ((c.tc : Thread Cert.InFwdIdeal.nD Cert.InFwdIdeal.τ).loc Cert.InFwdIdeal.main_v1_2)) (v3 : (c : Dev Cert.InFwdIdeal.nD) → Buf (Elt Ideal) ((c.tc : Thread Cert.InFwdIdeal.nD Cert.InFwdIdeal.τ).loc Cert.InFwdIdeal.main_v1_3)) (v4 : (c : Dev Cert.InFwdIdeal.nD) → Buf (Elt Ideal) ((c.tc : Thread Cert.InFwdIdeal.nD Cert.InFwdIdeal.τ).loc Cert.InFwdIdeal.main_v1_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1_0) = v0 c
          ∧ r.2.mem ((c.tc : Thread Cert.InFwdIdeal.nD Cert.InFwdIdeal.τ).loc Cert.InFwdIdeal.main_v1_1) = v1 c
          ∧ r.2.mem ((c.tc : Thread Cert.InFwdIdeal.nD Cert.InFwdIdeal.τ).loc Cert.InFwdIdeal.main_v1_2) = v2 c
          ∧ r.2.mem ((c.tc : Thread Cert.InFwdIdeal.nD Cert.InFwdIdeal.τ).loc Cert.InFwdIdeal.main_v1_3) = v3 c
          ∧ r.2.mem ((c.tc : Thread Cert.InFwdIdeal.nD Cert.InFwdIdeal.τ).loc Cert.InFwdIdeal.main_v1_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v13) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_v15) = v2 c
          ∧ r.2.mem ((c.tc : Thread Cert.InFwdRefIdeal.nD Cert.InFwdRefIdeal.τ).loc Cert.InFwdRefIdeal.main_v16) = v3 c
          ∧ r.2.mem ((c.tc : Thread Cert.InFwdRefIdeal.nD Cert.InFwdRefIdeal.τ).loc Cert.InFwdRefIdeal.main_v17) = v4 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_InBwd_InBwdIdeal : Prop :=
  True

def algebraic_InBwdIdeal_InBwdRefIdeal_pre_finite_in [hInBwdIdeal : Cert.InBwdIdeal.Facts] [hInBwdRefIdeal : Cert.InBwdRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_in m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)) (v2 : (c : Dev Cert.InBwdIdeal.nD) → Buf (Elt Ideal) ((c.tc : Thread Cert.InBwdIdeal.nD Cert.InBwdIdeal.τ).loc Cert.InBwdIdeal.main_v1_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_v1_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v46) = v0 c
          ∧ r.2.mem ((c.tc : Thread Cert.InBwdRefIdeal.nD Cert.InBwdRefIdeal.τ).loc Cert.InBwdRefIdeal.main_v25) = v1 c
          ∧ r.2.mem ((c.tc : Thread Cert.InBwdRefIdeal.nD Cert.InBwdRefIdeal.τ).loc Cert.InBwdRefIdeal.main_v29) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)) →
    ∃ (v0 : (c : Dev Cert.PleFwdIdeal.nD) → Buf (Elt Ideal) ((c.tc : Thread Cert.PleFwdIdeal.nD Cert.PleFwdIdeal.τ).loc Cert.PleFwdIdeal.main_v2)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v2) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v12) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)) →
    ∃ (v0 : (c : Dev Cert.PleBwdIdeal.nD) → Buf (Elt Ideal) ((c.tc : Thread Cert.PleBwdIdeal.nD Cert.PleBwdIdeal.τ).loc Cert.PleBwdIdeal.main_v2_0)) (v1 : (c : Dev Cert.PleBwdIdeal.nD) → Buf (Elt Ideal) ((c.tc : Thread Cert.PleBwdIdeal.nD Cert.PleBwdIdeal.τ).loc Cert.PleBwdIdeal.main_v2_1)) (v2 : (c : Dev Cert.PleBwdIdeal.nD) → Buf (Elt Ideal) ((c.tc : Thread Cert.PleBwdIdeal.nD Cert.PleBwdIdeal.τ).loc Cert.PleBwdIdeal.main_v2_2)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v2_0) = v0 c
          ∧ r.2.mem ((c.tc : Thread Cert.PleBwdIdeal.nD Cert.PleBwdIdeal.τ).loc Cert.PleBwdIdeal.main_v2_1) = v1 c
          ∧ r.2.mem ((c.tc : Thread Cert.PleBwdIdeal.nD Cert.PleBwdIdeal.τ).loc Cert.PleBwdIdeal.main_v2_2) = v2 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v27) = v0 c
          ∧ r.2.mem ((c.tc : Thread Cert.PleBwdRefIdeal.nD Cert.PleBwdRefIdeal.τ).loc Cert.PleBwdRefIdeal.main_v28) = v1 c
          ∧ r.2.mem ((c.tc : Thread Cert.PleBwdRefIdeal.nD Cert.PleBwdRefIdeal.τ).loc Cert.PleBwdRefIdeal.main_v22) = v2 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_OutBwd_OutBwdIdeal : Prop :=
  True

def algebraic_OutBwdIdeal_OutBwdRefIdeal_pre_finite_out [hOutBwdIdeal : Cert.OutBwdIdeal.Facts] [hOutBwdRefIdeal : Cert.OutBwdRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)
      ∧ m' ((c.tc : Thread Cert.OutBwdRefIdeal.nD Cert.OutBwdRefIdeal.τ).loc Cert.OutBwdRefIdeal.main_arg7) = m ((c.tc : Thread Cert.OutBwdIdeal.nD Cert.OutBwdIdeal.τ).loc Cert.OutBwdIdeal.main_arg7)) →
    ∃ (v0 : (c : Dev Cert.OutBwdIdeal.nD) → Buf (Elt Ideal) ((c.tc : Thread Cert.OutBwdIdeal.nD Cert.OutBwdIdeal.τ).loc Cert.OutBwdIdeal.main_v5_0)) (v1 : (c : Dev Cert.OutBwdIdeal.nD) → Buf (Elt Ideal) ((c.tc : Thread Cert.OutBwdIdeal.nD Cert.OutBwdIdeal.τ).loc Cert.OutBwdIdeal.main_v5_1)) (v2 : (c : Dev Cert.OutBwdIdeal.nD) → Buf (Elt Ideal) ((c.tc : Thread Cert.OutBwdIdeal.nD Cert.OutBwdIdeal.τ).loc Cert.OutBwdIdeal.main_v5_2)) (v3 : (c : Dev Cert.OutBwdIdeal.nD) → Buf (Elt Ideal) ((c.tc : Thread Cert.OutBwdIdeal.nD Cert.OutBwdIdeal.τ).loc Cert.OutBwdIdeal.main_v5_3)) (v4 : (c : Dev Cert.OutBwdIdeal.nD) → Buf (Elt Ideal) ((c.tc : Thread Cert.OutBwdIdeal.nD Cert.OutBwdIdeal.τ).loc Cert.OutBwdIdeal.main_v5_4)) (v5 : (c : Dev Cert.OutBwdIdeal.nD) → Buf (Elt Ideal) ((c.tc : Thread Cert.OutBwdIdeal.nD Cert.OutBwdIdeal.τ).loc Cert.OutBwdIdeal.main_v5_5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v5_0) = v0 c
          ∧ r.2.mem ((c.tc : Thread Cert.OutBwdIdeal.nD Cert.OutBwdIdeal.τ).loc Cert.OutBwdIdeal.main_v5_1) = v1 c
          ∧ r.2.mem ((c.tc : Thread Cert.OutBwdIdeal.nD Cert.OutBwdIdeal.τ).loc Cert.OutBwdIdeal.main_v5_2) = v2 c
          ∧ r.2.mem ((c.tc : Thread Cert.OutBwdIdeal.nD Cert.OutBwdIdeal.τ).loc Cert.OutBwdIdeal.main_v5_3) = v3 c
          ∧ r.2.mem ((c.tc : Thread Cert.OutBwdIdeal.nD Cert.OutBwdIdeal.τ).loc Cert.OutBwdIdeal.main_v5_4) = v4 c
          ∧ r.2.mem ((c.tc : Thread Cert.OutBwdIdeal.nD Cert.OutBwdIdeal.τ).loc Cert.OutBwdIdeal.main_v5_5) = v5 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
          ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v38) = v0 c
          ∧ r.2.mem ((c.tc : Thread Cert.OutBwdRefIdeal.nD Cert.OutBwdRefIdeal.τ).loc Cert.OutBwdRefIdeal.main_v44) = v1 c
          ∧ r.2.mem ((c.tc : Thread Cert.OutBwdRefIdeal.nD Cert.OutBwdRefIdeal.τ).loc Cert.OutBwdRefIdeal.main_v45) = v2 c
          ∧ r.2.mem ((c.tc : Thread Cert.OutBwdRefIdeal.nD Cert.OutBwdRefIdeal.τ).loc Cert.OutBwdRefIdeal.main_v46) = v3 c
          ∧ r.2.mem ((c.tc : Thread Cert.OutBwdRefIdeal.nD Cert.OutBwdRefIdeal.τ).loc Cert.OutBwdRefIdeal.main_v43) = v4 c
          ∧ r.2.mem ((c.tc : Thread Cert.OutBwdRefIdeal.nD Cert.OutBwdRefIdeal.τ).loc Cert.OutBwdRefIdeal.main_v21) = v5 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6)
          ∧ r.2.mem ((c.tc : Thread Cert.OutBwdRefIdeal.nD Cert.OutBwdRefIdeal.τ).loc Cert.OutBwdRefIdeal.main_arg7) = m' ((c.tc : Thread Cert.OutBwdRefIdeal.nD Cert.OutBwdRefIdeal.τ).loc Cert.OutBwdRefIdeal.main_arg7))

def preserves_AdamIn_AdamInIdeal : Prop :=
  IdealRules.named_const.Statement Cert.AdamInIdeal.κ "bias1" .f32 0x3FC48605#32 ((8388608 / 5463681 : ℝ) : EReal)
  ∧ IdealRules.named_const.Statement Cert.AdamInIdeal.κ "bias2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamFfn_AdamFfnIdeal : Prop :=
  IdealRules.named_const.Statement Cert.AdamFfnIdeal.κ "bias1" .f32 0x3FC48605#32 ((8388608 / 5463681 : ℝ) : EReal)
  ∧ IdealRules.named_const.Statement Cert.AdamFfnIdeal.κ "bias2" .f32 0x42C8E6D3#32 ((268435456 / 2672307 : ℝ) : EReal)

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg1) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamOut_AdamOutIdeal : Prop :=
  IdealRules.named_const.Statement Cert.AdamOutIdeal.κ "bias1" .f32 0x3FC48605#32 ((8388608 / 5463681 : ℝ) : EReal)
  ∧ IdealRules.named_const.Statement Cert.AdamOutIdeal.κ "bias2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPle_AdamPleIdeal : Prop :=
  IdealRules.named_const.Statement Cert.AdamPleIdeal.κ "bias1" .f32 0x3FC48605#32 ((8388608 / 5463681 : ℝ) : EReal)
  ∧ IdealRules.named_const.Statement Cert.AdamPleIdeal.κ "bias2" .f32 0x42C8E6D3#32 ((268435456 / 2672307 : ℝ) : EReal)

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v23) = v0 c
          ∧ r.2.mem ((c.tc : Thread Cert.AdamPleRefIdeal.nD Cert.AdamPleRefIdeal.τ).loc Cert.AdamPleRefIdeal.main_v4) = v1 c
          ∧ r.2.mem ((c.tc : Thread Cert.AdamPleRefIdeal.nD Cert.AdamPleRefIdeal.τ).loc Cert.AdamPleRefIdeal.main_v10) = v2 c
          ∧ r.2.mem ((c.tc : Thread Cert.AdamPleRefIdeal.nD Cert.AdamPleRefIdeal.τ).loc Cert.AdamPleRefIdeal.main_arg1) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def preserves_AdamSmall_AdamSmallIdeal : Prop :=
  IdealRules.named_const.Statement Cert.AdamSmallIdeal.κ "bias1" .f32 0x3FC48605#32 ((8388608 / 5463681 : ℝ) : EReal)
  ∧ IdealRules.named_const.Statement Cert.AdamSmallIdeal.κ "bias2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)) (v32 : (c : Dev Cert.AdamSmallIdeal.nD) → Buf (Elt Ideal) ((c.tc : Thread Cert.AdamSmallIdeal.nD Cert.AdamSmallIdeal.τ).loc Cert.AdamSmallIdeal.main_v0_32)) (v33 : (c : Dev Cert.AdamSmallIdeal.nD) → Buf (Elt Ideal) ((c.tc : Thread Cert.AdamSmallIdeal.nD Cert.AdamSmallIdeal.τ).loc Cert.AdamSmallIdeal.main_v0_33)) (v34 : (c : Dev Cert.AdamSmallIdeal.nD) → Buf (Elt Ideal) ((c.tc : Thread Cert.AdamSmallIdeal.nD Cert.AdamSmallIdeal.τ).loc Cert.AdamSmallIdeal.main_v0_34)) (v35 : (c : Dev Cert.AdamSmallIdeal.nD) → Buf (Elt Ideal) ((c.tc : Thread Cert.AdamSmallIdeal.nD Cert.AdamSmallIdeal.τ).loc Cert.AdamSmallIdeal.main_v0_35)) (v36 : (c : Dev Cert.AdamSmallIdeal.nD) → Buf (Elt Ideal) ((c.tc : Thread Cert.AdamSmallIdeal.nD Cert.AdamSmallIdeal.τ).loc Cert.AdamSmallIdeal.main_v0_36)) (v37 : (c : Dev Cert.AdamSmallIdeal.nD) → Buf (Elt Ideal) ((c.tc : Thread Cert.AdamSmallIdeal.nD Cert.AdamSmallIdeal.τ).loc Cert.AdamSmallIdeal.main_v0_37)) (v38 : (c : Dev Cert.AdamSmallIdeal.nD) → Buf (Elt Ideal) ((c.tc : Thread Cert.AdamSmallIdeal.nD Cert.AdamSmallIdeal.τ).loc Cert.AdamSmallIdeal.main_v0_38)) (v39 : (c : Dev Cert.AdamSmallIdeal.nD) → Buf (Elt Ideal) ((c.tc : Thread Cert.AdamSmallIdeal.nD Cert.AdamSmallIdeal.τ).loc Cert.AdamSmallIdeal.main_v0_39)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_v0_32) = v32 c
          ∧ r.2.mem ((c.tc : Thread Cert.AdamSmallIdeal.nD Cert.AdamSmallIdeal.τ).loc Cert.AdamSmallIdeal.main_v0_33) = v33 c
          ∧ r.2.mem ((c.tc : Thread Cert.AdamSmallIdeal.nD Cert.AdamSmallIdeal.τ).loc Cert.AdamSmallIdeal.main_v0_34) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_v0_36) = v36 c
          ∧ r.2.mem ((c.tc : Thread Cert.AdamSmallIdeal.nD Cert.AdamSmallIdeal.τ).loc Cert.AdamSmallIdeal.main_v0_37) = v37 c
          ∧ r.2.mem ((c.tc : Thread Cert.AdamSmallIdeal.nD Cert.AdamSmallIdeal.τ).loc Cert.AdamSmallIdeal.main_v0_38) = v38 c
          ∧ r.2.mem ((c.tc : Thread Cert.AdamSmallIdeal.nD Cert.AdamSmallIdeal.τ).loc Cert.AdamSmallIdeal.main_v0_39) = v39 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg10) = v3 c
          ∧ r.2.mem ((c.tc : Thread Cert.AdamSmallRefIdeal.nD Cert.AdamSmallRefIdeal.τ).loc Cert.AdamSmallRefIdeal.main_v47) = v4 c
          ∧ r.2.mem ((c.tc : Thread Cert.AdamSmallRefIdeal.nD Cert.AdamSmallRefIdeal.τ).loc Cert.AdamSmallRefIdeal.main_v28) = v5 c
          ∧ r.2.mem ((c.tc : Thread Cert.AdamSmallRefIdeal.nD Cert.AdamSmallRefIdeal.τ).loc Cert.AdamSmallRefIdeal.main_v34) = v6 c
          ∧ r.2.mem ((c.tc : Thread Cert.AdamSmallRefIdeal.nD Cert.AdamSmallRefIdeal.τ).loc Cert.AdamSmallRefIdeal.main_arg11) = v7 c
          ∧ r.2.mem ((c.tc : Thread Cert.AdamSmallRefIdeal.nD Cert.AdamSmallRefIdeal.τ).loc Cert.AdamSmallRefIdeal.main_v71) = v8 c
          ∧ r.2.mem ((c.tc : Thread Cert.AdamSmallRefIdeal.nD Cert.AdamSmallRefIdeal.τ).loc Cert.AdamSmallRefIdeal.main_v52) = v9 c
          ∧ r.2.mem ((c.tc : Thread Cert.AdamSmallRefIdeal.nD Cert.AdamSmallRefIdeal.τ).loc Cert.AdamSmallRefIdeal.main_v58) = v10 c
          ∧ r.2.mem ((c.tc : Thread Cert.AdamSmallRefIdeal.nD Cert.AdamSmallRefIdeal.τ).loc Cert.AdamSmallRefIdeal.main_arg12) = v11 c
          ∧ r.2.mem ((c.tc : Thread Cert.AdamSmallRefIdeal.nD Cert.AdamSmallRefIdeal.τ).loc Cert.AdamSmallRefIdeal.main_v95) = v12 c
          ∧ r.2.mem ((c.tc : Thread Cert.AdamSmallRefIdeal.nD Cert.AdamSmallRefIdeal.τ).loc Cert.AdamSmallRefIdeal.main_v76) = v13 c
          ∧ r.2.mem ((c.tc : Thread Cert.AdamSmallRefIdeal.nD Cert.AdamSmallRefIdeal.τ).loc Cert.AdamSmallRefIdeal.main_v82) = v14 c
          ∧ r.2.mem ((c.tc : Thread Cert.AdamSmallRefIdeal.nD Cert.AdamSmallRefIdeal.τ).loc Cert.AdamSmallRefIdeal.main_arg13) = v15 c
          ∧ r.2.mem ((c.tc : Thread Cert.AdamSmallRefIdeal.nD Cert.AdamSmallRefIdeal.τ).loc Cert.AdamSmallRefIdeal.main_v119) = v16 c
          ∧ r.2.mem ((c.tc : Thread Cert.AdamSmallRefIdeal.nD Cert.AdamSmallRefIdeal.τ).loc Cert.AdamSmallRefIdeal.main_v100) = v17 c
          ∧ r.2.mem ((c.tc : Thread Cert.AdamSmallRefIdeal.nD Cert.AdamSmallRefIdeal.τ).loc Cert.AdamSmallRefIdeal.main_v106) = v18 c
          ∧ r.2.mem ((c.tc : Thread Cert.AdamSmallRefIdeal.nD Cert.AdamSmallRefIdeal.τ).loc Cert.AdamSmallRefIdeal.main_arg14) = v19 c
          ∧ r.2.mem ((c.tc : Thread Cert.AdamSmallRefIdeal.nD Cert.AdamSmallRefIdeal.τ).loc Cert.AdamSmallRefIdeal.main_v143) = v20 c
          ∧ r.2.mem ((c.tc : Thread Cert.AdamSmallRefIdeal.nD Cert.AdamSmallRefIdeal.τ).loc Cert.AdamSmallRefIdeal.main_v124) = v21 c
          ∧ r.2.mem ((c.tc : Thread Cert.AdamSmallRefIdeal.nD Cert.AdamSmallRefIdeal.τ).loc Cert.AdamSmallRefIdeal.main_v130) = v22 c
          ∧ r.2.mem ((c.tc : Thread Cert.AdamSmallRefIdeal.nD Cert.AdamSmallRefIdeal.τ).loc Cert.AdamSmallRefIdeal.main_arg15) = v23 c
          ∧ r.2.mem ((c.tc : Thread Cert.AdamSmallRefIdeal.nD Cert.AdamSmallRefIdeal.τ).loc Cert.AdamSmallRefIdeal.main_v167) = v24 c
          ∧ r.2.mem ((c.tc : Thread Cert.AdamSmallRefIdeal.nD Cert.AdamSmallRefIdeal.τ).loc Cert.AdamSmallRefIdeal.main_v148) = v25 c
          ∧ r.2.mem ((c.tc : Thread Cert.AdamSmallRefIdeal.nD Cert.AdamSmallRefIdeal.τ).loc Cert.AdamSmallRefIdeal.main_v154) = v26 c
          ∧ r.2.mem ((c.tc : Thread Cert.AdamSmallRefIdeal.nD Cert.AdamSmallRefIdeal.τ).loc Cert.AdamSmallRefIdeal.main_arg16) = v27 c
          ∧ r.2.mem ((c.tc : Thread Cert.AdamSmallRefIdeal.nD Cert.AdamSmallRefIdeal.τ).loc Cert.AdamSmallRefIdeal.main_v191) = v28 c
          ∧ r.2.mem ((c.tc : Thread Cert.AdamSmallRefIdeal.nD Cert.AdamSmallRefIdeal.τ).loc Cert.AdamSmallRefIdeal.main_v172) = v29 c
          ∧ r.2.mem ((c.tc : Thread Cert.AdamSmallRefIdeal.nD Cert.AdamSmallRefIdeal.τ).loc Cert.AdamSmallRefIdeal.main_v178) = v30 c
          ∧ r.2.mem ((c.tc : Thread Cert.AdamSmallRefIdeal.nD Cert.AdamSmallRefIdeal.τ).loc Cert.AdamSmallRefIdeal.main_arg17) = v31 c
          ∧ r.2.mem ((c.tc : Thread Cert.AdamSmallRefIdeal.nD Cert.AdamSmallRefIdeal.τ).loc Cert.AdamSmallRefIdeal.main_v215) = v32 c
          ∧ r.2.mem ((c.tc : Thread Cert.AdamSmallRefIdeal.nD Cert.AdamSmallRefIdeal.τ).loc Cert.AdamSmallRefIdeal.main_v196) = v33 c
          ∧ r.2.mem ((c.tc : Thread Cert.AdamSmallRefIdeal.nD Cert.AdamSmallRefIdeal.τ).loc Cert.AdamSmallRefIdeal.main_v202) = v34 c
          ∧ r.2.mem ((c.tc : Thread Cert.AdamSmallRefIdeal.nD Cert.AdamSmallRefIdeal.τ).loc Cert.AdamSmallRefIdeal.main_arg18) = v35 c
          ∧ r.2.mem ((c.tc : Thread Cert.AdamSmallRefIdeal.nD Cert.AdamSmallRefIdeal.τ).loc Cert.AdamSmallRefIdeal.main_v239) = v36 c
          ∧ r.2.mem ((c.tc : Thread Cert.AdamSmallRefIdeal.nD Cert.AdamSmallRefIdeal.τ).loc Cert.AdamSmallRefIdeal.main_v220) = v37 c
          ∧ r.2.mem ((c.tc : Thread Cert.AdamSmallRefIdeal.nD Cert.AdamSmallRefIdeal.τ).loc Cert.AdamSmallRefIdeal.main_v226) = v38 c
          ∧ r.2.mem ((c.tc : Thread Cert.AdamSmallRefIdeal.nD Cert.AdamSmallRefIdeal.τ).loc Cert.AdamSmallRefIdeal.main_arg19) = v39 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)
      ∧ m' ((c.tc : Thread Cert.SumDevRefIdeal.nD Cert.SumDevRefIdeal.τ).loc Cert.SumDevRefIdeal.main_arg1) = m ((c.tc : Thread Cert.SumDevIdeal.nD Cert.SumDevIdeal.τ).loc Cert.SumDevIdeal.main_arg1)
      ∧ m' ((c.tc : Thread Cert.SumDevRefIdeal.nD Cert.SumDevRefIdeal.τ).loc Cert.SumDevRefIdeal.main_arg2) = m ((c.tc : Thread Cert.SumDevIdeal.nD Cert.SumDevIdeal.τ).loc Cert.SumDevIdeal.main_arg2)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
          ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
          ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v5) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0)
          ∧ r.2.mem ((c.tc : Thread Cert.SumDevRefIdeal.nD Cert.SumDevRefIdeal.τ).loc Cert.SumDevRefIdeal.main_arg1) = m' ((c.tc : Thread Cert.SumDevRefIdeal.nD Cert.SumDevRefIdeal.τ).loc Cert.SumDevRefIdeal.main_arg1)
          ∧ r.2.mem ((c.tc : Thread Cert.SumDevRefIdeal.nD Cert.SumDevRefIdeal.τ).loc Cert.SumDevRefIdeal.main_arg2) = m' ((c.tc : Thread Cert.SumDevRefIdeal.nD Cert.SumDevRefIdeal.τ).loc Cert.SumDevRefIdeal.main_arg2))

def Claim : Prop :=
  ∃ (hSconv : Cert.Sconv.Facts) (hSconvIdeal : Cert.SconvIdeal.Facts) (hSconvRefIdeal : Cert.SconvRefIdeal.Facts) (hDelta : Cert.Delta.Facts) (hDeltaIdeal : Cert.DeltaIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hInFwd : Cert.InFwd.Facts) (hInFwdIdeal : Cert.InFwdIdeal.Facts) (hInFwdRefIdeal : Cert.InFwdRefIdeal.Facts) (hInBwd : Cert.InBwd.Facts) (hInBwdIdeal : Cert.InBwdIdeal.Facts) (hInBwdRefIdeal : Cert.InBwdRefIdeal.Facts) (hPleFwd : Cert.PleFwd.Facts) (hPleFwdIdeal : Cert.PleFwdIdeal.Facts) (hPleFwdRefIdeal : Cert.PleFwdRefIdeal.Facts) (hPleBwd : Cert.PleBwd.Facts) (hPleBwdIdeal : Cert.PleBwdIdeal.Facts) (hPleBwdRefIdeal : Cert.PleBwdRefIdeal.Facts) (hOutFwd : Cert.OutFwd.Facts) (hOutFwdIdeal : Cert.OutFwdIdeal.Facts) (hOutFwdRefIdeal : Cert.OutFwdRefIdeal.Facts) (hOutBwd : Cert.OutBwd.Facts) (hOutBwdIdeal : Cert.OutBwdIdeal.Facts) (hOutBwdRefIdeal : Cert.OutBwdRefIdeal.Facts) (hAdamIn : Cert.AdamIn.Facts) (hAdamInIdeal : Cert.AdamInIdeal.Facts) (hAdamInRefIdeal : Cert.AdamInRefIdeal.Facts) (hAdamFfn : Cert.AdamFfn.Facts) (hAdamFfnIdeal : Cert.AdamFfnIdeal.Facts) (hAdamFfnRefIdeal : Cert.AdamFfnRefIdeal.Facts) (hAdamOut : Cert.AdamOut.Facts) (hAdamOutIdeal : Cert.AdamOutIdeal.Facts) (hAdamOutRefIdeal : Cert.AdamOutRefIdeal.Facts) (hAdamPle : Cert.AdamPle.Facts) (hAdamPleIdeal : Cert.AdamPleIdeal.Facts) (hAdamPleRefIdeal : Cert.AdamPleRefIdeal.Facts) (hAdamSmall : Cert.AdamSmall.Facts) (hAdamSmallIdeal : Cert.AdamSmallIdeal.Facts) (hAdamSmallRefIdeal : Cert.AdamSmallRefIdeal.Facts) (hSumDev : Cert.SumDev.Facts) (hSumDevIdeal : Cert.SumDevIdeal.Facts) (hSumDevRefIdeal : Cert.SumDevRefIdeal.Facts) (hPre_finite : Cert.Pre_finite.Facts) (hPre_finite_in : Cert.Pre_finite_in.Facts) (hPre_finite_out : Cert.Pre_finite_out.Facts),
    quiescent_Sconv (hSconv := hSconv)
    ∧ quiescent_SconvIdeal (hSconvIdeal := hSconvIdeal)
    ∧ quiescent_SconvRefIdeal (hSconvRefIdeal := hSconvRefIdeal)
    ∧ quiescent_Delta (hDelta := hDelta)
    ∧ quiescent_DeltaIdeal (hDeltaIdeal := hDeltaIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnBwdRefIdeal (hFfnBwdRefIdeal := hFfnBwdRefIdeal)
    ∧ quiescent_FfnBwdRefIdeal_pre_finite (hFfnBwdRefIdeal := hFfnBwdRefIdeal) (hPre_finite := hPre_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InBwdRefIdeal (hInBwdRefIdeal := hInBwdRefIdeal)
    ∧ quiescent_InBwdRefIdeal_pre_finite_in (hInBwdRefIdeal := hInBwdRefIdeal) (hPre_finite_in := hPre_finite_in)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdRefIdeal (hOutBwdRefIdeal := hOutBwdRefIdeal)
    ∧ quiescent_OutBwdRefIdeal_pre_finite_out (hOutBwdRefIdeal := hOutBwdRefIdeal) (hPre_finite_out := hPre_finite_out)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ preserves_Sconv_SconvIdeal
    ∧ algebraic_SconvIdeal_SconvRefIdeal (hSconvIdeal := hSconvIdeal) (hSconvRefIdeal := hSconvRefIdeal)
    ∧ preserves_Delta_DeltaIdeal
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwd_FfnBwdIdeal
    ∧ algebraic_FfnBwdIdeal_FfnBwdRefIdeal_pre_finite (hFfnBwdIdeal := hFfnBwdIdeal) (hFfnBwdRefIdeal := hFfnBwdRefIdeal) (hPre_finite := hPre_finite)
    ∧ preserves_InFwd_InFwdIdeal
    ∧ algebraic_InFwdIdeal_InFwdRefIdeal (hInFwdIdeal := hInFwdIdeal) (hInFwdRefIdeal := hInFwdRefIdeal)
    ∧ preserves_InBwd_InBwdIdeal
    ∧ algebraic_InBwdIdeal_InBwdRefIdeal_pre_finite_in (hInBwdIdeal := hInBwdIdeal) (hInBwdRefIdeal := hInBwdRefIdeal) (hPre_finite_in := hPre_finite_in)
    ∧ preserves_PleFwd_PleFwdIdeal
    ∧ algebraic_PleFwdIdeal_PleFwdRefIdeal (hPleFwdIdeal := hPleFwdIdeal) (hPleFwdRefIdeal := hPleFwdRefIdeal)
    ∧ preserves_PleBwd_PleBwdIdeal
    ∧ algebraic_PleBwdIdeal_PleBwdRefIdeal (hPleBwdIdeal := hPleBwdIdeal) (hPleBwdRefIdeal := hPleBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutBwd_OutBwdIdeal
    ∧ algebraic_OutBwdIdeal_OutBwdRefIdeal_pre_finite_out (hOutBwdIdeal := hOutBwdIdeal) (hOutBwdRefIdeal := hOutBwdRefIdeal) (hPre_finite_out := hPre_finite_out)
    ∧ preserves_AdamIn_AdamInIdeal
    ∧ algebraic_AdamInIdeal_AdamInRefIdeal (hAdamInIdeal := hAdamInIdeal) (hAdamInRefIdeal := hAdamInRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumDev_SumDevIdeal
    ∧ algebraic_SumDevIdeal_SumDevRefIdeal (hSumDevIdeal := hSumDevIdeal) (hSumDevRefIdeal := hSumDevRefIdeal)
-- ==== Pre_finite.lean ====
abbrev S2048x1024 : Shape := ⟨2, ![2048, 1024]⟩
abbrev S4x704x1024 : Shape := ⟨3, ![4, 704, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S4x704x1024 .f32) (main_arg2 : FVec F S4x704x1024 .f32) (main_arg3 : FVec F S4x704x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x704x1024 .f32 := Host.absf main_arg1
  let main_cst_0 : FVec F S_ .f32 := constant S_ .f32 0x7F800000#32
  let main_v5 : FVec F S4x704x1024 .f32 := broadcastInDim S4x704x1024 ![] bcast_S_S4x704x1024 main_cst_0
  let main_v6 : IVec S4x704x1024 1 := cmpf .olt main_v4 main_v5
  let main_c_1 : IVec S_ 1 := constantI S_ 1 1#1
  let main_v7 : IVec S_ 1 := (fun x v => Host.reduce IntOp.andi x v reducesTo_S4x704x1024_S_d0_1_2 h_S_) main_v6 main_c_1
  let main_v8 : FVec F S4x704x1024 .f32 := Host.absf main_arg2
  let main_cst_2 : FVec F S_ .f32 := constant S_ .f32 0x7F800000#32
  let main_v9 : FVec F S4x704x1024 .f32 := broadcastInDim S4x704x1024 ![] bcast_S_S4x704x1024 main_cst_2
  let main_v10 : IVec S4x704x1024 1 := cmpf .olt main_v8 main_v9
  let main_c_3 : IVec S_ 1 := constantI S_ 1 1#1
  let main_v11 : IVec S_ 1 := (fun x v => Host.reduce IntOp.andi x v reducesTo_S4x704x1024_S_d0_1_2 h_S_) main_v10 main_c_3
  let main_v12 : FVec F S4x704x1024 .f32 := Host.absf main_arg3
  let main_cst_4 : FVec F S_ .f32 := constant S_ .f32 0x7F800000#32
  let main_v13 : FVec F S4x704x1024 .f32 := broadcastInDim S4x704x1024 ![] bcast_S_S4x704x1024 main_cst_4
  let main_v14 : IVec S4x704x1024 1 := cmpf .olt main_v12 main_v13
  let main_c_5 : IVec S_ 1 := constantI S_ 1 1#1
  let main_v15 : IVec S_ 1 := (fun x v => Host.reduce IntOp.andi x v reducesTo_S4x704x1024_S_d0_1_2 h_S_) main_v14 main_c_5
  fn_part1 (F := F) main_arg4 main_v3 main_v7 main_v11 main_v15
-- ==== Pre_finite_in.lean ====
abbrev S2048x1024 : Shape := ⟨2, ![2048, 1024]⟩
abbrev S1x1024 : Shape := ⟨2, ![1, 1024]⟩
abbrev S1024x3200 : Shape := ⟨2, ![1024, 3200]⟩
abbrev S2048x1536 : Shape := ⟨2, ![2048, 1536]⟩
abbrev S2048x512 : Shape := ⟨2, ![2048, 512]⟩
abbrev S2048x256 : Shape := ⟨2, ![2048, 256]⟩
abbrev S2048x128 : Shape := ⟨2, ![2048, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3200 : S_.BroadcastsInDim S1024x3200 (![] : Fin 0 → Fin S1024x3200.rank)
  reducesTo_S1024x3200_S_d0_1 : S1024x3200.ReducesTo [0, 1] S_
  bcast_S_S2048x1536 : S_.BroadcastsInDim S2048x1536 (![] : Fin 0 → Fin S2048x1536.rank)
  reducesTo_S2048x1536_S_d0_1 : S2048x1536.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x256 : S_.BroadcastsInDim S2048x256 (![] : Fin 0 → Fin S2048x256.rank)
  reducesTo_S2048x256_S_d0_1 : S2048x256.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part2 {F : FTy → Type} [FloatOps F] (main_arg8 : FVec F S2048x256 .f32) (main_arg9 : FVec F S2048x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2048x256 .f32 := Host.absf main_arg8
  let main_cst_14 : FVec F S_ .f32 := constant S_ .f32 0x7F800000#32
  let main_v33 : FVec F S2048x256 .f32 := broadcastInDim S2048x256 ![] bcast_S_S2048x256 main_cst_14
  let main_v34 : IVec S2048x256 1 := cmpf .olt main_v32 main_v33
  let main_c_15 : IVec S_ 1 := constantI S_ 1 1#1
  let main_v35 : IVec S_ 1 := (fun x v => Host.reduce IntOp.andi x v reducesTo_S2048x256_S_d0_1 h_S_) main_v34 main_c_15
  let main_v36 : FVec F S2048x128 .f32 := Host.absf main_arg9
  let main_cst_16 : FVec F S_ .f32 := constant S_ .f32 0x7F800000#32
  let main_v37 : FVec F S2048x128 .f32 := broadcastInDim S2048x128 ![] bcast_S_S2048x128 main_cst_16
  let main_v38 : IVec S2048x128 1 := cmpf .olt main_v36 main_v37
  let main_c_17 : IVec S_ 1 := constantI S_ 1 1#1
  let main_v39 : IVec S_ 1 := (fun x v => Host.reduce IntOp.andi x v reducesTo_S2048x128_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S2048x512 .f32) (main_arg5 : FVec F S2048x256 .f32) (main_arg6 : FVec F S2048x256 .f32) (main_arg7 : FVec F S2048x256 .f32) (main_arg8 : FVec F S2048x256 .f32) (main_arg9 : FVec F S2048x128 .f32) (main_v3 : IVec S_ 1) (main_v7 : IVec S_ 1) (main_v11 : IVec S_ 1) (main_v15 : IVec S_ 1) : IVec S_ 1 :=
  let main_v16 : FVec F S2048x512 .f32 := Host.absf main_arg4
  let main_cst_6 : FVec F S_ .f32 := constant S_ .f32 0x7F800000#32
  let main_v17 : FVec F S2048x512 .f32 := broadcastInDim S2048x512 ![] bcast_S_S2048x512 main_cst_6
  let main_v18 : IVec S2048x512 1 := cmpf .olt main_v16 main_v17
  let main_c_7 : IVec S_ 1 := constantI S_ 1 1#1
  let main_v19 : IVec S_ 1 := (fun x v => Host.reduce IntOp.andi x v reducesTo_S2048x512_S_d0_1 h_S_) main_v18 main_c_7
  let main_v20 : FVec F S2048x256 .f32 := Host.absf main_arg5
  let main_cst_8 : FVec F S_ .f32 := constant S_ .f32 0x7F800000#32
  let main_v21 : FVec F S2048x256 .f32 := broadcastInDim S2048x256 ![] bcast_S_S2048x256 main_cst_8
  let main_v22 : IVec S2048x256 1 := cmpf .olt main_v20 main_v21
  let main_c_9 : IVec S_ 1 := constantI S_ 1 1#1
  let main_v23 : IVec S_ 1 := (fun x v => Host.reduce IntOp.andi x v reducesTo_S2048x256_S_d0_1 h_S_) main_v22 main_c_9
  let main_v24 : FVec F S2048x256 .f32 := Host.absf main_arg6
  let main_cst_10 : FVec F S_ .f32 := constant S_ .f32 0x7F800000#32
  let main_v25 : FVec F S2048x256 .f32 := broadcastInDim S2048x256 ![] bcast_S_S2048x256 main_cst_10
  let main_v26 : IVec S2048x256 1 := cmpf .olt main_v24 main_v25
  let main_c_11 : IVec S_ 1 := constantI S_ 1 1#1
  let main_v27 : IVec S_ 1 := (fun x v => Host.reduce IntOp.andi x v reducesTo_S2048x256_S_d0_1 h_S_) main_v26 main_c_11
  let main_v28 : FVec F S2048x256 .f32 := Host.absf main_arg7
  let main_cst_12 : FVec F S_ .f32 := constant S_ .f32 0x7F800000#32
  let main_v29 : FVec F S2048x256 .f32 := broadcastInDim S2048x256 ![] bcast_S_S2048x256 main_cst_12
  let main_v30 : IVec S2048x256 1 := cmpf .olt main_v28 main_v29
  let main_c_13 : IVec S_ 1 := constantI S_ 1 1#1
  let main_v31 : IVec S_ 1 := (fun x v => Host.reduce IntOp.andi x v reducesTo_S2048x256_S_d0_1 h_S_) main_v30 main_c_13
  fn_part2 (F := F) main_arg8 main_arg9 main_v3 main_v7 main_v11 main_v15 main_v19 main_v23 main_v27 main_v31

def fn {F : FTy → Type} [FloatOps F] (main_arg0 : FVec F S2048x1024 .f32) (main_arg1 : FVec F S1x1024 .f32) (main_arg2 : FVec F S1024x3200 .f32) (main_arg3 : FVec F S2048x1536 .f32) (main_arg4 : FVec F S2048x512 .f32) (main_arg5 : FVec F S2048x256 .f32) (main_arg6 : FVec F S2048x256 .f32) (main_arg7 : FVec F S2048x256 .f32) (main_arg8 : FVec F S2048x256 .f32) (main_arg9 : FVec F S2048x128 .f32) (main_arg10 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x3200 .f32 := Host.absf main_arg2
  let main_cst_2 : FVec F S_ .f32 := constant S_ .f32 0x7F800000#32
  let main_v9 : FVec F S1024x3200 .f32 := broadcastInDim S1024x3200 ![] bcast_S_S1024x3200 main_cst_2
  let main_v10 : IVec S1024x3200 1 := cmpf .olt main_v8 main_v9
  let main_c_3 : IVec S_ 1 := constantI S_ 1 1#1
  let main_v11 : IVec S_ 1 := (fun x v => Host.reduce IntOp.andi x v reducesTo_S1024x3200_S_d0_1 h_S_) main_v10 main_c_3
  let main_v12 : FVec F S2048x1536 .f32 := Host.absf main_arg3
  let main_cst_4 : FVec F S_ .f32 := constant S_ .f32 0x7F800000#32
  let main_v13 : FVec F S2048x1536 .f32 := broadcastInDim S2048x1536 ![] bcast_S_S2048x1536 main_cst_4
  let main_v14 : IVec S2048x1536 1 := cmpf .olt main_v12 main_v13
  let main_c_5 : IVec S_ 1 := constantI S_ 1 1#1
  let main_v15 : IVec S_ 1 := (fun x v => Host.reduce IntOp.andi x v reducesTo_S2048x1536_S_d0_1 h_S_) main_v14 main_c_5
  fn_part1 (F := F) main_arg4 main_arg5 main_arg6 main_arg7 main_arg8 main_arg9 main_v3 main_v7 main_v11 main_v15
-- ==== Pre_finite_out.lean ====
abbrev S2048x1024 : Shape := ⟨2, ![2048, 1024]⟩
abbrev S2048x512 : Shape := ⟨2, ![2048, 512]⟩
abbrev S2048x256 : Shape := ⟨2, ![2048, 256]⟩
abbrev S4x256x1024 : Shape := ⟨3, ![4, 256, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x256 : S_.BroadcastsInDim S2048x256 (![] : Fin 0 → Fin S2048x256.rank)
  reducesTo_S2048x256_S_d0_1 : S2048x256.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4x256x1024 .f32) (main_arg5 : FVec F S1x1024 .f32) (main_arg7 : FVec F S2048x1024 .f32) (main_v3 : IVec S_ 1) (main_v7 : IVec S_ 1) (main_v11 : IVec S_ 1) (main_v15 : IVec S_ 1) : IVec S_ 1 :=
  let main_v16 : FVec F S4x256x1024 .f32 := Host.absf main_arg4
  let main_cst_6 : FVec F S_ .f32 := constant S_ .f32 0x7F800000#32
  let main_v17 : FVec F S4x256x1024 .f32 := broadcastInDim S4x256x1024 ![] bcast_S_S4x256x1024 main_cst_6
  let main_v18 : IVec S4x256x1024 1 := cmpf .olt main_v16 main_v17
  let main_c_7 : IVec S_ 1 := constantI S_ 1 1#1
  let main_v19 : IVec S_ 1 := (fun x v => Host.reduce IntOp.andi x v reducesTo_S4x256x1024_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S2048x1024 .f32 := Host.absf main_arg7
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x1024 .f32) (main_arg1 : FVec F S2048x512 .f32) (main_arg2 : FVec F S2048x256 .f32) (main_arg3 : FVec F S2048x256 .f32) (main_arg4 : FVec F S4x256x1024 .f32) (main_arg5 : FVec F S1x1024 .f32) (main_arg6 : FVec F S2048x1024 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : FVec F S2048x256 .f32 := Host.absf main_arg2
  let main_cst_2 : FVec F S_ .f32 := constant S_ .f32 0x7F800000#32
  let main_v9 : FVec F S2048x256 .f32 := broadcastInDim S2048x256 ![] bcast_S_S2048x256 main_cst_2
  let main_v10 : IVec S2048x256 1 := cmpf .olt main_v8 main_v9
  let main_c_3 : IVec S_ 1 := constantI S_ 1 1#1
  let main_v11 : IVec S_ 1 := (fun x v => Host.reduce IntOp.andi x v reducesTo_S2048x256_S_d0_1 h_S_) main_v10 main_c_3
  let main_v12 : FVec F S2048x256 .f32 := Host.absf main_arg3
  let main_cst_4 : FVec F S_ .f32 := constant S_ .f32 0x7F800000#32
  let main_v13 : FVec F S2048x256 .f32 := broadcastInDim S2048x256 ![] bcast_S_S2048x256 main_cst_4
  let main_v14 : IVec S2048x256 1 := cmpf .olt main_v12 main_v13
  let main_c_5 : IVec S_ 1 := constantI S_ 1 1#1
  let main_v15 : IVec S_ 1 := (fun x v => Host.reduce IntOp.andi x v reducesTo_S2048x256_S_d0_1 h_S_) main_v14 main_c_5
  fn_part1 (F := F) main_arg4 main_arg5 main_arg7 main_v3 main_v7 main_v11 main_v15
-- ==== Sconv.lean ====
abbrev S2048x768 : Shape := ⟨2, ![2048, 768]⟩
abbrev S3x256 : Shape := ⟨2, ![3, 256]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x768, .f32⟩
  | .hbm, ⟨1, _⟩ => ⟨S3x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S3x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S3x128, .f32⟩
  | .local _ .vmem, ⟨17, _⟩ => ⟨S3x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvRefIdeal.lean ====
abbrev S2048x768 : Shape := ⟨2, ![2048, 768]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 85
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S3x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2x256, .f32⟩
  | .hbm, ⟨9, _⟩ => ⟨S2050x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S256, .f32⟩
  | .hbm, ⟨23, _⟩ => ⟨S2048x256, .f32⟩
  | .hbm, ⟨24, _⟩ => ⟨S1x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S1x256, .f32⟩
  | .hbm, ⟨29, _⟩ => ⟨S256, .f32⟩
  | .hbm, ⟨30, _⟩ => ⟨S2048x256, .f32⟩
  | .hbm, ⟨31, _⟩ => ⟨S1x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S2050x256, .f32⟩
  | .hbm, ⟨48, _⟩ => ⟨S1x256, .f32⟩
  | .hbm, ⟨49, _⟩ => ⟨S_, .f32⟩
  | .hbm, ⟨50, _⟩ => ⟨S3x256, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S256, .f32⟩
  | .hbm, ⟨59, _⟩ => ⟨S_, .f32⟩
  | .hbm, ⟨60, _⟩ => ⟨S2050x256, .f32⟩
  | .hbm, ⟨61, _⟩ => ⟨S2050x256, .f32⟩
  | .hbm, ⟨62, _⟩ => ⟨S1x256, .f32⟩
  | .hbm, ⟨63, _⟩ => ⟨S_, .f32⟩
  | .hbm, ⟨64, _⟩ => ⟨S3x256, .f32⟩
  | .hbm, ⟨65, _⟩ => ⟨S3x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S2050x256, .f32⟩
  | .hbm, ⟨76, _⟩ => ⟨S2050x256, .f32⟩
  | .hbm, ⟨77, _⟩ => ⟨S1x256, .f32⟩
  | .hbm, ⟨78, _⟩ => ⟨S_, .f32⟩
  | .hbm, ⟨79, _⟩ => ⟨S3x256, .f32⟩
  | .hbm, ⟨80, _⟩ => ⟨S3x256, .f32⟩
  | .hbm, ⟨81, _⟩ => ⟨S2x256, .f32⟩
  | .hbm, ⟨82, _⟩ => ⟨S2048x256, .f32⟩
  | .hbm, ⟨83, _⟩ => ⟨S2048x256, .f32⟩
  | .hbm, ⟨84, _⟩ => ⟨S2048x256, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Delta.lean ====
abbrev S2048x1536 : Shape := ⟨2, ![2048, 1536]⟩
abbrev S2048x512 : Shape := ⟨2, ![2048, 512]⟩
abbrev S2048x128 : Shape := ⟨2, ![2048, 128]⟩
abbrev S8x128 : Shape := ⟨2, ![8, 128]⟩
abbrev S32x4x128x128 : Shape := ⟨4, ![32, 4, 128, 128]⟩
abbrev S32x3x4x64x64 : Shape := ⟨5, ![32, 3, 4, 64, 64]⟩
abbrev S32x3x4x64x128 : Shape := ⟨5, ![32, 3, 4, 64, 128]⟩
abbrev S64x1536 : Shape := ⟨2, ![64, 1536]⟩
abbrev S64x512 : Shape := ⟨2, ![64, 512]⟩
abbrev S64x128 : Shape := ⟨2, ![64, 128]⟩
abbrev S1x4x128x128 : Shape := ⟨4, ![1, 4, 128, 128]⟩
abbrev S1x3x4x64x64 : Shape := ⟨5, ![1, 3, 4, 64, 64]⟩
abbrev S1x3x4x64x128 : Shape := ⟨5, ![1, 3, 4, 64, 128]⟩
abbrev S4x128x128 : Shape := ⟨3, ![4, 128, 128]⟩
abbrev S1x128 : Shape := ⟨2, ![1, 128]⟩
abbrev S1x64x128 : Shape := ⟨3, ![1, 64, 128]⟩
abbrev S4x64x128 : Shape := ⟨3, ![4, 64, 128]⟩
abbrev S64x1 : Shape := ⟨2, ![64, 1]⟩
abbrev S1x64x1 : Shape := ⟨3, ![1, 64, 1]⟩
abbrev S4x64x1 : Shape := ⟨3, ![4, 64, 1]⟩
abbrev S1x1 : Shape := ⟨2, ![1, 1]⟩
abbrev S1x1x1 : Shape := ⟨3, ![1, 1, 1]⟩
abbrev S4x1x1 : Shape := ⟨3, ![4, 1, 1]⟩
abbrev S1x1x4x64x64 : Shape := ⟨5, ![1, 1, 4, 64, 64]⟩
abbrev S4x64x64 : Shape := ⟨3, ![4, 64, 64]⟩
abbrev S1x1x4x64x128 : Shape := ⟨5, ![1, 1, 4, 64, 128]⟩
abbrev S64x64 : Shape := ⟨2, ![64, 64]⟩
abbrev S1x64x64 : Shape := ⟨3, ![1, 64, 64]⟩
abbrev S4x64 : Shape := ⟨2, ![4, 64]⟩
abbrev S4x1x64 : Shape := ⟨3, ![4, 1, 64]⟩
abbrev S4x1x128 : Shape := ⟨3, ![4, 1, 128]⟩
abbrev S1x1x128 : Shape := ⟨3, ![1, 1, 128]⟩
abbrev S4x128 : Shape := ⟨2, ![4, 128]⟩
abbrev S192x64 : Shape := ⟨2, ![192, 64]⟩
abbrev S192x128 : Shape := ⟨2, ![192, 128]⟩
abbrev S64x384 : Shape := ⟨2, ![64, 384]⟩
abbrev S1x128x128 : Shape := ⟨3, ![1, 128, 128]⟩
abbrev S128x128 : Shape := ⟨2, ![128, 128]⟩
abbrev S384x128 : Shape := ⟨2, ![384, 128]⟩
abbrev S128x384 : Shape := ⟨2, ![128, 384]⟩
abbrev S4x128x1 : Shape := ⟨3, ![4, 128, 1]⟩
abbrev S4x1 : Shape := ⟨2, ![4, 1]⟩
abbrev S128x64 : Shape := ⟨2, ![128, 64]⟩

abbrev nBuf : Space → Nat
  | .hbm => 12
  | .vmem => 23
  | .smem => 0
  | _ => 0

abbrev bufTy : (tb : Table) → Fin (tcTables nBuf tb) → BufTy
  | .hbm, ⟨0, _⟩ => ⟨S2048x1536, .f32⟩
  | .hbm, ⟨1, _⟩ => ⟨S2048x512, .f32⟩
  | .hbm, ⟨2, _⟩ => ⟨S2048x128, .f32⟩
  | .hbm, ⟨3, _⟩ => ⟨S8x128, .f32⟩
  | .hbm, ⟨4, _⟩ => ⟨S32x4x128x128, .f32⟩
  | .hbm, ⟨5, _⟩ => ⟨S32x3x4x64x64, .f32⟩
  | .hbm, ⟨6, _⟩ => ⟨S32x3x4x64x128, .f32⟩
  | .hbm, ⟨7, _⟩ => ⟨S2048x512, .f32⟩
  | .hbm, ⟨8, _⟩ => ⟨S2048x1536, .f32⟩
  | .hbm, ⟨9, _⟩ => ⟨S2048x512, .f32⟩
  | .hbm, ⟨10, _⟩ => ⟨S2048x128, .f32⟩
  | .hbm, ⟨11, _⟩ => ⟨S8x128, .f32⟩
  | .local _ .vmem, ⟨0, _⟩ => ⟨S64x1536, .f32⟩
  | .local _ .vmem, ⟨1, _⟩ => ⟨S64x1536, .f32⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S8x128, .f32⟩
  | .local _ .vmem, ⟨7, _⟩ => ⟨S1x4x128x128, .f32⟩
  | .local _ .vmem, ⟨8, _⟩ => ⟨S1x4x128x128, .f32⟩
  | .local _ .vmem, ⟨9, _⟩ => ⟨S1x3x4x64x64, .f32⟩
  | .local _ .vmem, ⟨10, _⟩ => ⟨S1x3x4x64x64, .f32⟩
  | .local _ .vmem, ⟨11, _⟩ => ⟨S1x3x4x64x128, .f32⟩
  | .local _ .vmem, ⟨12, _⟩ => ⟨S1x3x4x64x128, .f32⟩
  | .local _ .vmem, ⟨13, _⟩ => ⟨S64x512, .f32⟩
  | .local _ .vmem, ⟨14, _⟩ => ⟨S64x512, .f32⟩
  | .local _ .vmem, ⟨15, _⟩ => ⟨S64x1536, .f32⟩
  | .local _ .vmem, ⟨16, _⟩ => ⟨S64x1536, .f32⟩
  | .local _ .vmem, ⟨17, _⟩ => ⟨S64x512, .f32⟩
  | .local _ .vmem, ⟨18, _⟩ => ⟨S64x512, .f32⟩
  | .local _ .vmem, ⟨19, _⟩ => ⟨S64x128, .f32⟩
  | .local _ .vmem, ⟨20, _⟩ => ⟨S64x128, .f32⟩
  | .local _ .vmem, ⟨21, _⟩ => ⟨S8x128, .f32⟩
  | .local _ .vmem, ⟨22, _⟩ => ⟨S4x128x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 5 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_6 (i : grid0.Coords) : Fin 5 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnFwd.lean ====
abbrev S2048x1024 : Shape := ⟨2, ![2048, 1024]⟩
abbrev S4x704x1024 : Shape := ⟨3, ![4, 704, 1024]⟩
abbrev S4x2048x704 : Shape := ⟨3, ![4, 2048, 704]⟩
abbrev S512x1024 : Shape := ⟨2, ![512, 1024]⟩
abbrev S1x704x1024 : Shape := ⟨3, ![1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S2048x1024, .bf16⟩
  | .hbm, ⟨6, _⟩ => ⟨S4x704x1024, .bf16⟩
  | .hbm, ⟨7, _⟩ => ⟨S4x704x1024, .bf16⟩
  | .hbm, ⟨8, _⟩ => ⟨S4x704x1024, .bf16⟩
  | .hbm, ⟨9, _⟩ => ⟨S2048x1024, .f32⟩
  | .hbm, ⟨10, _⟩ => ⟨S4x2048x704, .f32⟩
  | .hbm, ⟨11, _⟩ => ⟨S4x2048x704, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S512x1024, .f32⟩
  | .local _ .vmem, ⟨11, _⟩ => ⟨S512x1024, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnFwdRefIdeal.lean ====
abbrev S2048x1024 : Shape := ⟨2, ![2048, 1024]⟩
abbrev S4x704x1024 : Shape := ⟨3, ![4, 704, 1024]⟩
abbrev S2816x1024 : Shape := ⟨2, ![2816, 1024]⟩
abbrev S1024x2816 : Shape := ⟨2, ![1024, 2816]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S2048x1024, .f32⟩
  | .hbm, ⟨26, _⟩ => ⟨S2048x4x704, .f32⟩
  | .hbm, ⟨27, _⟩ => ⟨S4x2048x704, .f32⟩
  | .hbm, ⟨28, _⟩ => ⟨S2048x4x704, .f32⟩
  | .hbm, ⟨29, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== FfnBwd.lean ====
abbrev S2048x1024 : Shape := ⟨2, ![2048, 1024]⟩
abbrev S4x704x1024 : Shape := ⟨3, ![4, 704, 1024]⟩
abbrev S4x704x2048 : Shape := ⟨3, ![4, 704, 2048]⟩
abbrev S4x2048x704 : Shape := ⟨3, ![4, 2048, 704]⟩
abbrev S256x1024 : Shape := ⟨2, ![256, 1024]⟩
abbrev S1x256x704 : Shape := ⟨3, ![1, 256, 704]⟩
abbrev S1x704x1024 : Shape := ⟨3, ![1, 704, 1024]⟩
abbrev S704x1024 : Shape := ⟨2, ![704, 1024]⟩
abbrev S256x704 : Shape := ⟨2, ![256, 704]⟩

abbrev nBuf : Space → Nat
  | .hbm => 17
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2048x1024, .f32⟩
  | .hbm, ⟨5, _⟩ => ⟨S4x704x2048, .f32⟩
  | .hbm, ⟨6, _⟩ => ⟨S4x2048x704, .f32⟩
  | .hbm, ⟨7, _⟩ => ⟨S4x704x2048, .f32⟩
  | .hbm, ⟨8, _⟩ => ⟨S4x2048x704, .f32⟩
  | .hbm, ⟨9, _⟩ => ⟨S2048x1024, .bf16⟩
  | .hbm, ⟨10, _⟩ => ⟨S4x704x1024, .bf16⟩
  | .hbm, ⟨11, _⟩ => ⟨S4x704x1024, .bf16⟩
  | .hbm, ⟨12, _⟩ => ⟨S4x704x1024, .bf16⟩
  | .hbm, ⟨13, _⟩ => ⟨S2048x1024, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S2048x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | .local _ .vmem, ⟨18, _⟩ => ⟨S1x704x1024, .f32⟩
  | .local _ .vmem, ⟨19, _⟩ => ⟨S1x704x1024, .f32⟩
  | .local _ .vmem, ⟨20, _⟩ => ⟨S1x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v63 : BitVec 32 := Scalar.muli arg1 c256_i32
  v63
def k0_cond2 (i : grid0.Coords) : BitVec 1 :=
  let arg0 : BitVec 32 := BitVec.ofNat 32 (i 0).val
  let c0_i32_47 : BitVec 32 := 0#32
  let v65 : BitVec 1 := Scalar.cmpi .eq arg0 c0_i32_47
  let v66 : BitVec 32 := Scalar.extui v65
  let c0_i32_48 : BitVec 32 := 0#32
  let v67 : BitVec 1 := Scalar.cmpi .ne v66 c0_i32_48
  v67

def k0_off1 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v71 : Index := Scalar.indexCast v64
  let c0_51 : Index := 0#32
  ![v71.toNat, 0]
def k0_cond3 (i : grid0.Coords) : BitVec 1 :=
  let arg0 : BitVec 32 := BitVec.ofNat 32 (i 0).val
  let c0_i32_49 : BitVec 32 := 0#32
  let v68 : BitVec 1 := Scalar.cmpi .ne arg0 c0_i32_49
  let v69 : BitVec 32 := Scalar.extui v68
  let c0_i32_50 : BitVec 32 := 0#32
  let v70 : BitVec 1 := Scalar.cmpi .ne v69 c0_i32_50
  v70

def k0_off2 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v71 : Index := Scalar.indexCast v64
  let c0_51 : Index := 0#32
  ![v71.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnBwdRefIdeal.lean ====
abbrev S2048x1024 : Shape := ⟨2, ![2048, 1024]⟩
abbrev S4x704x1024 : Shape := ⟨3, ![4, 704, 1024]⟩
abbrev S2816x1024 : Shape := ⟨2, ![2816, 1024]⟩
abbrev S1024x2816 : Shape := ⟨2, ![1024, 2816]⟩
abbrev S2048x2816 : Shape := ⟨2, ![2048, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2048x1024, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x1024, .f32⟩
  | .hbm, ⟨27, _⟩ => ⟨S1024x2816, .f32⟩
  | .hbm, ⟨28, _⟩ => ⟨S2816x1024, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2816x1024, .f32⟩
  | .hbm, ⟨33, _⟩ => ⟨S1024x2816, .f32⟩
  | .hbm, ⟨34, _⟩ => ⟨S2048x1024, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2816x1024, .f32⟩
  | .hbm, ⟨40, _⟩ => ⟨S1024x2816, .f32⟩
  | .hbm, ⟨41, _⟩ => ⟨S2048x1024, .f32⟩
  | .hbm, ⟨42, _⟩ => ⟨S2048x1024, .f32⟩
  | .hbm, ⟨43, _⟩ => ⟨S4x704x1024, .f32⟩
  | .hbm, ⟨44, _⟩ => ⟨S2816x1024, .f32⟩
  | .hbm, ⟨45, _⟩ => ⟨S4x704x1024, .f32⟩
  | .hbm, ⟨46, _⟩ => ⟨S2816x1024, .f32⟩
  | .hbm, ⟨47, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== InFwd.lean ====
abbrev S2048x1024 : Shape := ⟨2, ![2048, 1024]⟩
abbrev S1x1024 : Shape := ⟨2, ![1, 1024]⟩
abbrev S1024x3200 : Shape := ⟨2, ![1024, 3200]⟩
abbrev S2048x1536 : Shape := ⟨2, ![2048, 1536]⟩
abbrev S2048x512 : Shape := ⟨2, ![2048, 512]⟩
abbrev S2048x256 : Shape := ⟨2, ![2048, 256]⟩
abbrev S2048x768 : Shape := ⟨2, ![2048, 768]⟩
abbrev S2048x128 : Shape := ⟨2, ![2048, 128]⟩
abbrev S512x1024 : Shape := ⟨2, ![512, 1024]⟩
abbrev S512x1536 : Shape := ⟨2, ![512, 1536]⟩
abbrev S512x512 : Shape := ⟨2, ![512, 512]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩
abbrev S1024x512 : Shape := ⟨2, ![1024, 512]⟩
abbrev S1024x256 : Shape := ⟨2, ![1024, 256]⟩
abbrev S1024x768 : Shape := ⟨2, ![1024, 768]⟩
abbrev S1024x128 : Shape := ⟨2, ![1024, 128]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3200, .f32⟩
  | .hbm, ⟨3, _⟩ => ⟨S1024x3200, .bf16⟩
  | .hbm, ⟨4, _⟩ => ⟨S2048x1536, .f32⟩
  | .hbm, ⟨5, _⟩ => ⟨S2048x512, .f32⟩
  | .hbm, ⟨6, _⟩ => ⟨S2048x256, .f32⟩
  | .hbm, ⟨7, _⟩ => ⟨S2048x768, .f32⟩
  | .hbm, ⟨8, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x768, .f32⟩
  | .local _ .vmem, ⟨11, _⟩ => ⟨S512x768, .f32⟩
  | .local _ .vmem, ⟨12, _⟩ => ⟨S512x128, .f32⟩
  | .local _ .vmem, ⟨13, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S2048x1024 : Shape := ⟨2, ![2048, 1024]⟩
abbrev S1x1024 : Shape := ⟨2, ![1, 1024]⟩
abbrev S1024x3200 : Shape := ⟨2, ![1024, 3200]⟩
abbrev S_ : Shape := ⟨0, ![]⟩
abbrev S2048 : Shape := ⟨1, ![2048]⟩
abbrev S2048x1 : Shape := ⟨2, ![2048, 1]⟩
abbrev S2048x3200 : Shape := ⟨2, ![2048, 3200]⟩
abbrev S2048x1536 : Shape := ⟨2, ![2048, 1536]⟩
abbrev S2048x512 : Shape := ⟨2, ![2048, 512]⟩
abbrev S2048x256 : Shape := ⟨2, ![2048, 256]⟩
abbrev S2048x768 : Shape := ⟨2, ![2048, 768]⟩
abbrev S2048x128 : Shape := ⟨2, ![2048, 128]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3200, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x3200, .f32⟩
  | .hbm, ⟨19, _⟩ => ⟨S2048x1536, .f32⟩
  | .hbm, ⟨20, _⟩ => ⟨S2048x512, .f32⟩
  | .hbm, ⟨21, _⟩ => ⟨S2048x256, .f32⟩
  | .hbm, ⟨22, _⟩ => ⟨S2048x768, .f32⟩
  | .hbm, ⟨23, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InBwd.lean ====
abbrev S2048x1024 : Shape := ⟨2, ![2048, 1024]⟩
abbrev S1x1024 : Shape := ⟨2, ![1, 1024]⟩
abbrev S1024x3200 : Shape := ⟨2, ![1024, 3200]⟩
abbrev S2048x1536 : Shape := ⟨2, ![2048, 1536]⟩
abbrev S2048x512 : Shape := ⟨2, ![2048, 512]⟩
abbrev S2048x256 : Shape := ⟨2, ![2048, 256]⟩
abbrev S2048x128 : Shape := ⟨2, ![2048, 128]⟩
abbrev S512x1024 : Shape := ⟨2, ![512, 1024]⟩
abbrev S512x1536 : Shape := ⟨2, ![512, 1536]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x3200 : Shape := ⟨2, ![512, 3200]⟩
abbrev S1024 : Shape := ⟨1, ![1024]⟩

abbrev nBuf : Space → Nat
  | .hbm => 15
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3200, .f32⟩
  | .hbm, ⟨3, _⟩ => ⟨S2048x1536, .f32⟩
  | .hbm, ⟨4, _⟩ => ⟨S2048x512, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x1024, .f32⟩
  | .hbm, ⟨11, _⟩ => ⟨S1024x3200, .bf16⟩
  | .hbm, ⟨12, _⟩ => ⟨S2048x1024, .f32⟩
  | .hbm, ⟨13, _⟩ => ⟨S1024x3200, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1024x3200, .f32⟩
  | .local _ .vmem, ⟨23, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x3200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InBwdRefIdeal.lean ====
abbrev S2048x1024 : Shape := ⟨2, ![2048, 1024]⟩
abbrev S1x1024 : Shape := ⟨2, ![1, 1024]⟩
abbrev S1024x3200 : Shape := ⟨2, ![1024, 3200]⟩
abbrev S2048x1536 : Shape := ⟨2, ![2048, 1536]⟩
abbrev S2048x512 : Shape := ⟨2, ![2048, 512]⟩
abbrev S2048x256 : Shape := ⟨2, ![2048, 256]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x3200 : Shape := ⟨2, ![2048, 3200]⟩
abbrev S3200x1024 : Shape := ⟨2, ![3200, 1024]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3200, .f32⟩
  | .hbm, ⟨3, _⟩ => ⟨S2048x1536, .f32⟩
  | .hbm, ⟨4, _⟩ => ⟨S2048x512, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x3200, .f32⟩
  | .hbm, ⟨31, _⟩ => ⟨S2048x1536, .f32⟩
  | .hbm, ⟨32, _⟩ => ⟨S2048x512, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x128, .f32⟩
  | .hbm, ⟨38, _⟩ => ⟨S2048x3200, .f32⟩
  | .hbm, ⟨39, _⟩ => ⟨S3200x1024, .f32⟩
  | .hbm, ⟨40, _⟩ => ⟨S1024x3200, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== PleFwd.lean ====
abbrev S2048x1024 : Shape := ⟨2, ![2048, 1024]⟩
abbrev S2048x256 : Shape := ⟨2, ![2048, 256]⟩
abbrev S4x256x1024 : Shape := ⟨3, ![4, 256, 1024]⟩
abbrev S4x256x256 : Shape := ⟨3, ![4, 256, 256]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S4x256x1024, .f32⟩
  | .hbm, ⟨3, _⟩ => ⟨S4x256x256, .f32⟩
  | .hbm, ⟨4, _⟩ => ⟨S4x256x1024, .bf16⟩
  | .hbm, ⟨5, _⟩ => ⟨S4x256x256, .bf16⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S4x256x1024, .bf16⟩
  | .local _ .vmem, ⟨5, _⟩ => ⟨S4x256x256, .bf16⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleFwdRefIdeal.lean ====
abbrev S2048x1024 : Shape := ⟨2, ![2048, 1024]⟩
abbrev S2048x256 : Shape := ⟨2, ![2048, 256]⟩
abbrev S4x256x1024 : Shape := ⟨3, ![4, 256, 1024]⟩
abbrev S4x256x256 : Shape := ⟨3, ![4, 256, 256]⟩
abbrev S1024x1024 : Shape := ⟨2, ![1024, 1024]⟩
abbrev S_ : Shape := ⟨0, ![]⟩
abbrev S256x4x256 : Shape := ⟨3, ![256, 4, 256]⟩
abbrev S256x1024 : Shape := ⟨2, ![256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S4x256x1024, .f32⟩
  | .hbm, ⟨3, _⟩ => ⟨S4x256x256, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S256x4x256, .f32⟩
  | .hbm, ⟨15, _⟩ => ⟨S256x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== PleBwd.lean ====
abbrev S2048x1024 : Shape := ⟨2, ![2048, 1024]⟩
abbrev S2048x256 : Shape := ⟨2, ![2048, 256]⟩
abbrev S4x256x1024 : Shape := ⟨3, ![4, 256, 1024]⟩
abbrev S4x256x256 : Shape := ⟨3, ![4, 256, 256]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S4x256x1024, .f32⟩
  | .hbm, ⟨3, _⟩ => ⟨S4x256x256, .f32⟩
  | .hbm, ⟨4, _⟩ => ⟨S2048x1024, .f32⟩
  | .hbm, ⟨5, _⟩ => ⟨S4x256x1024, .bf16⟩
  | .hbm, ⟨6, _⟩ => ⟨S4x256x256, .bf16⟩
  | .hbm, ⟨7, _⟩ => ⟨S2048x1024, .f32⟩
  | .hbm, ⟨8, _⟩ => ⟨S4x256x1024, .f32⟩
  | .hbm, ⟨9, _⟩ => ⟨S4x256x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S4x256x1024, .bf16⟩
  | .local _ .vmem, ⟨7, _⟩ => ⟨S4x256x256, .bf16⟩
  | .local _ .vmem, ⟨8, _⟩ => ⟨S512x1024, .f32⟩
  | .local _ .vmem, ⟨9, _⟩ => ⟨S512x1024, .f32⟩
  | .local _ .vmem, ⟨10, _⟩ => ⟨S4x256x1024, .f32⟩
  | .local _ .vmem, ⟨11, _⟩ => ⟨S4x256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PleBwdRefIdeal.lean ====
abbrev S2048x1024 : Shape := ⟨2, ![2048, 1024]⟩
abbrev S2048x256 : Shape := ⟨2, ![2048, 256]⟩
abbrev S4x256x1024 : Shape := ⟨3, ![4, 256, 1024]⟩
abbrev S4x256x256 : Shape := ⟨3, ![4, 256, 256]⟩
abbrev S1024x1024 : Shape := ⟨2, ![1024, 1024]⟩
abbrev S_ : Shape := ⟨0, ![]⟩
abbrev S256x4x256 : Shape := ⟨3, ![256, 4, 256]⟩
abbrev S256x1024 : Shape := ⟨2, ![256, 1024]⟩
abbrev S1024x256 : Shape := ⟨2, ![1024, 256]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S4x256x1024, .f32⟩
  | .hbm, ⟨3, _⟩ => ⟨S4x256x256, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S256x4x256, .f32⟩
  | .hbm, ⟨20, _⟩ => ⟨S256x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x256, .f32⟩
  | .hbm, ⟨28, _⟩ => ⟨S256x1024, .f32⟩
  | .hbm, ⟨29, _⟩ => ⟨S256x4x256, .f32⟩
  | .hbm, ⟨30, _⟩ => ⟨S4x256x256, .f32⟩
  | .hbm, ⟨31, _⟩ => ⟨S2048x1024, .f32⟩
  | .hbm, ⟨32, _⟩ => ⟨S1024x1024, .f32⟩
  | .hbm, ⟨33, _⟩ => ⟨S1024x1024, .f32⟩
  | .hbm, ⟨34, _⟩ => ⟨S2048x1024, .f32⟩
  | .hbm, ⟨35, _⟩ => ⟨S2048x1024, .f32⟩
  | .hbm, ⟨36, _⟩ => ⟨S4x256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== OutFwd.lean ====
abbrev S2048x1024 : Shape := ⟨2, ![2048, 1024]⟩
abbrev S2048x512 : Shape := ⟨2, ![2048, 512]⟩
abbrev S2048x256 : Shape := ⟨2, ![2048, 256]⟩
abbrev S4x256x1024 : Shape := ⟨3, ![4, 256, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x256, .f32⟩
  | .hbm, ⟨3, _⟩ => ⟨S2048x256, .f32⟩
  | .hbm, ⟨4, _⟩ => ⟨S4x256x1024, .f32⟩
  | .hbm, ⟨5, _⟩ => ⟨S1x1024, .f32⟩
  | .hbm, ⟨6, _⟩ => ⟨S4x256x1024, .bf16⟩
  | .hbm, ⟨7, _⟩ => ⟨S2048x1024, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S4x256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S2048x1024 : Shape := ⟨2, ![2048, 1024]⟩
abbrev S2048x512 : Shape := ⟨2, ![2048, 512]⟩
abbrev S2048x256 : Shape := ⟨2, ![2048, 256]⟩
abbrev S4x256x1024 : Shape := ⟨3, ![4, 256, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x256, .f32⟩
  | .hbm, ⟨3, _⟩ => ⟨S2048x256, .f32⟩
  | .hbm, ⟨4, _⟩ => ⟨S4x256x1024, .f32⟩
  | .hbm, ⟨5, _⟩ => ⟨S1x1024, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== OutBwd.lean ====
abbrev S2048x1024 : Shape := ⟨2, ![2048, 1024]⟩
abbrev S2048x512 : Shape := ⟨2, ![2048, 512]⟩
abbrev S2048x256 : Shape := ⟨2, ![2048, 256]⟩
abbrev S4x256x1024 : Shape := ⟨3, ![4, 256, 1024]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1x256x1024 : Shape := ⟨3, ![1, 256, 1024]⟩
abbrev S256x1024 : Shape := ⟨2, ![256, 1024]⟩

abbrev nBuf : Space → Nat
  | .hbm => 19
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x256, .f32⟩
  | .hbm, ⟨3, _⟩ => ⟨S2048x256, .f32⟩
  | .hbm, ⟨4, _⟩ => ⟨S4x256x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S4x256x1024, .bf16⟩
  | .hbm, ⟨13, _⟩ => ⟨S2048x1024, .f32⟩
  | .hbm, ⟨14, _⟩ => ⟨S2048x512, .f32⟩
  | .hbm, ⟨15, _⟩ => ⟨S2048x256, .f32⟩
  | .hbm, ⟨16, _⟩ => ⟨S2048x256, .f32⟩
  | .hbm, ⟨17, _⟩ => ⟨S4x256x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x512, .f32⟩
  | .local _ .vmem, ⟨8, _⟩ => ⟨S512x512, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S4x256x1024, .bf16⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S4x256x1024, .f32⟩
  | .local _ .vmem, ⟨23, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutBwdRefIdeal.lean ====
abbrev S2048x1024 : Shape := ⟨2, ![2048, 1024]⟩
abbrev S2048x512 : Shape := ⟨2, ![2048, 512]⟩
abbrev S2048x256 : Shape := ⟨2, ![2048, 256]⟩
abbrev S4x256x1024 : Shape := ⟨3, ![4, 256, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x256, .f32⟩
  | .hbm, ⟨3, _⟩ => ⟨S2048x256, .f32⟩
  | .hbm, ⟨4, _⟩ => ⟨S4x256x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x1024, .f32⟩
  | .hbm, ⟨57, _⟩ => ⟨S1024x1024, .f32⟩
  | .hbm, ⟨58, _⟩ => ⟨S2048x1024, .f32⟩
  | .hbm, ⟨59, _⟩ => ⟨S4x256x1024, .f32⟩
  | .hbm, ⟨60, _⟩ => ⟨S2048x512, .f32⟩
  | .hbm, ⟨61, _⟩ => ⟨S2048x256, .f32⟩
  | .hbm, ⟨62, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== AdamIn.lean ====
abbrev S2048x770 : Shape := ⟨2, ![2048, 770]⟩
abbrev S512x770 : Shape := ⟨2, ![512, 770]⟩

abbrev nBuf : Space → Nat
  | .hbm => 8
  | .vmem => 16
  | .smem => 0
  | _ => 0

abbrev bufTy : (tb : Table) → Fin (tcTables nBuf tb) → BufTy
  | .hbm, ⟨0, _⟩ => ⟨S2048x770, .f32⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S2048x770, .f32⟩
  | .hbm, ⟨5, _⟩ => ⟨S2048x770, .f32⟩
  | .hbm, ⟨6, _⟩ => ⟨S2048x770, .f32⟩
  | .hbm, ⟨7, _⟩ => ⟨S2048x770, .f32⟩
  | .local _ .vmem, ⟨0, _⟩ => ⟨S512x770, .f32⟩
  | .local _ .vmem, ⟨1, _⟩ => ⟨S512x770, .f32⟩
  | .local _ .vmem, ⟨2, _⟩ => ⟨S512x770, .f32⟩
  | .local _ .vmem, ⟨3, _⟩ => ⟨S512x770, .f32⟩
  | .local _ .vmem, ⟨4, _⟩ => ⟨S512x770, .f32⟩
  | .local _ .vmem, ⟨5, _⟩ => ⟨S512x770, .f32⟩
  | .local _ .vmem, ⟨6, _⟩ => ⟨S512x770, .f32⟩
  | .local _ .vmem, ⟨7, _⟩ => ⟨S512x770, .f32⟩
  | .local _ .vmem, ⟨8, _⟩ => ⟨S512x770, .f32⟩
  | .local _ .vmem, ⟨9, _⟩ => ⟨S512x770, .f32⟩
  | .local _ .vmem, ⟨10, _⟩ => ⟨S512x770, .f32⟩
  | .local _ .vmem, ⟨11, _⟩ => ⟨S512x770, .f32⟩
  | .local _ .vmem, ⟨12, _⟩ => ⟨S512x770, .f32⟩
  | .local _ .vmem, ⟨13, _⟩ => ⟨S512x770, .f32⟩
  | .local _ .vmem, ⟨14, _⟩ => ⟨S512x770, .f32⟩
  | .local _ .vmem, ⟨15, _⟩ => ⟨S512x770, .f32⟩
  | _, _ => ⟨S2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x770 : Shape := ⟨2, ![2048, 770]⟩
abbrev S512x770 : Shape := ⟨2, ![512, 770]⟩

abbrev nBuf : Space → Nat
  | .hbm => 8
  | .vmem => 16
  | .smem => 0
  | _ => 0

abbrev bufTy : (tb : Table) → Fin (tcTables nBuf tb) → BufTy
  | .hbm, ⟨0, _⟩ => ⟨S2048x770, .f32⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S2048x770, .f32⟩
  | .hbm, ⟨5, _⟩ => ⟨S2048x770, .f32⟩
  | .hbm, ⟨6, _⟩ => ⟨S2048x770, .f32⟩
  | .hbm, ⟨7, _⟩ => ⟨S2048x770, .f32⟩
  | .local _ .vmem, ⟨0, _⟩ => ⟨S512x770, .f32⟩
  | .local _ .vmem, ⟨1, _⟩ => ⟨S512x770, .f32⟩
  | .local _ .vmem, ⟨2, _⟩ => ⟨S512x770, .f32⟩
  | .local _ .vmem, ⟨3, _⟩ => ⟨S512x770, .f32⟩
  | .local _ .vmem, ⟨4, _⟩ => ⟨S512x770, .f32⟩
  | .local _ .vmem, ⟨5, _⟩ => ⟨S512x770, .f32⟩
  | .local _ .vmem, ⟨6, _⟩ => ⟨S512x770, .f32⟩
  | .local _ .vmem, ⟨7, _⟩ => ⟨S512x770, .f32⟩
  | .local _ .vmem, ⟨8, _⟩ => ⟨S512x770, .f32⟩
  | .local _ .vmem, ⟨9, _⟩ => ⟨S512x770, .f32⟩
  | .local _ .vmem, ⟨10, _⟩ => ⟨S512x770, .f32⟩
  | .local _ .vmem, ⟨11, _⟩ => ⟨S512x770, .f32⟩
  | .local _ .vmem, ⟨12, _⟩ => ⟨S512x770, .f32⟩
  | .local _ .vmem, ⟨13, _⟩ => ⟨S512x770, .f32⟩
  | .local _ .vmem, ⟨14, _⟩ => ⟨S512x770, .f32⟩
  | .local _ .vmem, ⟨15, _⟩ => ⟨S512x770, .f32⟩
  | _, _ => ⟨S2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "bias1" => some ((8388608 / 5463681 : ℝ) : EReal)
  | "bias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x770 : Shape := ⟨2, ![2048, 770]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x770, .f32⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S_, .f32⟩
  | .hbm, ⟨5, _⟩ => ⟨S2048x770, .f32⟩
  | .hbm, ⟨6, _⟩ => ⟨S2048x770, .f32⟩
  | .hbm, ⟨7, _⟩ => ⟨S_, .f32⟩
  | .hbm, ⟨8, _⟩ => ⟨S2048x770, .f32⟩
  | .hbm, ⟨9, _⟩ => ⟨S2048x770, .f32⟩
  | .hbm, ⟨10, _⟩ => ⟨S2048x770, .f32⟩
  | .hbm, ⟨11, _⟩ => ⟨S_, .f32⟩
  | .hbm, ⟨12, _⟩ => ⟨S2048x770, .f32⟩
  | .hbm, ⟨13, _⟩ => ⟨S2048x770, .f32⟩
  | .hbm, ⟨14, _⟩ => ⟨S2048x770, .f32⟩
  | .hbm, ⟨15, _⟩ => ⟨S_, .f32⟩
  | .hbm, ⟨16, _⟩ => ⟨S2048x770, .f32⟩
  | .hbm, ⟨17, _⟩ => ⟨S2048x770, .f32⟩
  | .hbm, ⟨18, _⟩ => ⟨S2048x770, .f32⟩
  | .hbm, ⟨19, _⟩ => ⟨S_, .f32⟩
  | .hbm, ⟨20, _⟩ => ⟨S2048x770, .f32⟩
  | .hbm, ⟨21, _⟩ => ⟨S2048x770, .f32⟩
  | .hbm, ⟨22, _⟩ => ⟨S_, .f32⟩
  | .hbm, ⟨23, _⟩ => ⟨S2048x770, .f32⟩
  | .hbm, ⟨24, _⟩ => ⟨S2048x770, .f32⟩
  | .hbm, ⟨25, _⟩ => ⟨S2048x770, .f32⟩
  | .hbm, ⟨26, _⟩ => ⟨S_, .f32⟩
  | .hbm, ⟨27, _⟩ => ⟨S2048x770, .f32⟩
  | .hbm, ⟨28, _⟩ => ⟨S2048x770, .f32⟩
  | .hbm, ⟨29, _⟩ => ⟨S2048x770, .f32⟩
  | .hbm, ⟨30, _⟩ => ⟨S_, .f32⟩
  | .hbm, ⟨31, _⟩ => ⟨S2048x770, .f32⟩
  | .hbm, ⟨32, _⟩ => ⟨S2048x770, .f32⟩
  | .hbm, ⟨33, _⟩ => ⟨S2048x770, .f32⟩
  | .hbm, ⟨34, _⟩ => ⟨S_, .f32⟩
  | .hbm, ⟨35, _⟩ => ⟨S2048x770, .f32⟩
  | .hbm, ⟨36, _⟩ => ⟨S2048x770, .f32⟩
  | _, _ => ⟨S2048x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S1408x1024 : Shape := ⟨2, ![1408, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S1408x1024 : Shape := ⟨2, ![1408, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "bias1" => some ((8388608 / 5463681 : ℝ) : EReal)
  | "bias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some ((8388608 / 5463681 : ℝ) : EReal)
  | "bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPle.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamPleRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2x1024 : Shape := ⟨2, ![2, 1024]⟩
abbrev S8x384 : Shape := ⟨2, ![8, 384]⟩
abbrev S2x4 : Shape := ⟨2, ![2, 4]⟩
abbrev S2x128 : Shape := ⟨2, ![2, 128]⟩
abbrev S512x64 : Shape := ⟨2, ![512, 64]⟩
abbrev S2x256 : Shape := ⟨2, ![2, 256]⟩
abbrev S6x64 : Shape := ⟨2, ![6, 64]⟩
abbrev S1x1024 : Shape := ⟨2, ![1, 1024]⟩

abbrev nBuf : Space → Nat
  | .hbm => 80
  | .vmem => 80
  | .smem => 0
  | _ => 0

abbrev bufTy : (tb : Table) → Fin (tcTables nBuf tb) → BufTy
  | .hbm, ⟨0, _⟩ => ⟨S2x1024, .f32⟩
  | .hbm, ⟨1, _⟩ => ⟨S8x384, .f32⟩
  | .hbm, ⟨2, _⟩ => ⟨S2x4, .f32⟩
  | .hbm, ⟨3, _⟩ => ⟨S2x4, .f32⟩
  | .hbm, ⟨4, _⟩ => ⟨S2x128, .f32⟩
  | .hbm, ⟨5, _⟩ => ⟨S512x64, .f32⟩
  | .hbm, ⟨6, _⟩ => ⟨S2x256, .f32⟩
  | .hbm, ⟨7, _⟩ => ⟨S6x64, .f32⟩
  | .hbm, ⟨8, _⟩ => ⟨S2x1024, .f32⟩
  | .hbm, ⟨9, _⟩ => ⟨S1x1024, .f32⟩
  | .hbm, ⟨10, _⟩ => ⟨S2x1024, .f32⟩
  | .hbm, ⟨11, _⟩ => ⟨S8x384, .f32⟩
  | .hbm, ⟨12, _⟩ => ⟨S2x4, .f32⟩
  | .hbm, ⟨13, _⟩ => ⟨S2x4, .f32⟩
  | .hbm, ⟨14, _⟩ => ⟨S2x128, .f32⟩
  | .hbm, ⟨15, _⟩ => ⟨S512x64, .f32⟩
  | .hbm, ⟨16, _⟩ => ⟨S2x256, .f32⟩
  | .hbm, ⟨17, _⟩ => ⟨S6x64, .f32⟩
  | .hbm, ⟨18, _⟩ => ⟨S2x1024, .f32⟩
  | .hbm, ⟨19, _⟩ => ⟨S1x1024, .f32⟩
  | .hbm, ⟨20, _⟩ => ⟨S2x1024, .f32⟩
  | .hbm, ⟨21, _⟩ => ⟨S8x384, .f32⟩
  | .hbm, ⟨22, _⟩ => ⟨S2x4, .f32⟩
  | .hbm, ⟨23, _⟩ => ⟨S2x4, .f32⟩
  | .hbm, ⟨24, _⟩ => ⟨S2x128, .f32⟩
  | .hbm, ⟨25, _⟩ => ⟨S512x64, .f32⟩
  | .hbm, ⟨26, _⟩ => ⟨S2x256, .f32⟩
  | .hbm, ⟨27, _⟩ => ⟨S6x64, .f32⟩
  | .hbm, ⟨28, _⟩ => ⟨S2x1024, .f32⟩
  | .hbm, ⟨29, _⟩ => ⟨S1x1024, .f32⟩
  | .hbm, ⟨30, _⟩ => ⟨S2x1024, .f32⟩
  | .hbm, ⟨31, _⟩ => ⟨S8x384, .f32⟩
  | .hbm, ⟨32, _⟩ => ⟨S2x4, .f32⟩
  | .hbm, ⟨33, _⟩ => ⟨S2x4, .f32⟩
  | .hbm, ⟨34, _⟩ => ⟨S2x128, .f32⟩
  | .hbm, ⟨35, _⟩ => ⟨S512x64, .f32⟩
  | .hbm, ⟨36, _⟩ => ⟨S2x256, .f32⟩
  | .hbm, ⟨37, _⟩ => ⟨S6x64, .f32⟩
  | .hbm, ⟨38, _⟩ => ⟨S2x1024, .f32⟩
  | .hbm, ⟨39, _⟩ => ⟨S1x1024, .f32⟩
  | .hbm, ⟨40, _⟩ => ⟨S2x1024, .f32⟩
  | .hbm, ⟨41, _⟩ => ⟨S2x1024, .f32⟩
  | .hbm, ⟨42, _⟩ => ⟨S2x1024, .f32⟩
  | .hbm, ⟨43, _⟩ => ⟨S2x1024, .f32⟩
  | .hbm, ⟨44, _⟩ => ⟨S8x384, .f32⟩
  | .hbm, ⟨45, _⟩ => ⟨S8x384, .f32⟩
  | .hbm, ⟨46, _⟩ => ⟨S8x384, .f32⟩
  | .hbm, ⟨47, _⟩ => ⟨S8x384, .f32⟩
  | .hbm, ⟨48, _⟩ => ⟨S2x4, .f32⟩
  | .hbm, ⟨49, _⟩ => ⟨S2x4, .f32⟩
  | .hbm, ⟨50, _⟩ => ⟨S2x4, .f32⟩
  | .hbm, ⟨51, _⟩ => ⟨S2x4, .f32⟩
  | .hbm, ⟨52, _⟩ => ⟨S2x4, .f32⟩
  | .hbm, ⟨53, _⟩ => ⟨S2x4, .f32⟩
  | .hbm, ⟨54, _⟩ => ⟨S2x4, .f32⟩
  | .hbm, ⟨55, _⟩ => ⟨S2x4, .f32⟩
  | .hbm, ⟨56, _⟩ => ⟨S2x128, .f32⟩
  | .hbm, ⟨57, _⟩ => ⟨S2x128, .f32⟩
  | .hbm, ⟨58, _⟩ => ⟨S2x128, .f32⟩
  | .hbm, ⟨59, _⟩ => ⟨S2x128, .f32⟩
  | .hbm, ⟨60, _⟩ => ⟨S512x64, .f32⟩
  | .hbm, ⟨61, _⟩ => ⟨S512x64, .f32⟩
  | .hbm, ⟨62, _⟩ => ⟨S512x64, .f32⟩
  | .hbm, ⟨63, _⟩ => ⟨S512x64, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S2x256, .f32⟩
  | .hbm, ⟨68, _⟩ => ⟨S6x64, .f32⟩
  | .hbm, ⟨69, _⟩ => ⟨S6x64, .f32⟩
  | .hbm, ⟨70, _⟩ => ⟨S6x64, .f32⟩
  | .hbm, ⟨71, _⟩ => ⟨S6x64, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S2x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | .local _ .vmem, ⟨8, _⟩ => ⟨S2x4, .f32⟩
  | .local _ .vmem, ⟨9, _⟩ => ⟨S2x4, .f32⟩
  | .local _ .vmem, ⟨10, _⟩ => ⟨S2x4, .f32⟩
  | .local _ .vmem, ⟨11, _⟩ => ⟨S2x4, .f32⟩
  | .local _ .vmem, ⟨12, _⟩ => ⟨S2x4, .f32⟩
  | .local _ .vmem, ⟨13, _⟩ => ⟨S2x4, .f32⟩
  | .local _ .vmem, ⟨14, _⟩ => ⟨S2x4, .f32⟩
  | .local _ .vmem, ⟨15, _⟩ => ⟨S2x4, .f32⟩
  | .local _ .vmem, ⟨16, _⟩ => ⟨S2x128, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S2x256, .f32⟩
  | .local _ .vmem, ⟨25, _⟩ => ⟨S2x256, .f32⟩
  | .local _ .vmem, ⟨26, _⟩ => ⟨S2x256, .f32⟩
  | .local _ .vmem, ⟨27, _⟩ => ⟨S2x256, .f32⟩
  | .local _ .vmem, ⟨28, _⟩ => ⟨S6x64, .f32⟩
  | .local _ .vmem, ⟨29, _⟩ => ⟨S6x64, .f32⟩
  | .local _ .vmem, ⟨30, _⟩ => ⟨S6x64, .f32⟩
  | .local _ .vmem, ⟨31, _⟩ => ⟨S6x64, .f32⟩
  | .local _ .vmem, ⟨32, _⟩ => ⟨S2x1024, .f32⟩
  | .local _ .vmem, ⟨33, _⟩ => ⟨S2x1024, .f32⟩
  | .local _ .vmem, ⟨34, _⟩ => ⟨S2x1024, .f32⟩
  | .local _ .vmem, ⟨35, _⟩ => ⟨S2x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S2x1024, .f32⟩
  | .local _ .vmem, ⟨41, _⟩ => ⟨S2x1024, .f32⟩
  | .local _ .vmem, ⟨42, _⟩ => ⟨S2x1024, .f32⟩
  | .local _ .vmem, ⟨43, _⟩ => ⟨S2x1024, .f32⟩
  | .local _ .vmem, ⟨44, _⟩ => ⟨S8x384, .f32⟩
  | .local _ .vmem, ⟨45, _⟩ => ⟨S8x384, .f32⟩
  | .local _ .vmem, ⟨46, _⟩ => ⟨S8x384, .f32⟩
  | .local _ .vmem, ⟨47, _⟩ => ⟨S8x384, .f32⟩
  | .local _ .vmem, ⟨48, _⟩ => ⟨S2x4, .f32⟩
  | .local _ .vmem, ⟨49, _⟩ => ⟨S2x4, .f32⟩
  | .local _ .vmem, ⟨50, _⟩ => ⟨S2x4, .f32⟩
  | .local _ .vmem, ⟨51, _⟩ => ⟨S2x4, .f32⟩
  | .local _ .vmem, ⟨52, _⟩ => ⟨S2x4, .f32⟩
  | .local _ .vmem, ⟨53, _⟩ => ⟨S2x4, .f32⟩
  | .local _ .vmem, ⟨54, _⟩ => ⟨S2x4, .f32⟩
  | .local _ .vmem, ⟨55, _⟩ => ⟨S2x4, .f32⟩
  | .local _ .vmem, ⟨56, _⟩ => ⟨S2x128, .f32⟩
  | .local _ .vmem, ⟨57, _⟩ => ⟨S2x128, .f32⟩
  | .local _ .vmem, ⟨58, _⟩ => ⟨S2x128, .f32⟩
  | .local _ .vmem, ⟨59, _⟩ => ⟨S2x128, .f32⟩
  | .local _ .vmem, ⟨60, _⟩ => ⟨S512x64, .f32⟩
  | .local _ .vmem, ⟨61, _⟩ => ⟨S512x64, .f32⟩
  | .local _ .vmem, ⟨62, _⟩ => ⟨S512x64, .f32⟩
  | .local _ .vmem, ⟨63, _⟩ => ⟨S512x64, .f32⟩
  | .local _ .vmem, ⟨64, _⟩ => ⟨S2x256, .f32⟩
  | .local _ .vmem, ⟨65, _⟩ => ⟨S2x256, .f32⟩
  | .local _ .vmem, ⟨66, _⟩ => ⟨S2x256, .f32⟩
  | .local _ .vmem, ⟨67, _⟩ => ⟨S2x256, .f32⟩
  | .local _ .vmem, ⟨68, _⟩ => ⟨S6x64, .f32⟩
  | .local _ .vmem, ⟨69, _⟩ => ⟨S6x64, .f32⟩
  | .local _ .vmem, ⟨70, _⟩ => ⟨S6x64, .f32⟩
  | .local _ .vmem, ⟨71, _⟩ => ⟨S6x64, .f32⟩
  | .local _ .vmem, ⟨72, _⟩ => ⟨S2x1024, .f32⟩
  | .local _ .vmem, ⟨73, _⟩ => ⟨S2x1024, .f32⟩
  | .local _ .vmem, ⟨74, _⟩ => ⟨S2x1024, .f32⟩
  | .local _ .vmem, ⟨75, _⟩ => ⟨S2x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev main_v0_30 : Ref sig .tc := ⟨.hbm, 70, rfl⟩
abbrev main_v0_31 : Ref sig .tc := ⟨.hbm, 71, rfl⟩
abbrev main_v0_32 : Ref sig .tc := ⟨.hbm, 72, rfl⟩
abbrev main_v0_33 : Ref sig .tc := ⟨.hbm, 73, rfl⟩
abbrev main_v0_34 : Ref sig .tc := ⟨.hbm, 74, rfl⟩
abbrev main_v0_35 : Ref sig .tc := ⟨.hbm, 75, rfl⟩
abbrev main_v0_36 : Ref sig .tc := ⟨.hbm, 76, rfl⟩
abbrev main_v0_37 : Ref sig .tc := ⟨.hbm, 77, rfl⟩
abbrev main_v0_38 : Ref sig .tc := ⟨.hbm, 78, rfl⟩
abbrev main_v0_39 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_51 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_54 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_55 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_56 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_57 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_58 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_59 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_60 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_61 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_62 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_63 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_64 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_65 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_66 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_67 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_68 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_69 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_70 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_71 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_72 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_73 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_74 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_75 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_76 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_77 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_78 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_79 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S2x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S6x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S6x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S6x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S6x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S2x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S2x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S2x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S2x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S2x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S2x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S2x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S8x384 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S8x384 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S8x384 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S8x384 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S2x4 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S2x4 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S2x4 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]

abbrev stage0_51 : Fin 1 → Memref sig .tc .vmem S2x4 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))
abbrev reads0_51 : Fin grid0.rank → Bool := ![false]

abbrev stage0_52 : Fin 1 → Memref sig .tc .vmem S2x4 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 1 → Memref sig .tc .vmem S2x4 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))
abbrev reads0_53 : Fin grid0.rank → Bool := ![false]

abbrev stage0_54 : Fin 1 → Memref sig .tc .vmem S2x4 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))
abbrev reads0_54 : Fin grid0.rank → Bool := ![false]

abbrev stage0_55 : Fin 1 → Memref sig .tc .vmem S2x4 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
abbrev reads0_55 : Fin grid0.rank → Bool := ![false]

abbrev stage0_56 : Fin 1 → Memref sig .tc .vmem S2x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))
abbrev reads0_56 : Fin grid0.rank → Bool := ![false]

abbrev stage0_57 : Fin 1 → Memref sig .tc .vmem S2x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
abbrev reads0_57 : Fin grid0.rank → Bool := ![false]

abbrev stage0_58 : Fin 1 → Memref sig .tc .vmem S2x128 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))
abbrev reads0_58 : Fin grid0.rank → Bool := ![false]

abbrev stage0_59 : Fin 1 → Memref sig .tc .vmem S2x128 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))
abbrev reads0_59 : Fin grid0.rank → Bool := ![false]

abbrev stage0_60 : Fin 1 → Memref sig .tc .vmem S512x64 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))
abbrev reads0_60 : Fin grid0.rank → Bool := ![false]

abbrev stage0_61 : Fin 1 → Memref sig .tc .vmem S512x64 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))
abbrev reads0_61 : Fin grid0.rank → Bool := ![false]

abbrev stage0_62 : Fin 1 → Memref sig .tc .vmem S512x64 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
abbrev reads0_62 : Fin grid0.rank → Bool := ![false]

abbrev stage0_63 : Fin 1 → Memref sig .tc .vmem S512x64 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))
abbrev reads0_63 : Fin grid0.rank → Bool := ![false]

abbrev stage0_64 : Fin 1 → Memref sig .tc .vmem S2x256 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
abbrev reads0_64 : Fin grid0.rank → Bool := ![false]

abbrev stage0_65 : Fin 1 → Memref sig .tc .vmem S2x256 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))
abbrev reads0_65 : Fin grid0.rank → Bool := ![false]

abbrev stage0_66 : Fin 1 → Memref sig .tc .vmem S2x256 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))
abbrev reads0_66 : Fin grid0.rank → Bool := ![false]

abbrev stage0_67 : Fin 1 → Memref sig .tc .vmem S2x256 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))
abbrev reads0_67 : Fin grid0.rank → Bool := ![false]

abbrev stage0_68 : Fin 1 → Memref sig .tc .vmem S6x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))
abbrev reads0_68 : Fin grid0.rank → Bool := ![false]

abbrev stage0_69 : Fin 1 → Memref sig .tc .vmem S6x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))
abbrev reads0_69 : Fin grid0.rank → Bool := ![false]

abbrev stage0_70 : Fin 1 → Memref sig .tc .vmem S6x64 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))
abbrev reads0_70 : Fin grid0.rank → Bool := ![false]

abbrev stage0_71 : Fin 1 → Memref sig .tc .vmem S6x64 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))
abbrev reads0_71 : Fin grid0.rank → Bool := ![false]

abbrev stage0_72 : Fin 1 → Memref sig .tc .vmem S2x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))
abbrev reads0_72 : Fin grid0.rank → Bool := ![false]

abbrev stage0_73 : Fin 1 → Memref sig .tc .vmem S2x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))
abbrev reads0_73 : Fin grid0.rank → Bool := ![false]

abbrev stage0_74 : Fin 1 → Memref sig .tc .vmem S2x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))
abbrev reads0_74 : Fin grid0.rank → Bool := ![false]

abbrev stage0_75 : Fin 1 → Memref sig .tc .vmem S2x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))
abbrev reads0_75 : Fin grid0.rank → Bool := ![false]

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))
abbrev reads0_76 : Fin grid0.rank → Bool := ![false]

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))
abbrev reads0_77 : Fin grid0.rank → Bool := ![false]

abbrev stage0_78 : Fin 1 → Memref sig .tc .vmem S1x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))
abbrev reads0_78 : Fin grid0.rank → Bool := ![false]

abbrev stage0_79 : Fin 1 → Memref sig .tc .vmem S1x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
abbrev reads0_79 : Fin grid0.rank → Bool := ![false]
-- ==== AdamSmallIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamSmallRefIdeal.lean ====
abbrev S2x1024 : Shape := ⟨2, ![2, 1024]⟩
abbrev S8x384 : Shape := ⟨2, ![8, 384]⟩
abbrev S2x4 : Shape := ⟨2, ![2, 4]⟩
abbrev S2x128 : Shape := ⟨2, ![2, 128]⟩
abbrev S512x64 : Shape := ⟨2, ![512, 64]⟩
abbrev S2x256 : Shape := ⟨2, ![2, 256]⟩
abbrev S6x64 : Shape := ⟨2, ![6, 64]⟩
abbrev S1x1024 : Shape := ⟨2, ![1, 1024]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S2x1024, .f32⟩
  | 1 => ⟨S8x384, .f32⟩
  | 2 => ⟨S2x4, .f32⟩
  | 3 => ⟨S2x4, .f32⟩
  | 4 => ⟨S2x128, .f32⟩
  | 5 => ⟨S512x64, .f32⟩
  | 6 => ⟨S2x256, .f32⟩
  | 7 => ⟨S6x64, .f32⟩
  | 8 => ⟨S2x1024, .f32⟩
  | 9 => ⟨S1x1024, .f32⟩
  | 10 => ⟨S2x1024, .f32⟩
  | 11 => ⟨S8x384, .f32⟩
  | 12 => ⟨S2x4, .f32⟩
  | 13 => ⟨S2x4, .f32⟩
  | 14 => ⟨S2x128, .f32⟩
  | 15 => ⟨S512x64, .f32⟩
  | 16 => ⟨S2x256, .f32⟩
  | 17 => ⟨S6x64, .f32⟩
  | 18 => ⟨S2x1024, .f32⟩
  | 19 => ⟨S1x1024, .f32⟩
  | 20 => ⟨S2x1024, .f32⟩
  | 21 => ⟨S8x384, .f32⟩
  | 22 => ⟨S2x4, .f32⟩
  | 23 => ⟨S2x4, .f32⟩
  | 24 => ⟨S2x128, .f32⟩
  | 25 => ⟨S512x64, .f32⟩
  | 26 => ⟨S2x256, .f32⟩
  | 27 => ⟨S6x64, .f32⟩
  | 28 => ⟨S2x1024, .f32⟩
  | 29 => ⟨S1x1024, .f32⟩
  | 30 => ⟨S2x1024, .f32⟩
  | 31 => ⟨S8x384, .f32⟩
  | 32 => ⟨S2x4, .f32⟩
  | 33 => ⟨S2x4, .f32⟩
  | 34 => ⟨S2x128, .f32⟩
  | 35 => ⟨S512x64, .f32⟩
  | 36 => ⟨S2x256, .f32⟩
  | 37 => ⟨S6x64, .f32⟩
  | 38 => ⟨S2x1024, .f32⟩
  | 39 => ⟨S1x1024, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S8x384, .f32⟩
  | 75 => ⟨S8x384, .f32⟩
  | 76 => ⟨S_, .f32⟩
  | 77 => ⟨S8x384, .f32⟩
  | 78 => ⟨S8x384, .f32⟩
  | 79 => ⟨S8x384, .f32⟩
  | 80 => ⟨S_, .f32⟩
  | 81 => ⟨S8x384, .f32⟩
  | 82 => ⟨S8x384, .f32⟩
  | 83 => ⟨S8x384, .f32⟩
  | 84 => ⟨S_, .f32⟩
  | 85 => ⟨S8x384, .f32⟩
  | 86 => ⟨S8x384, .f32⟩
  | 87 => ⟨S8x384, .f32⟩
  | 88 => ⟨S_, .f32⟩
  | 89 => ⟨S8x384, .f32⟩
  | 90 => ⟨S8x384, .f32⟩
  | 91 => ⟨S_, .f32⟩
  | 92 => ⟨S8x384, .f32⟩
  | 93 => ⟨S8x384, .f32⟩
  | 94 => ⟨S8x384, .f32⟩
  | 95 => ⟨S_, .f32⟩
  | 96 => ⟨S8x384, .f32⟩
  | 97 => ⟨S8x384, .f32⟩
  | 98 => ⟨S8x384, .f32⟩
  | 99 => ⟨S_, .f32⟩
  | 100 => ⟨S8x384, .f32⟩
  | 101 => ⟨S8x384, .f32⟩
  | 102 => ⟨S8x384, .f32⟩
  | 103 => ⟨S_, .f32⟩
  | 104 => ⟨S8x384, .f32⟩
  | 105 => ⟨S8x384, .f32⟩
  | 106 => ⟨S_, .f32⟩
  | 107 => ⟨S2x4, .f32⟩
  | 108 => ⟨S2x4, .f32⟩
  | 109 => ⟨S_, .f32⟩
  | 110 => ⟨S2x4, .f32⟩
  | 111 => ⟨S2x4, .f32⟩
  | 112 => ⟨S2x4, .f32⟩
  | 113 => ⟨S_, .f32⟩
  | 114 => ⟨S2x4, .f32⟩
  | 115 => ⟨S2x4, .f32⟩
  | 116 => ⟨S2x4, .f32⟩
  | 117 => ⟨S_, .f32⟩
  | 118 => ⟨S2x4, .f32⟩
  | 119 => ⟨S2x4, .f32⟩
  | 120 => ⟨S2x4, .f32⟩
  | 121 => ⟨S_, .f32⟩
  | 122 => ⟨S2x4, .f32⟩
  | 123 => ⟨S2x4, .f32⟩
  | 124 => ⟨S_, .f32⟩
  | 125 => ⟨S2x4, .f32⟩
  | 126 => ⟨S2x4, .f32⟩
  | 127 => ⟨S2x4, .f32⟩
  | _ => ⟨S2x1024, .f32⟩

abbrev hbmTy0_1 (i : Nat) : BufTy := match i % 128 with
  | 0 => ⟨S_, .f32⟩
  | 1 => ⟨S2x4, .f32⟩
  | 2 => ⟨S2x4, .f32⟩
  | 3 => ⟨S2x4, .f32⟩
  | 4 => ⟨S_, .f32⟩
  | 5 => ⟨S2x4, .f32⟩
  | 6 => ⟨S2x4, .f32⟩
  | 7 => ⟨S2x4, .f32⟩
  | 8 => ⟨S_, .f32⟩
  | 9 => ⟨S2x4, .f32⟩
  | 10 => ⟨S2x4, .f32⟩
  | 11 => ⟨S_, .f32⟩
  | 12 => ⟨S2x4, .f32⟩
  | 13 => ⟨S2x4, .f32⟩
  | 14 => ⟨S_, .f32⟩
  | 15 => ⟨S2x4, .f32⟩
  | 16 => ⟨S2x4, .f32⟩
  | 17 => ⟨S2x4, .f32⟩
  | 18 => ⟨S_, .f32⟩
  | 19 => ⟨S2x4, .f32⟩
  | 20 => ⟨S2x4, .f32⟩
  | 21 => ⟨S2x4, .f32⟩
  | 22 => ⟨S_, .f32⟩
  | 23 => ⟨S2x4, .f32⟩
  | 24 => ⟨S2x4, .f32⟩
  | 25 => ⟨S2x4, .f32⟩
  | 26 => ⟨S_, .f32⟩
  | 27 => ⟨S2x4, .f32⟩
  | 28 => ⟨S2x4, .f32⟩
  | 29 => ⟨S_, .f32⟩
  | 30 => ⟨S2x4, .f32⟩
  | 31 => ⟨S2x4, .f32⟩
  | 32 => ⟨S2x4, .f32⟩
  | 33 => ⟨S_, .f32⟩
  | 34 => ⟨S2x4, .f32⟩
  | 35 => ⟨S2x4, .f32⟩
  | 36 => ⟨S2x4, .f32⟩
  | 37 => ⟨S_, .f32⟩
  | 38 => ⟨S2x4, .f32⟩
  | 39 => ⟨S2x4, .f32⟩
  | 40 => ⟨S2x4, .f32⟩
  | 41 => ⟨S_, .f32⟩
  | 42 => ⟨S2x4, .f32⟩
  | 43 => ⟨S2x4, .f32⟩
  | 44 => ⟨S_, .f32⟩
  | 45 => ⟨S2x128, .f32⟩
  | 46 => ⟨S2x128, .f32⟩
  | 47 => ⟨S_, .f32⟩
  | 48 => ⟨S2x128, .f32⟩
  | 49 => ⟨S2x128, .f32⟩
  | 50 => ⟨S2x128, .f32⟩
  | 51 => ⟨S_, .f32⟩
  | 52 => ⟨S2x128, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S2x128, .f32⟩
  | 59 => ⟨S_, .f32⟩
  | 60 => ⟨S2x128, .f32⟩
  | 61 => ⟨S2x128, .f32⟩
  | 62 => ⟨S_, .f32⟩
  | 63 => ⟨S2x128, .f32⟩
  | 64 => ⟨S2x128, .f32⟩
  | 65 => ⟨S2x128, .f32⟩
  | 66 => ⟨S_, .f32⟩
  | 67 => ⟨S2x128, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S2x128, .f32⟩
  | 74 => ⟨S_, .f32⟩
  | 75 => ⟨S2x128, .f32⟩
  | 76 => ⟨S2x128, .f32⟩
  | 77 => ⟨S_, .f32⟩
  | 78 => ⟨S512x64, .f32⟩
  | 79 => ⟨S512x64, .f32⟩
  | 80 => ⟨S_, .f32⟩
  | 81 => ⟨S512x64, .f32⟩
  | 82 => ⟨S512x64, .f32⟩
  | 83 => ⟨S512x64, .f32⟩
  | 84 => ⟨S_, .f32⟩
  | 85 => ⟨S512x64, .f32⟩
  | 86 => ⟨S512x64, .f32⟩
  | 87 => ⟨S512x64, .f32⟩
  | 88 => ⟨S_, .f32⟩
  | 89 => ⟨S512x64, .f32⟩
  | 90 => ⟨S512x64, .f32⟩
  | 91 => ⟨S512x64, .f32⟩
  | 92 => ⟨S_, .f32⟩
  | 93 => ⟨S512x64, .f32⟩
  | 94 => ⟨S512x64, .f32⟩
  | 95 => ⟨S_, .f32⟩
  | 96 => ⟨S512x64, .f32⟩
  | 97 => ⟨S512x64, .f32⟩
  | 98 => ⟨S512x64, .f32⟩
  | 99 => ⟨S_, .f32⟩
  | 100 => ⟨S512x64, .f32⟩
  | 101 => ⟨S512x64, .f32⟩
  | 102 => ⟨S512x64, .f32⟩
  | 103 => ⟨S_, .f32⟩
  | 104 => ⟨S512x64, .f32⟩
  | 105 => ⟨S512x64, .f32⟩
  | 106 => ⟨S512x64, .f32⟩
  | 107 => ⟨S_, .f32⟩
  | 108 => ⟨S512x64, .f32⟩
  | 109 => ⟨S512x64, .f32⟩
  | 110 => ⟨S_, .f32⟩
  | 111 => ⟨S2x256, .f32⟩
  | 112 => ⟨S2x256, .f32⟩
  | 113 => ⟨S_, .f32⟩
  | 114 => ⟨S2x256, .f32⟩
  | 115 => ⟨S2x256, .f32⟩
  | 116 => ⟨S2x256, .f32⟩
  | 117 => ⟨S_, .f32⟩
  | 118 => ⟨S2x256, .f32⟩
  | 119 => ⟨S2x256, .f32⟩
  | 120 => ⟨S2x256, .f32⟩
  | 121 => ⟨S_, .f32⟩
  | 122 => ⟨S2x256, .f32⟩
  | 123 => ⟨S2x256, .f32⟩
  | 124 => ⟨S2x256, .f32⟩
  | 125 => ⟨S_, .f32⟩
  | 126 => ⟨S2x256, .f32⟩
  | 127 => ⟨S2x256, .f32⟩
  | _ => ⟨S2x1024, .f32⟩

abbrev hbmTy0_2 (i : Nat) : BufTy := match i % 128 with
  | 0 => ⟨S_, .f32⟩
  | 1 => ⟨S2x256, .f32⟩
  | 2 => ⟨S2x256, .f32⟩
  | 3 => ⟨S2x256, .f32⟩
  | 4 => ⟨S_, .f32⟩
  | 5 => ⟨S2x256, .f32⟩
  | 6 => ⟨S2x256, .f32⟩
  | 7 => ⟨S2x256, .f32⟩
  | 8 => ⟨S_, .f32⟩
  | 9 => ⟨S2x256, .f32⟩
  | 10 => ⟨S2x256, .f32⟩
  | 11 => ⟨S2x256, .f32⟩
  | 12 => ⟨S_, .f32⟩
  | 13 => ⟨S2x256, .f32⟩
  | 14 => ⟨S2x256, .f32⟩
  | 15 => ⟨S_, .f32⟩
  | 16 => ⟨S6x64, .f32⟩
  | 17 => ⟨S6x64, .f32⟩
  | 18 => ⟨S_, .f32⟩
  | 19 => ⟨S6x64, .f32⟩
  | 20 => ⟨S6x64, .f32⟩
  | 21 => ⟨S6x64, .f32⟩
  | 22 => ⟨S_, .f32⟩
  | 23 => ⟨S6x64, .f32⟩
  | 24 => ⟨S6x64, .f32⟩
  | 25 => ⟨S6x64, .f32⟩
  | 26 => ⟨S_, .f32⟩
  | 27 => ⟨S6x64, .f32⟩
  | 28 => ⟨S6x64, .f32⟩
  | 29 => ⟨S6x64, .f32⟩
  | 30 => ⟨S_, .f32⟩
  | 31 => ⟨S6x64, .f32⟩
  | 32 => ⟨S6x64, .f32⟩
  | 33 => ⟨S_, .f32⟩
  | 34 => ⟨S6x64, .f32⟩
  | 35 => ⟨S6x64, .f32⟩
  | 36 => ⟨S6x64, .f32⟩
  | 37 => ⟨S_, .f32⟩
  | 38 => ⟨S6x64, .f32⟩
  | 39 => ⟨S6x64, .f32⟩
  | 40 => ⟨S6x64, .f32⟩
  | 41 => ⟨S_, .f32⟩
  | 42 => ⟨S6x64, .f32⟩
  | 43 => ⟨S6x64, .f32⟩
  | 44 => ⟨S6x64, .f32⟩
  | 45 => ⟨S_, .f32⟩
  | 46 => ⟨S6x64, .f32⟩
  | 47 => ⟨S6x64, .f32⟩
  | 48 => ⟨S_, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== SumDev.lean ====
abbrev S416x128 : Shape := ⟨2, ![416, 128]⟩
abbrev S8x416x128 : Shape := ⟨3, ![8, 416, 128]⟩
abbrev S1 : Shape := ⟨1, ![1]⟩
abbrev S1x416x128 : Shape := ⟨3, ![1, 416, 128]⟩

abbrev nBuf : Space → Nat
  | .hbm => 3
  | .vmem => 3
  | .smem => 1
  | _ => 0

abbrev bufTy : (tb : Table) → Fin (tcTables nBuf tb) → BufTy
  | .hbm, ⟨0, _⟩ => ⟨S416x128, .f32⟩
  | .hbm, ⟨1, _⟩ => ⟨S8x416x128, .f32⟩
  | .hbm, ⟨2, _⟩ => ⟨S416x128, .f32⟩
  | .local _ .vmem, ⟨0, _⟩ => ⟨S416x128, .f32⟩
  | .local _ .vmem, ⟨1, _⟩ => ⟨S8x416x128, .f32⟩
  | .local _ .vmem, ⟨2, _⟩ => ⟨S416x128, .f32⟩
  | .local _ .smem, ⟨0, _⟩ => ⟨S1, .i32⟩
  | _, _ => ⟨S416x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumDevRefIdeal.lean ====
abbrev S416x128 : Shape := ⟨2, ![416, 128]⟩
abbrev S8x416x128 : Shape := ⟨3, ![8, 416, 128]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S416x128, .f32⟩
  | .hbm, ⟨1, _⟩ => ⟨S8x416x128, .f32⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1, .i1⟩
  | .hbm, ⟨7, _⟩ => ⟨S8x416x128, .i1⟩
  | .hbm, ⟨8, _⟩ => ⟨S8x416x128, .f32⟩
  | .hbm, ⟨9, _⟩ => ⟨S8x416x128, .f32⟩
  | .hbm, ⟨10, _⟩ => ⟨S_, .f32⟩
  | .hbm, ⟨11, _⟩ => ⟨S416x128, .f32⟩
  | _, _ => ⟨S416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.SconvRef.lean ====
/- The results of the reference `SconvRefIdeal`, each as one function of the arguments. -/
module

public import proofs.«01_k».proof.Proof.Gen.SconvRefIdeal
public import proofs.«01_k».proof.Proof.Gen.SconvRefIdeal.Run
public import Idealize.ShloMosaic.Lib.Pipeline.ValueKit

@[expose] public section

set_option maxRecDepth 16384

noncomputable section

namespace Cert.SconvRefIdeal.Value

open Cert.SconvRefIdeal Cert.SconvRefIdeal.Gen Idealize.ShloMosaic Idealize.ShloMosaic.TcCoe Idealize.SL.Sem

/-- The result `v31`. -/
def ref_v31 (a0 : FVec Ideal S2048x768 .f32) (a1 : FVec Ideal S3x256 .f32) (a2 : FVec Ideal S2048x256 .f32) : FVec Ideal S2048x256 .f32 :=
  mulf a2 (addf (addf (addf (broadcastInDim S2048x256 ![] bcast_S_S2048x256 (constant S_ .f32 0x00000000#32)) (mulf (broadcastInDim S2048x256 ![0, 1] bcast_S1x256_S2048x256_0_1 (broadcastInDim S1x256 ![1] bcast_S256_S1x256_1 (shapeCast _ (extractStridedSlice S1x256 ![0, 0] a1 slices_S3x256_S1x256_0_0) shapeCasts_S1x256_S256))) (extractStridedSlice S2048x256 ![0, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_0_0))) (mulf (broadcastInDim S2048x256 ![0, 1] bcast_S1x256_S2048x256_0_1 (broadcastInDim S1x256 ![1] bcast_S256_S1x256_1 (shapeCast _ (extractStridedSlice S1x256 ![1, 0] a1 slices_S3x256_S1x256_1_0) shapeCasts_S1x256_S256))) (extractStridedSlice S2048x256 ![1, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_1_0))) (mulf (broadcastInDim S2048x256 ![0, 1] bcast_S1x256_S2048x256_0_1 (broadcastInDim S1x256 ![1] bcast_S256_S1x256_1 (shapeCast _ (extractStridedSlice S1x256 ![2, 0] a1 slices_S3x256_S1x256_2_0) shapeCasts_S1x256_S256))) (extractStridedSlice S2048x256 ![2, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_2_0)))

/-- The result `v66`. -/
def ref_v66 (a0 : FVec Ideal S2048x768 .f32) (a1 : FVec Ideal S3x256 .f32) (a2 : FVec Ideal S2048x256 .f32) : FVec Ideal S2048x256 .f32 :=
  mulf (extractStridedSlice S2048x256 ![2, 0] (addf (addf (pad S2050x256 ![2, 0] ![0, 0] ![0, 0] (mulf (broadcastInDim S2048x256 ![0, 1] bcast_S1x256_S2048x256_0_1 (broadcastInDim S1x256 ![1] bcast_S256_S1x256_1 (shapeCast _ (extractStridedSlice S1x256 ![2, 0] a1 slices_S3x256_S1x256_2_0) shapeCasts_S1x256_S256))) (mulf (extractStridedSlice S2048x256 ![0, 0] a0 slices_S2048x768_S2048x256_0_0) a2)) (constant S_ .f32 0x00000000#32) pads_S2048x256_S2050x256_200_000 h_S_) (pad S2050x256 ![1, 0] ![1, 0] ![0, 0] (mulf (broadcastInDim S2048x256 ![0, 1] bcast_S1x256_S2048x256_0_1 (broadcastInDim S1x256 ![1] bcast_S256_S1x256_1 (shapeCast _ (extractStridedSlice S1x256 ![1, 0] a1 slices_S3x256_S1x256_1_0) shapeCasts_S1x256_S256))) (mulf (extractStridedSlice S2048x256 ![0, 0] a0 slices_S2048x768_S2048x256_0_0) a2)) (constant S_ .f32 0x00000000#32) pads_S2048x256_S2050x256_110_000 h_S_)) (pad S2050x256 ![0, 0] ![2, 0] ![0, 0] (mulf (broadcastInDim S2048x256 ![0, 1] bcast_S1x256_S2048x256_0_1 (broadcastInDim S1x256 ![1] bcast_S256_S1x256_1 (shapeCast _ (extractStridedSlice S1x256 ![0, 0] a1 slices_S3x256_S1x256_0_0) shapeCasts_S1x256_S256))) (mulf (extractStridedSlice S2048x256 ![0, 0] a0 slices_S2048x768_S2048x256_0_0) a2)) (constant S_ .f32 0x00000000#32) pads_S2048x256_S2050x256_020_000 h_S_)) slices_S2050x256_S2048x256_2_0) (extractStridedSlice S2048x256 ![0, 512] a0 slices_S2048x768_S2048x256_0_512)

/-- The result `v65`. -/
def ref_v65 (a0 : FVec Ideal S2048x768 .f32) (a1 : FVec Ideal S3x256 .f32) (a2 : FVec Ideal S2048x256 .f32) : FVec Ideal S2048x256 .f32 :=
  mulf (extractStridedSlice S2048x256 ![0, 256] a0 slices_S2048x768_S2048x256_0_256) (extractStridedSlice S2048x256 ![2, 0] (addf (addf (pad S2050x256 ![2, 0] ![0, 0] ![0, 0] (mulf (broadcastInDim S2048x256 ![0, 1] bcast_S1x256_S2048x256_0_1 (broadcastInDim S1x256 ![1] bcast_S256_S1x256_1 (shapeCast _ (extractStridedSlice S1x256 ![2, 0] a1 slices_S3x256_S1x256_2_0) shapeCasts_S1x256_S256))) (mulf (extractStridedSlice S2048x256 ![0, 0] a0 slices_S2048x768_S2048x256_0_0) a2)) (constant S_ .f32 0x00000000#32) pads_S2048x256_S2050x256_200_000 h_S_) (pad S2050x256 ![1, 0] ![1, 0] ![0, 0] (mulf (broadcastInDim S2048x256 ![0, 1] bcast_S1x256_S2048x256_0_1 (broadcastInDim S1x256 ![1] bcast_S256_S1x256_1 (shapeCast _ (extractStridedSlice S1x256 ![1, 0] a1 slices_S3x256_S1x256_1_0) shapeCasts_S1x256_S256))) (mulf (extractStridedSlice S2048x256 ![0, 0] a0 slices_S2048x768_S2048x256_0_0) a2)) (constant S_ .f32 0x00000000#32) pads_S2048x256_S2050x256_110_000 h_S_)) (pad S2050x256 ![0, 0] ![2, 0] ![0, 0] (mulf (broadcastInDim S2048x256 ![0, 1] bcast_S1x256_S2048x256_0_1 (broadcastInDim S1x256 ![1] bcast_S256_S1x256_1 (shapeCast _ (extractStridedSlice S1x256 ![0, 0] a1 slices_S3x256_S1x256_0_0) shapeCasts_S1x256_S256))) (mulf (extractStridedSlice S2048x256 ![0, 0] a0 slices_S2048x768_S2048x256_0_0) a2)) (constant S_ .f32 0x00000000#32) pads_S2048x256_S2050x256_020_000 h_S_)) slices_S2050x256_S2048x256_2_0)

/-- The result `v62`. -/
def ref_v62 (a0 : FVec Ideal S2048x768 .f32) (a1 : FVec Ideal S3x256 .f32) (a2 : FVec Ideal S2048x256 .f32) : FVec Ideal S3x256 .f32 :=
  addf (addf (pad S3x256 ![2, 0] ![0, 0] ![0, 0] (broadcastInDim S1x256 ![1] bcast_S256_S1x256_1 (Host.reduceAdd (shapeCast _ (Host.reduceAdd (mulf (mulf (extractStridedSlice S2048x256 ![0, 0] a0 slices_S2048x768_S2048x256_0_0) a2) (extractStridedSlice S2048x256 ![2, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_2_0)) (constant S_ .f32 0x00000000#32) reducesTo_S2048x256_S256_d0 h_S_) shapeCasts_S256_S1x256) (constant S_ .f32 0x00000000#32) reducesTo_S1x256_S256_d0 h_S_)) (constant S_ .f32 0x00000000#32) pads_S1x256_S3x256_200_000 h_S_) (pad S3x256 ![1, 0] ![1, 0] ![0, 0] (broadcastInDim S1x256 ![1] bcast_S256_S1x256_1 (Host.reduceAdd (shapeCast _ (Host.reduceAdd (mulf (mulf (extractStridedSlice S2048x256 ![0, 0] a0 slices_S2048x768_S2048x256_0_0) a2) (extractStridedSlice S2048x256 ![1, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_1_0)) (constant S_ .f32 0x00000000#32) reducesTo_S2048x256_S256_d0 h_S_) shapeCasts_S256_S1x256) (constant S_ .f32 0x00000000#32) reducesTo_S1x256_S256_d0 h_S_)) (constant S_ .f32 0x00000000#32) pads_S1x256_S3x256_110_000 h_S_)) (pad S3x256 ![0, 0] ![2, 0] ![0, 0] (broadcastInDim S1x256 ![1] bcast_S256_S1x256_1 (Host.reduceAdd (shapeCast _ (Host.reduceAdd (mulf (mulf (extractStridedSlice S2048x256 ![0, 0] a0 slices_S2048x768_S2048x256_0_0) a2) (extractStridedSlice S2048x256 ![0, 0] (concatenate S2050x256 0 [⟨S2x256, (broadcastInDim S2x256 ![] bcast_S_S2x256 (constant S_ .f32 0x00000000#32))⟩, ⟨S2048x256, (mulf (extractStridedSlice S2048x256 ![0, 256] a0 slices_S2048x768_S2048x256_0_256) (extractStridedSlice S2048x256 ![0, 512] a0 slices_S2048x768_S2048x256_0_512))⟩] concatenates_S2x256_S2048x256_S2050x256_d0) slices_S2050x256_S2048x256_0_0)) (constant S_ .f32 0x00000000#32) reducesTo_S2048x256_S256_d0 h_S_) shapeCasts_S256_S1x256) (constant S_ .f32 0x00000000#32) reducesTo_S1x256_S256_d0 h_S_)) (constant S_ .f32 0x00000000#32) pads_S1x256_S3x256_020_000 h_S_)

end Cert.SconvRefIdeal.Value

end
-- ==== Proof.SconvPoint.lean ====
/- What one grid point of the short convolution's gradient computes, against the reference's results. -/
module

public import proofs.«01_k».proof.Proof.Gen.SconvIdeal.Value
public import proofs.«01_k».proof.Proof.SconvRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SconvIdeal.Value

open Cert.SconvIdeal Cert.SconvIdeal.Gen Cert.SconvRefIdeal.Value

/-- A choice on `k ≤ n`, written by words. -/
theorem sel_ge (n k : ℕ) (hn : n < 2048) (hk : k < 2048) (a b : EReal) :
    Scalar.select (IntOp.cmpi CmpIPredicate.sge (BitVec.ofNat 32 n) (BitVec.ofNat 32 k)) a b = if k ≤ n then a else b := by
  word_cmp

/-- A choice on `n < k`, written by words. -/
theorem sel_lt (n k : ℕ) (hn : n < 2048) (hk : k < 2048) (a b : EReal) :
    Scalar.select (IntOp.cmpi CmpIPredicate.slt (BitVec.ofNat 32 n) (BitVec.ofNat 32 k)) a b = if n < k then a else b := by
  word_cmp

theorem sel_ge_1 (i : Fin 2048) (a b : EReal) :
    Scalar.select (IntOp.cmpi CmpIPredicate.sge (BitVec.ofNat 32 (i : ℕ)) 1#32) a b = if 1 ≤ (i : ℕ) then a else b :=
  sel_ge i 1 i.isLt (by omega) a b

theorem sel_ge_2 (i : Fin 2048) (a b : EReal) :
    Scalar.select (IntOp.cmpi CmpIPredicate.sge (BitVec.ofNat 32 (i : ℕ)) 2#32) a b = if 2 ≤ (i : ℕ) then a else b :=
  sel_ge i 2 i.isLt (by omega) a b

theorem sel_lt_2046 (i : Fin 2048) (a b : EReal) :
    Scalar.select (IntOp.cmpi CmpIPredicate.slt (BitVec.ofNat 32 (i : ℕ)) 2046#32) a b = if (i : ℕ) < 2046 then a else b :=
  sel_lt i 2046 i.isLt (by omega) a b

theorem sel_lt_2047 (i : Fin 2048) (a b : EReal) :
    Scalar.select (IntOp.cmpi CmpIPredicate.slt (BitVec.ofNat 32 (i : ℕ)) 2047#32) a b = if (i : ℕ) < 2047 then a else b :=
  sel_lt i 2047 i.isLt (by omega) a b

/-- Three summands in the other order. -/
theorem add_rev (a b c : EReal) : a + b + c = c + b + a := by
  rw [add_comm a b, add_assoc, add_comm, add_comm a c, add_assoc, add_comm a b, ← add_assoc]

set_option maxHeartbeats 800000 in
/-- Output window 5 of one grid point. -/
theorem pure_5
    (a0 : FVec Ideal S2048x768 .f32) (a1 : FVec Ideal S3x256 .f32) (a2 : FVec Ideal S2048x256 .f32)
    (x0 x1 x2 x4 : Vec Ideal S2048x128 .f32) (x3 : Vec Ideal S3x128 .f32) (col : Fin 128 → Fin 256)
    (h0 : ∀ (i : Fin 2048) (j : Fin 128), x0 (ix2 i j) = a0 (ix2 i ⟨col j, by omega⟩))
    (h1 : ∀ (i : Fin 2048) (j : Fin 128), x1 (ix2 i j) = a0 (ix2 i ⟨256 + (col j : ℕ), by omega⟩))
    (h2 : ∀ (i : Fin 2048) (j : Fin 128), x2 (ix2 i j) = a0 (ix2 i ⟨512 + (col j : ℕ), by omega⟩))
    (h3 : ∀ (i : Fin 3) (j : Fin 128), x3 (ix2 i j) = a1 (ix2 i (col j)))
    (h4 : ∀ (i : Fin 2048) (j : Fin 128), x4 (ix2 i j) = a2 (ix2 i (col j)))
    (i : Fin 2048) (j : Fin 128) :
    out0_5 x0 x1 x2 x3 x4 (ix2 i j) = ref_v31 a0 a1 a2 (ix2 i (col j)) := by
  frame_out
  open_payloads
  pointwise [ref_v31, h0, h1, h2, h3, h4]
  simp only [sel_ge_1, sel_ge_2]
  refine (congrArg _ (add_rev _ _ _)).trans ?_
  by_cases c1 : 1 ≤ (i : ℕ)
  · by_cases c2 : 2 ≤ (i : ℕ)
    · simp only [if_pos c1, if_pos c2, dif_neg (show ¬ (i : ℕ) < 2 by omega), dif_neg (show ¬ 1 + (i : ℕ) < 2 by omega)]
      simp only [show ((i : ℕ) + 2048 - 1) % 2048 = 1 + i - 2 by omega, show ((i : ℕ) + 2048 - 2) % 2048 = i - 2 by omega]
    · simp only [if_pos c1, if_neg c2, dif_pos (show (i : ℕ) < 2 by omega), dif_neg (show ¬ 1 + (i : ℕ) < 2 by omega), mul_zero]
      simp only [show ((i : ℕ) + 2048 - 1) % 2048 = 1 + i - 2 by omega]
  · simp only [if_neg c1, if_neg (show ¬ 2 ≤ (i : ℕ) by omega), dif_pos (show (i : ℕ) < 2 by omega), dif_pos (show 1 + (i : ℕ) < 2 by omega), mul_zero, mul_zero]

set_option maxHeartbeats 800000 in
/-- Output window 6 of one grid point. -/
theorem pure_6
    (a0 : FVec Ideal S2048x768 .f32) (a1 : FVec Ideal S3x256 .f32) (a2 : FVec Ideal S2048x256 .f32)
    (x0 x1 x2 x4 : Vec Ideal S2048x128 .f32) (x3 : Vec Ideal S3x128 .f32) (col : Fin 128 → Fin 256)
    (h0 : ∀ (i : Fin 2048) (j : Fin 128), x0 (ix2 i j) = a0 (ix2 i ⟨col j, by omega⟩))
    (h1 : ∀ (i : Fin 2048) (j : Fin 128), x1 (ix2 i j) = a0 (ix2 i ⟨256 + (col j : ℕ), by omega⟩))
    (h2 : ∀ (i : Fin 2048) (j : Fin 128), x2 (ix2 i j) = a0 (ix2 i ⟨512 + (col j : ℕ), by omega⟩))
    (h3 : ∀ (i : Fin 3) (j : Fin 128), x3 (ix2 i j) = a1 (ix2 i (col j)))
    (h4 : ∀ (i : Fin 2048) (j : Fin 128), x4 (ix2 i j) = a2 (ix2 i (col j)))
    (i : Fin 2048) (j : Fin 128) :
    out0_6 x0 x1 x2 x3 x4 (ix2 i j) = ref_v66 a0 a1 a2 (ix2 i (col j)) := by
  frame_out
  open_payloads
  pointwise [ref_v66, h0, h1, h2, h3, h4]
  simp only [sel_lt_2047, sel_lt_2046]
  by_cases c1 : (i : ℕ) < 2047
  · by_cases c2 : (i : ℕ) < 2046
    · simp only [if_pos c1, if_pos c2, dif_pos (show 1 ≤ 2 + (i : ℕ) ∧ 2 + (i : ℕ) - 1 < 2048 by omega), dif_pos (show 2 + (i : ℕ) < 2048 by omega)]
      simp only [show ((i : ℕ) + 2048 - 2047) % 2048 = 2 + i - 1 by omega, show ((i : ℕ) + 2048 - 2046) % 2048 = 2 + i by omega]
      ac_rfl
    · simp only [if_pos c1, if_neg c2, dif_pos (show 1 ≤ 2 + (i : ℕ) ∧ 2 + (i : ℕ) - 1 < 2048 by omega), dif_neg (show ¬ 2 + (i : ℕ) < 2048 by omega)]
      simp only [show ((i : ℕ) + 2048 - 2047) % 2048 = 2 + i - 1 by omega]
      ac_rfl
  · simp only [if_neg c1, if_neg (show ¬ (i : ℕ) < 2046 by omega), dif_neg (show ¬ (1 ≤ 2 + (i : ℕ) ∧ 2 + (i : ℕ) - 1 < 2048) by omega), dif_neg (show ¬ 2 + (i : ℕ) < 2048 by omega)]
    ac_rfl

set_option maxHeartbeats 800000 in
/-- Output window 7 of one grid point. -/
theorem pure_7
    (a0 : FVec Ideal S2048x768 .f32) (a1 : FVec Ideal S3x256 .f32) (a2 : FVec Ideal S2048x256 .f32)
    (x0 x1 x2 x4 : Vec Ideal S2048x128 .f32) (x3 : Vec Ideal S3x128 .f32) (col : Fin 128 → Fin 256)
    (h0 : ∀ (i : Fin 2048) (j : Fin 128), x0 (ix2 i j) = a0 (ix2 i ⟨col j, by omega⟩))
    (h1 : ∀ (i : Fin 2048) (j : Fin 128), x1 (ix2 i j) = a0 (ix2 i ⟨256 + (col j : ℕ), by omega⟩))
    (h2 : ∀ (i : Fin 2048) (j : Fin 128), x2 (ix2 i j) = a0 (ix2 i ⟨512 + (col j : ℕ), by omega⟩))
    (h3 : ∀ (i : Fin 3) (j : Fin 128), x3 (ix2 i j) = a1 (ix2 i (col j)))
    (h4 : ∀ (i : Fin 2048) (j : Fin 128), x4 (ix2 i j) = a2 (ix2 i (col j)))
    (i : Fin 2048) (j : Fin 128) :
    out0_7 x0 x1 x2 x3 x4 (ix2 i j) = ref_v65 a0 a1 a2 (ix2 i (col j)) := by
  frame_out
  open_payloads
  pointwise [ref_v65, h0, h1, h2, h3, h4]
  refine (mul_comm _ _).trans ?_
  simp only [sel_lt_2047, sel_lt_2046]
  by_cases c1 : (i : ℕ) < 2047
  · by_cases c2 : (i : ℕ) < 2046
    · simp only [if_pos c1, if_pos c2, dif_pos (show 1 ≤ 2 + (i : ℕ) ∧ 2 + (i : ℕ) - 1 < 2048 by omega), dif_pos (show 2 + (i : ℕ) < 2048 by omega)]
      simp only [show ((i : ℕ) + 2048 - 2047) % 2048 = 2 + i - 1 by omega, show ((i : ℕ) + 2048 - 2046) % 2048 = 2 + i by omega]
      ac_rfl
    · simp only [if_pos c1, if_neg c2, dif_pos (show 1 ≤ 2 + (i : ℕ) ∧ 2 + (i : ℕ) - 1 < 2048 by omega), dif_neg (show ¬ 2 + (i : ℕ) < 2048 by omega)]
      simp only [show ((i : ℕ) + 2048 - 2047) % 2048 = 2 + i - 1 by omega]
      ac_rfl
  · simp only [if_neg c1, if_neg (show ¬ (i : ℕ) < 2046 by omega), dif_neg (show ¬ (1 ≤ 2 + (i : ℕ) ∧ 2 + (i : ℕ) - 1 < 2048) by omega), dif_neg (show ¬ 2 + (i : ℕ) < 2048 by omega)]
    ac_rfl

set_option maxHeartbeats 800000 in
/-- Output window 8 of one grid point. -/
theorem pure_8
    (a0 : FVec Ideal S2048x768 .f32) (a1 : FVec Ideal S3x256 .f32) (a2 : FVec Ideal S2048x256 .f32)
    (x0 x1 x2 x4 : Vec Ideal S2048x128 .f32) (x3 : Vec Ideal S3x128 .f32) (col : Fin 128 → Fin 256)
    (h0 : ∀ (i : Fin 2048) (j : Fin 128), x0 (ix2 i j) = a0 (ix2 i ⟨col j, by omega⟩))
    (h1 : ∀ (i : Fin 2048) (j : Fin 128), x1 (ix2 i j) = a0 (ix2 i ⟨256 + (col j : ℕ), by omega⟩))
    (h2 : ∀ (i : Fin 2048) (j : Fin 128), x2 (ix2 i j) = a0 (ix2 i ⟨512 + (col j : ℕ), by omega⟩))
    (h3 : ∀ (i : Fin 3) (j : Fin 128), x3 (ix2 i j) = a1 (ix2 i (col j)))
    (h4 : ∀ (i : Fin 2048) (j : Fin 128), x4 (ix2 i j) = a2 (ix2 i (col j)))
    (i : Fin 3) (j : Fin 128) :
    out0_8 x0 x1 x2 x3 x4 (ix2 i j) = ref_v62 a0 a1 a2 (ix2 i (col j)) := by
  canon_tiles x g
  all_goals open_payloads
  all_goals (idx_vars x; obtain rfl : j = x1 := Fin.ext g1; clear g1; pointwise [ref_v62, h0, h1, h2, h3, h4])
  · have e : (i : ℕ) = 0 := by omega
    simp only [dif_neg (show ¬ (2 ≤ (i : ℕ) ∧ (i : ℕ) - 2 < 1) by omega), dif_neg (show ¬ (1 ≤ (i : ℕ) ∧ (i : ℕ) - 1 < 1) by omega),
      dif_pos (show (i : ℕ) < 1 by omega), zero_add, zero_add, Fin.sum_univ_one]
    refine (Fin.sum_univ_two_halves 2 2046 rfl _).trans ?_
    simp only [mul_zero]
    refine Ideal.add_congr (Finset.sum_congr rfl fun k _ => ?_) (Finset.sum_congr rfl fun k _ => ?_)
    · exact (sel_ge _ 2 (by omega) (by omega) _ _).trans (if_neg (by simpa using k.isLt))
    · refine (sel_ge _ 2 (by have := k.isLt; omega) (by omega) _ _).trans ((if_pos (Nat.le_add_right _ _)).trans ?_)
      simp only [show (2 + (k : ℕ) + 2048 - 2) % 2048 = k by omega]
      ac_rfl
  · have e : (i : ℕ) = 1 := by omega
    simp only [dif_neg (show ¬ (2 ≤ (i : ℕ) ∧ (i : ℕ) - 2 < 1) by omega), dif_pos (show 1 ≤ (i : ℕ) ∧ (i : ℕ) - 1 < 1 by omega),
      dif_neg (show ¬ (i : ℕ) < 1 by omega), zero_add, add_zero, Fin.sum_univ_one]
    refine Finset.sum_congr rfl fun k _ => ?_
    rw [sel_ge_1]
    by_cases c1 : 1 ≤ (k : ℕ)
    · simp only [if_pos c1, dif_neg (show ¬ 1 + (k : ℕ) < 2 by omega)]
      simp only [show ((k : ℕ) + 2048 - 1) % 2048 = 1 + k - 2 by omega]
      ac_rfl
    · simp only [if_neg c1, dif_pos (show 1 + (k : ℕ) < 2 by omega), mul_zero]
  · have e : (i : ℕ) = 2 := by omega
    simp only [dif_pos (show 2 ≤ (i : ℕ) ∧ (i : ℕ) - 2 < 1 by omega), dif_neg (show ¬ (1 ≤ (i : ℕ) ∧ (i : ℕ) - 1 < 1) by omega),
      dif_neg (show ¬ (i : ℕ) < 1 by omega), add_zero, add_zero, Fin.sum_univ_one]
    exact Finset.sum_congr rfl fun k _ => by ac_rfl

end Cert.SconvIdeal.Value

end
-- ==== Proof.SconvValue.lean ====
/- The arrays the gradient of the short convolution leaves, against the reference's results. -/
module

public import proofs.«01_k».proof.Proof.Gen.SconvIdeal.Value
public import proofs.«01_k».proof.Proof.SconvPoint
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SconvIdeal.Value

open Cert.SconvIdeal Cert.SconvIdeal.Gen Cert.SconvRefIdeal.Value

variable (m : (ℓ : Loc nD τ sig) → Buf (Elt Ideal) ℓ)

/-- every window's block index at every grid point, in closed form (decided). Use: `obtain ⟨e0, e1, e2, e3, e4, e5, e6, e7, e8⟩ := idx t`, then
    `blk_simp [e0, …]` / `blk_ext [e0, …]` put block embeddings at coordinates (value_ideal.md §3). -/
theorem idx : ∀ t : Fin cfg0.N, win0_0.index t = ![0, (grid0.coords t 0).val]
    ∧ win0_1.index t = ![0, 2 + (grid0.coords t 0).val]
    ∧ win0_2.index t = ![0, 4 + (grid0.coords t 0).val]
    ∧ win0_3.index t = ![0, (grid0.coords t 0).val]
    ∧ win0_4.index t = ![0, (grid0.coords t 0).val]
    ∧ win0_5.index t = ![0, (grid0.coords t 0).val]
    ∧ win0_6.index t = ![0, (grid0.coords t 0).val]
    ∧ win0_7.index t = ![0, (grid0.coords t 0).val]
    ∧ win0_8.index t = ![0, (grid0.coords t 0).val] :=
  (by decide +kernel : ∀ t : Fin grid0.N, _)

/-- the same in `t.val` (for `omega` beside a schedule fact `t.val % J = r`). -/
theorem idx_val : ∀ t : Fin cfg0.N, win0_0.index t = ![0, t.val]
    ∧ win0_1.index t = ![0, 2 + t.val]
    ∧ win0_2.index t = ![0, 4 + t.val]
    ∧ win0_3.index t = ![0, t.val]
    ∧ win0_4.index t = ![0, t.val]
    ∧ win0_5.index t = ![0, t.val]
    ∧ win0_6.index t = ![0, t.val]
    ∧ win0_7.index t = ![0, t.val]
    ∧ win0_8.index t = ![0, t.val] :=
  (by decide +kernel : ∀ t : Fin grid0.N, _)

/-- The array of output window 5 after the run. -/
theorem final_5 (c : Dev nD) : (dats m 0 c).arrAt 5 (cfgs 0).N = ref_v31 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  have hb : (t : ℕ) < 2 := t.isLt
  idx_vars y
  refine (pure_5 (m ((c : Thread nD τ).loc main_arg0)) (m ((c : Thread nD τ).loc main_arg1)) (m ((c : Thread nD τ).loc main_arg2))
    _ _ _ _ _ (fun j => ⟨t.val * 128 + j, by omega⟩) ?_ ?_ ?_ ?_ ?_ y0 y1).trans ?_
  all_goals intros
  all_goals blk_ext [iblk, V, idx_val t]

/-- The array of output window 6 after the run. -/
theorem final_6 (c : Dev nD) : (dats m 0 c).arrAt 6 (cfgs 0).N = ref_v66 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  have hb : (t : ℕ) < 2 := t.isLt
  idx_vars y
  refine (pure_6 (m ((c : Thread nD τ).loc main_arg0)) (m ((c : Thread nD τ).loc main_arg1)) (m ((c : Thread nD τ).loc main_arg2))
    _ _ _ _ _ (fun j => ⟨t.val * 128 + j, by omega⟩) ?_ ?_ ?_ ?_ ?_ y0 y1).trans ?_
  all_goals intros
  all_goals blk_ext [iblk, V, idx_val t]

/-- The array of output window 7 after the run. -/
theorem final_7 (c : Dev nD) : (dats m 0 c).arrAt 7 (cfgs 0).N = ref_v65 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]
  have hb : (t : ℕ) < 2 := t.isLt
  idx_vars y
  refine (pure_7 (m ((c : Thread nD τ).loc main_arg0)) (m ((c : Thread nD τ).loc main_arg1)) (m ((c : Thread nD τ).loc main_arg2))
    _ _ _ _ _ (fun j => ⟨t.val * 128 + j, by omega⟩) ?_ ?_ ?_ ?_ ?_ y0 y1).trans ?_
  all_goals intros
  all_goals blk_ext [iblk, V, idx_val t]

/-- The array of output window 8 after the run. -/
theorem final_8 (c : Dev nD) : (dats m 0 c).arrAt 8 (cfgs 0).N = ref_v62 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]
  have hb : (t : ℕ) < 2 := t.isLt
  idx_vars y
  refine (pure_8 (m ((c : Thread nD τ).loc main_arg0)) (m ((c : Thread nD τ).loc main_arg1)) (m ((c : Thread nD τ).loc main_arg2))
    _ _ _ _ _ (fun j => ⟨t.val * 128 + j, by omega⟩) ?_ ?_ ?_ ?_ ?_ y0 y1).trans ?_
  all_goals intros
  all_goals blk_ext [iblk, V, idx_val t]

end Cert.SconvIdeal.Value

end
-- ==== Proof.FfnFwdRef.lean ====
/- The results of the reference `FfnFwdRefIdeal`, each as one function of the arguments. -/
module

public import proofs.«01_k».proof.Proof.Gen.FfnFwdRefIdeal
public import proofs.«01_k».proof.Proof.Gen.FfnFwdRefIdeal.Run
public import Idealize.ShloMosaic.Lib.Pipeline.ValueKit

@[expose] public section

set_option maxRecDepth 16384

noncomputable section

namespace Cert.FfnFwdRefIdeal.Value

open Cert.FfnFwdRefIdeal Cert.FfnFwdRefIdeal.Gen Idealize.ShloMosaic Idealize.ShloMosaic.TcCoe Idealize.SL.Sem

/-- The result `v12`. -/
def ref_v12 (a0 : FVec Ideal S2048x1024 .f32) (a1 : FVec Ideal S2048x1024 .f32) (a2 : FVec Ideal S4x704x1024 .f32) (a3 : FVec Ideal S4x704x1024 .f32) (a4 : FVec Ideal S4x704x1024 .f32) : FVec Ideal S2048x1024 .f32 :=
  addf a0 (Host.dotGeneral dot_S2048x2816_S2816x1024_S2048x1024_1_0_0_1_n_n none (mulf (mulf (Host.dotGeneral dot_S2048x1024_S1024x2816_S2048x2816_1_0_0_1_n_n none a1 (transpose S1024x2816 [1, 0] (shapeCast _ a2 shapeCasts_S4x704x1024_S2816x1024) transposes_S2816x1024_S1024x2816_1_0)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a1 (transpose S1024x2816 [1, 0] (shapeCast _ a2 shapeCasts_S4x704x1024_S2816x1024) transposes_S2816x1024_S1024x2816_1_0))))))) (Host.dotGeneral dot_S2048x1024_S1024x2816_S2048x2816_1_0_0_1_n_n none a1 (transpose S1024x2816 [1, 0] (shapeCast _ a3 shapeCasts_S4x704x1024_S2816x1024) transposes_S2816x1024_S1024x2816_1_0))) (shapeCast _ a4 shapeCasts_S4x704x1024_S2816x1024))

/-- The result `v14`. -/
def ref_v14 (a0 : FVec Ideal S2048x1024 .f32) (a1 : FVec Ideal S2048x1024 .f32) (a2 : FVec Ideal S4x704x1024 .f32) (a3 : FVec Ideal S4x704x1024 .f32) (a4 : FVec Ideal S4x704x1024 .f32) : FVec Ideal S4x2048x704 .f32 :=
  transpose S4x2048x704 [1, 0, 2] (shapeCast _ (Host.dotGeneral dot_S2048x1024_S1024x2816_S2048x2816_1_0_0_1_n_n none a1 (transpose S1024x2816 [1, 0] (shapeCast _ a2 shapeCasts_S4x704x1024_S2816x1024) transposes_S2816x1024_S1024x2816_1_0)) shapeCasts_S2048x2816_S2048x4x704) transposes_S2048x4x704_S4x2048x704_1_0_2

/-- The result `v16`. -/
def ref_v16 (a0 : FVec Ideal S2048x1024 .f32) (a1 : FVec Ideal S2048x1024 .f32) (a2 : FVec Ideal S4x704x1024 .f32) (a3 : FVec Ideal S4x704x1024 .f32) (a4 : FVec Ideal S4x704x1024 .f32) : FVec Ideal S4x2048x704 .f32 :=
  transpose S4x2048x704 [1, 0, 2] (shapeCast _ (Host.dotGeneral dot_S2048x1024_S1024x2816_S2048x2816_1_0_0_1_n_n none a1 (transpose S1024x2816 [1, 0] (shapeCast _ a3 shapeCasts_S4x704x1024_S2816x1024) transposes_S2816x1024_S1024x2816_1_0)) shapeCasts_S2048x2816_S2048x4x704) transposes_S2048x4x704_S4x2048x704_1_0_2

end Cert.FfnFwdRefIdeal.Value

end
-- ==== Proof.FfnFwdPoint.lean ====
/- What one grid point of the feed-forward layer computes, against the reference's results. -/
module

public import proofs.«01_k».proof.Proof.Gen.FfnFwdIdeal.Value
public import proofs.«01_k».proof.Proof.FfnFwdRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnFwdIdeal.Value

open Cert.FfnFwdIdeal Cert.FfnFwdIdeal.Gen Cert.FfnFwdRefIdeal.Value

/-- A row of `a` against the weights' column `f` of shard `j`. -/
def proj (a : FVec Ideal S2048x1024 .f32) (w : FVec Ideal S4x704x1024 .f32) (r : Fin 2048) (j : Fin 4) (f : Fin 704) : EReal :=
  ∑ k : Fin 1024, (a (ix2 r k) : EReal) * w (ix3 j f k)

/-- What shard `j` adds to the output at row `r`, column `n`. -/
def part (a1 : FVec Ideal S2048x1024 .f32) (a2 a3 a4 : FVec Ideal S4x704x1024 .f32) (r : Fin 2048) (n : Fin 1024) (j : Fin 4) : EReal :=
  ∑ f : Fin 704, proj a1 a2 r j f * Ideal.div 1 (1 + Ideal.exp (-proj a1 a2 r j f)) * proj a1 a3 r j f * a4 (ix3 j f n)

theorem ref_14 (a0 a1 : FVec Ideal S2048x1024 .f32) (a2 a3 a4 : FVec Ideal S4x704x1024 .f32) (j : Fin 4) (r : Fin 2048) (f : Fin 704) :
    ref_v14 a0 a1 a2 a3 a4 (ix3 j r f) = proj a1 a2 r j f := by
  pointwise [ref_v14, proj]

theorem ref_16 (a0 a1 : FVec Ideal S2048x1024 .f32) (a2 a3 a4 : FVec Ideal S4x704x1024 .f32) (j : Fin 4) (r : Fin 2048) (f : Fin 704) :
    ref_v16 a0 a1 a2 a3 a4 (ix3 j r f) = proj a1 a3 r j f := by
  pointwise [ref_v16, proj]

theorem ref_12 (a0 a1 : FVec Ideal S2048x1024 .f32) (a2 a3 a4 : FVec Ideal S4x704x1024 .f32) (r : Fin 2048) (n : Fin 1024) :
    ref_v12 a0 a1 a2 a3 a4 (ix2 r n) = a0 (ix2 r n) + ∑ j : Fin 4, part a1 a2 a3 a4 r n j := by
  pointwise [ref_v12, part, proj]
  exact congrArg _ (Fin.sum_divmod_congr (A := 4) (S := 704) fun _ _ _ => rfl)

section blocks

variable (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .f32) (harg8 : arg8.IsWhole) (arg9 : Memref sig .tc .vmem S1x512x704 .f32) (harg9 : arg9.IsWhole)
  (a0 a1 : FVec Ideal S2048x1024 .f32) (a2 a3 a4 : FVec Ideal S4x704x1024 .f32)
  (x0 : Vec Ideal S512x1024 .f32) (x1 : Vec Ideal S512x1024 .bf16) (x2 x3 x4 : Vec Ideal S1x704x1024 .bf16) (xo : Vec Ideal S512x1024 .f32)
  (row : Fin 512 → Fin 2048) (j : Fin 4)
  (h0 : ∀ (i : Fin 512) (k : Fin 1024), x0 (ix2 i k) = a0 (ix2 (row i) k))
  (h1 : ∀ (i : Fin 512) (k : Fin 1024), x1 (ix2 i k) = a1 (ix2 (row i) k))
  (h2 : ∀ (f : Fin 704) (k : Fin 1024), x2 (ix3 0 f k) = a2 (ix3 j f k))
  (h3 : ∀ (f : Fin 704) (k : Fin 1024), x3 (ix3 0 f k) = a3 (ix3 j f k))
  (h4 : ∀ (f : Fin 704) (k : Fin 1024), x4 (ix3 0 f k) = a4 (ix3 j f k))

include h0 h1 h2 h3 h4

theorem pure_A_5 (hc : cond0_0 i) (p : Fin 512) (n : Fin 1024) :
    out0_A_5 c i arg2 harg2 arg3 harg3 arg4 harg4 arg5 harg5 arg6 harg6 arg7 harg7 arg8 harg8 arg9 harg9 hc x0 x1 x2 x3 x4 (ix2 p n)
      = a0 (ix2 (row p) n) + part a1 a2 a3 a4 (row p) n j := by
  frame_out
  open_payloads
  pointwise [part, proj, h0, h1, h2, h3, h4]
  simp only [zero_sub]

theorem pure_B_5 (hc : ¬cond0_0 i) (p : Fin 512) (n : Fin 1024) :
    out0_B_5 c i arg2 harg2 arg3 harg3 arg4 harg4 arg5 harg5 arg6 harg6 arg7 harg7 arg8 harg8 arg9 harg9 hc x0 x1 x2 x3 x4 xo (ix2 p n)
      = (xo (ix2 p n) : EReal) + part a1 a2 a3 a4 (row p) n j := by
  frame_out
  open_payloads
  pointwise [part, proj, h0, h1, h2, h3, h4]
  simp only [zero_sub]

theorem pure_A_6 (hc : cond0_0 i) (u : Fin 1) (p : Fin 512) (n : Fin 704) :
    out0_A_6 c i arg2 harg2 arg3 harg3 arg4 harg4 arg5 harg5 arg6 harg6 arg7 harg7 arg8 harg8 arg9 harg9 hc x0 x1 x2 x3 x4 (ix3 u p n)
      = proj a1 a2 (row p) j n := by
  frame_out
  open_payloads
  pointwise [part, proj, h0, h1, h2, h3, h4]

theorem pure_B_6 (hc : ¬cond0_0 i) (u : Fin 1) (p : Fin 512) (n : Fin 704) :
    out0_B_6 c i arg2 harg2 arg3 harg3 arg4 harg4 arg5 harg5 arg6 harg6 arg7 harg7 arg8 harg8 arg9 harg9 hc x0 x1 x2 x3 x4 xo (ix3 u p n)
      = proj a1 a2 (row p) j n := by
  frame_out
  open_payloads
  pointwise [part, proj, h0, h1, h2, h3, h4]

theorem pure_A_7 (hc : cond0_0 i) (u : Fin 1) (p : Fin 512) (n : Fin 704) :
    out0_A_7 c i arg2 harg2 arg3 harg3 arg4 harg4 arg5 harg5 arg6 harg6 arg7 harg7 arg8 harg8 arg9 harg9 hc x0 x1 x2 x3 x4 (ix3 u p n)
      = proj a1 a3 (row p) j n := by
  frame_out
  open_payloads
  pointwise [part, proj, h0, h1, h2, h3, h4]

theorem pure_B_7 (hc : ¬cond0_0 i) (u : Fin 1) (p : Fin 512) (n : Fin 704) :
    out0_B_7 c i arg2 harg2 arg3 harg3 arg4 harg4 arg5 harg5 arg6 harg6 arg7 harg7 arg8 harg8 arg9 harg9 hc x0 x1 x2 x3 x4 xo (ix3 u p n)
      = proj a1 a3 (row p) j n := by
  frame_out
  open_payloads
  pointwise [part, proj, h0, h1, h2, h3, h4]

end blocks

end Cert.FfnFwdIdeal.Value

end
-- ==== Proof.AccSum.lean ====
/- A value kept from one grid point to the next as one sum over the points of its run. -/
module

public import Idealize.ShloMosaic.Lib.Pipeline.ValueKit

@[expose] public section

open scoped BigOperators

namespace Cert.AccSum

/-- A value which starts at `b + g 0` and gains `g (s + 1)` at each next point is `b` and the sum so far. -/
theorem eq_add_sum {M : Type} [AddCommMonoid M] {N : ℕ} (f : (n : ℕ) → n < N → M) (b : M) (g : ℕ → M) (J o : ℕ)
    (h0 : ∀ h : o < N, f o h = b + g 0)
    (hs : ∀ s, s + 1 < J → ∀ h : o + (s + 1) < N, f (o + (s + 1)) h = f (o + s) (by omega) + g (s + 1)) :
    ∀ s, s < J → ∀ h : o + s < N, f (o + s) h = b + ∑ i ∈ Finset.range (s + 1), g i := by
  intro s
  induction s with
  | zero => intro _ h; simpa using h0 h
  | succ s ih =>
    intro hJ h
    rw [hs s hJ h, ih (by omega) (by omega), Finset.sum_range_succ _ (s + 1), add_assoc]

/-- The same at the last point of the run, the sum over the run's points. -/
theorem eq_add_sum_fin {M : Type} [AddCommMonoid M] {N : ℕ} (f : (n : ℕ) → n < N → M) (b : M) (g : ℕ → M) (J o : ℕ)
    (h0 : ∀ h : o < N, f o h = b + g 0)
    (hs : ∀ s, s + 1 < J → ∀ h : o + (s + 1) < N, f (o + (s + 1)) h = f (o + s) (by omega) + g (s + 1))
    (hJ : 0 < J) (n : ℕ) (hn : n = o + (J - 1)) (h : n < N) : f n h = b + ∑ i : Fin J, g i := by
  subst hn
  rw [eq_add_sum f b g J o h0 hs (J - 1) (by omega) h, Nat.sub_add_cancel hJ, Finset.sum_range]

end Cert.AccSum
-- ==== Proof.FfnFwdValue.lean ====
/- The arrays the feed-forward layer leaves, against the reference's results. -/
module

public import proofs.«01_k».proof.Proof.Gen.FfnFwdIdeal.Value
public import proofs.«01_k».proof.Proof.FfnFwdPoint
public import proofs.«01_k».proof.Proof.AccSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnFwdIdeal.Value

open Cert.FfnFwdIdeal Cert.FfnFwdIdeal.Gen Cert.FfnFwdRefIdeal.Value

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S2048x1024 .f32 := m ((c : Thread nD τ).loc main_arg1)
abbrev in2 (c : Dev nD) : FVec Ideal S4x704x1024 .f32 := m ((c : Thread nD τ).loc main_arg2)
abbrev in3 (c : Dev nD) : FVec Ideal S4x704x1024 .f32 := m ((c : Thread nD τ).loc main_arg3)
abbrev in4 (c : Dev nD) : FVec Ideal S4x704x1024 .f32 := m ((c : Thread nD τ).loc main_arg4)

/-- Every window's block at every grid point. -/
theorem idx_val : ∀ t : Fin cfg0.N, win0_0.index t = ![t.val / 4, 0]
    ∧ win0_1.index t = ![t.val / 4, 0]
    ∧ win0_2.index t = ![t.val % 4, 0, 0]
    ∧ win0_3.index t = ![t.val % 4, 0, 0]
    ∧ win0_4.index t = ![t.val % 4, 0, 0]
    ∧ win0_5.index t = ![t.val / 4, 0]
    ∧ win0_6.index t = ![t.val % 4, t.val / 4, 0]
    ∧ win0_7.index t = ![t.val % 4, t.val / 4, 0] :=
  (by decide +kernel : ∀ t : Fin grid0.N, _)

/-- The row of the arrays which grid point `t` has at row `p` of its block. -/
def row (t : Fin cfg0.N) (p : Fin 512) : Fin 2048 := ⟨t.val / 4 * 512 + p, by have : (t : ℕ) < 16 := t.isLt; omega⟩

/-- The shard of grid point `t`. -/
def shard (t : Fin cfg0.N) : Fin 4 := ⟨t.val % 4, by omega⟩

section reads
variable (c : Dev nD) (t : Fin cfg0.N)

theorem read_0 (i : Fin 512) (k : Fin 1024) : (iblk m c 0 t : Vec Ideal S512x1024 .f32) (ix2 i k) = in0 m c (ix2 (row t i) k) := by
  blk_ext [iblk, V, idx_val t, row]
theorem read_1 (i : Fin 512) (k : Fin 1024) : (iblk m c 1 t : Vec Ideal S512x1024 .bf16) (ix2 i k) = in1 m c (ix2 (row t i) k) := by
  blk_simp [iblk, idx_val t]; entry_read; pointwise; blk_ext [idx_val t, row]
theorem read_2 (f : Fin 704) (k : Fin 1024) : (iblk m c 2 t : Vec Ideal S1x704x1024 .bf16) (ix3 0 f k) = in2 m c (ix3 (shard t) f k) := by
  blk_simp [iblk, idx_val t]; entry_read; pointwise; blk_ext [idx_val t, shard]
theorem read_3 (f : Fin 704) (k : Fin 1024) : (iblk m c 3 t : Vec Ideal S1x704x1024 .bf16) (ix3 0 f k) = in3 m c (ix3 (shard t) f k) := by
  blk_simp [iblk, idx_val t]; entry_read; pointwise; blk_ext [idx_val t, shard]
theorem read_4 (f : Fin 704) (k : Fin 1024) : (iblk m c 4 t : Vec Ideal S1x704x1024 .bf16) (ix3 0 f k) = in4 m c (ix3 (shard t) f k) := by
  blk_simp [iblk, idx_val t]; entry_read; pointwise; blk_ext [idx_val t, shard]

theorem outs_5_A (h : t.val % 4 = 0) (p : Fin 512) (n : Fin 1024) : (outsAt0 m c t.val t.isLt).1 (ix2 p n)
    = in0 m c (ix2 (row t p) n) + part (in1 m c) (in2 m c) (in3 m c) (in4 m c) (row t p) n (shard t) := by
  rw [outsAt0_A m c t h]
  dsimp only
  exact pure_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ (row t) (shard t) (read_0 m c t) (read_1 m c t) (read_2 m c t) (read_3 m c t) (read_4 m c t) ((hcond0_0 t).mpr h) p n

theorem outs_5_B (h : ¬t.val % 4 = 0) (p : Fin 512) (n : Fin 1024) : (outsAt0 m c t.val t.isLt).1 (ix2 p n)
    = (outsAt0 m c (t.val - 1) (Nat.lt_of_le_of_lt (Nat.sub_le _ _) t.isLt)).1 (ix2 p n) + part (in1 m c) (in2 m c) (in3 m c) (in4 m c) (row t p) n (shard t) := by
  rw [outsAt0_B m c t h]
  dsimp only
  generalize outsAt0 m c (t.val - 1) _ = z
  exact pure_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ _ (row t) (shard t) (read_0 m c t) (read_1 m c t) (read_2 m c t) (read_3 m c t) (read_4 m c t) (fun q => h ((hcond0_0 t).mp q)) p n

theorem outs_6 (u : Fin 1) (p : Fin 512) (n : Fin 704) : (outsAt0 m c t.val t.isLt).2.1 (ix3 u p n)
    = proj (in1 m c) (in2 m c) (row t p) (shard t) n := by
  by_cases h : t.val % 4 = 0
  · rw [outsAt0_A m c t h]
    dsimp only
    exact pure_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ (row t) (shard t) (read_0 m c t) (read_1 m c t) (read_2 m c t) (read_3 m c t) (read_4 m c t) ((hcond0_0 t).mpr h) u p n
  · rw [outsAt0_B m c t h]
    dsimp only
    generalize outsAt0 m c (t.val - 1) _ = z
    exact pure_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ _ (row t) (shard t) (read_0 m c t) (read_1 m c t) (read_2 m c t) (read_3 m c t) (read_4 m c t) (fun q => h ((hcond0_0 t).mp q)) u p n

theorem outs_7 (u : Fin 1) (p : Fin 512) (n : Fin 704) : (outsAt0 m c t.val t.isLt).2.2 (ix3 u p n)
    = proj (in1 m c) (in3 m c) (row t p) (shard t) n := by
  by_cases h : t.val % 4 = 0
  · rw [outsAt0_A m c t h]
    dsimp only
    exact pure_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ (row t) (shard t) (read_0 m c t) (read_1 m c t) (read_2 m c t) (read_3 m c t) (read_4 m c t) ((hcond0_0 t).mpr h) u p n
  · rw [outsAt0_B m c t h]
    dsimp only
    generalize outsAt0 m c (t.val - 1) _ = z
    exact pure_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (in0 m c) (in1 m c) (in2 m c) (in3 m c) (in4 m c) _ _ _ _ _ _ (row t) (shard t) (read_0 m c t) (read_1 m c t) (read_2 m c t) (read_3 m c t) (read_4 m c t) (fun q => h ((hcond0_0 t).mp q)) u p n

end reads

/-- The output block at the last shard of a row block: the input and every shard's part. -/
theorem outs_5 (c : Dev nD) (t : Fin cfg0.N) (ht : t.val % 4 = 3) (p : Fin 512) (n : Fin 1024) : (outsAt0 m c t.val t.isLt).1 (ix2 p n)
    = in0 m c (ix2 (row t p) n) + ∑ j : Fin 4, part (in1 m c) (in2 m c) (in3 m c) (in4 m c) (row t p) n j := by
  have hN : (t : ℕ) < 16 := t.isLt
  have hrow : ∀ s : ℕ, s < 4 → ∀ h : 4 * (t.val / 4) + s < cfg0.N, row ⟨4 * (t.val / 4) + s, h⟩ p = row t p := fun s hs h => by
    simp only [row, Fin.mk.injEq]; omega
  refine (AccSum.eq_add_sum_fin (M := EReal) (N := cfg0.N) (fun k h => (outsAt0 m c k h).1 (ix2 p n)) _
    (fun s => part (in1 m c) (in2 m c) (in3 m c) (in4 m c) (row t p) n ⟨s % 4, by omega⟩)
    4 (4 * (t.val / 4)) (fun h => ?_) (fun s hs h => ?_) (by omega) t.val (by omega) t.isLt).trans (congrArg _ (Fin.sum_fin_congr fun j => ?_))
  · have h1 := outs_5_A m c ⟨4 * (t.val / 4), h⟩ (Nat.mul_mod_right 4 _) p n
    rw [show row ⟨4 * (t.val / 4), h⟩ p = row t p from hrow 0 (by omega) h] at h1
    refine h1.trans (congrArg (fun j => _ + part _ _ _ _ _ _ j) (Fin.ext ?_))
    simp only [shard]; omega
  · have h1 := outs_5_B m c ⟨4 * (t.val / 4) + (s + 1), h⟩ (by dsimp only; omega) p n
    rw [hrow (s + 1) hs h] at h1
    refine h1.trans ?_
    have e : shard ⟨4 * (t.val / 4) + (s + 1), h⟩ = ⟨(s + 1) % 4, by omega⟩ := Fin.ext (by simp only [shard]; omega)
    rw [e]
    rfl
  · exact congrArg (fun j => part _ _ _ _ _ _ j) (Fin.ext (Nat.mod_eq_of_lt j.isLt))

/-- The array of output window 5 after the run. -/
theorem final_5 (c : Dev nD) : (dats m 0 c).arrAt 5 (cfgs 0).N = ref_v12 (in0 m c) (in1 m c) (in2 m c) (in3 m c) (in4 m c) := by
  refine (dats m 0 c).arrAt_eq_of_covers 5 _ (by decide +kernel) fun t hf y => ?_
  blk_simp; rw [after0_5]
  have hb : (t : ℕ) < 16 := t.isLt
  idx_vars y
  refine (outs_5 m c t ((flush0_5 t).mp hf) y0 y1).trans ((ref_12 (in0 m c) (in1 m c) (in2 m c) (in3 m c) (in4 m c) (row t y0) y1).symm.trans ?_)
  blk_ext [idx_val t, row]

/-- The array of output window 6 after the run. -/
theorem final_6 (c : Dev nD) : (dats m 0 c).arrAt 6 (cfgs 0).N = ref_v14 (in0 m c) (in1 m c) (in2 m c) (in3 m c) (in4 m c) := by
  refine (dats m 0 c).arrAt_eq_of_covers 6 _ (by decide +kernel) fun t hf y => ?_
  blk_simp; rw [after0_6]
  have hb : (t : ℕ) < 16 := t.isLt
  idx_vars y
  refine (outs_6 m c t y0 y1 y2).trans ((ref_14 (in0 m c) (in1 m c) (in2 m c) (in3 m c) (in4 m c) (shard t) (row t y1) y2).symm.trans ?_)
  blk_ext [idx_val t, row, shard]

/-- The array of output window 7 after the run. -/
theorem final_7 (c : Dev nD) : (dats m 0 c).arrAt 7 (cfgs 0).N = ref_v16 (in0 m c) (in1 m c) (in2 m c) (in3 m c) (in4 m c) := by
  refine (dats m 0 c).arrAt_eq_of_covers 7 _ (by decide +kernel) fun t hf y => ?_
  blk_simp; rw [after0_7]
  have hb : (t : ℕ) < 16 := t.isLt
  idx_vars y
  refine (outs_7 m c t y0 y1 y2).trans ((ref_16 (in0 m c) (in1 m c) (in2 m c) (in3 m c) (in4 m c) (shard t) (row t y1) y2).symm.trans ?_)
  blk_ext [idx_val t, row, shard]

end Cert.FfnFwdIdeal.Value

end
-- ==== Proof.FfnBwdIdealBody.lean ====
/- The body of the feed-forward block's gradient kernel, run once: what it leaves in each buffer, in the four cases of its branches. -/
module

public import proofs.«01_k».proof.Proof.Gen.FfnBwdIdeal.Frame
public import proofs.«01_k».proof.Proof.Gen.FfnBwdIdeal.Skeleton
public import Idealize.ShloMosaic.Lib.VecWindow
public import Idealize.ShloMosaic.Lib.Pipeline.ValueKit

@[expose] public section

set_option maxRecDepth 16384

noncomputable section

namespace Cert.FfnBwdIdeal.Body

open Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The gradient of the gate weights after a point that found `z` there. -/
def dwg (x0 : Vec F S256x1024 .f32) (x1 : Vec F S256x1024 .bf16) (x2 x3 : Vec F S1x256x704 .f32) (x6 : Vec F S1x704x1024 .bf16)
    (z : Vec F S1x704x1024 .f32) : Vec F S1x704x1024 .f32 :=
  k0_pay15 (k0_pay5 x1) (k0_pay6 x2) (k0_pay7 x3) (k0_pay8 x2) (k0_pay11 x0 x6) z

/-- The gradient of the up weights after a point that found `z` there. -/
def dwu (x0 : Vec F S256x1024 .f32) (x1 : Vec F S256x1024 .bf16) (x2 : Vec F S1x256x704 .f32) (x6 : Vec F S1x704x1024 .bf16)
    (z : Vec F S1x704x1024 .f32) : Vec F S1x704x1024 .f32 :=
  k0_pay16 (k0_pay5 x1) (k0_pay9 x2) (k0_pay11 x0 x6) z

/-- The gradient of the down weights after a point that found `z` there. -/
def dwd (x0 : Vec F S256x1024 .f32) (x2 x3 : Vec F S1x256x704 .f32) (z : Vec F S1x704x1024 .f32) : Vec F S1x704x1024 .f32 :=
  k0_pay12 x2 x3 x0 z

/-- A point's part of the gradient of its rows of the input. -/
def dh (x0 : Vec F S256x1024 .f32) (x2 x3 : Vec F S1x256x704 .f32) (x4 x5 x6 : Vec F S1x704x1024 .bf16) : Vec F S256x1024 .f32 :=
  k0_pay17 (k0_pay6 x2) (k0_pay7 x3) (k0_pay8 x2) (k0_pay9 x2) (k0_pay11 x0 x6) x4 x5

/-- The condition of the first branch: the row tile is the first. -/
abbrev cond0 (i : grid0.Coords) : Prop := (Scalar.cmpi .ne (Scalar.extui (Scalar.cmpi .eq (BitVec.ofNat 32 (i 1).val) 0#32)) 0#32) = 1#1

set_option maxHeartbeats 1000000 in
/-- The body at the first row tile of the first shard. -/
theorem zeroFirst (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x256x704 .f32) (harg4 : arg4.IsWhole) (arg5 : Memref sig .tc .vmem S1x256x704 .f32) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S2048x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S1x704x1024 .f32) (harg12 : arg12.IsWhole)
    (hc : cond0 i) (h2 : k0_cond2 i = 1#1) (h3 : ¬ k0_cond3 i = 1#1)
    (x0 : Vec F S256x1024 .f32) (x1 : Vec F S256x1024 .bf16) (x2 : Vec F S1x256x704 .f32) (x3 : Vec F S1x256x704 .f32) (x4 : Vec F S1x704x1024 .bf16) (x5 : Vec F S1x704x1024 .bf16) (x6 : Vec F S1x704x1024 .bf16) (y7 : Vec F S2048x1024 .f32) (y8 : Vec F S1x704x1024 .f32) (y9 : Vec F S1x704x1024 .f32) (y10 : Vec F S1x704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y7 (k0_off1 i) S256x1024.size (dh x0 x2 x3 x4 x5 x6)) ∗ owns (c : Thread nD τ) arg10 fullShare (dwg x0 x1 x2 x3 x6 k0_pay2) ∗ owns (c : Thread nD τ) arg11 fullShare (dwu x0 x1 x2 x6 k0_pay3) ∗ owns (c : Thread nD τ) arg12 fullShare (dwd x0 x2 x3 k0_pay4)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; refine (View.read_writes_cons_put _ _ _ _ _ rfl).trans ?_; rw [View.writes_nil, Memref.IsWhole.read_unread]; sl_unfold_words; dsimp only [dwg, dwu, dwd, dh]; simp (disch := decide) only [View.readAt_eq_ld, Memref.IsWhole.read_unread, View.ld_unit_lit, View.readCov_unit_lit]; first | done | rfl
  isplitl [H8]
  · iexists _; isplitr
    swap; · iexact H8
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  isplitl [H9]
  · iexists _; isplitr
    swap; · iexact H9
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  iexists _; isplitr
  swap; · iexact H10
  ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl

set_option maxHeartbeats 1000000 in
/-- The body at the first row tile of a later shard. -/
theorem zeroLater (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x256x704 .f32) (harg4 : arg4.IsWhole) (arg5 : Memref sig .tc .vmem S1x256x704 .f32) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S2048x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S1x704x1024 .f32) (harg12 : arg12.IsWhole)
    (hc : cond0 i) (h2 : ¬ k0_cond2 i = 1#1) (h3 : k0_cond3 i = 1#1)
    (x0 : Vec F S256x1024 .f32) (x1 : Vec F S256x1024 .bf16) (x2 : Vec F S1x256x704 .f32) (x3 : Vec F S1x256x704 .f32) (x4 : Vec F S1x704x1024 .bf16) (x5 : Vec F S1x704x1024 .bf16) (x6 : Vec F S1x704x1024 .bf16) (y7 : Vec F S2048x1024 .f32) (y8 : Vec F S1x704x1024 .f32) (y9 : Vec F S1x704x1024 .f32) (y10 : Vec F S1x704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y7 (k0_off2 i) S256x1024.size (k0_pay1 (dh x0 x2 x3 x4 x5 x6) (VecWindow.window y7 (k0_off2 i) S256x1024.size (k0_off2_inb i h3)))) ∗ owns (c : Thread nD τ) arg10 fullShare (dwg x0 x1 x2 x3 x6 k0_pay2) ∗ owns (c : Thread nD τ) arg11 fullShare (dwu x0 x1 x2 x6 k0_pay3) ∗ owns (c : Thread nD τ) arg12 fullShare (dwd x0 x2 x3 k0_pay4)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; refine (View.read_writes_cons_put _ _ _ _ _ rfl).trans ?_; rw [View.writes_nil, Memref.IsWhole.read_unread]; sl_unfold_words; dsimp only [dwg, dwu, dwd, dh]; simp (disch := decide) only [View.readAt_eq_ld, Memref.IsWhole.read_unread, View.ld_unit_lit, View.readCov_unit_lit]; first | done | rfl
  isplitl [H8]
  · iexists _; isplitr
    swap; · iexact H8
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  isplitl [H9]
  · iexists _; isplitr
    swap; · iexact H9
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  iexists _; isplitr
  swap; · iexact H10
  ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl

set_option maxHeartbeats 1000000 in
/-- The body at a later row tile of the first shard. -/
theorem addFirst (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x256x704 .f32) (harg4 : arg4.IsWhole) (arg5 : Memref sig .tc .vmem S1x256x704 .f32) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S2048x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S1x704x1024 .f32) (harg12 : arg12.IsWhole)
    (hc : ¬cond0 i) (h2 : k0_cond2 i = 1#1) (h3 : ¬ k0_cond3 i = 1#1)
    (x0 : Vec F S256x1024 .f32) (x1 : Vec F S256x1024 .bf16) (x2 : Vec F S1x256x704 .f32) (x3 : Vec F S1x256x704 .f32) (x4 : Vec F S1x704x1024 .bf16) (x5 : Vec F S1x704x1024 .bf16) (x6 : Vec F S1x704x1024 .bf16) (y7 : Vec F S2048x1024 .f32) (y8 : Vec F S1x704x1024 .f32) (y9 : Vec F S1x704x1024 .f32) (y10 : Vec F S1x704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y7 (k0_off1 i) S256x1024.size (dh x0 x2 x3 x4 x5 x6)) ∗ owns (c : Thread nD τ) arg10 fullShare (dwg x0 x1 x2 x3 x6 y8) ∗ owns (c : Thread nD τ) arg11 fullShare (dwu x0 x1 x2 x6 y9) ∗ owns (c : Thread nD τ) arg12 fullShare (dwd x0 x2 x3 y10)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; refine (View.read_writes_cons_put _ _ _ _ _ rfl).trans ?_; rw [View.writes_nil, Memref.IsWhole.read_unread]; sl_unfold_words; dsimp only [dwg, dwu, dwd, dh]; simp (disch := decide) only [View.readAt_eq_ld, Memref.IsWhole.read_unread, View.ld_unit_lit, View.readCov_unit_lit]; first | done | rfl
  isplitl [H8]
  · iexists _; isplitr
    swap; · iexact H8
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  isplitl [H9]
  · iexists _; isplitr
    swap; · iexact H9
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  iexists _; isplitr
  swap; · iexact H10
  ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl

set_option maxHeartbeats 1000000 in
/-- The body at a later row tile of a later shard. -/
theorem addLater (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x256x704 .f32) (harg4 : arg4.IsWhole) (arg5 : Memref sig .tc .vmem S1x256x704 .f32) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S2048x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S1x704x1024 .f32) (harg12 : arg12.IsWhole)
    (hc : ¬cond0 i) (h2 : ¬ k0_cond2 i = 1#1) (h3 : k0_cond3 i = 1#1)
    (x0 : Vec F S256x1024 .f32) (x1 : Vec F S256x1024 .bf16) (x2 : Vec F S1x256x704 .f32) (x3 : Vec F S1x256x704 .f32) (x4 : Vec F S1x704x1024 .bf16) (x5 : Vec F S1x704x1024 .bf16) (x6 : Vec F S1x704x1024 .bf16) (y7 : Vec F S2048x1024 .f32) (y8 : Vec F S1x704x1024 .f32) (y9 : Vec F S1x704x1024 .f32) (y10 : Vec F S1x704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y7 (k0_off2 i) S256x1024.size (k0_pay1 (dh x0 x2 x3 x4 x5 x6) (VecWindow.window y7 (k0_off2 i) S256x1024.size (k0_off2_inb i h3)))) ∗ owns (c : Thread nD τ) arg10 fullShare (dwg x0 x1 x2 x3 x6 y8) ∗ owns (c : Thread nD τ) arg11 fullShare (dwu x0 x1 x2 x6 y9) ∗ owns (c : Thread nD τ) arg12 fullShare (dwd x0 x2 x3 y10)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; refine (View.read_writes_cons_put _ _ _ _ _ rfl).trans ?_; rw [View.writes_nil, Memref.IsWhole.read_unread]; sl_unfold_words; dsimp only [dwg, dwu, dwd, dh]; simp (disch := decide) only [View.readAt_eq_ld, Memref.IsWhole.read_unread, View.ld_unit_lit, View.readCov_unit_lit]; first | done | rfl
  isplitl [H8]
  · iexists _; isplitr
    swap; · iexact H8
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  isplitl [H9]
  · iexists _; isplitr
    swap; · iexact H9
    ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl
  iexists _; isplitr
  swap; · iexact H10
  ipureintro; refine (View.read_writes_full _ _ _ _ _).trans ?_; sl_unfold_words; dsimp only [dwg, dwu, dwd, dh]; simp (disch := decide) only [View.readAt_eq_ld, Memref.IsWhole.read_unread, View.ld_unit_lit, View.readCov_unit_lit]; first | done | rfl

end Cert.FfnBwdIdeal.Body

end
-- ==== Proof.FfnBwdIdealFrame.lean ====
/- The feed-forward block's gradient kernel over its whole grid: what every point leaves in the result buffers, and the launch. -/
module

public import proofs.«01_k».proof.Proof.FfnBwdIdealBody
public import Idealize.ShloMosaic.Lib.Pipeline.DatRel
public import Idealize.ShloMosaic.Lib.Pipeline.ArrRel
public import Idealize.ShloMosaic.Lib.Pipeline.Quiescent

@[expose] public section

set_option maxRecDepth 16384

noncomputable section

namespace Cert.FfnBwdIdeal.Body

open Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches and the row offsets at a grid point -/

theorem point_lt (t : Fin cfg0.N) : t.val < 32 := lt_of_lt_of_eq t.isLt (show cfg0.N = 32 from N_0)

theorem coords0 (t : Fin cfg0.N) : (grid0.coords t 0).val = t.val / 8 % 4 := Pipeline.Grid.coords_val t 0 (by decide) rfl
theorem coords1 (t : Fin cfg0.N) : (grid0.coords t 1).val = t.val / 1 % 8 := Pipeline.Grid.coords_val t 1 (by decide) rfl

theorem cond0_iff : ∀ t : Fin cfg0.N, cond0 (grid0.coords t) ↔ t.val % 8 = 0 := fun t => by
  have ht := point_lt t
  have e1 := coords1 t
  simp only [cond0, e1]
  word_cmp

theorem cond2_iff : ∀ t : Fin cfg0.N, k0_cond2 (grid0.coords t) = 1#1 ↔ t.val < 8 := fun t => by
  have ht := point_lt t
  have e0 := coords0 t
  simp only [k0_cond2, e0]
  word_cmp

theorem cond3_iff : ∀ t : Fin cfg0.N, k0_cond3 (grid0.coords t) = 1#1 ↔ ¬ t.val < 8 := fun t => by
  have ht := point_lt t
  have e0 := coords0 t
  simp only [k0_cond3, e0]
  word_cmp

theorem off1_eq : ∀ t : Fin cfg0.N, k0_off1 (grid0.coords t) = ![256 * (t.val % 8), 0] :=
  (by decide +kernel : ∀ t : Fin grid0.N, k0_off1 (grid0.coords t) = ![256 * (t.val % 8), 0])

theorem off2_eq : ∀ t : Fin cfg0.N, k0_off2 (grid0.coords t) = ![256 * (t.val % 8), 0] :=
  (by decide +kernel : ∀ t : Fin grid0.N, k0_off2 (grid0.coords t) = ![256 * (t.val % 8), 0])

/-! ## What a point leaves -/

/-- The gate weights' gradient after point `t`, from what the point found. -/
def stepG (c : Dev nD) (t : Fin cfg0.N) (z : Vec F S1x704x1024 .f32) : Vec F S1x704x1024 .f32 :=
  dwg (iblk m c 0 t) (iblk m c 1 t) (iblk m c 2 t) (iblk m c 3 t) (iblk m c 6 t) z

/-- The up weights' gradient after point `t`, from what the point found. -/
def stepU (c : Dev nD) (t : Fin cfg0.N) (z : Vec F S1x704x1024 .f32) : Vec F S1x704x1024 .f32 :=
  dwu (iblk m c 0 t) (iblk m c 1 t) (iblk m c 2 t) (iblk m c 6 t) z

/-- The down weights' gradient after point `t`, from what the point found. -/
def stepD (c : Dev nD) (t : Fin cfg0.N) (z : Vec F S1x704x1024 .f32) : Vec F S1x704x1024 .f32 :=
  dwd (iblk m c 0 t) (iblk m c 2 t) (iblk m c 3 t) z

/-- The gate weights' gradient as it stands after point `n`. -/
def accG (c : Dev nD) : (n : ℕ) → n < cfg0.N → Vec F S1x704x1024 .f32
  | 0, h => stepG m c ⟨0, h⟩ k0_pay2
  | n + 1, h => stepG m c ⟨n + 1, h⟩ (if (n + 1) % 8 = 0 then k0_pay2 else accG c n (Nat.lt_of_succ_lt h))

/-- The up weights' gradient as it stands after point `n`. -/
def accU (c : Dev nD) : (n : ℕ) → n < cfg0.N → Vec F S1x704x1024 .f32
  | 0, h => stepU m c ⟨0, h⟩ k0_pay3
  | n + 1, h => stepU m c ⟨n + 1, h⟩ (if (n + 1) % 8 = 0 then k0_pay3 else accU c n (Nat.lt_of_succ_lt h))

/-- The down weights' gradient as it stands after point `n`. -/
def accD (c : Dev nD) : (n : ℕ) → n < cfg0.N → Vec F S1x704x1024 .f32
  | 0, h => stepD m c ⟨0, h⟩ k0_pay4
  | n + 1, h => stepD m c ⟨n + 1, h⟩ (if (n + 1) % 8 = 0 then k0_pay4 else accD c n (Nat.lt_of_succ_lt h))

theorem accG_zero (c : Dev nD) (t : Fin cfg0.N) (h0 : t.val % 8 = 0) : accG m c t.val t.isLt = stepG m c t k0_pay2 := by
  obtain ⟨n, hn⟩ := t
  cases n with
  | zero => rfl
  | succ n => exact congrArg (stepG m c ⟨n + 1, hn⟩) (if_pos h0)

theorem accG_add (c : Dev nD) (t : Fin cfg0.N) (h0 : ¬ t.val % 8 = 0) :
    accG m c t.val t.isLt = stepG m c t (accG m c (t.val - 1) (Nat.lt_of_le_of_lt (Nat.sub_le _ _) t.isLt)) := by
  obtain ⟨n, hn⟩ := t
  cases n with
  | zero => exact absurd (Nat.zero_mod _) h0
  | succ n => exact congrArg (stepG m c ⟨n + 1, hn⟩) (if_neg h0)

theorem accU_zero (c : Dev nD) (t : Fin cfg0.N) (h0 : t.val % 8 = 0) : accU m c t.val t.isLt = stepU m c t k0_pay3 := by
  obtain ⟨n, hn⟩ := t
  cases n with
  | zero => rfl
  | succ n => exact congrArg (stepU m c ⟨n + 1, hn⟩) (if_pos h0)

theorem accU_add (c : Dev nD) (t : Fin cfg0.N) (h0 : ¬ t.val % 8 = 0) :
    accU m c t.val t.isLt = stepU m c t (accU m c (t.val - 1) (Nat.lt_of_le_of_lt (Nat.sub_le _ _) t.isLt)) := by
  obtain ⟨n, hn⟩ := t
  cases n with
  | zero => exact absurd (Nat.zero_mod _) h0
  | succ n => exact congrArg (stepU m c ⟨n + 1, hn⟩) (if_neg h0)

theorem accD_zero (c : Dev nD) (t : Fin cfg0.N) (h0 : t.val % 8 = 0) : accD m c t.val t.isLt = stepD m c t k0_pay4 := by
  obtain ⟨n, hn⟩ := t
  cases n with
  | zero => rfl
  | succ n => exact congrArg (stepD m c ⟨n + 1, hn⟩) (if_pos h0)

theorem accD_add (c : Dev nD) (t : Fin cfg0.N) (h0 : ¬ t.val % 8 = 0) :
    accD m c t.val t.isLt = stepD m c t (accD m c (t.val - 1) (Nat.lt_of_le_of_lt (Nat.sub_le _ _) t.isLt)) := by
  obtain ⟨n, hn⟩ := t
  cases n with
  | zero => exact absurd (Nat.zero_mod _) h0
  | succ n => exact congrArg (stepD m c ⟨n + 1, hn⟩) (if_neg h0)

/-- The part of point `n` in the gradient of its rows of the input. -/
def part (c : Dev nD) (n : ℕ) : Vec F S256x1024 .f32 :=
  let t : Fin cfg0.N := ⟨n % cfg0.N, Nat.mod_lt _ (by decide)⟩
  dh (iblk m c 0 t) (iblk m c 2 t) (iblk m c 3 t) (iblk m c 4 t) (iblk m c 5 t) (iblk m c 6 t)

theorem part_eq (c : Dev nD) (t : Fin cfg0.N) :
    part m c t.val = dh (iblk m c 0 t) (iblk m c 2 t) (iblk m c 3 t) (iblk m c 4 t) (iblk m c 5 t) (iblk m c 6 t) := by
  have e : (⟨t.val % cfg0.N, Nat.mod_lt _ (by decide)⟩ : Fin cfg0.N) = t := Fin.ext (Nat.mod_eq_of_lt t.isLt)
  simp only [part]
  rw [e]

/-- The gradient of row tile `q` after the shards `0, …, j`. -/
def rowAcc (c : Dev nD) (q : ℕ) : ℕ → Vec F S256x1024 .f32
  | 0 => part m c q
  | j + 1 => k0_pay1 (part m c (8 * (j + 1) + q)) (rowAcc c q j)

/-- Row tile `q` of the gradient of the input. -/
def rows (X : Vec F S2048x1024 .f32) (q : Fin 8) : Vec F S256x1024 .f32 :=
  VecWindow.window X ![256 * q.val, 0] S256x1024.size (Fin.forall_fin_two.mpr ⟨by show 256 * q.val + 256 ≤ 2048; omega, by show 0 + 1024 ≤ 1024; omega⟩)

/-- What is known of the gradient of the input after point `t`: the row tiles up to the point's have their sums over the shards so far, the
later ones over the shards before. -/
def RowsAt (c : Dev nD) (t : ℕ) (X : Vec F S2048x1024 .f32) : Prop :=
  ∀ q : Fin 8, (q.val ≤ t % 8 → rows X q = rowAcc m c q (t / 8)) ∧ (t % 8 < q.val → 0 < t / 8 → rows X q = rowAcc m c q (t / 8 - 1))

theorem rows_put_same (X : Vec F S2048x1024 .f32) (q : Fin 8) (w : Vec F S256x1024 .f32) :
    rows (VecWindow.put X ![256 * q.val, 0] S256x1024.size w) q = w := VecWindow.window_put_same _ _ _ _ _

theorem rows_put_ne (X : Vec F S2048x1024 .f32) (q r : Fin 8) (h : q ≠ r) (w : Vec F S256x1024 .f32) :
    rows (VecWindow.put X ![256 * r.val, 0] S256x1024.size w) q = rows X q := by
  have h' : q.val ≠ r.val := fun e => h (Fin.ext e)
  refine VecWindow.window_put_of_disjoint _ _ _ _ _ _ _ (0 : Fin 2) ?_
  show 256 * q.val + 256 ≤ 256 * r.val ∨ 256 * r.val + 256 ≤ 256 * q.val
  omega

/-- A point of the first shard puts its part down. -/
theorem rowsAt_first (c : Dev nD) (t : ℕ) (ht : t < 8) (Y : Vec F S2048x1024 .f32) (hY : t ≠ 0 → RowsAt m c (t - 1) Y) :
    RowsAt m c t (VecWindow.put Y ![256 * (t % 8), 0] S256x1024.size (part m c t)) := by
  intro q
  have e8 : t / 8 = 0 := by omega
  have em : t % 8 = t := by omega
  refine ⟨fun h => ?_, fun _ h => absurd h (by omega)⟩
  rw [e8]
  by_cases hq : q.val = t % 8
  · rw [← hq]
    refine (rows_put_same Y q _).trans ?_
    rw [show t = q.val by omega]; rfl
  · refine (rows_put_ne Y q ⟨t % 8, by omega⟩ (fun e => hq (congrArg Fin.val e)) _).trans ?_
    have := (hY (by omega) q).1 (by omega)
    rw [this]; congr 1; omega

/-- A point of a later shard adds its part. -/
theorem rowsAt_later (c : Dev nD) (t : ℕ) (ht : ¬ t < 8) (Y : Vec F S2048x1024 .f32) (hY : t ≠ 0 → RowsAt m c (t - 1) Y) :
    RowsAt m c t (VecWindow.put Y ![256 * (t % 8), 0] S256x1024.size (k0_pay1 (part m c t) (rows Y ⟨t % 8, by omega⟩))) := by
  have hY := hY (by omega)
  have old : ∀ q : Fin 8, t % 8 ≤ q.val → rows Y q = rowAcc m c q (t / 8 - 1) := fun q hq => by
    by_cases h0 : t % 8 = 0
    · rw [(hY q).1 (by omega)]; congr 1; omega
    · rw [(hY q).2 (by omega) (by omega)]; congr 1; omega
  intro q
  by_cases hq : q.val = t % 8
  · refine ⟨fun h => ?_, fun h => absurd h (by omega)⟩
    have eq : (⟨t % 8, by omega⟩ : Fin 8) = q := Fin.ext hq.symm
    rw [eq, ← hq]
    refine (rows_put_same Y q _).trans ?_
    rw [old q (by omega)]
    obtain ⟨j, hj⟩ : ∃ j, t / 8 = j + 1 := ⟨t / 8 - 1, by omega⟩
    rw [hj, show j + 1 - 1 = j by omega, show t = 8 * (j + 1) + q.val by omega]
    rfl
  · refine ⟨fun h => ?_, fun h _ => ?_⟩
    · refine (rows_put_ne Y q ⟨t % 8, by omega⟩ (fun e => hq (congrArg Fin.val e)) _).trans ?_
      rw [(hY q).1 (by omega)]; congr 1; omega
    · refine (rows_put_ne Y q ⟨t % 8, by omega⟩ (fun e => hq (congrArg Fin.val e)) _).trans ?_
      exact old q (by omega)

/-! ## The pipeline's proof data -/

/-- The arrays as the region finds them, the inputs' blocks left in place. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ _ := Pipeline.ΦA spec0 c
  q _ := fullShare
  owed _ := 0

/-- The windows of the results. -/
def isResult (w : Fin cfg0.W) : Bool := Nat.ble 7 w.val

/-- What is known of a result's buffer after point `t`. -/
def Known (c : Dev nD) (w : Fin cfg0.W) (t : Fin cfg0.N) : ((cfg0.win w).block.Idx → Elt F (cfg0.win w).elt) → Prop :=
  match w with
    | ⟨7, _⟩ => fun X => RowsAt m c t.val X
    | ⟨8, _⟩ => fun X => X = accG m c t.val t.isLt
    | ⟨9, _⟩ => fun X => X = accU m c t.val t.isLt
    | ⟨10, _⟩ => fun X => X = accD m c t.val t.isLt
    | _ => fun _ => True

/-- The proof data: the inputs exact, the results held to `Known`. -/
abbrev rdat (c : Dev nD) : RDat τ (Elt F) Unit ℕ (UR sig nD τ) ℕ cfg0 c := (dat m c).toRRel isResult (Known m c)

theorem A_eq (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]

theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

/-- Past the first point a result's buffer that the point before did not write back has what that point left. -/
theorem known_before (c : Dev nD) (w : Fin cfg0.W) (hw : isResult w = true) (t : Fin cfg0.N) (ht : t.val ≠ 0) (hfe : (cfg0.win w).fetch t = false)
    (hfl : (cfg0.win w).flush ⟨t.val - 1, Nat.lt_of_le_of_lt (Nat.sub_le _ _) t.isLt⟩ = false) (X : (cfg0.win w).block.Idx → Elt F (cfg0.win w).elt)
    (h : (rdat m c).Finds w t X) : Known m c w ⟨t.val - 1, Nat.lt_of_le_of_lt (Nat.sub_le _ _) t.isLt⟩ X := by
  rcases ((rdat m c).finds_of_pos hfe ht X).mp h with h | h
  · rw [hfl] at h; exact absurd h Bool.false_ne_true
  · exact (dat m c).toRRel_leaves hw h

theorem rows_before (c : Dev nD) (t : Fin cfg0.N) (X : Vec F S2048x1024 .f32) (h : (rdat m c).Finds 7 t X) (ht : t.val ≠ 0) :
    RowsAt m c (t.val - 1) X :=
  known_before m c 7 rfl t ht rfl (Bool.eq_false_iff.mpr fun h => by have : (t.val - 1) % 32 = 31 := (flush0_7 _).mp h; have := point_lt t; omega) X h

theorem accG_before (c : Dev nD) (t : Fin cfg0.N) (X : Vec F S1x704x1024 .f32) (h : (rdat m c).Finds 8 t X) (ht : ¬ t.val % 8 = 0) :
    X = accG m c (t.val - 1) (Nat.lt_of_le_of_lt (Nat.sub_le _ _) t.isLt) :=
  known_before m c 8 rfl t (by omega) rfl (Bool.eq_false_iff.mpr fun h => by have : (t.val - 1) % 8 = 7 := (flush0_8 _).mp h; omega) X h

theorem accU_before (c : Dev nD) (t : Fin cfg0.N) (X : Vec F S1x704x1024 .f32) (h : (rdat m c).Finds 9 t X) (ht : ¬ t.val % 8 = 0) :
    X = accU m c (t.val - 1) (Nat.lt_of_le_of_lt (Nat.sub_le _ _) t.isLt) :=
  known_before m c 9 rfl t (by omega) rfl (Bool.eq_false_iff.mpr fun h => by have : (t.val - 1) % 8 = 7 := (flush0_9 _).mp h; omega) X h

theorem accD_before (c : Dev nD) (t : Fin cfg0.N) (X : Vec F S1x704x1024 .f32) (h : (rdat m c).Finds 10 t X) (ht : ¬ t.val % 8 = 0) :
    X = accD m c (t.val - 1) (Nat.lt_of_le_of_lt (Nat.sub_le _ _) t.isLt) :=
  known_before m c 10 rfl t (by omega) rfl (Bool.eq_false_iff.mpr fun h => by have : (t.val - 1) % 8 = 7 := (flush0_10 _).mp h; omega) X h

theorem window_off2 (t : Fin cfg0.N) (Y : Vec F S2048x1024 .f32) (inb : ∀ a, k0_off2 (grid0.coords t) a + S256x1024.size a ≤ S2048x1024.size a) :
    VecWindow.window Y (k0_off2 (grid0.coords t)) S256x1024.size inb = rows Y ⟨t.val % 8, Nat.mod_lt _ (by decide)⟩ := by
  have e := off2_eq t
  revert inb; rw [e]; intro inb; rfl

/-! ## The body at a point -/

/-- What the body is handed at point `t`. -/
def bodyPre (c : Dev nD) (t : Fin cfg0.N) : sProp 𝕄 :=
  iprop((dat m c).Φ t.castSucc ∗ (dat m c).owesAt () t.castSucc
    ∗ (∃ d, owns (c : Thread nD τ) ((cfg0.win 0).stage (cfg0.slots t 0)) fullShare ((dat m c).before 0 t d))
    ∗ (∃ d, owns (c : Thread nD τ) ((cfg0.win 1).stage (cfg0.slots t 1)) fullShare ((dat m c).before 1 t d))
    ∗ (∃ d, owns (c : Thread nD τ) ((cfg0.win 2).stage (cfg0.slots t 2)) fullShare ((dat m c).before 2 t d))
    ∗ (∃ d, owns (c : Thread nD τ) ((cfg0.win 3).stage (cfg0.slots t 3)) fullShare ((dat m c).before 3 t d))
    ∗ (∃ d, owns (c : Thread nD τ) ((cfg0.win 4).stage (cfg0.slots t 4)) fullShare ((dat m c).before 4 t d))
    ∗ (∃ d, owns (c : Thread nD τ) ((cfg0.win 5).stage (cfg0.slots t 5)) fullShare ((dat m c).before 5 t d))
    ∗ (∃ d, owns (c : Thread nD τ) ((cfg0.win 6).stage (cfg0.slots t 6)) fullShare ((dat m c).before 6 t d))
    ∗ (∃ Y, ⌜(rdat m c).Finds 7 t Y⌝ ∗ owns (c : Thread nD τ) ((cfg0.win 7).stage (cfg0.slots t 7)) fullShare Y)
    ∗ (∃ Y, ⌜(rdat m c).Finds 8 t Y⌝ ∗ owns (c : Thread nD τ) ((cfg0.win 8).stage (cfg0.slots t 8)) fullShare Y)
    ∗ (∃ Y, ⌜(rdat m c).Finds 9 t Y⌝ ∗ owns (c : Thread nD τ) ((cfg0.win 9).stage (cfg0.slots t 9)) fullShare Y)
    ∗ (∃ Y, ⌜(rdat m c).Finds 10 t Y⌝ ∗ owns (c : Thread nD τ) ((cfg0.win 10).stage (cfg0.slots t 10)) fullShare Y))

/-- What it hands back. -/
def bodyPost (c : Dev nD) (t : Fin cfg0.N) : sProp 𝕄 :=
  iprop((dat m c).Φ t.succ ∗ (dat m c).owesAt () t.succ
    ∗ owns (c : Thread nD τ) ((cfg0.win 0).stage (cfg0.slots t 0)) fullShare ((dat m c).after 0 t)
    ∗ owns (c : Thread nD τ) ((cfg0.win 1).stage (cfg0.slots t 1)) fullShare ((dat m c).after 1 t)
    ∗ owns (c : Thread nD τ) ((cfg0.win 2).stage (cfg0.slots t 2)) fullShare ((dat m c).after 2 t)
    ∗ owns (c : Thread nD τ) ((cfg0.win 3).stage (cfg0.slots t 3)) fullShare ((dat m c).after 3 t)
    ∗ owns (c : Thread nD τ) ((cfg0.win 4).stage (cfg0.slots t 4)) fullShare ((dat m c).after 4 t)
    ∗ owns (c : Thread nD τ) ((cfg0.win 5).stage (cfg0.slots t 5)) fullShare ((dat m c).after 5 t)
    ∗ owns (c : Thread nD τ) ((cfg0.win 6).stage (cfg0.slots t 6)) fullShare ((dat m c).after 6 t)
    ∗ (∃ X, ⌜Known m c 7 t X⌝ ∗ owns (c : Thread nD τ) ((cfg0.win 7).stage (cfg0.slots t 7)) fullShare X)
    ∗ (∃ X, ⌜Known m c 8 t X⌝ ∗ owns (c : Thread nD τ) ((cfg0.win 8).stage (cfg0.slots t 8)) fullShare X)
    ∗ (∃ X, ⌜Known m c 9 t X⌝ ∗ owns (c : Thread nD τ) ((cfg0.win 9).stage (cfg0.slots t 9)) fullShare X)
    ∗ (∃ X, ⌜Known m c 10 t X⌝ ∗ owns (c : Thread nD τ) ((cfg0.win 10).stage (cfg0.slots t 10)) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dat m c).Φ t.succ = (dat m c).Φ t.castSucc from rfl,
    show (dat m c).owesAt () t.succ = (dat m c).owesAt () t.castSucc from rfl,
    after_0, after_1, after_2, after_3, after_4, after_5, after_6]
  have ht := point_lt t
  by_cases h0 : t.val % 8 = 0
  · by_cases h2 : t.val < 8
    · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
      iapply (zeroFirst c (grid0.coords t) _ _ _ _ _ _ _ _ _ _ _ _ _ _ _ _ _ _ _ _ _ _ ((cond0_iff t).mpr h0) ((cond2_iff t).mpr h2) (fun h => (cond3_iff t).mp h h2) (iblk m c 0 t) (iblk m c 1 t) (iblk m c 2 t) (iblk m c 3 t) (iblk m c 4 t) (iblk m c 5 t) (iblk m c 6 t) Y7 Y8 Y9 Y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr; swap; · iexact H7
        ipureintro
        have hp := part_eq m c t
        rw [off1_eq t, ← hp]; exact rowsAt_first m c t.val h2 Y7 (rows_before m c t Y7 hY7)
      isplitl [H8]
      · iexists _; isplitr; swap; · iexact H8
        ipureintro
        exact (accG_zero m c t h0).symm
      isplitl [H9]
      · iexists _; isplitr; swap; · iexact H9
        ipureintro
        exact (accU_zero m c t h0).symm
      iexists _; isplitr; swap; · iexact H10
      ipureintro
      exact (accD_zero m c t h0).symm
    · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
      iapply (zeroLater c (grid0.coords t) _ _ _ _ _ _ _ _ _ _ _ _ _ _ _ _ _ _ _ _ _ _ ((cond0_iff t).mpr h0) (fun h => h2 ((cond2_iff t).mp h)) ((cond3_iff t).mpr h2) (iblk m c 0 t) (iblk m c 1 t) (iblk m c 2 t) (iblk m c 3 t) (iblk m c 4 t) (iblk m c 5 t) (iblk m c 6 t) Y7 Y8 Y9 Y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr; swap; · iexact H7
        ipureintro
        have hp := part_eq m c t
        have hw := window_off2 t Y7 ((k0_off2_inb (grid0.coords t) ((cond3_iff t).mpr h2)))
        rw [hw, off2_eq t, ← hp]; exact rowsAt_later m c t.val h2 Y7 (rows_before m c t Y7 hY7)
      isplitl [H8]
      · iexists _; isplitr; swap; · iexact H8
        ipureintro
        exact (accG_zero m c t h0).symm
      isplitl [H9]
      · iexists _; isplitr; swap; · iexact H9
        ipureintro
        exact (accU_zero m c t h0).symm
      iexists _; isplitr; swap; · iexact H10
      ipureintro
      exact (accD_zero m c t h0).symm
  · by_cases h2 : t.val < 8
    · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
      iapply (addFirst c (grid0.coords t) _ _ _ _ _ _ _ _ _ _ _ _ _ _ _ _ _ _ _ _ _ _ (fun h => h0 ((cond0_iff t).mp h)) ((cond2_iff t).mpr h2) (fun h => (cond3_iff t).mp h h2) (iblk m c 0 t) (iblk m c 1 t) (iblk m c 2 t) (iblk m c 3 t) (iblk m c 4 t) (iblk m c 5 t) (iblk m c 6 t) Y7 Y8 Y9 Y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr; swap; · iexact H7
        ipureintro
        have hp := part_eq m c t
        rw [off1_eq t, ← hp]; exact rowsAt_first m c t.val h2 Y7 (rows_before m c t Y7 hY7)
      isplitl [H8]
      · iexists _; isplitr; swap; · iexact H8
        ipureintro
        rw [accG_before m c t Y8 hY8 h0]; exact (accG_add m c t h0).symm
      isplitl [H9]
      · iexists _; isplitr; swap; · iexact H9
        ipureintro
        rw [accU_before m c t Y9 hY9 h0]; exact (accU_add m c t h0).symm
      iexists _; isplitr; swap; · iexact H10
      ipureintro
      rw [accD_before m c t Y10 hY10 h0]; exact (accD_add m c t h0).symm
    · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
      iapply (addLater c (grid0.coords t) _ _ _ _ _ _ _ _ _ _ _ _ _ _ _ _ _ _ _ _ _ _ (fun h => h0 ((cond0_iff t).mp h)) (fun h => h2 ((cond2_iff t).mp h)) ((cond3_iff t).mpr h2) (iblk m c 0 t) (iblk m c 1 t) (iblk m c 2 t) (iblk m c 3 t) (iblk m c 4 t) (iblk m c 5 t) (iblk m c 6 t) Y7 Y8 Y9 Y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists _; isplitr; swap; · iexact H7
        ipureintro
        have hp := part_eq m c t
        have hw := window_off2 t Y7 ((k0_off2_inb (grid0.coords t) ((cond3_iff t).mpr h2)))
        rw [hw, off2_eq t, ← hp]; exact rowsAt_later m c t.val h2 Y7 (rows_before m c t Y7 hY7)
      isplitl [H8]
      · iexists _; isplitr; swap; · iexact H8
        ipureintro
        rw [accG_before m c t Y8 hY8 h0]; exact (accG_add m c t h0).symm
      isplitl [H9]
      · iexists _; isplitr; swap; · iexact H9
        ipureintro
        rw [accU_before m c t Y9 hY9 h0]; exact (accU_add m c t h0).symm
      iexists _; isplitr; swap; · iexact H10
      ipureintro
      rw [accD_before m c t Y10 hY10 h0]; exact (accD_add m c t h0).symm

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ isResult (Known m c) := fun t => by
  rw [bigSep_W0, bigSep_W0, defs₀_row]
  exact triple_restated (sound_body m c t) rfl .rfl fun _ => .rfl

/-! ## The run and the frame -/

set_option backward.isDefEq.respectTransparency.types false in
/-- Every run ends, with the arrays at what the proof data say and every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hΦ := fun _ _ => rfl)

/-- The arguments after a run. -/
theorem frame_post {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in h c 0 rfl).trans ((A_eq m c 0).trans (V_main_arg4 m c))⟩

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨frame_post m h.1, h.2⟩) (run_main_quiescent m ρ)

end Cert.FfnBwdIdeal.Body

end
-- ==== Proof.FfnBwdRef.lean ====
/- The results of the reference `FfnBwdRefIdeal`, each as one function of the arguments. -/
module

public import proofs.«01_k».proof.Proof.Gen.FfnBwdRefIdeal
public import proofs.«01_k».proof.Proof.Gen.FfnBwdRefIdeal.Run
public import Idealize.ShloMosaic.Lib.Pipeline.ValueKit

@[expose] public section

set_option maxRecDepth 16384

noncomputable section

namespace Cert.FfnBwdRefIdeal.Value

open Cert.FfnBwdRefIdeal Cert.FfnBwdRefIdeal.Gen Idealize.ShloMosaic Idealize.ShloMosaic.TcCoe Idealize.SL.Sem

/-- The result `v22`. -/
def ref_v22 (a0 : FVec Ideal S2048x1024 .f32) (a1 : FVec Ideal S4x704x1024 .f32) (a2 : FVec Ideal S4x704x1024 .f32) (a3 : FVec Ideal S4x704x1024 .f32) (a4 : FVec Ideal S2048x1024 .f32) : FVec Ideal S2048x1024 .f32 :=
  addf (Host.dotGeneral dot_S2048x2816_S1024x2816_S2048x1024_1_1_0_0_n_n none (mulf (mulf (Host.dotGeneral dot_S2048x1024_S1024x2816_S2048x2816_1_0_0_1_n_n none a0 (transpose S1024x2816 [1, 0] (shapeCast _ a1 shapeCasts_S4x704x1024_S2816x1024) transposes_S2816x1024_S1024x2816_1_0)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0))))))) (Host.dotGeneral dot_S2048x1024_S2816x1024_S2048x2816_1_1_0_0_n_n none a4 (shapeCast _ a3 shapeCasts_S4x704x1024_S2816x1024))) (transpose S1024x2816 [1, 0] (shapeCast _ a2 shapeCasts_S4x704x1024_S2816x1024) transposes_S2816x1024_S1024x2816_1_0)) (Host.dotGeneral dot_S2048x2816_S1024x2816_S2048x1024_1_1_0_0_n_n none (addf (mulf (mulf (Host.dotGeneral dot_S2048x1024_S2816x1024_S2048x2816_1_1_0_0_n_n none a4 (shapeCast _ a3 shapeCasts_S4x704x1024_S2816x1024)) (Host.dotGeneral dot_S2048x1024_S1024x2816_S2048x2816_1_0_0_1_n_n none a0 (transpose S1024x2816 [1, 0] (shapeCast _ a2 shapeCasts_S4x704x1024_S2816x1024) transposes_S2816x1024_S1024x2816_1_0))) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0))))))) (mulf (mulf (Host.dotGeneral dot_S2048x1024_S1024x2816_S2048x2816_1_0_0_1_n_n none a0 (transpose S1024x2816 [1, 0] (shapeCast _ a1 shapeCasts_S4x704x1024_S2816x1024) transposes_S2816x1024_S1024x2816_1_0)) (mulf (Host.dotGeneral dot_S2048x1024_S2816x1024_S2048x2816_1_1_0_0_n_n none a4 (shapeCast _ a3 shapeCasts_S4x704x1024_S2816x1024)) (Host.dotGeneral dot_S2048x1024_S1024x2816_S2048x2816_1_0_0_1_n_n none a0 (transpose S1024x2816 [1, 0] (shapeCast _ a2 shapeCasts_S4x704x1024_S2816x1024) transposes_S2816x1024_S1024x2816_1_0)))) (mulf (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0)))))) (subf (broadcastInDim S2048x2816 ![] bcast_S_S2048x2816 (constant S_ .f32 0x3F800000#32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0)))))))))) (transpose S1024x2816 [1, 0] (shapeCast _ a1 shapeCasts_S4x704x1024_S2816x1024) transposes_S2816x1024_S1024x2816_1_0))

/-- The result `v27`. -/
def ref_v27 (a0 : FVec Ideal S2048x1024 .f32) (a1 : FVec Ideal S4x704x1024 .f32) (a2 : FVec Ideal S4x704x1024 .f32) (a3 : FVec Ideal S4x704x1024 .f32) (a4 : FVec Ideal S2048x1024 .f32) : FVec Ideal S4x704x1024 .f32 :=
  shapeCast _ (transpose S2816x1024 [1, 0] (transpose S1024x2816 [1, 0] (Host.dotGeneral dot_S2048x2816_S2048x1024_S2816x1024_0_0_1_1_n_n none (addf (mulf (mulf (Host.dotGeneral dot_S2048x1024_S2816x1024_S2048x2816_1_1_0_0_n_n none a4 (shapeCast _ a3 shapeCasts_S4x704x1024_S2816x1024)) (Host.dotGeneral dot_S2048x1024_S1024x2816_S2048x2816_1_0_0_1_n_n none a0 (transpose S1024x2816 [1, 0] (shapeCast _ a2 shapeCasts_S4x704x1024_S2816x1024) transposes_S2816x1024_S1024x2816_1_0))) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0))))))) (mulf (mulf (Host.dotGeneral dot_S2048x1024_S1024x2816_S2048x2816_1_0_0_1_n_n none a0 (transpose S1024x2816 [1, 0] (shapeCast _ a1 shapeCasts_S4x704x1024_S2816x1024) transposes_S2816x1024_S1024x2816_1_0)) (mulf (Host.dotGeneral dot_S2048x1024_S2816x1024_S2048x2816_1_1_0_0_n_n none a4 (shapeCast _ a3 shapeCasts_S4x704x1024_S2816x1024)) (Host.dotGeneral dot_S2048x1024_S1024x2816_S2048x2816_1_0_0_1_n_n none a0 (transpose S1024x2816 [1, 0] (shapeCast _ a2 shapeCasts_S4x704x1024_S2816x1024) transposes_S2816x1024_S1024x2816_1_0)))) (mulf (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0)))))) (subf (broadcastInDim S2048x2816 ![] bcast_S_S2048x2816 (constant S_ .f32 0x3F800000#32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0)))))))))) a0) transposes_S2816x1024_S1024x2816_1_0) transposes_S1024x2816_S2816x1024_1_0) shapeCasts_S2816x1024_S4x704x1024

/-- The result `v25`. -/
def ref_v25 (a0 : FVec Ideal S2048x1024 .f32) (a1 : FVec Ideal S4x704x1024 .f32) (a2 : FVec Ideal S4x704x1024 .f32) (a3 : FVec Ideal S4x704x1024 .f32) (a4 : FVec Ideal S2048x1024 .f32) : FVec Ideal S4x704x1024 .f32 :=
  shapeCast _ (transpose S2816x1024 [1, 0] (transpose S1024x2816 [1, 0] (Host.dotGeneral dot_S2048x2816_S2048x1024_S2816x1024_0_0_1_1_n_n none (mulf (mulf (Host.dotGeneral dot_S2048x1024_S1024x2816_S2048x2816_1_0_0_1_n_n none a0 (transpose S1024x2816 [1, 0] (shapeCast _ a1 shapeCasts_S4x704x1024_S2816x1024) transposes_S2816x1024_S1024x2816_1_0)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0))))))) (Host.dotGeneral dot_S2048x1024_S2816x1024_S2048x2816_1_1_0_0_n_n none a4 (shapeCast _ a3 shapeCasts_S4x704x1024_S2816x1024))) a0) transposes_S2816x1024_S1024x2816_1_0) transposes_S1024x2816_S2816x1024_1_0) shapeCasts_S2816x1024_S4x704x1024

/-- The result `v23`. -/
def ref_v23 (a0 : FVec Ideal S2048x1024 .f32) (a1 : FVec Ideal S4x704x1024 .f32) (a2 : FVec Ideal S4x704x1024 .f32) (a3 : FVec Ideal S4x704x1024 .f32) (a4 : FVec Ideal S2048x1024 .f32) : FVec Ideal S4x704x1024 .f32 :=
  shapeCast _ (transpose S2816x1024 [1, 0] (Host.dotGeneral dot_S2048x1024_S2048x2816_S1024x2816_0_0_1_1_n_n none a4 (mulf (mulf (Host.dotGeneral dot_S2048x1024_S1024x2816_S2048x2816_1_0_0_1_n_n none a0 (transpose S1024x2816 [1, 0] (shapeCast _ a1 shapeCasts_S4x704x1024_S2816x1024) transposes_S2816x1024_S1024x2816_1_0)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none a0 (transpose S1024x2816 [1, 0] (shapeCast _ a1 shapeCasts_S4x704x1024_S2816x1024) transposes_S2816x1024_S1024x2816_1_0))))))) (Host.dotGeneral dot_S2048x1024_S1024x2816_S2048x2816_1_0_0_1_n_n none a0 (transpose S1024x2816 [1, 0] (shapeCast _ a2 shapeCasts_S4x704x1024_S2816x1024) transposes_S2816x1024_S1024x2816_1_0)))) transposes_S1024x2816_S2816x1024_1_0) shapeCasts_S2816x1024_S4x704x1024

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S4x704x1024 .f32) (h1 : ∀ c : Dev nD, m ((c.tc : Thread nD τ).loc main_arg1) = x1 c)
    (x2 : Dev nD → FVec Ideal S4x704x1024 .f32) (h2 : ∀ c : Dev nD, m ((c.tc : Thread nD τ).loc main_arg2) = x2 c)
    (x3 : Dev nD → FVec Ideal S4x704x1024 .f32) (h3 : ∀ c : Dev nD, m ((c.tc : Thread nD τ).loc main_arg3) = x3 c)
    (x4 : Dev nD → FVec Ideal S2048x1024 .f32) (h4 : ∀ c : Dev nD, m ((c.tc : Thread nD τ).loc main_arg4) = x4 c) :
    θ_run defs (onTc (τ := τ) (main (F := Ideal))) ⟨m, fun _ => 0, ρ⟩ fun r => ∀ c : Dev nD,
      r.2.mem ((c.tc : Thread nD τ).loc main_v22) = ref_v22 (x0 c) (x1 c) (x2 c) (x3 c) (x4 c)
      ∧ r.2.mem ((c.tc : Thread nD τ).loc main_v27) = ref_v27 (x0 c) (x1 c) (x2 c) (x3 c) (x4 c)
      ∧ r.2.mem ((c.tc : Thread nD τ).loc main_v25) = ref_v25 (x0 c) (x1 c) (x2 c) (x3 c) (x4 c)
      ∧ r.2.mem ((c.tc : Thread nD τ).loc main_v23) = ref_v23 (x0 c) (x1 c) (x2 c) (x3 c) (x4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  obtain rfl : x4 = fun c : Dev nD => m ((c.tc : Thread nD τ).loc main_arg4) := funext fun c => (h4 c).symm
  exact (θ_run _ _ _).mono (fun r h c => ⟨(h c).1, (h c).2.1, (h c).2.2.1, (h c).2.2.2.1, (h c).2.2.2.2⟩) (run m ρ)

end Cert.FfnBwdRefIdeal.Value

end
-- ==== Proof.RealEntry.lean ====
/- Extended reals that are real numbers, and the gradient of `x / (1 + exp (-x))` in its two spellings. -/
module

public import Idealize.ShloMosaic.Lib.Pipeline.ValueKit
public import Idealize.ShloMosaic.Lib.ReduceAll

@[expose] public section

noncomputable section

open Idealize.ShloMosaic
open scoped BigOperators

namespace Cert.RealEntry

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem isReal_sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

/-- An entry whose magnitude is below infinity is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  have h : max x (-x) < ⊤ := by
    by_contra hn
    rw [htop] at h
    simp only [Ideal.cmp, decide_eq_false hn] at h
    exact absurd h (by decide)
  have h1 : x < ⊤ := lt_of_le_of_lt (le_max_left _ _) h
  have h2 : -x < ⊤ := lt_of_le_of_lt (le_max_right _ _) h
  refine ⟨x.toReal, (EReal.coe_toReal h1.ne fun e => ?_).symm⟩
  rw [e] at h2
  exact absurd h2 (by simp)

/-- The logistic function of a real number is a real number. -/
theorem isReal_sigmoid {x : EReal} (hx : IsReal x) : IsReal (Ideal.div 1 (1 + Ideal.exp (-x))) := by
  obtain ⟨a, rfl⟩ := hx
  have hp : (1 + Real.exp (-a)) ≠ 0 := (add_pos one_pos (Real.exp_pos _)).ne'
  rw [show (1 : EReal) + Ideal.exp (-(a : EReal)) = ((1 + Real.exp (-a) : ℝ) : EReal) by
    rw [← EReal.coe_neg, Ideal.exp_coe, EReal.coe_add, EReal.coe_one], Ideal.div_coe hp, one_mul]
  exact ⟨_, rfl⟩

/-- The gradient through `x / (1 + exp (-x))`, at a real `x` and a real cotangent: the product rule's two terms against one product. -/
theorem silu_grad {x d s : EReal} (hx : IsReal x) (hd : IsReal d) (hs : IsReal s) :
    d * s + x * d * (s * (1 - s)) = d * (s * (1 + x * (1 - s))) := by
  obtain ⟨a, rfl⟩ := hx; obtain ⟨b, rfl⟩ := hd; obtain ⟨t, rfl⟩ := hs
  rw [← EReal.coe_one]
  simp only [← EReal.coe_sub, ← EReal.coe_mul, ← EReal.coe_add]
  congr 1; ring

end Cert.RealEntry

end
-- ==== Proof.FfnBwdPoint.lean ====
/- What one grid point of the feed-forward layer's gradient computes, against the reference's results. -/
module

public import proofs.«01_k».proof.Proof.FfnBwdIdealFrame
public import proofs.«01_k».proof.Proof.FfnBwdRef
public import proofs.«01_k».proof.Proof.RealEntry
public import Idealize.ShloMosaic.Lib.Pipeline.ValueKit

@[expose] public section

set_option maxRecDepth 16384

noncomputable section

open Idealize.ShloMosaic Idealize.ShloMosaic.TcCoe Idealize.SL.Sem
open scoped BigOperators

namespace Cert.FfnBwdIdeal.Body

open Cert.FfnBwdIdeal Cert.FfnBwdIdeal.Gen Cert.FfnBwdRefIdeal.Value Cert.RealEntry

/-- A row of `a` against the weights' column `f` of shard `j`. -/
def proj (a : FVec Ideal S2048x1024 .f32) (w : FVec Ideal S4x704x1024 .f32) (r : Fin 2048) (j : Fin 4) (f : Fin 704) : EReal :=
  ∑ k : Fin 1024, (a (ix2 r k) : EReal) * w (ix3 j f k)

/-- The logistic function. -/
def logistic (x : EReal) : EReal := Ideal.div 1 (1 + Ideal.exp (-x))

section terms
variable (a0 : FVec Ideal S2048x1024 .f32) (a1 a2 a3 : FVec Ideal S4x704x1024 .f32) (a4 : FVec Ideal S2048x1024 .f32)

/-- The cotangent of the gate's projection. -/
def gGate (r : Fin 2048) (j : Fin 4) (f : Fin 704) : EReal :=
  proj a4 a3 r j f * proj a0 a2 r j f * (logistic (proj a0 a1 r j f) * (1 + proj a0 a1 r j f * (1 - logistic (proj a0 a1 r j f))))

/-- The cotangent of the up projection. -/
def gUp (r : Fin 2048) (j : Fin 4) (f : Fin 704) : EReal :=
  proj a4 a3 r j f * (proj a0 a1 r j f * logistic (proj a0 a1 r j f))

/-- The hidden activation. -/
def act (r : Fin 2048) (j : Fin 4) (f : Fin 704) : EReal :=
  proj a0 a1 r j f * logistic (proj a0 a1 r j f) * proj a0 a2 r j f

/-- What shard `j` adds to the gradient of the input. -/
def hPart (r : Fin 2048) (n : Fin 1024) (j : Fin 4) : EReal :=
  (∑ f : Fin 704, gGate a0 a1 a2 a3 a4 r j f * a1 (ix3 j f n)) + ∑ f : Fin 704, gUp a0 a1 a3 a4 r j f * a2 (ix3 j f n)

/-- At real arguments the cotangent of the gate's projection in the reference's spelling. -/
theorem gGate_eq (h0 : ∀ i, IsReal (a0 i)) (h1 : ∀ i, IsReal (a1 i)) (h2 : ∀ i, IsReal (a2 i)) (h3 : ∀ i, IsReal (a3 i))
    (h4 : ∀ i, IsReal (a4 i)) (r : Fin 2048) (j : Fin 4) (f : Fin 704) :
    proj a4 a3 r j f * proj a0 a2 r j f * logistic (proj a0 a1 r j f)
      + proj a0 a1 r j f * (proj a4 a3 r j f * proj a0 a2 r j f) * (logistic (proj a0 a1 r j f) * (1 - logistic (proj a0 a1 r j f)))
      = gGate a0 a1 a2 a3 a4 r j f :=
  have hp : ∀ {a w}, (∀ i, IsReal (a i)) → (∀ i, IsReal (w i)) → IsReal (proj a w r j f) := fun ha hw =>
    isReal_sum _ _ fun k => (ha _).mul (hw _)
  silu_grad (hp h0 h1) ((hp h4 h3).mul (hp h0 h2)) (isReal_sigmoid (hp h0 h1))

theorem ref_22 (h0 : ∀ i, IsReal (a0 i)) (h1 : ∀ i, IsReal (a1 i)) (h2 : ∀ i, IsReal (a2 i)) (h3 : ∀ i, IsReal (a3 i))
    (h4 : ∀ i, IsReal (a4 i)) (r : Fin 2048) (n : Fin 1024) :
    ref_v22 a0 a1 a2 a3 a4 (ix2 r n) = ∑ j : Fin 4, hPart a0 a1 a2 a3 a4 r n j := by
  pointwise [ref_v22]
  simp only [hPart, Finset.sum_add_distrib]
  rw [add_comm]
  refine congr (congrArg _ ?_) ?_
  · refine Fin.sum_divmod_congr (A := 4) (S := 704) fun j f _ => ?_
    rw [← gGate_eq a0 a1 a2 a3 a4 h0 h1 h2 h3 h4]; rfl
  · refine Fin.sum_divmod_congr (A := 4) (S := 704) fun j f _ => ?_
    simp only [gUp, proj, logistic]
    ac_nf

theorem ref_27 (h0 : ∀ i, IsReal (a0 i)) (h1 : ∀ i, IsReal (a1 i)) (h2 : ∀ i, IsReal (a2 i)) (h3 : ∀ i, IsReal (a3 i))
    (h4 : ∀ i, IsReal (a4 i)) (j : Fin 4) (f : Fin 704) (n : Fin 1024) :
    ref_v27 a0 a1 a2 a3 a4 (ix3 j f n) = ∑ r : Fin 2048, gGate a0 a1 a2 a3 a4 r j f * a0 (ix2 r n) := by
  pointwise [ref_v27]
  refine Fin.sum_fin_congr fun r => ?_
  rw [← gGate_eq a0 a1 a2 a3 a4 h0 h1 h2 h3 h4]; rfl

theorem ref_25 (j : Fin 4) (f : Fin 704) (n : Fin 1024) :
    ref_v25 a0 a1 a2 a3 a4 (ix3 j f n) = ∑ r : Fin 2048, gUp a0 a1 a3 a4 r j f * a0 (ix2 r n) := by
  pointwise [ref_v25]
  refine Fin.sum_fin_congr fun r => ?_
  simp only [gUp, proj, logistic]
  ac_nf

theorem ref_23 (j : Fin 4) (f : Fin 704) (n : Fin 1024) :
    ref_v23 a0 a1 a2 a3 a4 (ix3 j f n) = ∑ r : Fin 2048, act a0 a1 a2 r j f * a4 (ix2 r n) := by
  pointwise [ref_v23]
  refine Fin.sum_fin_congr fun r => ?_
  simp only [act, proj, logistic]
  ac_nf

variable (x0 : Vec Ideal S256x1024 .f32) (x1 : Vec Ideal S256x1024 .bf16) (x2 x3 : Vec Ideal S1x256x704 .f32) (x4 x5 x6 : Vec Ideal S1x704x1024 .bf16)
  (z : Vec Ideal S1x704x1024 .f32) (row : Fin 256 → Fin 2048) (j : Fin 4)
  (h0 : ∀ (p : Fin 256) (k : Fin 1024), x0 (ix2 p k) = a4 (ix2 (row p) k))
  (h1 : ∀ (p : Fin 256) (k : Fin 1024), x1 (ix2 p k) = a0 (ix2 (row p) k))
  (h2 : ∀ (p : Fin 256) (f : Fin 704), x2 (ix3 0 p f) = proj a0 a1 (row p) j f)
  (h3 : ∀ (p : Fin 256) (f : Fin 704), x3 (ix3 0 p f) = proj a0 a2 (row p) j f)
  (h4 : ∀ (f : Fin 704) (k : Fin 1024), x4 (ix3 0 f k) = a1 (ix3 j f k))
  (h5 : ∀ (f : Fin 704) (k : Fin 1024), x5 (ix3 0 f k) = a2 (ix3 j f k))
  (h6 : ∀ (f : Fin 704) (k : Fin 1024), x6 (ix3 0 f k) = a3 (ix3 j f k))

include h0 h1 h2 h3 h4 h5 h6

theorem dwg_apply (f : Fin 704) (n : Fin 1024) : dwg x0 x1 x2 x3 x6 z (ix3 0 f n)
    = (z (ix3 0 f n) : EReal) + ∑ p : Fin 256, gGate a0 a1 a2 a3 a4 (row p) j f * a0 (ix2 (row p) n) := by
  unfold dwg; open_payloads
  pointwise [h0, h1, h2, h3, h6]
  simp only [zero_sub]
  rfl

theorem dwu_apply (f : Fin 704) (n : Fin 1024) : dwu x0 x1 x2 x6 z (ix3 0 f n)
    = (z (ix3 0 f n) : EReal) + ∑ p : Fin 256, gUp a0 a1 a3 a4 (row p) j f * a0 (ix2 (row p) n) := by
  unfold dwu; open_payloads
  pointwise [h0, h1, h2, h3, h6]
  simp only [zero_sub]
  rfl

theorem dwd_apply (f : Fin 704) (n : Fin 1024) : dwd x0 x2 x3 z (ix3 0 f n)
    = (z (ix3 0 f n) : EReal) + ∑ p : Fin 256, act a0 a1 a2 (row p) j f * a4 (ix2 (row p) n) := by
  unfold dwd; open_payloads
  pointwise [h0, h1, h2, h3, h6]
  simp only [zero_sub]
  rfl

theorem dh_apply (p : Fin 256) (n : Fin 1024) : dh x0 x2 x3 x4 x5 x6 (ix2 p n) = hPart a0 a1 a2 a3 a4 (row p) n j := by
  unfold dh; open_payloads
  pointwise [h0, h1, h2, h3, h4, h5, h6]
  simp only [zero_sub]
  rfl

end terms

theorem pay2_apply (f : Fin 704) (n : Fin 1024) : k0_pay2 (F := Ideal) (ix3 0 f n) = (0 : EReal) := by open_payloads; pointwise
theorem pay3_apply (f : Fin 704) (n : Fin 1024) : k0_pay3 (F := Ideal) (ix3 0 f n) = (0 : EReal) := by open_payloads; pointwise
theorem pay4_apply (f : Fin 704) (n : Fin 1024) : k0_pay4 (F := Ideal) (ix3 0 f n) = (0 : EReal) := by open_payloads; pointwise
theorem pay1_apply (u v : Vec Ideal S256x1024 .f32) (p : Fin 256) (n : Fin 1024) : k0_pay1 u v (ix2 p n) = (v (ix2 p n) : EReal) + u (ix2 p n) := by
  open_payloads; pointwise

end Cert.FfnBwdIdeal.Body

end
-- ==== Proof.FfnBwdValue.lean ====
/- The arrays the feed-forward layer's gradient leaves, against the reference's results. -/
module

public import proofs.«01_k».proof.Proof.FfnBwdPoint
public import proofs.«01_k».proof.Proof.AccSum
public import proofs.«01_k».proof.Proof.Gen.FfnBwdIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat RDat)
open scoped BigOperators

namespace Cert.FfnBwdIdeal.Body

open Cert.FfnBwdIdeal Cert.FfnBwdIdeal.Gen Cert.FfnBwdRefIdeal.Value Cert.RealEntry

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S4x704x1024 .f32 := m ((c : Thread nD τ).loc main_arg1)
abbrev in2 (c : Dev nD) : FVec Ideal S4x704x1024 .f32 := m ((c : Thread nD τ).loc main_arg2)
abbrev in3 (c : Dev nD) : FVec Ideal S4x704x1024 .f32 := m ((c : Thread nD τ).loc main_arg3)
abbrev in4 (c : Dev nD) : FVec Ideal S2048x1024 .f32 := m ((c : Thread nD τ).loc main_arg4)

/-- Every window's block at every grid point. -/
theorem idx_val : ∀ t : Fin cfg0.N, win0_0.index t = ![t.val % 8, 0]
    ∧ win0_1.index t = ![t.val % 8, 0]
    ∧ win0_2.index t = ![t.val / 8, t.val % 8, 0]
    ∧ win0_3.index t = ![t.val / 8, t.val % 8, 0]
    ∧ win0_4.index t = ![t.val / 8, 0, 0]
    ∧ win0_5.index t = ![t.val / 8, 0, 0]
    ∧ win0_6.index t = ![t.val / 8, 0, 0]
    ∧ win0_7.index t = ![0, 0]
    ∧ win0_8.index t = ![t.val / 8, 0, 0]
    ∧ win0_9.index t = ![t.val / 8, 0, 0]
    ∧ win0_10.index t = ![t.val / 8, 0, 0] :=
  (by decide +kernel : ∀ t : Fin grid0.N, _)

/-- The row of the arrays which row `p` of row tile `i` is. -/
def rowOf (i : Fin 8) (p : Fin 256) : Fin 2048 := ⟨i.val * 256 + p, by omega⟩

/-- The row tile of grid point `t`. -/
def tile (t : Fin cfg0.N) : Fin 8 := ⟨t.val % 8, by omega⟩

/-- The shard of grid point `t`. -/
def shard (t : Fin cfg0.N) : Fin 4 := ⟨t.val / 8, by have := point_lt t; omega⟩

section reads
variable (c : Dev nD) (t : Fin cfg0.N)

theorem read_0 (p : Fin 256) (k : Fin 1024) : (iblk m c 0 t : Vec Ideal S256x1024 .f32) (ix2 p k) = in4 m c (ix2 (rowOf (tile t) p) k) := by
  blk_ext [iblk, V, idx_val t, rowOf, tile]
theorem read_1 (p : Fin 256) (k : Fin 1024) : (iblk m c 1 t : Vec Ideal S256x1024 .bf16) (ix2 p k) = in0 m c (ix2 (rowOf (tile t) p) k) := by
  blk_simp [iblk, idx_val t]; entry_read; pointwise; blk_ext [idx_val t, rowOf, tile]
theorem read_2 (p : Fin 256) (f : Fin 704) : (iblk m c 2 t : Vec Ideal S1x256x704 .f32) (ix3 0 p f) = proj (in0 m c) (in1 m c) (rowOf (tile t) p) (shard t) f := by
  blk_simp [iblk, idx_val t]; entry_read; pointwise [proj]
  refine Fin.sum_fin_congr fun k => ?_
  rw [mul_comm]
  refine congr (congrArg _ ?_) ?_ <;> blk_ext [idx_val t, rowOf, tile, shard]
theorem read_3 (p : Fin 256) (f : Fin 704) : (iblk m c 3 t : Vec Ideal S1x256x704 .f32) (ix3 0 p f) = proj (in0 m c) (in2 m c) (rowOf (tile t) p) (shard t) f := by
  blk_simp [iblk, idx_val t]; entry_read; pointwise [proj]
  refine Fin.sum_fin_congr fun k => ?_
  rw [mul_comm]
  refine congr (congrArg _ ?_) ?_ <;> blk_ext [idx_val t, rowOf, tile, shard]
theorem read_4 (f : Fin 704) (k : Fin 1024) : (iblk m c 4 t : Vec Ideal S1x704x1024 .bf16) (ix3 0 f k) = in1 m c (ix3 (shard t) f k) := by
  blk_simp [iblk, idx_val t]; entry_read; pointwise; blk_ext [idx_val t, shard]
theorem read_5 (f : Fin 704) (k : Fin 1024) : (iblk m c 5 t : Vec Ideal S1x704x1024 .bf16) (ix3 0 f k) = in2 m c (ix3 (shard t) f k) := by
  blk_simp [iblk, idx_val t]; entry_read; pointwise; blk_ext [idx_val t, shard]
theorem read_6 (f : Fin 704) (k : Fin 1024) : (iblk m c 6 t : Vec Ideal S1x704x1024 .bf16) (ix3 0 f k) = in3 m c (ix3 (shard t) f k) := by
  blk_simp [iblk, idx_val t]; entry_read; pointwise; blk_ext [idx_val t, shard]

theorem stepG_apply (z : Vec Ideal S1x704x1024 .f32) (f : Fin 704) (n : Fin 1024) : stepG m c t z (ix3 0 f n)
    = (z (ix3 0 f n) : EReal) + ∑ p : Fin 256, gGate (in0 m c) (in1 m c) (in2 m c) (in3 m c) (in4 m c) (rowOf (tile t) p) (shard t) f * in0 m c (ix2 (rowOf (tile t) p) n) :=
  dwg_apply (in0 m c) (in1 m c) (in2 m c) (in3 m c) (in4 m c) _ _ _ _ _ _ _ z (rowOf (tile t)) (shard t) (read_0 m c t) (read_1 m c t) (read_2 m c t) (read_3 m c t) (read_4 m c t) (read_5 m c t) (read_6 m c t) f n

theorem stepU_apply (z : Vec Ideal S1x704x1024 .f32) (f : Fin 704) (n : Fin 1024) : stepU m c t z (ix3 0 f n)
    = (z (ix3 0 f n) : EReal) + ∑ p : Fin 256, gUp (in0 m c) (in1 m c) (in3 m c) (in4 m c) (rowOf (tile t) p) (shard t) f * in0 m c (ix2 (rowOf (tile t) p) n) :=
  dwu_apply (in0 m c) (in1 m c) (in2 m c) (in3 m c) (in4 m c) _ _ _ (iblk m c 3 t) (iblk m c 4 t) (iblk m c 5 t) _ z (rowOf (tile t)) (shard t) (read_0 m c t) (read_1 m c t) (read_2 m c t) (read_3 m c t) (read_4 m c t) (read_5 m c t) (read_6 m c t) f n

theorem stepD_apply (z : Vec Ideal S1x704x1024 .f32) (f : Fin 704) (n : Fin 1024) : stepD m c t z (ix3 0 f n)
    = (z (ix3 0 f n) : EReal) + ∑ p : Fin 256, act (in0 m c) (in1 m c) (in2 m c) (rowOf (tile t) p) (shard t) f * in4 m c (ix2 (rowOf (tile t) p) n) :=
  dwd_apply (in0 m c) (in1 m c) (in2 m c) (in3 m c) (in4 m c) _ (iblk m c 1 t) _ _ (iblk m c 4 t) (iblk m c 5 t) (iblk m c 6 t) z (rowOf (tile t)) (shard t) (read_0 m c t) (read_1 m c t) (read_2 m c t) (read_3 m c t) (read_4 m c t) (read_5 m c t) (read_6 m c t) f n

theorem part_apply (p : Fin 256) (n : Fin 1024) : part m c t.val (ix2 p n)
    = hPart (in0 m c) (in1 m c) (in2 m c) (in3 m c) (in4 m c) (rowOf (tile t) p) n (shard t) := by
  rw [part_eq m c t]
  exact dh_apply (in0 m c) (in1 m c) (in2 m c) (in3 m c) (in4 m c) _ (iblk m c 1 t) _ _ _ _ _ (rowOf (tile t)) (shard t) (read_0 m c t) (read_1 m c t) (read_2 m c t) (read_3 m c t) (read_4 m c t) (read_5 m c t) (read_6 m c t) p n

end reads

/-- A sum kept over the eight row tiles of a shard, at the last of them. -/
theorem acc_sum (acc : (n : ℕ) → n < cfg0.N → EReal) (g : Fin 8 → Fin 4 → EReal)
    (hz : ∀ t : Fin cfg0.N, t.val % 8 = 0 → acc t.val t.isLt = 0 + g (tile t) (shard t))
    (ha : ∀ t : Fin cfg0.N, ¬ t.val % 8 = 0 → acc t.val t.isLt = acc (t.val - 1) (Nat.lt_of_le_of_lt (Nat.sub_le _ _) t.isLt) + g (tile t) (shard t))
    (t : Fin cfg0.N) (ht : t.val % 8 = 7) : acc t.val t.isLt = ∑ i : Fin 8, g i (shard t) := by
  have hN := point_lt t
  have e : ∀ s : ℕ, s < 8 → ∀ h : 8 * (t.val / 8) + s < cfg0.N,
      g (tile ⟨8 * (t.val / 8) + s, h⟩) (shard ⟨8 * (t.val / 8) + s, h⟩) = g ⟨s % 8, by omega⟩ (shard t) := fun s hs h =>
    congr (congrArg g (Fin.ext (by simp only [tile]; omega))) (Fin.ext (by simp only [shard]; omega))
  refine (AccSum.eq_add_sum_fin (M := EReal) (N := cfg0.N) acc 0 (fun s => g ⟨s % 8, by omega⟩ (shard t))
    8 (8 * (t.val / 8)) (fun h => ?_) (fun s hs h => ?_) (by omega) t.val (by omega) t.isLt).trans ?_
  · exact (hz ⟨8 * (t.val / 8), h⟩ (Nat.mul_mod_right 8 _)).trans (congrArg _ (e 0 (by omega) h))
  · exact (ha ⟨8 * (t.val / 8) + (s + 1), h⟩ (by dsimp only; omega)).trans (congrArg _ (e (s + 1) hs h))
  · rw [zero_add]
    exact Fin.sum_fin_congr fun i => congrArg (fun i => g i (shard t)) (Fin.ext (Nat.mod_eq_of_lt i.isLt))

/-- The sum over all the rows, by row tiles. -/
theorem sum_rows (f : Fin 2048 → EReal) : ∑ i : Fin 8, ∑ p : Fin 256, f (rowOf i p) = ∑ r : Fin 2048, f r :=
  (Fin.sum_divmod_congr (A := 8) (S := 256) (F := f) (f := fun i p => f (rowOf i p)) fun r _ _ =>
    congrArg f (Fin.ext (by simp only [rowOf]; omega))).symm

attribute [local irreducible] accG accU accD

theorem accG_apply (c : Dev nD) (t : Fin cfg0.N) (ht : t.val % 8 = 7) (f : Fin 704) (n : Fin 1024) : accG m c t.val t.isLt (ix3 0 f n)
    = ∑ r : Fin 2048, gGate (in0 m c) (in1 m c) (in2 m c) (in3 m c) (in4 m c) r (shard t) f * in0 m c (ix2 r n) := by
  let g : Fin 2048 → Fin 4 → EReal := fun r j => gGate (in0 m c) (in1 m c) (in2 m c) (in3 m c) (in4 m c) r j f * in0 m c (ix2 r n)
  have hz : ∀ t : Fin cfg0.N, t.val % 8 = 0 → accG m c t.val t.isLt (ix3 0 f n) = 0 + ∑ p : Fin 256, g (rowOf (tile t) p) (shard t) := fun t h =>
    (congrFun (accG_zero m c t h) (ix3 0 f n)).trans ((stepG_apply m c t _ f n).trans (congrArg (· + _) (pay2_apply f n)))
  have ha : ∀ t : Fin cfg0.N, ¬ t.val % 8 = 0 → accG m c t.val t.isLt (ix3 0 f n)
      = accG m c (t.val - 1) (Nat.lt_of_le_of_lt (Nat.sub_le _ _) t.isLt) (ix3 0 f n) + ∑ p : Fin 256, g (rowOf (tile t) p) (shard t) := fun t h =>
    (congrFun (accG_add m c t h) (ix3 0 f n)).trans (stepG_apply m c t _ f n)
  exact (acc_sum (fun k h => accG m c k h (ix3 0 f n)) (fun i j => ∑ p : Fin 256, g (rowOf i p) j) hz ha t ht).trans (sum_rows fun r => g r (shard t))

theorem accU_apply (c : Dev nD) (t : Fin cfg0.N) (ht : t.val % 8 = 7) (f : Fin 704) (n : Fin 1024) : accU m c t.val t.isLt (ix3 0 f n)
    = ∑ r : Fin 2048, gUp (in0 m c) (in1 m c) (in3 m c) (in4 m c) r (shard t) f * in0 m c (ix2 r n) := by
  let g : Fin 2048 → Fin 4 → EReal := fun r j => gUp (in0 m c) (in1 m c) (in3 m c) (in4 m c) r j f * in0 m c (ix2 r n)
  have hz : ∀ t : Fin cfg0.N, t.val % 8 = 0 → accU m c t.val t.isLt (ix3 0 f n) = 0 + ∑ p : Fin 256, g (rowOf (tile t) p) (shard t) := fun t h =>
    (congrFun (accU_zero m c t h) (ix3 0 f n)).trans ((stepU_apply m c t _ f n).trans (congrArg (· + _) (pay3_apply f n)))
  have ha : ∀ t : Fin cfg0.N, ¬ t.val % 8 = 0 → accU m c t.val t.isLt (ix3 0 f n)
      = accU m c (t.val - 1) (Nat.lt_of_le_of_lt (Nat.sub_le _ _) t.isLt) (ix3 0 f n) + ∑ p : Fin 256, g (rowOf (tile t) p) (shard t) := fun t h =>
    (congrFun (accU_add m c t h) (ix3 0 f n)).trans (stepU_apply m c t _ f n)
  exact (acc_sum (fun k h => accU m c k h (ix3 0 f n)) (fun i j => ∑ p : Fin 256, g (rowOf i p) j) hz ha t ht).trans (sum_rows fun r => g r (shard t))

theorem accD_apply (c : Dev nD) (t : Fin cfg0.N) (ht : t.val % 8 = 7) (f : Fin 704) (n : Fin 1024) : accD m c t.val t.isLt (ix3 0 f n)
    = ∑ r : Fin 2048, act (in0 m c) (in1 m c) (in2 m c) r (shard t) f * in4 m c (ix2 r n) := by
  let g : Fin 2048 → Fin 4 → EReal := fun r j => act (in0 m c) (in1 m c) (in2 m c) r j f * in4 m c (ix2 r n)
  have hz : ∀ t : Fin cfg0.N, t.val % 8 = 0 → accD m c t.val t.isLt (ix3 0 f n) = 0 + ∑ p : Fin 256, g (rowOf (tile t) p) (shard t) := fun t h =>
    (congrFun (accD_zero m c t h) (ix3 0 f n)).trans ((stepD_apply m c t _ f n).trans (congrArg (· + _) (pay4_apply f n)))
  have ha : ∀ t : Fin cfg0.N, ¬ t.val % 8 = 0 → accD m c t.val t.isLt (ix3 0 f n)
      = accD m c (t.val - 1) (Nat.lt_of_le_of_lt (Nat.sub_le _ _) t.isLt) (ix3 0 f n) + ∑ p : Fin 256, g (rowOf (tile t) p) (shard t) := fun t h =>
    (congrFun (accD_add m c t h) (ix3 0 f n)).trans (stepD_apply m c t _ f n)
  exact (acc_sum (fun k h => accD m c k h (ix3 0 f n)) (fun i j => ∑ p : Fin 256, g (rowOf i p) j) hz ha t ht).trans (sum_rows fun r => g r (shard t))

/-- A row tile of the gradient of the input once every shard has been added. -/
theorem rowAcc_apply (c : Dev nD) (q : Fin 8) (p : Fin 256) (n : Fin 1024) : rowAcc m c q.val 3 (ix2 p n)
    = ∑ j : Fin 4, hPart (in0 m c) (in1 m c) (in2 m c) (in3 m c) (in4 m c) (rowOf q p) n j := by
  have e : ∀ (j : Fin 4) (k : ℕ), k = 8 * j.val + q.val → part m c k (ix2 p n) = hPart (in0 m c) (in1 m c) (in2 m c) (in3 m c) (in4 m c) (rowOf q p) n j := fun j k hk => by
    have hN : k < cfg0.N := lt_of_lt_of_eq (by omega : k < 32) (show (32 : ℕ) = cfg0.N from N_0.symm)
    refine (part_apply m c ⟨k, hN⟩ p n).trans ?_
    have e1 : tile ⟨k, hN⟩ = q := Fin.ext (by simp only [tile]; omega)
    have e2 : shard ⟨k, hN⟩ = j := Fin.ext (by simp only [shard]; omega)
    rw [e1, e2]
  simp only [rowAcc, pay1_apply]
  rw [e 0 _ (by simp), e 1 _ (by simp), e 2 _ (by simp), e 3 _ (by simp), Fin.sum_univ_four]

section final
variable (c : Dev nD) (h0 : ∀ i, IsReal (in0 m c i)) (h1 : ∀ i, IsReal (in1 m c i)) (h2 : ∀ i, IsReal (in2 m c i))
  (h3 : ∀ i, IsReal (in3 m c i)) (h4 : ∀ i, IsReal (in4 m c i))
  (after : (w : Fin cfg0.W) → (t : Fin cfg0.N) → (cfg0.win w).block.Idx → Elt Ideal (cfg0.win w).elt)
  (hL : ∀ (w : Fin cfg0.W) (t : Fin cfg0.N), (cfg0.win w).flush t = true → (rdat m c).Leaves w t (after w t))

include hL

/-- What a written-back block of a result has. -/
theorem known_after (w : Fin cfg0.W) (hw : isResult w = true) (t : Fin cfg0.N) (hf : (cfg0.win w).flush t = true) : Known m c w t (after w t) :=
  (dat m c).toRRel_leaves hw (hL w t hf)

/-- The gradient of the down weights after the run. -/
theorem final_10 : ((rdat m c).withAfter after).arrAt 10 cfg0.N = ref_v23 (in0 m c) (in1 m c) (in2 m c) (in3 m c) (in4 m c) := by
  refine ((rdat m c).withAfter after).arrAt_eq_of_covers 10 _ (by decide +kernel) fun t hf y => ?_
  have hk : (after 10 t : Vec Ideal S1x704x1024 .f32) = accD m c t.val t.isLt := known_after m c after hL 10 rfl t hf
  have hb := point_lt t
  blk_simp
  rw [RDat.withAfter_after]
  idx_vars y
  obtain rfl : y0 = 0 := Subsingleton.elim _ _
  refine (congrFun hk (ix3 0 y1 y2)).trans ((accD_apply m c t ((flush0_10 t).mp hf) y1 y2).trans ((ref_23 (in0 m c) (in1 m c) (in2 m c) (in3 m c) (in4 m c) (shard t) y1 y2).symm.trans ?_))
  blk_ext [idx_val t, shard]

/-- The gradient of the up weights after the run. -/
theorem final_9 : ((rdat m c).withAfter after).arrAt 9 cfg0.N = ref_v25 (in0 m c) (in1 m c) (in2 m c) (in3 m c) (in4 m c) := by
  refine ((rdat m c).withAfter after).arrAt_eq_of_covers 9 _ (by decide +kernel) fun t hf y => ?_
  have hk : (after 9 t : Vec Ideal S1x704x1024 .f32) = accU m c t.val t.isLt := known_after m c after hL 9 rfl t hf
  have hb := point_lt t
  blk_simp
  rw [RDat.withAfter_after]
  idx_vars y
  obtain rfl : y0 = 0 := Subsingleton.elim _ _
  refine (congrFun hk (ix3 0 y1 y2)).trans ((accU_apply m c t ((flush0_9 t).mp hf) y1 y2).trans ((ref_25 (in0 m c) (in1 m c) (in2 m c) (in3 m c) (in4 m c) (shard t) y1 y2).symm.trans ?_))
  blk_ext [idx_val t, shard]

include h0 h1 h2 h3 h4

/-- The gradient of the gate weights after the run. -/
theorem final_8 : ((rdat m c).withAfter after).arrAt 8 cfg0.N = ref_v27 (in0 m c) (in1 m c) (in2 m c) (in3 m c) (in4 m c) := by
  refine ((rdat m c).withAfter after).arrAt_eq_of_covers 8 _ (by decide +kernel) fun t hf y => ?_
  have hk : (after 8 t : Vec Ideal S1x704x1024 .f32) = accG m c t.val t.isLt := known_after m c after hL 8 rfl t hf
  have hb := point_lt t
  blk_simp
  rw [RDat.withAfter_after]
  idx_vars y
  obtain rfl : y0 = 0 := Subsingleton.elim _ _
  refine (congrFun hk (ix3 0 y1 y2)).trans ((accG_apply m c t ((flush0_8 t).mp hf) y1 y2).trans ((ref_27 (in0 m c) (in1 m c) (in2 m c) (in3 m c) (in4 m c) h0 h1 h2 h3 h4 (shard t) y1 y2).symm.trans ?_))
  blk_ext [idx_val t, shard]

/-- The gradient of the input after the run. -/
theorem final_7 : ((rdat m c).withAfter after).arrAt 7 cfg0.N = ref_v22 (in0 m c) (in1 m c) (in2 m c) (in3 m c) (in4 m c) := by
  refine ((rdat m c).withAfter after).arrAt_eq_of_covers 7 _ (by decide +kernel) fun t hf y => ?_
  have hk : RowsAt m c t.val (after 7 t : Vec Ideal S2048x1024 .f32) := known_after m c after hL 7 rfl t hf
  have hb := point_lt t
  have ht : t.val % 32 = 31 := (flush0_7 t).mp hf
  blk_simp
  rw [RDat.withAfter_after]
  idx_vars y
  let q : Fin 8 := ⟨y0.val / 256, by omega⟩
  let p : Fin 256 := ⟨y0.val % 256, Nat.mod_lt _ (by decide)⟩
  have hy : rowOf q p = y0 := Fin.ext (by simp only [rowOf, q, p]; omega)
  have hr : rows (after 7 t : Vec Ideal S2048x1024 .f32) q = rowAcc m c q 3 := by
    rw [(hk q).1 (by omega), show t.val / 8 = 3 by omega]
  have hx : rows (after 7 t : Vec Ideal S2048x1024 .f32) q (ix2 p y1) = (after 7 t : Vec Ideal S2048x1024 .f32) (ix2 y0 y1) :=
    congrArg (after 7 t : Vec Ideal S2048x1024 .f32) (funext (Fin.forall_fin_two.mpr
      ⟨Fin.ext (by show 256 * q.val + 1 * p.val = y0.val; simp only [q, p]; omega), Fin.ext (by show 0 + 1 * y1.val = y1.val; omega)⟩))
  refine hx.symm.trans ((congrFun hr (ix2 p y1)).trans ((rowAcc_apply m c q p y1).trans
    ((ref_22 (in0 m c) (in1 m c) (in2 m c) (in3 m c) (in4 m c) h0 h1 h2 h3 h4 (rowOf q p) y1).symm.trans ?_)))
  rw [hy]
  blk_ext [idx_val t]

end final

/-- The run, with the results the reference's. -/
theorem run (ρ : Dev nD → PrngReg) (h0 : ∀ c i, IsReal (in0 m c i)) (h1 : ∀ c i, IsReal (in1 m c i)) (h2 : ∀ c i, IsReal (in2 m c i))
    (h3 : ∀ c i, IsReal (in3 m c i)) (h4 : ∀ c i, IsReal (in4 m c i)) :
    θ_run defs (onTc (τ := τ) (main (F := Ideal))) ⟨m, fun _ => 0, ρ⟩ fun r => ∀ c : Dev nD,
      r.2.mem ((c.tc : Thread nD τ).loc main_v8_0) = ref_v22 (in0 m c) (in1 m c) (in2 m c) (in3 m c) (in4 m c)
      ∧ r.2.mem ((c.tc : Thread nD τ).loc main_v8_1) = ref_v27 (in0 m c) (in1 m c) (in2 m c) (in3 m c) (in4 m c)
      ∧ r.2.mem ((c.tc : Thread nD τ).loc main_v8_2) = ref_v25 (in0 m c) (in1 m c) (in2 m c) (in3 m c) (in4 m c)
      ∧ r.2.mem ((c.tc : Thread nD τ).loc main_v8_3) = ref_v23 (in0 m c) (in1 m c) (in2 m c) (in3 m c) (in4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main_quiescent m ρ)
  obtain ⟨after, hL, hA⟩ := h.1.exists_exact c
  exact ⟨(hA 7).trans (final_7 m c (h0 c) (h1 c) (h2 c) (h3 c) (h4 c) after hL),
    (hA 8).trans (final_8 m c (h0 c) (h1 c) (h2 c) (h3 c) (h4 c) after hL),
    (hA 9).trans (final_9 m c after hL), (hA 10).trans (final_10 m c after hL), frame_post m h.1 c⟩

end Cert.FfnBwdIdeal.Body

end
-- ==== Proof.InFwdRef.lean ====
/- The results of the reference `InFwdRefIdeal`, each as one function of the arguments. -/
module

public import proofs.«01_k».proof.Proof.Gen.InFwdRefIdeal
public import proofs.«01_k».proof.Proof.Gen.InFwdRefIdeal.Run
public import Idealize.ShloMosaic.Lib.Pipeline.ValueKit

@[expose] public section

set_option maxRecDepth 16384

noncomputable section

namespace Cert.InFwdRefIdeal.Value

open Cert.InFwdRefIdeal Cert.InFwdRefIdeal.Gen Idealize.ShloMosaic Idealize.ShloMosaic.TcCoe Idealize.SL.Sem

/-- The mean square of every row, and `ε`. -/
def meanSq (a0 : FVec Ideal S2048x1024 .f32) : FVec Ideal S2048x1 .f32 :=
  addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The result `v13`. -/
def ref_v13 (a0 : FVec Ideal S2048x1024 .f32) (a1 : FVec Ideal S1x1024 .f32) (a2 : FVec Ideal S1024x3200 .f32) : FVec Ideal S2048x1536 .f32 :=
  extractStridedSlice S2048x1536 ![0, 0] (Host.dotGeneral dot_S2048x1024_S1024x3200_S2048x3200_1_0_0_1_n_n none (mulf (mulf a0 (broadcastInDim S2048x1024 ![0, 1] bcast_S2048x1_S2048x1024_0_1 (Host.rsqrt (meanSq a0)))) (broadcastInDim S2048x1024 ![0, 1] bcast_S1x1024_S2048x1024_0_1 a1)) a2) slices_S2048x3200_S2048x1536_0_0

/-- The result `v14`. -/
def ref_v14 (a0 : FVec Ideal S2048x1024 .f32) (a1 : FVec Ideal S1x1024 .f32) (a2 : FVec Ideal S1024x3200 .f32) : FVec Ideal S2048x512 .f32 :=
  extractStridedSlice S2048x512 ![0, 1536] (Host.dotGeneral dot_S2048x1024_S1024x3200_S2048x3200_1_0_0_1_n_n none (mulf (mulf a0 (broadcastInDim S2048x1024 ![0, 1] bcast_S2048x1_S2048x1024_0_1 (Host.rsqrt (meanSq a0)))) (broadcastInDim S2048x1024 ![0, 1] bcast_S1x1024_S2048x1024_0_1 a1)) a2) slices_S2048x3200_S2048x512_0_1536

/-- The result `v15`. -/
def ref_v15 (a0 : FVec Ideal S2048x1024 .f32) (a1 : FVec Ideal S1x1024 .f32) (a2 : FVec Ideal S1024x3200 .f32) : FVec Ideal S2048x256 .f32 :=
  extractStridedSlice S2048x256 ![0, 2048] (Host.dotGeneral dot_S2048x1024_S1024x3200_S2048x3200_1_0_0_1_n_n none (mulf (mulf a0 (broadcastInDim S2048x1024 ![0, 1] bcast_S2048x1_S2048x1024_0_1 (Host.rsqrt (meanSq a0)))) (broadcastInDim S2048x1024 ![0, 1] bcast_S1x1024_S2048x1024_0_1 a1)) a2) slices_S2048x3200_S2048x256_0_2048

/-- The result `v16`. -/
def ref_v16 (a0 : FVec Ideal S2048x1024 .f32) (a1 : FVec Ideal S1x1024 .f32) (a2 : FVec Ideal S1024x3200 .f32) : FVec Ideal S2048x768 .f32 :=
  extractStridedSlice S2048x768 ![0, 2304] (Host.dotGeneral dot_S2048x1024_S1024x3200_S2048x3200_1_0_0_1_n_n none (mulf (mulf a0 (broadcastInDim S2048x1024 ![0, 1] bcast_S2048x1_S2048x1024_0_1 (Host.rsqrt (meanSq a0)))) (broadcastInDim S2048x1024 ![0, 1] bcast_S1x1024_S2048x1024_0_1 a1)) a2) slices_S2048x3200_S2048x768_0_2304

/-- The result `v17`. -/
def ref_v17 (a0 : FVec Ideal S2048x1024 .f32) (a1 : FVec Ideal S1x1024 .f32) (a2 : FVec Ideal S1024x3200 .f32) : FVec Ideal S2048x128 .f32 :=
  extractStridedSlice S2048x128 ![0, 3072] (Host.dotGeneral dot_S2048x1024_S1024x3200_S2048x3200_1_0_0_1_n_n none (mulf (mulf a0 (broadcastInDim S2048x1024 ![0, 1] bcast_S2048x1_S2048x1024_0_1 (Host.rsqrt (meanSq a0)))) (broadcastInDim S2048x1024 ![0, 1] bcast_S1x1024_S2048x1024_0_1 a1)) a2) slices_S2048x3200_S2048x128_0_3072

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S1x1024 .f32) (h1 : ∀ c : Dev nD, m ((c.tc : Thread nD τ).loc main_arg1) = x1 c)
    (x2 : Dev nD → FVec Ideal S1024x3200 .f32) (h2 : ∀ c : Dev nD, m ((c.tc : Thread nD τ).loc main_arg2) = x2 c) :
    θ_run defs (onTc (τ := τ) (main (F := Ideal))) ⟨m, fun _ => 0, ρ⟩ fun r => ∀ c : Dev nD,
      r.2.mem ((c.tc : Thread nD τ).loc main_v13) = ref_v13 (x0 c) (x1 c) (x2 c)
      ∧ r.2.mem ((c.tc : Thread nD τ).loc main_v14) = ref_v14 (x0 c) (x1 c) (x2 c)
      ∧ r.2.mem ((c.tc : Thread nD τ).loc main_v15) = ref_v15 (x0 c) (x1 c) (x2 c)
      ∧ r.2.mem ((c.tc : Thread nD τ).loc main_v16) = ref_v16 (x0 c) (x1 c) (x2 c)
      ∧ r.2.mem ((c.tc : Thread nD τ).loc main_v17) = ref_v17 (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  exact (θ_run _ _ _).mono (fun r h c => ⟨(h c).1, (h c).2.1, (h c).2.2.1, (h c).2.2.2.1, (h c).2.2.2.2.1, (h c).2.2.2.2.2⟩) (run m ρ)

end Cert.InFwdRefIdeal.Value

end
-- ==== Proof.RmsEntry.lean ====
/- One row through the root-mean-square normalisation, and its gradient in two spellings. -/
module

public import proofs.«01_k».proof.Proof.RealEntry

@[expose] public section

noncomputable section

open Idealize.ShloMosaic
open scoped BigOperators

namespace Cert.RmsEntry

open Cert.RealEntry

/-- The mean square of a row, and `ε`. -/
def meanSq (v : Fin 1024 → EReal) : EReal :=
  Ideal.div (∑ k, v k * v k) (Ideal.ofBits .f32 0x44800000#32) + Ideal.ofBits .f32 0x358637BD#32

/-- What the normalisation hands back of the cotangent `d` to entry `n` of the row `v`. -/
def back (v d : Fin 1024 → EReal) (n : Fin 1024) : EReal :=
  Ideal.rsqrt (meanSq v) * (d n - v n * Ideal.rsqrt (meanSq v)
    * Ideal.div (∑ k, d k * (v k * Ideal.rsqrt (meanSq v))) (Ideal.ofBits .f32 0x44800000#32))

/-- What the square's derivative takes of the cotangent `d`. -/
def share (v d : Fin 1024 → EReal) : EReal :=
  Ideal.div ((∑ k, v k * d k) * (Ideal.ofBits .f32 0xBF000000#32 * Ideal.div (Ideal.rsqrt (meanSq v)) (meanSq v))) (Ideal.ofBits .f32 0x44800000#32)

theorem n_coe : Ideal.ofBits .f32 0x44800000#32 = ((1024 : ℝ) : EReal) := by
  simp [Ideal.ofBits, Ideal.ieee]; norm_num; rw [← EReal.coe_mul]; norm_num

theorem half_coe : Ideal.ofBits .f32 0xBF000000#32 = ((-(1 / 2) : ℝ) : EReal) := by
  simp [Ideal.ofBits, Ideal.ieee]; norm_num; rw [← EReal.coe_mul]; norm_num

theorem eps_coe : ∃ e : ℝ, 0 < e ∧ Ideal.ofBits .f32 0x358637BD#32 = (e : EReal) := by
  refine ⟨8796093 * (1 / 8796093022208), by norm_num, ?_⟩
  simp [Ideal.ofBits, Ideal.ieee]; norm_num

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The mean square of a row of real numbers is a positive real number. -/
theorem meanSq_coe (x : Fin 1024 → ℝ) : ∃ q : ℝ, 0 < q ∧ meanSq (fun k => (x k : EReal)) = (q : EReal) := by
  obtain ⟨e, he, hE⟩ := eps_coe
  refine ⟨(∑ k, x k * x k) * (1 / 1024) + e, by
    have : 0 ≤ ∑ k, x k * x k := Finset.sum_nonneg fun k _ => mul_self_nonneg _
    positivity, ?_⟩
  simp only [meanSq, hE, n_coe, ← EReal.coe_mul, ← coe_sum]
  rw [Ideal.div_coe (by norm_num), ← EReal.coe_mul, ← EReal.coe_add]

/-- The product rule's terms through the normalisation, against one bracket, for rows of real numbers. -/
theorem back_eq (v d : Fin 1024 → EReal) (hv : ∀ k, IsReal (v k)) (hd : ∀ k, IsReal (d k)) (n : Fin 1024) :
    d n * Ideal.rsqrt (meanSq v) + v n * share v d + share v d * v n = back v d n := by
  choose x hx using hv
  choose y hy using hd
  obtain rfl : v = fun k => (x k : EReal) := funext hx
  obtain rfl : d = fun k => (y k : EReal) := funext hy
  obtain ⟨q, hq, hQ⟩ := meanSq_coe x
  have hs : 0 < Real.sqrt q := Real.sqrt_pos.mpr hq
  have hr : Ideal.rsqrt (q : EReal) = (((Real.sqrt q)⁻¹ : ℝ) : EReal) := by
    simp [Ideal.rsqrt_coe, hq.ne', not_lt.mpr hq.le]
  simp only [share, back, hQ, hr, n_coe, half_coe, ← EReal.coe_mul, ← coe_sum]
  simp only [Ideal.div_coe hq.ne', Ideal.div_coe (show (1024 : ℝ) ≠ 0 by norm_num), ← EReal.coe_mul, ← EReal.coe_add, ← EReal.coe_sub]
  congr 1
  have h1 : (1 / q : ℝ) = (Real.sqrt q)⁻¹ * (Real.sqrt q)⁻¹ := by
    rw [← mul_inv, Real.mul_self_sqrt hq.le, one_div]
  have h2 : ∑ k, y k * (x k * (Real.sqrt q)⁻¹) = (∑ k, x k * y k) * (Real.sqrt q)⁻¹ := by
    rw [Finset.sum_mul]
    exact Finset.sum_congr rfl fun k _ => by ring
  rw [h1, h2]
  ring

end Cert.RmsEntry

end
-- ==== Proof.InFwdValue.lean ====
/- The arrays the input projection leaves, against the reference's results. -/
module

public import proofs.«01_k».proof.Proof.Gen.InFwdIdeal.Value
public import proofs.«01_k».proof.Proof.InFwdRef
public import proofs.«01_k».proof.Proof.RmsEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InFwdIdeal.Value

open Cert.InFwdIdeal Cert.InFwdIdeal.Gen Cert.InFwdRefIdeal.Value

/-- The normalised row `r` against the weights' column `n`. -/
def proj (a0 : FVec Ideal S2048x1024 .f32) (a1 : FVec Ideal S1x1024 .f32) (a2 : FVec Ideal S1024x3200 .f32) (r : Fin 2048) (n : Fin 3200) : EReal :=
  ∑ k : Fin 1024, a0 (ix2 r k) * Ideal.rsqrt (RmsEntry.meanSq fun k => a0 (ix2 r k)) * a1 (ix2 0 k) * a2 (ix2 k n)

theorem ref_13 (a0 : FVec Ideal S2048x1024 .f32) (a1 : FVec Ideal S1x1024 .f32) (a2 : FVec Ideal S1024x3200 .f32) (r : Fin 2048) (n : Fin 1536) :
    ref_v13 a0 a1 a2 (ix2 r n) = proj a0 a1 a2 r ⟨0 + n, by omega⟩ := by
  pointwise [ref_v13, Cert.InFwdRefIdeal.Value.meanSq, proj, RmsEntry.meanSq]

theorem ref_14 (a0 : FVec Ideal S2048x1024 .f32) (a1 : FVec Ideal S1x1024 .f32) (a2 : FVec Ideal S1024x3200 .f32) (r : Fin 2048) (n : Fin 512) :
    ref_v14 a0 a1 a2 (ix2 r n) = proj a0 a1 a2 r ⟨1536 + n, by omega⟩ := by
  pointwise [ref_v14, Cert.InFwdRefIdeal.Value.meanSq, proj, RmsEntry.meanSq]

theorem ref_15 (a0 : FVec Ideal S2048x1024 .f32) (a1 : FVec Ideal S1x1024 .f32) (a2 : FVec Ideal S1024x3200 .f32) (r : Fin 2048) (n : Fin 256) :
    ref_v15 a0 a1 a2 (ix2 r n) = proj a0 a1 a2 r ⟨2048 + n, by omega⟩ := by
  pointwise [ref_v15, Cert.InFwdRefIdeal.Value.meanSq, proj, RmsEntry.meanSq]

theorem ref_16 (a0 : FVec Ideal S2048x1024 .f32) (a1 : FVec Ideal S1x1024 .f32) (a2 : FVec Ideal S1024x3200 .f32) (r : Fin 2048) (n : Fin 768) :
    ref_v16 a0 a1 a2 (ix2 r n) = proj a0 a1 a2 r ⟨2304 + n, by omega⟩ := by
  pointwise [ref_v16, Cert.InFwdRefIdeal.Value.meanSq, proj, RmsEntry.meanSq]

theorem ref_17 (a0 : FVec Ideal S2048x1024 .f32) (a1 : FVec Ideal S1x1024 .f32) (a2 : FVec Ideal S1024x3200 .f32) (r : Fin 2048) (n : Fin 128) :
    ref_v17 a0 a1 a2 (ix2 r n) = proj a0 a1 a2 r ⟨3072 + n, by omega⟩ := by
  pointwise [ref_v17, Cert.InFwdRefIdeal.Value.meanSq, proj, RmsEntry.meanSq]

section blocks

variable (a0 : FVec Ideal S2048x1024 .f32) (a1 : FVec Ideal S1x1024 .f32) (a2 : FVec Ideal S1024x3200 .f32)
  (x0 : Vec Ideal S512x1024 .f32) (x1 : Vec Ideal S1x1024 .f32) (x2 : Vec Ideal S1024x3200 .bf16) (row : Fin 512 → Fin 2048)
  (h0 : ∀ (i : Fin 512) (k : Fin 1024), x0 (ix2 i k) = a0 (ix2 (row i) k))
  (h1 : ∀ (k : Fin 1024), x1 (ix2 0 k) = a1 (ix2 0 k))
  (h2 : ∀ (k : Fin 1024) (n : Fin 3200), x2 (ix2 k n) = a2 (ix2 k n))

include h0 h1 h2

theorem pure_3 (p : Fin 512) (n : Fin 1536) : out0_3 x0 x1 x2 (ix2 p n) = proj a0 a1 a2 (row p) ⟨0 + n, by omega⟩ := by
  frame_out
  open_payloads
  pointwise [proj, RmsEntry.meanSq, h0, h1, h2]

theorem pure_4 (p : Fin 512) (n : Fin 512) : out0_4 x0 x1 x2 (ix2 p n) = proj a0 a1 a2 (row p) ⟨1536 + n, by omega⟩ := by
  frame_out
  open_payloads
  pointwise [proj, RmsEntry.meanSq, h0, h1, h2]

theorem pure_5 (p : Fin 512) (n : Fin 256) : out0_5 x0 x1 x2 (ix2 p n) = proj a0 a1 a2 (row p) ⟨2048 + n, by omega⟩ := by
  frame_out
  open_payloads
  pointwise [proj, RmsEntry.meanSq, h0, h1, h2]

theorem pure_6 (p : Fin 512) (n : Fin 768) : out0_6 x0 x1 x2 (ix2 p n) = proj a0 a1 a2 (row p) ⟨2304 + n, by omega⟩ := by
  frame_out
  open_payloads
  pointwise [proj, RmsEntry.meanSq, h0, h1, h2]

theorem pure_7 (p : Fin 512) (n : Fin 128) : out0_7 x0 x1 x2 (ix2 p n) = proj a0 a1 a2 (row p) ⟨3072 + n, by omega⟩ := by
  frame_out
  open_payloads
  pointwise [proj, RmsEntry.meanSq, h0, h1, h2]

end blocks

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S1x1024 .f32 := m ((c : Thread nD τ).loc main_arg1)
abbrev in2 (c : Dev nD) : FVec Ideal S1024x3200 .f32 := m ((c : Thread nD τ).loc main_arg2)

/-- Every window's block at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

variable (c : Dev nD) (t : Fin cfg0.N)

theorem read_0 (i : Fin 512) (k : Fin 1024) : (iblk m c 0 t : Vec Ideal S512x1024 .f32) (ix2 i k) = in0 m c (ix2 (row t i) k) := by
  blk_ext [iblk, V, idx_val t, row]
theorem read_1 (k : Fin 1024) : (iblk m c 1 t : Vec Ideal S1x1024 .f32) (ix2 0 k) = in1 m c (ix2 0 k) := by
  blk_ext [iblk, V, idx_val t]
theorem read_2 (k : Fin 1024) (n : Fin 3200) : (iblk m c 2 t : Vec Ideal S1024x3200 .bf16) (ix2 k n) = in2 m c (ix2 k n) := by
  blk_simp [iblk, idx_val t]; entry_read; pointwise; blk_ext [idx_val t]

/-- The array of output window 3 after the run. -/
theorem final_3 (c : Dev nD) : (dats m 0 c).arrAt 3 (cfgs 0).N = ref_v13 (in0 m c) (in1 m c) (in2 m c) := by
  refine (dats m 0 c).arrAt_eq_of_covers 3 _ (by decide +kernel) fun t hf y => ?_
  blk_simp; rw [after0_3]
  have hb : (t : ℕ) < 4 := t.isLt
  idx_vars y
  refine (pure_3 (in0 m c) (in1 m c) (in2 m c) _ _ _ (row t) (read_0 m c t) (read_1 m c t) (read_2 m c t) y0 y1).trans
    ((ref_13 (in0 m c) (in1 m c) (in2 m c) (row t y0) y1).symm.trans ?_)
  blk_ext [idx_val t, row]

/-- The array of output window 4 after the run. -/
theorem final_4 (c : Dev nD) : (dats m 0 c).arrAt 4 (cfgs 0).N = ref_v14 (in0 m c) (in1 m c) (in2 m c) := by
  refine (dats m 0 c).arrAt_eq_of_covers 4 _ (by decide +kernel) fun t hf y => ?_
  blk_simp; rw [after0_4]
  have hb : (t : ℕ) < 4 := t.isLt
  idx_vars y
  refine (pure_4 (in0 m c) (in1 m c) (in2 m c) _ _ _ (row t) (read_0 m c t) (read_1 m c t) (read_2 m c t) y0 y1).trans
    ((ref_14 (in0 m c) (in1 m c) (in2 m c) (row t y0) y1).symm.trans ?_)
  blk_ext [idx_val t, row]

/-- The array of output window 5 after the run. -/
theorem final_5 (c : Dev nD) : (dats m 0 c).arrAt 5 (cfgs 0).N = ref_v15 (in0 m c) (in1 m c) (in2 m c) := by
  refine (dats m 0 c).arrAt_eq_of_covers 5 _ (by decide +kernel) fun t hf y => ?_
  blk_simp; rw [after0_5]
  have hb : (t : ℕ) < 4 := t.isLt
  idx_vars y
  refine (pure_5 (in0 m c) (in1 m c) (in2 m c) _ _ _ (row t) (read_0 m c t) (read_1 m c t) (read_2 m c t) y0 y1).trans
    ((ref_15 (in0 m c) (in1 m c) (in2 m c) (row t y0) y1).symm.trans ?_)
  blk_ext [idx_val t, row]

/-- The array of output window 6 after the run. -/
theorem final_6 (c : Dev nD) : (dats m 0 c).arrAt 6 (cfgs 0).N = ref_v16 (in0 m c) (in1 m c) (in2 m c) := by
  refine (dats m 0 c).arrAt_eq_of_covers 6 _ (by decide +kernel) fun t hf y => ?_
  blk_simp; rw [after0_6]
  have hb : (t : ℕ) < 4 := t.isLt
  idx_vars y
  refine (pure_6 (in0 m c) (in1 m c) (in2 m c) _ _ _ (row t) (read_0 m c t) (read_1 m c t) (read_2 m c t) y0 y1).trans
    ((ref_16 (in0 m c) (in1 m c) (in2 m c) (row t y0) y1).symm.trans ?_)
  blk_ext [idx_val t, row]

/-- The array of output window 7 after the run. -/
theorem final_7 (c : Dev nD) : (dats m 0 c).arrAt 7 (cfgs 0).N = ref_v17 (in0 m c) (in1 m c) (in2 m c) := by
  refine (dats m 0 c).arrAt_eq_of_covers 7 _ (by decide +kernel) fun t hf y => ?_
  blk_simp; rw [after0_7]
  have hb : (t : ℕ) < 4 := t.isLt
  idx_vars y
  refine (pure_7 (in0 m c) (in1 m c) (in2 m c) _ _ _ (row t) (read_0 m c t) (read_1 m c t) (read_2 m c t) y0 y1).trans
    ((ref_17 (in0 m c) (in1 m c) (in2 m c) (row t y0) y1).symm.trans ?_)
  blk_ext [idx_val t, row]

end Cert.InFwdIdeal.Value

end
-- ==== Proof.InBwdRef.lean ====
/- The results of the reference `InBwdRefIdeal`, each as one function of the arguments. -/
module

public import proofs.«01_k».proof.Proof.Gen.InBwdRefIdeal
public import proofs.«01_k».proof.Proof.Gen.InBwdRefIdeal.Run
public import Idealize.ShloMosaic.Lib.Pipeline.ValueKit

@[expose] public section

set_option maxRecDepth 16384

noncomputable section

namespace Cert.InBwdRefIdeal.Value

open Cert.InBwdRefIdeal Cert.InBwdRefIdeal.Gen Idealize.ShloMosaic Idealize.ShloMosaic.TcCoe Idealize.SL.Sem

/-- The cotangents of the columns in a row. -/
def seven (a3 : FVec Ideal S2048x1536 .f32) (a4 : FVec Ideal S2048x512 .f32) (a5 : FVec Ideal S2048x256 .f32) (a6 : FVec Ideal S2048x256 .f32) (a7 : FVec Ideal S2048x256 .f32) (a8 : FVec Ideal S2048x256 .f32) (a9 : FVec Ideal S2048x128 .f32) : FVec Ideal S2048x3200 .f32 :=
  (concatenate S2048x3200 1 [⟨S2048x1536, (a3 : (⟨S2048x1536, .f32⟩ : BufTy).Contents (Elt Ideal))⟩, ⟨S2048x512, (a4 : (⟨S2048x512, .f32⟩ : BufTy).Contents (Elt Ideal))⟩, ⟨S2048x256, (a5 : (⟨S2048x256, .f32⟩ : BufTy).Contents (Elt Ideal))⟩, ⟨S2048x256, (a6 : (⟨S2048x256, .f32⟩ : BufTy).Contents (Elt Ideal))⟩, ⟨S2048x256, (a7 : (⟨S2048x256, .f32⟩ : BufTy).Contents (Elt Ideal))⟩, ⟨S2048x256, (a8 : (⟨S2048x256, .f32⟩ : BufTy).Contents (Elt Ideal))⟩, ⟨S2048x128, (a9 : (⟨S2048x128, .f32⟩ : BufTy).Contents (Elt Ideal))⟩] concatenates_S2048x1536_S2048x512_S2048x256_S2048x256_S2048x256_S2048x256_S2048x128_S2048x3200_d1 : (⟨S2048x3200, .f32⟩ : BufTy).Contents (Elt Ideal))

/-- The mean square of every row, and `ε`. -/
def meanSq (a0 : FVec Ideal S2048x1024 .f32) : FVec Ideal S2048x1 .f32 :=
  addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The result `v46`. -/
def ref_v46 (a0 : FVec Ideal S2048x1024 .f32) (a1 : FVec Ideal S1x1024 .f32) (a2 : FVec Ideal S1024x3200 .f32) (a3 : FVec Ideal S2048x1536 .f32) (a4 : FVec Ideal S2048x512 .f32) (a5 : FVec Ideal S2048x256 .f32) (a6 : FVec Ideal S2048x256 .f32) (a7 : FVec Ideal S2048x256 .f32) (a8 : FVec Ideal S2048x256 .f32) (a9 : FVec Ideal S2048x128 .f32) (a10 : FVec Ideal S2048x1024 .f32) : FVec Ideal S2048x1024 .f32 :=
  addf a10 (addf (addf (mulf (mulf (Host.dotGeneral dot_S2048x3200_S1024x3200_S2048x1024_1_1_0_0_n_n none (seven a3 a4 a5 a6 a7 a8 a9) a2) (broadcastInDim S2048x1024 ![0, 1] bcast_S1x1024_S2048x1024_0_1 a1)) (broadcastInDim S2048x1024 ![0, 1] bcast_S2048x1_S2048x1024_0_1 (Host.rsqrt (meanSq a0)))) (mulf a0 (broadcastInDim S2048x1024 ![0] bcast_S2048_S2048x1024_0 (Host.reduceAdd (Host.divf (mulf (shapeCast _ (Host.reduceAdd (mulf a0 (mulf (Host.dotGeneral dot_S2048x3200_S1024x3200_S2048x1024_1_1_0_0_n_n none (seven a3 a4 a5 a6 a7 a8 a9) a2) (broadcastInDim S2048x1024 ![0, 1] bcast_S1x1024_S2048x1024_0_1 a1))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq a0)) (meanSq a0)))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf a0 (mulf (Host.dotGeneral dot_S2048x3200_S1024x3200_S2048x1024_1_1_0_0_n_n none (seven a3 a4 a5 a6 a7 a8 a9) a2) (broadcastInDim S2048x1024 ![0, 1] bcast_S1x1024_S2048x1024_0_1 a1))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq a0)) (meanSq a0)))) (broadcastInDim S2048x1 ![] bcast_S_S2048x1 (constant S_ .f32 0x44800000#32))) (constant S_ .f32 0x00000000#32) reducesTo_S2048x1_S2048_d1 h_S_)) a0))

/-- The result `v25`. -/
def ref_v25 (a0 : FVec Ideal S2048x1024 .f32) (a1 : FVec Ideal S1x1024 .f32) (a2 : FVec Ideal S1024x3200 .f32) (a3 : FVec Ideal S2048x1536 .f32) (a4 : FVec Ideal S2048x512 .f32) (a5 : FVec Ideal S2048x256 .f32) (a6 : FVec Ideal S2048x256 .f32) (a7 : FVec Ideal S2048x256 .f32) (a8 : FVec Ideal S2048x256 .f32) (a9 : FVec Ideal S2048x128 .f32) (a10 : FVec Ideal S2048x1024 .f32) : FVec Ideal S1024x3200 .f32 :=
  transpose S1024x3200 [1, 0] (Host.dotGeneral dot_S2048x3200_S2048x1024_S3200x1024_0_0_1_1_n_n none (seven a3 a4 a5 a6 a7 a8 a9) (mulf (mulf a0 (broadcastInDim S2048x1024 ![0, 1] bcast_S2048x1_S2048x1024_0_1 (Host.rsqrt (meanSq a0)))) (broadcastInDim S2048x1024 ![0, 1] bcast_S1x1024_S2048x1024_0_1 a1))) transposes_S3200x1024_S1024x3200_1_0

/-- The result `v29`. -/
def ref_v29 (a0 : FVec Ideal S2048x1024 .f32) (a1 : FVec Ideal S1x1024 .f32) (a2 : FVec Ideal S1024x3200 .f32) (a3 : FVec Ideal S2048x1536 .f32) (a4 : FVec Ideal S2048x512 .f32) (a5 : FVec Ideal S2048x256 .f32) (a6 : FVec Ideal S2048x256 .f32) (a7 : FVec Ideal S2048x256 .f32) (a8 : FVec Ideal S2048x256 .f32) (a9 : FVec Ideal S2048x128 .f32) (a10 : FVec Ideal S2048x1024 .f32) : FVec Ideal S1x1024 .f32 :=
  shapeCast _ (Host.reduceAdd (mulf (mulf a0 (broadcastInDim S2048x1024 ![0, 1] bcast_S2048x1_S2048x1024_0_1 (Host.rsqrt (meanSq a0)))) (Host.dotGeneral dot_S2048x3200_S1024x3200_S2048x1024_1_1_0_0_n_n none (seven a3 a4 a5 a6 a7 a8 a9) a2)) (constant S_ .f32 0x00000000#32) reducesTo_S2048x1024_S1024_d0 h_S_) shapeCasts_S1024_S1x1024

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S1x1024 .f32) (h1 : ∀ c : Dev nD, m ((c.tc : Thread nD τ).loc main_arg1) = x1 c)
    (x2 : Dev nD → FVec Ideal S1024x3200 .f32) (h2 : ∀ c : Dev nD, m ((c.tc : Thread nD τ).loc main_arg2) = x2 c)
    (x3 : Dev nD → FVec Ideal S2048x1536 .f32) (h3 : ∀ c : Dev nD, m ((c.tc : Thread nD τ).loc main_arg3) = x3 c)
    (x4 : Dev nD → FVec Ideal S2048x512 .f32) (h4 : ∀ c : Dev nD, m ((c.tc : Thread nD τ).loc main_arg4) = x4 c)
    (x5 : Dev nD → FVec Ideal S2048x256 .f32) (h5 : ∀ c : Dev nD, m ((c.tc : Thread nD τ).loc main_arg5) = x5 c)
    (x6 : Dev nD → FVec Ideal S2048x256 .f32) (h6 : ∀ c : Dev nD, m ((c.tc : Thread nD τ).loc main_arg6) = x6 c)
    (x7 : Dev nD → FVec Ideal S2048x256 .f32) (h7 : ∀ c : Dev nD, m ((c.tc : Thread nD τ).loc main_arg7) = x7 c)
    (x8 : Dev nD → FVec Ideal S2048x256 .f32) (h8 : ∀ c : Dev nD, m ((c.tc : Thread nD τ).loc main_arg8) = x8 c)
    (x9 : Dev nD → FVec Ideal S2048x128 .f32) (h9 : ∀ c : Dev nD, m ((c.tc : Thread nD τ).loc main_arg9) = x9 c)
    (x10 : Dev nD → FVec Ideal S2048x1024 .f32) (h10 : ∀ c : Dev nD, m ((c.tc : Thread nD τ).loc main_arg10) = x10 c) :
    θ_run defs (onTc (τ := τ) (main (F := Ideal))) ⟨m, fun _ => 0, ρ⟩ fun r => ∀ c : Dev nD,
      r.2.mem ((c.tc : Thread nD τ).loc main_v46) = ref_v46 (x0 c) (x1 c) (x2 c) (x3 c) (x4 c) (x5 c) (x6 c) (x7 c) (x8 c) (x9 c) (x10 c)
      ∧ r.2.mem ((c.tc : Thread nD τ).loc main_v25) = ref_v25 (x0 c) (x1 c) (x2 c) (x3 c) (x4 c) (x5 c) (x6 c) (x7 c) (x8 c) (x9 c) (x10 c)
      ∧ r.2.mem ((c.tc : Thread nD τ).loc main_v29) = ref_v29 (x0 c) (x1 c) (x2 c) (x3 c) (x4 c) (x5 c) (x6 c) (x7 c) (x8 c) (x9 c) (x10 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  obtain rfl : x4 = fun c : Dev nD => m ((c.tc : Thread nD τ).loc main_arg4) := funext fun c => (h4 c).symm
  obtain rfl : x5 = fun c : Dev nD => m ((c.tc : Thread nD τ).loc main_arg5) := funext fun c => (h5 c).symm
  obtain rfl : x6 = fun c : Dev nD => m ((c.tc : Thread nD τ).loc main_arg6) := funext fun c => (h6 c).symm
  obtain rfl : x7 = fun c : Dev nD => m ((c.tc : Thread nD τ).loc main_arg7) := funext fun c => (h7 c).symm
  obtain rfl : x8 = fun c : Dev nD => m ((c.tc : Thread nD τ).loc main_arg8) := funext fun c => (h8 c).symm
  obtain rfl : x9 = fun c : Dev nD => m ((c.tc : Thread nD τ).loc main_arg9) := funext fun c => (h9 c).symm
  obtain rfl : x10 = fun c : Dev nD => m ((c.tc : Thread nD τ).loc main_arg10) := funext fun c => (h10 c).symm
  exact (θ_run _ _ _).mono (fun r h c => ⟨(h c).1, (h c).2.1, (h c).2.2.1, (h c).2.2.2⟩) (run m ρ)

end Cert.InBwdRefIdeal.Value

end
-- ==== Proof.InBwdPoint.lean ====
/- What one grid point of the input projection's gradient computes, against the reference's results. -/
module

public import proofs.«01_k».proof.Proof.Gen.InBwdIdeal.Value
public import proofs.«01_k».proof.Proof.InBwdRef
public import proofs.«01_k».proof.Proof.RmsEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InBwdIdeal.Value

open Cert.InBwdIdeal Cert.InBwdIdeal.Gen Cert.InBwdRefIdeal.Value Cert.RealEntry

section terms

variable (a0 : FVec Ideal S2048x1024 .f32) (a1 : FVec Ideal S1x1024 .f32) (a2 : FVec Ideal S1024x3200 .f32)
  (a3 : FVec Ideal S2048x1536 .f32) (a4 : FVec Ideal S2048x512 .f32) (a5 a6 a7 a8 : FVec Ideal S2048x256 .f32)
  (a9 : FVec Ideal S2048x128 .f32) (a10 : FVec Ideal S2048x1024 .f32)

/-- Entry `n` of the seven cotangents of row `r`, side by side. -/
def cot (r : Fin 2048) (n : Fin 3200) : EReal :=
  if h : n.val < 1536 then a3 (ix2 r ⟨n.val, h⟩)
  else if h : n.val - 1536 < 512 then a4 (ix2 r ⟨n.val - 1536, h⟩)
  else if h : n.val - 1536 - 512 < 256 then a5 (ix2 r ⟨n.val - 1536 - 512, h⟩)
  else if h : n.val - 1536 - 512 - 256 < 256 then a6 (ix2 r ⟨n.val - 1536 - 512 - 256, h⟩)
  else if h : n.val - 1536 - 512 - 256 - 256 < 256 then a7 (ix2 r ⟨n.val - 1536 - 512 - 256 - 256, h⟩)
  else if h : n.val - 1536 - 512 - 256 - 256 - 256 < 256 then a8 (ix2 r ⟨n.val - 1536 - 512 - 256 - 256 - 256, h⟩)
  else a9 (ix2 r ⟨n.val - 1536 - 512 - 256 - 256 - 256 - 256, by omega⟩)

/-- Row `r` of the input. -/
def rowOf (r : Fin 2048) (k : Fin 1024) : EReal := a0 (ix2 r k)

/-- The cotangent of the normalised and scaled input. -/
def dh (r : Fin 2048) (n : Fin 1024) : EReal := ∑ k : Fin 3200, cot a3 a4 a5 a6 a7 a8 a9 r k * a2 (ix2 n k)

/-- The normalised and scaled input. -/
def hid (r : Fin 2048) (n : Fin 1024) : EReal := a0 (ix2 r n) * Ideal.rsqrt (RmsEntry.meanSq (rowOf a0 r)) * a1 (ix2 0 n)

/-- The cotangent of the normalised input. -/
def dn (r : Fin 2048) (n : Fin 1024) : EReal := dh a2 a3 a4 a5 a6 a7 a8 a9 r n * a1 (ix2 0 n)

/-- What row `r` adds to the gradient of the weights. -/
def dwPart (k : Fin 1024) (n : Fin 3200) (r : Fin 2048) : EReal := hid a0 a1 r k * cot a3 a4 a5 a6 a7 a8 a9 r n

/-- What row `r` adds to the gradient of the scale. -/
def dgPart (n : Fin 1024) (r : Fin 2048) : EReal :=
  dh a2 a3 a4 a5 a6 a7 a8 a9 r n * (a0 (ix2 r n) * Ideal.rsqrt (RmsEntry.meanSq (rowOf a0 r)))

theorem isReal_cot (h3 : ∀ i, IsReal (a3 i)) (h4 : ∀ i, IsReal (a4 i)) (h5 : ∀ i, IsReal (a5 i)) (h6 : ∀ i, IsReal (a6 i))
    (h7 : ∀ i, IsReal (a7 i)) (h8 : ∀ i, IsReal (a8 i)) (h9 : ∀ i, IsReal (a9 i)) (r : Fin 2048) (n : Fin 3200) :
    IsReal (cot a3 a4 a5 a6 a7 a8 a9 r n) := by
  unfold cot
  split_ifs
  · exact h3 _
  · exact h4 _
  · exact h5 _
  · exact h6 _
  · exact h7 _
  · exact h8 _
  · exact h9 _

theorem seven_at (r : Fin 2048) (n : Fin 3200) : seven a3 a4 a5 a6 a7 a8 a9 (ix2 r n) = cot a3 a4 a5 a6 a7 a8 a9 r n := by
  pointwise [seven, cot]

theorem ref_46 (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (h9 : ∀ i, IsReal (a9 i))
    (r : Fin 2048) (n : Fin 1024) :
    ref_v46 a0 a1 a2 a3 a4 a5 a6 a7 a8 a9 a10 (ix2 r n)
      = a10 (ix2 r n) + RmsEntry.back (rowOf a0 r) (dn a1 a2 a3 a4 a5 a6 a7 a8 a9 r) n := by
  rw [← RmsEntry.back_eq (rowOf a0 r) (dn a1 a2 a3 a4 a5 a6 a7 a8 a9 r) (fun k => h0 _) (fun k => (isReal_sum _ _ fun j =>
    (isReal_cot a3 a4 a5 a6 a7 a8 a9 h3 h4 h5 h6 h7 h8 h9 _ _).mul (h2 _)).mul (h1 _))]
  pointwise [ref_v46, Cert.InBwdRefIdeal.Value.meanSq, RmsEntry.meanSq, RmsEntry.share, rowOf, dn, dh]
  simp only [Fin.sum_univ_one, seven_at]

theorem ref_25 (k : Fin 1024) (n : Fin 3200) :
    ref_v25 a0 a1 a2 a3 a4 a5 a6 a7 a8 a9 a10 (ix2 k n) = ∑ r : Fin 2048, dwPart a0 a1 a3 a4 a5 a6 a7 a8 a9 k n r := by
  pointwise [ref_v25, Cert.InBwdRefIdeal.Value.meanSq, seven, RmsEntry.meanSq, rowOf, dwPart, hid, cot]
  exact Fin.sum_fin_congr fun r => mul_comm _ _

theorem ref_29 (u : Fin 1) (n : Fin 1024) :
    ref_v29 a0 a1 a2 a3 a4 a5 a6 a7 a8 a9 a10 (ix2 u n) = ∑ r : Fin 2048, dgPart a0 a2 a3 a4 a5 a6 a7 a8 a9 n r := by
  pointwise [ref_v29, Cert.InBwdRefIdeal.Value.meanSq, seven, RmsEntry.meanSq, rowOf, dgPart, dh, cot]
  exact Fin.sum_fin_congr fun r => mul_comm _ _

section blocks

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S512x1536 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1024x3200 .f32) (harg13 : arg13.IsWhole) (arg14 : Memref sig .tc .vmem S1x1024 .f32) (harg14 : arg14.IsWhole)
  (x0 : Vec Ideal S512x1024 .f32) (x1 : Vec Ideal S1x1024 .f32) (x2 : Vec Ideal S1024x3200 .bf16) (x3 : Vec Ideal S512x1536 .f32) (x4 : Vec Ideal S512x512 .f32) (x5 : Vec Ideal S512x256 .f32) (x6 : Vec Ideal S512x256 .f32) (x7 : Vec Ideal S512x256 .f32) (x8 : Vec Ideal S512x256 .f32) (x9 : Vec Ideal S512x128 .f32) (x10 : Vec Ideal S512x1024 .f32)
  (xo12 : Vec Ideal S1024x3200 .f32) (xo13 : Vec Ideal S1x1024 .f32) (row : Fin 512 → Fin 2048)
  (h0 : ∀ (i : Fin 512) (k : Fin 1024), x0 (ix2 i k) = a0 (ix2 (row i) k))
  (h1 : ∀ (k : Fin 1024), x1 (ix2 0 k) = a1 (ix2 0 k))
  (h2 : ∀ (k : Fin 1024) (n : Fin 3200), x2 (ix2 k n) = a2 (ix2 k n))
  (h3 : ∀ (i : Fin 512) (k : Fin 1536), x3 (ix2 i k) = a3 (ix2 (row i) k))
  (h4 : ∀ (i : Fin 512) (k : Fin 512), x4 (ix2 i k) = a4 (ix2 (row i) k))
  (h5 : ∀ (i : Fin 512) (k : Fin 256), x5 (ix2 i k) = a5 (ix2 (row i) k))
  (h6 : ∀ (i : Fin 512) (k : Fin 256), x6 (ix2 i k) = a6 (ix2 (row i) k))
  (h7 : ∀ (i : Fin 512) (k : Fin 256), x7 (ix2 i k) = a7 (ix2 (row i) k))
  (h8 : ∀ (i : Fin 512) (k : Fin 256), x8 (ix2 i k) = a8 (ix2 (row i) k))
  (h9 : ∀ (i : Fin 512) (k : Fin 128), x9 (ix2 i k) = a9 (ix2 (row i) k))
  (h10 : ∀ (i : Fin 512) (k : Fin 1024), x10 (ix2 i k) = a10 (ix2 (row i) k))

include h0 h1 h2 h3 h4 h5 h6 h7 h8 h9 h10

theorem pure_A_11 (hc : cond0_0 i) (p : Fin 512) (n : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 (ix2 p n)
      = a10 (ix2 (row p) n) + RmsEntry.back (rowOf a0 (row p)) (dn a1 a2 a3 a4 a5 a6 a7 a8 a9 (row p)) n := by
  frame_out
  open_payloads
  pointwise [RmsEntry.back, RmsEntry.meanSq, rowOf, dn, dh, cot, h0, h1, h2, h3, h4, h5, h6, h7, h8, h9, h10]

theorem pure_A_12 (hc : cond0_0 i) (k : Fin 1024) (n : Fin 3200) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 (ix2 k n)
      = 0 + ∑ p : Fin 512, dwPart a0 a1 a3 a4 a5 a6 a7 a8 a9 k n (row p) := by
  frame_out
  open_payloads
  pointwise [RmsEntry.meanSq, rowOf, dwPart, hid, cot, h0, h1, h2, h3, h4, h5, h6, h7, h8, h9, h10]

theorem pure_A_13 (hc : cond0_0 i) (u : Fin 1) (n : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 (ix2 u n)
      = 0 + ∑ p : Fin 512, dgPart a0 a2 a3 a4 a5 a6 a7 a8 a9 n (row p) := by
  frame_out
  open_payloads
  pointwise [RmsEntry.meanSq, rowOf, dgPart, dh, cot, h0, h1, h2, h3, h4, h5, h6, h7, h8, h9, h10]

theorem pure_B_11 (hc : ¬cond0_0 i) (p : Fin 512) (n : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 xo12 xo13 (ix2 p n)
      = a10 (ix2 (row p) n) + RmsEntry.back (rowOf a0 (row p)) (dn a1 a2 a3 a4 a5 a6 a7 a8 a9 (row p)) n := by
  frame_out
  open_payloads
  pointwise [RmsEntry.back, RmsEntry.meanSq, rowOf, dn, dh, cot, h0, h1, h2, h3, h4, h5, h6, h7, h8, h9, h10]

theorem pure_B_12 (hc : ¬cond0_0 i) (k : Fin 1024) (n : Fin 3200) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 xo12 xo13 (ix2 k n)
      = (xo12 (ix2 k n) : EReal) + ∑ p : Fin 512, dwPart a0 a1 a3 a4 a5 a6 a7 a8 a9 k n (row p) := by
  frame_out
  open_payloads
  pointwise [RmsEntry.meanSq, rowOf, dwPart, hid, cot, h0, h1, h2, h3, h4, h5, h6, h7, h8, h9, h10]

theorem pure_B_13 (hc : ¬cond0_0 i) (u : Fin 1) (n : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 xo12 xo13 (ix2 u n)
      = (xo13 (ix2 u n) : EReal) + ∑ p : Fin 512, dgPart a0 a2 a3 a4 a5 a6 a7 a8 a9 n (row p) := by
  frame_out
  open_payloads
  pointwise [RmsEntry.meanSq, rowOf, dgPart, dh, cot, h0, h1, h2, h3, h4, h5, h6, h7, h8, h9, h10]

end blocks

end terms

end Cert.InBwdIdeal.Value

end
-- ==== Proof.InBwdValue.lean ====
/- The arrays the input projection's gradient leaves, against the reference's results. -/
module

public import proofs.«01_k».proof.Proof.Gen.InBwdIdeal.Value
public import proofs.«01_k».proof.Proof.InBwdPoint
public import proofs.«01_k».proof.Proof.AccSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InBwdIdeal.Value

open Cert.InBwdIdeal Cert.InBwdIdeal.Gen Cert.InBwdRefIdeal.Value Cert.RealEntry

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S1x1024 .f32 := m ((c : Thread nD τ).loc main_arg1)
abbrev in2 (c : Dev nD) : FVec Ideal S1024x3200 .f32 := m ((c : Thread nD τ).loc main_arg2)
abbrev in3 (c : Dev nD) : FVec Ideal S2048x1536 .f32 := m ((c : Thread nD τ).loc main_arg3)
abbrev in4 (c : Dev nD) : FVec Ideal S2048x512 .f32 := m ((c : Thread nD τ).loc main_arg4)
abbrev in5 (c : Dev nD) : FVec Ideal S2048x256 .f32 := m ((c : Thread nD τ).loc main_arg5)
abbrev in6 (c : Dev nD) : FVec Ideal S2048x256 .f32 := m ((c : Thread nD τ).loc main_arg6)
abbrev in7 (c : Dev nD) : FVec Ideal S2048x256 .f32 := m ((c : Thread nD τ).loc main_arg7)
abbrev in8 (c : Dev nD) : FVec Ideal S2048x256 .f32 := m ((c : Thread nD τ).loc main_arg8)
abbrev in9 (c : Dev nD) : FVec Ideal S2048x128 .f32 := m ((c : Thread nD τ).loc main_arg9)
abbrev in10 (c : Dev nD) : FVec Ideal S2048x1024 .f32 := m ((c : Thread nD τ).loc main_arg10)

/-- Every window's block at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

section reads
variable (c : Dev nD) (t : Fin cfg0.N)

theorem read_0 (i : Fin 512) (k : Fin 1024) : (iblk m c 0 t : Vec Ideal S512x1024 .f32) (ix2 i k) = in0 m c (ix2 (row t i) k) := by
  blk_ext [iblk, V, idx_val t, row]
theorem read_1 (k : Fin 1024) : (iblk m c 1 t : Vec Ideal S1x1024 .f32) (ix2 0 k) = in1 m c (ix2 0 k) := by
  blk_ext [iblk, V, idx_val t]
theorem read_2 (k : Fin 1024) (n : Fin 3200) : (iblk m c 2 t : Vec Ideal S1024x3200 .bf16) (ix2 k n) = in2 m c (ix2 k n) := by
  blk_simp [iblk, idx_val t]; entry_read; pointwise; blk_ext [idx_val t]
theorem read_3 (i : Fin 512) (k : Fin 1536) : (iblk m c 3 t : Vec Ideal S512x1536 .f32) (ix2 i k) = in3 m c (ix2 (row t i) k) := by
  blk_ext [iblk, V, idx_val t, row]
theorem read_4 (i : Fin 512) (k : Fin 512) : (iblk m c 4 t : Vec Ideal S512x512 .f32) (ix2 i k) = in4 m c (ix2 (row t i) k) := by
  blk_ext [iblk, V, idx_val t, row]
theorem read_5 (i : Fin 512) (k : Fin 256) : (iblk m c 5 t : Vec Ideal S512x256 .f32) (ix2 i k) = in5 m c (ix2 (row t i) k) := by
  blk_ext [iblk, V, idx_val t, row]
theorem read_6 (i : Fin 512) (k : Fin 256) : (iblk m c 6 t : Vec Ideal S512x256 .f32) (ix2 i k) = in6 m c (ix2 (row t i) k) := by
  blk_ext [iblk, V, idx_val t, row]
theorem read_7 (i : Fin 512) (k : Fin 256) : (iblk m c 7 t : Vec Ideal S512x256 .f32) (ix2 i k) = in7 m c (ix2 (row t i) k) := by
  blk_ext [iblk, V, idx_val t, row]
theorem read_8 (i : Fin 512) (k : Fin 256) : (iblk m c 8 t : Vec Ideal S512x256 .f32) (ix2 i k) = in8 m c (ix2 (row t i) k) := by
  blk_ext [iblk, V, idx_val t, row]
theorem read_9 (i : Fin 512) (k : Fin 128) : (iblk m c 9 t : Vec Ideal S512x128 .f32) (ix2 i k) = in9 m c (ix2 (row t i) k) := by
  blk_ext [iblk, V, idx_val t, row]
theorem read_10 (i : Fin 512) (k : Fin 1024) : (iblk m c 10 t : Vec Ideal S512x1024 .f32) (ix2 i k) = in10 m c (ix2 (row t i) k) := by
  blk_ext [iblk, V, idx_val t, row]

theorem outs_11 (p : Fin 512) (n : Fin 1024) : (outsAt0 m c t.val t.isLt).1 (ix2 p n)
    = in10 m c (ix2 (row t p) n) + RmsEntry.back (rowOf (in0 m c) (row t p)) (dn (in1 m c) (in2 m c) (in3 m c) (in4 m c) (in5 m c) (in6 m c) (in7 m c) (in8 m c) (in9 m c) (row t p)) n := by
  by_cases h : t.val % 4 = 0
  · rw [outsAt0_A m c t h]
    dsimp only
    exact pure_A_11 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) ((hcond0_0 t).mpr h) p n
  · rw [outsAt0_B m c t h]
    dsimp only
    generalize outsAt0 m c (t.val - 1) _ = z
    exact pure_B_11 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) (fun q => h ((hcond0_0 t).mp q)) p n

theorem outs_12_A (h : t.val % 4 = 0) (k : Fin 1024) (n : Fin 3200) : (outsAt0 m c t.val t.isLt).2.1 (ix2 k n)
    = 0 + ∑ p : Fin 512, dwPart (in0 m c) (in1 m c) (in3 m c) (in4 m c) (in5 m c) (in6 m c) (in7 m c) (in8 m c) (in9 m c) k n (row t p) := by
  rw [outsAt0_A m c t h]
  dsimp only
  exact pure_A_12 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) ((hcond0_0 t).mpr h) k n

theorem outs_12_B (h : ¬t.val % 4 = 0) (k : Fin 1024) (n : Fin 3200) : (outsAt0 m c t.val t.isLt).2.1 (ix2 k n)
    = (outsAt0 m c (t.val - 1) (Nat.lt_of_le_of_lt (Nat.sub_le _ _) t.isLt)).2.1 (ix2 k n) + ∑ p : Fin 512, dwPart (in0 m c) (in1 m c) (in3 m c) (in4 m c) (in5 m c) (in6 m c) (in7 m c) (in8 m c) (in9 m c) k n (row t p) := by
  rw [outsAt0_B m c t h]
  dsimp only
  generalize outsAt0 m c (t.val - 1) _ = z
  exact pure_B_12 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) (fun q => h ((hcond0_0 t).mp q)) k n

theorem outs_13_A (h : t.val % 4 = 0) (u : Fin 1) (n : Fin 1024) : (outsAt0 m c t.val t.isLt).2.2 (ix2 u n)
    = 0 + ∑ p : Fin 512, dgPart (in0 m c) (in2 m c) (in3 m c) (in4 m c) (in5 m c) (in6 m c) (in7 m c) (in8 m c) (in9 m c) n (row t p) := by
  rw [outsAt0_A m c t h]
  dsimp only
  exact pure_A_13 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) ((hcond0_0 t).mpr h) u n

theorem outs_13_B (h : ¬t.val % 4 = 0) (u : Fin 1) (n : Fin 1024) : (outsAt0 m c t.val t.isLt).2.2 (ix2 u n)
    = (outsAt0 m c (t.val - 1) (Nat.lt_of_le_of_lt (Nat.sub_le _ _) t.isLt)).2.2 (ix2 u n) + ∑ p : Fin 512, dgPart (in0 m c) (in2 m c) (in3 m c) (in4 m c) (in5 m c) (in6 m c) (in7 m c) (in8 m c) (in9 m c) n (row t p) := by
  rw [outsAt0_B m c t h]
  dsimp only
  generalize outsAt0 m c (t.val - 1) _ = z
  exact pure_B_13 (in0 m c) (in1 m c) (in2 m c) (in3 m c) (in4 m c) (in5 m c) (in6 m c) (in7 m c) (in8 m c) (in9 m c) (in10 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ _ _ _ (row t) (read_0 m c t) (read_1 m c t) (read_2 m c t) (read_3 m c t) (read_4 m c t) (read_5 m c t) (read_6 m c t) (read_7 m c t) (read_8 m c t) (read_9 m c t) (read_10 m c t) (fun q => h ((hcond0_0 t).mp q)) u n

end reads

/-- Output 1 at the last grid point: every row's part. -/
theorem outs_12 (c : Dev nD) (t : Fin cfg0.N) (ht : t.val % 4 = 3) (k : Fin 1024) (n : Fin 3200) : (outsAt0 m c t.val t.isLt).2.1 (ix2 k n)
    = ∑ r : Fin 2048, dwPart (in0 m c) (in1 m c) (in3 m c) (in4 m c) (in5 m c) (in6 m c) (in7 m c) (in8 m c) (in9 m c) k n r := by
  have hN : (t : ℕ) < 4 := t.isLt
  have e := AccSum.eq_add_sum_fin (M := EReal) (N := cfg0.N) (fun k' h => (outsAt0 m c k' h).2.1 (ix2 k n)) 0
    (fun s => ∑ p : Fin 512, dwPart (in0 m c) (in1 m c) (in3 m c) (in4 m c) (in5 m c) (in6 m c) (in7 m c) (in8 m c) (in9 m c) k n ⟨s % 4 * 512 + p, by omega⟩)
    4 0 (fun h => outs_12_A m c ⟨0, h⟩ rfl k n) (fun s hs h => ?_) (by omega) t.val (by omega) t.isLt
  · refine e.trans ((zero_add _).trans (Eq.symm ?_))
    refine Fin.sum_divmod_congr (A := 4) (S := 512) fun s p h => congrArg (dwPart (in0 m c) (in1 m c) (in3 m c) (in4 m c) (in5 m c) (in6 m c) (in7 m c) (in8 m c) (in9 m c) k n) (Fin.ext ?_)
    have := s.isLt
    dsimp only
    omega
  · have h4 : 0 + (s + 1) < 4 := h
    have h1 := outs_12_B m c ⟨0 + (s + 1), h⟩ (by dsimp only; omega) k n
    refine h1.trans (congrArg _ (Fin.sum_fin_congr fun p => congrArg (dwPart (in0 m c) (in1 m c) (in3 m c) (in4 m c) (in5 m c) (in6 m c) (in7 m c) (in8 m c) (in9 m c) k n) (Fin.ext ?_)))
    simp only [row]
    omega

/-- Output 2 at the last grid point: every row's part. -/
theorem outs_13 (c : Dev nD) (t : Fin cfg0.N) (ht : t.val % 4 = 3) (u : Fin 1) (n : Fin 1024) : (outsAt0 m c t.val t.isLt).2.2 (ix2 u n)
    = ∑ r : Fin 2048, dgPart (in0 m c) (in2 m c) (in3 m c) (in4 m c) (in5 m c) (in6 m c) (in7 m c) (in8 m c) (in9 m c) n r := by
  have hN : (t : ℕ) < 4 := t.isLt
  have e := AccSum.eq_add_sum_fin (M := EReal) (N := cfg0.N) (fun k' h => (outsAt0 m c k' h).2.2 (ix2 u n)) 0
    (fun s => ∑ p : Fin 512, dgPart (in0 m c) (in2 m c) (in3 m c) (in4 m c) (in5 m c) (in6 m c) (in7 m c) (in8 m c) (in9 m c) n ⟨s % 4 * 512 + p, by omega⟩)
    4 0 (fun h => outs_13_A m c ⟨0, h⟩ rfl u n) (fun s hs h => ?_) (by omega) t.val (by omega) t.isLt
  · refine e.trans ((zero_add _).trans (Eq.symm ?_))
    refine Fin.sum_divmod_congr (A := 4) (S := 512) fun s p h => congrArg (dgPart (in0 m c) (in2 m c) (in3 m c) (in4 m c) (in5 m c) (in6 m c) (in7 m c) (in8 m c) (in9 m c) n) (Fin.ext ?_)
    have := s.isLt
    dsimp only
    omega
  · have h4 : 0 + (s + 1) < 4 := h
    have h1 := outs_13_B m c ⟨0 + (s + 1), h⟩ (by dsimp only; omega) u n
    refine h1.trans (congrArg _ (Fin.sum_fin_congr fun p => congrArg (dgPart (in0 m c) (in2 m c) (in3 m c) (in4 m c) (in5 m c) (in6 m c) (in7 m c) (in8 m c) (in9 m c) n) (Fin.ext ?_)))
    simp only [row]
    omega

/-- The array of output window 11 after the run. -/
theorem final_11 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h6 : ∀ i, IsReal (in6 m c i)) (h7 : ∀ i, IsReal (in7 m c i)) (h8 : ∀ i, IsReal (in8 m c i)) (h9 : ∀ i, IsReal (in9 m c i)) :
    (dats m 0 c).arrAt 11 (cfgs 0).N = ref_v46 (in0 m c) (in1 m c) (in2 m c) (in3 m c) (in4 m c) (in5 m c) (in6 m c) (in7 m c) (in8 m c) (in9 m c) (in10 m c) := by
  refine (dats m 0 c).arrAt_eq_of_covers 11 _ (by decide +kernel) fun t hf y => ?_
  blk_simp; rw [after0_11]
  have hb : (t : ℕ) < 4 := t.isLt
  idx_vars y
  refine (outs_11 m c t y0 y1).trans ((ref_46 (in0 m c) (in1 m c) (in2 m c) (in3 m c) (in4 m c) (in5 m c) (in6 m c) (in7 m c) (in8 m c) (in9 m c) (in10 m c) h0 h1 h2 h3 h4 h5 h6 h7 h8 h9 (row t y0) y1).symm.trans ?_)
  blk_ext [idx_val t, row]

/-- The array of output window 12 after the run. -/
theorem final_12 (c : Dev nD) : (dats m 0 c).arrAt 12 (cfgs 0).N = ref_v25 (in0 m c) (in1 m c) (in2 m c) (in3 m c) (in4 m c) (in5 m c) (in6 m c) (in7 m c) (in8 m c) (in9 m c) (in10 m c) := by
  refine (dats m 0 c).arrAt_eq_of_covers 12 _ (by decide +kernel) fun t hf y => ?_
  blk_simp; rw [after0_12]
  have hb : (t : ℕ) < 4 := t.isLt
  idx_vars y
  refine (outs_12 m c t ((flush0_12 t).mp hf) y0 y1).trans ((ref_25 (in0 m c) (in1 m c) (in2 m c) (in3 m c) (in4 m c) (in5 m c) (in6 m c) (in7 m c) (in8 m c) (in9 m c) (in10 m c) y0 y1).symm.trans ?_)
  blk_ext [idx_val t, row]

/-- The array of output window 13 after the run. -/
theorem final_13 (c : Dev nD) : (dats m 0 c).arrAt 13 (cfgs 0).N = ref_v29 (in0 m c) (in1 m c) (in2 m c) (in3 m c) (in4 m c) (in5 m c) (in6 m c) (in7 m c) (in8 m c) (in9 m c) (in10 m c) := by
  refine (dats m 0 c).arrAt_eq_of_covers 13 _ (by decide +kernel) fun t hf y => ?_
  blk_simp; rw [after0_13]
  have hb : (t : ℕ) < 4 := t.isLt
  idx_vars y
  refine (outs_13 m c t ((flush0_13 t).mp hf) y0 y1).trans ((ref_29 (in0 m c) (in1 m c) (in2 m c) (in3 m c) (in4 m c) (in5 m c) (in6 m c) (in7 m c) (in8 m c) (in9 m c) (in10 m c) y0 y1).symm.trans ?_)
  blk_ext [idx_val t, row]

end Cert.InBwdIdeal.Value

end
-- ==== Proof.InClaim.lean ====
/- The claims of the input projection and of its gradient. -/
module

public import proofs.«01_k».proof.Defs
public import proofs.«01_k».proof.Proof.Gen.InFwdIdeal
public import proofs.«01_k».proof.Proof.Gen.InFwdIdeal.Frame
public import proofs.«01_k».proof.Proof.Gen.InFwdIdeal.Value
public import proofs.«01_k».proof.Proof.Gen.InFwdRefIdeal
public import proofs.«01_k».proof.Proof.InFwdRef
public import proofs.«01_k».proof.Proof.InFwdValue
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.InBwdRef
public import proofs.«01_k».proof.Proof.InBwdValue
public import proofs.«01_k».proof.Proof.Gen.Pre_finite_in
public import proofs.«01_k».proof.Proof.RealEntry
public import Idealize.ShloMosaic.Lib.Claim
public import Idealize.ShloMosaic.Lib.Quiescent

@[expose] public section

set_option maxRecDepth 16384

noncomputable section

namespace Cert.Proof

open Idealize.ShloMosaic Idealize.SL.Sem Cert.RealEntry

/-- The reference of the input projection runs and leaves its arguments. -/
theorem frame_inFwdRef : Cert.quiescent_InFwdRefIdeal := by
  intro m g _
  refine (θ_run _ _ _).mono (fun r h => ⟨fun c => (h c).2.2.2.2.2, sem_eq_zero_of_no_sems (by decide) _⟩)
    (Cert.InFwdRefIdeal.Value.run m g)

/-- The input projection equals its reference. -/
theorem inFwd : Cert.algebraic_InFwdIdeal_InFwdRefIdeal := by
  intro m g m' g' hpre hagree
  refine ⟨fun c => Cert.InFwdRefIdeal.Value.ref_v13 (Cert.InFwdIdeal.Value.in0 m c) (Cert.InFwdIdeal.Value.in1 m c) (Cert.InFwdIdeal.Value.in2 m c),
    fun c => Cert.InFwdRefIdeal.Value.ref_v14 (Cert.InFwdIdeal.Value.in0 m c) (Cert.InFwdIdeal.Value.in1 m c) (Cert.InFwdIdeal.Value.in2 m c),
    fun c => Cert.InFwdRefIdeal.Value.ref_v15 (Cert.InFwdIdeal.Value.in0 m c) (Cert.InFwdIdeal.Value.in1 m c) (Cert.InFwdIdeal.Value.in2 m c),
    fun c => Cert.InFwdRefIdeal.Value.ref_v16 (Cert.InFwdIdeal.Value.in0 m c) (Cert.InFwdIdeal.Value.in1 m c) (Cert.InFwdIdeal.Value.in2 m c),
    fun c => Cert.InFwdRefIdeal.Value.ref_v17 (Cert.InFwdIdeal.Value.in0 m c) (Cert.InFwdIdeal.Value.in1 m c) (Cert.InFwdIdeal.Value.in2 m c),
    ?_, Cert.InFwdRefIdeal.Value.run_at m' g' (Cert.InFwdIdeal.Value.in0 m) (fun c => (hagree c).1) (Cert.InFwdIdeal.Value.in1 m) (fun c => (hagree c).2.1) (Cert.InFwdIdeal.Value.in2 m) (fun c => (hagree c).2.2)⟩
  run_from Cert.InFwdIdeal.Gen.run_main m g
  · exact Cert.InFwdIdeal.Value.final_3 m c
  · exact Cert.InFwdIdeal.Value.final_4 m c
  · exact Cert.InFwdIdeal.Value.final_5 m c
  · exact Cert.InFwdIdeal.Value.final_6 m c
  · exact Cert.InFwdIdeal.Value.final_7 m c

/-- The reference of the input projection's gradient runs and leaves its arguments. -/
theorem frame_inBwdRef : Cert.quiescent_InBwdRefIdeal := by
  intro m g _
  refine (θ_run _ _ _).mono (fun r h => ⟨fun c => (h c).2.2.2, sem_eq_zero_of_no_sems (by decide) _⟩)
    (Cert.InBwdRefIdeal.Value.run m g)

/-- Arguments that the precondition holds of have real entries only. -/
theorem real_of_finite_in (m : (ℓ : Loc Cert.InBwdIdeal.nD Cert.InBwdIdeal.τ Cert.InBwdIdeal.sig) → Buf (Elt Ideal) ℓ)
    (h : Cert.Pre_InBwdIdeal_finite_in m) (c : Dev Cert.InBwdIdeal.nD) :
    (∀ i, IsReal (Cert.InBwdIdeal.Value.in0 m c i)) ∧ (∀ i, IsReal (Cert.InBwdIdeal.Value.in1 m c i)) ∧ (∀ i, IsReal (Cert.InBwdIdeal.Value.in2 m c i)) ∧ (∀ i, IsReal (Cert.InBwdIdeal.Value.in3 m c i)) ∧ (∀ i, IsReal (Cert.InBwdIdeal.Value.in4 m c i)) ∧ (∀ i, IsReal (Cert.InBwdIdeal.Value.in5 m c i)) ∧ (∀ i, IsReal (Cert.InBwdIdeal.Value.in6 m c i)) ∧ (∀ i, IsReal (Cert.InBwdIdeal.Value.in7 m c i)) ∧ (∀ i, IsReal (Cert.InBwdIdeal.Value.in8 m c i)) ∧ (∀ i, IsReal (Cert.InBwdIdeal.Value.in9 m c i)) := by
  have e := congrFun (h c) ix0
  dsimp only [Cert.Pre_finite_in.fn, Cert.Pre_finite_in.fn_part1, Cert.Pre_finite_in.fn_part2] at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i),
    fun i => isReal_of_abs_lt _ (Host.reduce_andi_all _ _ _ _ _ e7 i),
    fun i => isReal_of_abs_lt _ (Host.reduce_andi_all _ _ _ _ _ e8 i),
    fun i => isReal_of_abs_lt _ (Host.reduce_andi_all _ _ _ _ _ e9 i)⟩

set_option maxHeartbeats 3200000 in
/-- At finite arguments the input projection's gradient equals its reference. -/
theorem inBwd : Cert.algebraic_InBwdIdeal_InBwdRefIdeal_pre_finite_in := by
  intro m g m' g' hpre hagree
  have hr := real_of_finite_in m hpre
  refine ⟨fun c => Cert.InBwdRefIdeal.Value.ref_v46 (Cert.InBwdIdeal.Value.in0 m c) (Cert.InBwdIdeal.Value.in1 m c) (Cert.InBwdIdeal.Value.in2 m c) (Cert.InBwdIdeal.Value.in3 m c) (Cert.InBwdIdeal.Value.in4 m c) (Cert.InBwdIdeal.Value.in5 m c) (Cert.InBwdIdeal.Value.in6 m c) (Cert.InBwdIdeal.Value.in7 m c) (Cert.InBwdIdeal.Value.in8 m c) (Cert.InBwdIdeal.Value.in9 m c) (Cert.InBwdIdeal.Value.in10 m c),
    fun c => Cert.InBwdRefIdeal.Value.ref_v25 (Cert.InBwdIdeal.Value.in0 m c) (Cert.InBwdIdeal.Value.in1 m c) (Cert.InBwdIdeal.Value.in2 m c) (Cert.InBwdIdeal.Value.in3 m c) (Cert.InBwdIdeal.Value.in4 m c) (Cert.InBwdIdeal.Value.in5 m c) (Cert.InBwdIdeal.Value.in6 m c) (Cert.InBwdIdeal.Value.in7 m c) (Cert.InBwdIdeal.Value.in8 m c) (Cert.InBwdIdeal.Value.in9 m c) (Cert.InBwdIdeal.Value.in10 m c),
    fun c => Cert.InBwdRefIdeal.Value.ref_v29 (Cert.InBwdIdeal.Value.in0 m c) (Cert.InBwdIdeal.Value.in1 m c) (Cert.InBwdIdeal.Value.in2 m c) (Cert.InBwdIdeal.Value.in3 m c) (Cert.InBwdIdeal.Value.in4 m c) (Cert.InBwdIdeal.Value.in5 m c) (Cert.InBwdIdeal.Value.in6 m c) (Cert.InBwdIdeal.Value.in7 m c) (Cert.InBwdIdeal.Value.in8 m c) (Cert.InBwdIdeal.Value.in9 m c) (Cert.InBwdIdeal.Value.in10 m c),
    ?_, Cert.InBwdRefIdeal.Value.run_at m' g' (Cert.InBwdIdeal.Value.in0 m) (fun c => (hagree c).1) (Cert.InBwdIdeal.Value.in1 m) (fun c => (hagree c).2.1) (Cert.InBwdIdeal.Value.in2 m) (fun c => (hagree c).2.2.1) (Cert.InBwdIdeal.Value.in3 m) (fun c => (hagree c).2.2.2.1) (Cert.InBwdIdeal.Value.in4 m) (fun c => (hagree c).2.2.2.2.1) (Cert.InBwdIdeal.Value.in5 m) (fun c => (hagree c).2.2.2.2.2.1) (Cert.InBwdIdeal.Value.in6 m) (fun c => (hagree c).2.2.2.2.2.2.1) (Cert.InBwdIdeal.Value.in7 m) (fun c => (hagree c).2.2.2.2.2.2.2.1) (Cert.InBwdIdeal.Value.in8 m) (fun c => (hagree c).2.2.2.2.2.2.2.2.1) (Cert.InBwdIdeal.Value.in9 m) (fun c => (hagree c).2.2.2.2.2.2.2.2.2.1) (Cert.InBwdIdeal.Value.in10 m) (fun c => (hagree c).2.2.2.2.2.2.2.2.2.2)⟩
  run_from Cert.InBwdIdeal.Gen.run_main m g
  · exact Cert.InBwdIdeal.Value.final_11 m c (hr c).1 (hr c).2.1 (hr c).2.2.1 (hr c).2.2.2.1 (hr c).2.2.2.2.1 (hr c).2.2.2.2.2.1 (hr c).2.2.2.2.2.2.1 (hr c).2.2.2.2.2.2.2.1 (hr c).2.2.2.2.2.2.2.2.1 (hr c).2.2.2.2.2.2.2.2.2
  · exact Cert.InBwdIdeal.Value.final_12 m c
  · exact Cert.InBwdIdeal.Value.final_13 m c

end Cert.Proof

end
-- ==== Proof.PleFwdRef.lean ====
/- The results of the reference `PleFwdRefIdeal`, each as one function of the arguments. -/
module

public import proofs.«01_k».proof.Proof.Gen.PleFwdRefIdeal
public import proofs.«01_k».proof.Proof.Gen.PleFwdRefIdeal.Run
public import Idealize.ShloMosaic.Lib.Pipeline.ValueKit

@[expose] public section

set_option maxRecDepth 16384

noncomputable section

namespace Cert.PleFwdRefIdeal.Value

open Cert.PleFwdRefIdeal Cert.PleFwdRefIdeal.Gen Idealize.ShloMosaic Idealize.ShloMosaic.TcCoe Idealize.SL.Sem

/-- The result `v12`. -/
def ref_v12 (a0 : FVec Ideal S2048x1024 .f32) (a1 : FVec Ideal S2048x256 .f32) (a2 : FVec Ideal S4x256x1024 .f32) (a3 : FVec Ideal S4x256x256 .f32) : FVec Ideal S2048x1024 .f32 :=
  addf a0 (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024)))))) (Host.dotGeneral dot_S2048x256_S256x1024_S2048x1024_1_0_0_1_n_n none a1 (shapeCast _ (transpose S256x4x256 [1, 0, 2] a3 transposes_S4x256x256_S256x4x256_1_0_2) shapeCasts_S256x4x256_S256x1024)))

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S2048x256 .f32) (h1 : ∀ c : Dev nD, m ((c.tc : Thread nD τ).loc main_arg1) = x1 c)
    (x2 : Dev nD → FVec Ideal S4x256x1024 .f32) (h2 : ∀ c : Dev nD, m ((c.tc : Thread nD τ).loc main_arg2) = x2 c)
    (x3 : Dev nD → FVec Ideal S4x256x256 .f32) (h3 : ∀ c : Dev nD, m ((c.tc : Thread nD τ).loc main_arg3) = x3 c) :
    θ_run defs (onTc (τ := τ) (main (F := Ideal))) ⟨m, fun _ => 0, ρ⟩ fun r => ∀ c : Dev nD,
      r.2.mem ((c.tc : Thread nD τ).loc main_v12) = ref_v12 (x0 c) (x1 c) (x2 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  exact (θ_run _ _ _).mono (fun r h c => ⟨(h c).1, (h c).2⟩) (run m ρ)

end Cert.PleFwdRefIdeal.Value

end
-- ==== Proof.MixEntry.lean ====
/- Three pieces of a row side by side, and a sum over them as four sums of 256 terms. -/
module

public import Idealize.ShloMosaic.Lib.Pipeline.ValueKit

@[expose] public section

noncomputable section

open Idealize.ShloMosaic
open scoped BigOperators

namespace Cert.MixEntry

/-- Entry `k` of `u`, `v` and `w` side by side. -/
def cat (u : Fin 512 → EReal) (v w : Fin 256 → EReal) (k : Fin 1024) : EReal :=
  if h : k.val < 512 then u ⟨k.val, h⟩
  else if h : k.val - 512 < 256 then v ⟨k.val - 512, h⟩
  else w ⟨k.val - 512 - 256, by omega⟩

theorem cat_0 (u : Fin 512 → EReal) (v w : Fin 256 → EReal) (k : Fin 1024) (p : Fin 256) (h : k.val = p.val) :
    cat u v w k = u ⟨p.val, by omega⟩ := by
  rw [cat, dif_pos (show k.val < 512 by omega)]
  exact congrArg u (Fin.ext h)

theorem cat_1 (u : Fin 512 → EReal) (v w : Fin 256 → EReal) (k : Fin 1024) (p : Fin 256) (h : k.val = 256 + p.val) :
    cat u v w k = u ⟨256 + p.val, by omega⟩ := by
  rw [cat, dif_pos (show k.val < 512 by omega)]
  exact congrArg u (Fin.ext h)

theorem cat_2 (u : Fin 512 → EReal) (v w : Fin 256 → EReal) (k : Fin 1024) (p : Fin 256) (h : k.val = 512 + p.val) :
    cat u v w k = v p := by
  rw [cat, dif_neg (show ¬k.val < 512 by omega), dif_pos (show k.val - 512 < 256 by omega)]
  exact congrArg v (Fin.ext (by dsimp only; omega))

theorem cat_3 (u : Fin 512 → EReal) (v w : Fin 256 → EReal) (k : Fin 1024) (p : Fin 256) (h : k.val = 768 + p.val) :
    cat u v w k = w p := by
  rw [cat, dif_neg (show ¬k.val < 512 by omega), dif_neg (show ¬k.val - 512 < 256 by omega)]
  exact congrArg w (Fin.ext (by dsimp only; omega))

/-- A sum over the 1024 entries as one sum of 256 terms for each quarter. -/
theorem sum_quarters (f : Fin 1024 → EReal) (g : Fin 4 → Fin 256 → EReal)
    (h : ∀ (k : Fin 1024) (j : Fin 4) (p : Fin 256), k.val = j.val * 256 + p.val → f k = g j p) :
    ∑ k, f k = ∑ p, g 0 p + ∑ p, g 1 p + ∑ p, g 2 p + ∑ p, g 3 p := by
  rw [Fin.sum_divmod_congr (A := 4) (S := 256) (f := g) fun k ha hs => h k ⟨_, ha⟩ ⟨_, hs⟩ (by dsimp only; omega)]
  exact Fin.sum_univ_four _

/-- The three pieces against a column of weights in four quarters. -/
theorem cat_sum (u : Fin 512 → EReal) (v w : Fin 256 → EReal) (f : Fin 1024 → EReal) (g : Fin 4 → Fin 256 → EReal)
    (h : ∀ (k : Fin 1024) (j : Fin 4) (p : Fin 256), k.val = j.val * 256 + p.val → f k = g j p) :
    ∑ k, cat u v w k * f k = ∑ p : Fin 256, u ⟨p.val, by omega⟩ * g 0 p + ∑ p : Fin 256, u ⟨256 + p.val, by omega⟩ * g 1 p
      + ∑ p, v p * g 2 p + ∑ p, w p * g 3 p := by
  rw [Fin.sum_divmod_congr (A := 4) (S := 256) (f := fun j p => cat u v w ⟨j.val * 256 + p.val, by omega⟩ * g j p)
    fun k ha hs => by rw [h k ⟨_, ha⟩ ⟨_, hs⟩ (by dsimp only; omega)]; exact congrArg (fun k => cat u v w k * _) (Fin.ext (by dsimp only; omega))]
  rw [Fin.sum_univ_four]
  refine congr (congrArg _ (congr (congrArg _ (congr (congrArg _ ?_) ?_)) ?_)) ?_ <;> refine Fin.sum_fin_congr fun p => congrArg (· * _) ?_
  · exact cat_0 u v w _ p (by simp)
  · exact cat_1 u v w _ p (by simp)
  · exact cat_2 u v w _ p (by simp)
  · exact cat_3 u v w _ p (by simp)

end Cert.MixEntry

end
-- ==== Proof.PleFwdValue.lean ====
/- The array the per-layer embedding's gated addition leaves, against the reference's result. -/
module

public import proofs.«01_k».proof.Proof.Gen.PleFwdIdeal.Value
public import proofs.«01_k».proof.Proof.PleFwdRef
public import proofs.«01_k».proof.Proof.MixEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PleFwdIdeal.Value

open Cert.PleFwdIdeal Cert.PleFwdIdeal.Gen Cert.PleFwdRefIdeal.Value

section terms

variable (a0 : FVec Ideal S2048x1024 .f32) (a1 : FVec Ideal S2048x256 .f32) (a2 : FVec Ideal S4x256x1024 .f32) (a3 : FVec Ideal S4x256x256 .f32)

/-- A row of the input against the gate's column `n`, quarter by quarter. -/
def proj (r : Fin 2048) (n : Fin 1024) : EReal :=
  ∑ p : Fin 256, a0 (ix2 r ⟨p.val, by omega⟩) * a2 (ix3 0 p n) + ∑ p : Fin 256, a0 (ix2 r ⟨256 + p.val, by omega⟩) * a2 (ix3 1 p n)
    + ∑ p : Fin 256, a0 (ix2 r ⟨512 + p.val, by omega⟩) * a2 (ix3 2 p n) + ∑ p : Fin 256, a0 (ix2 r ⟨768 + p.val, by omega⟩) * a2 (ix3 3 p n)

theorem proj_eq (r : Fin 2048) (n : Fin 1024) :
    ∑ k : Fin 1024, a0 (ix2 r k) * a2 (ix3 ⟨k.val / 256, by omega⟩ ⟨k.val % 256, by omega⟩ n) = proj a0 a2 r n := by
  refine (MixEntry.sum_quarters _ (fun j p => a0 (ix2 r ⟨j.val * 256 + p.val, by omega⟩) * a2 (ix3 j p n)) fun k j p h =>
    congrArg₂ (· * ·) (congrArg (fun k => a0 (ix2 r k)) (Fin.ext h))
      (congrArg₂ (fun j p => a2 (ix3 j p n)) (Fin.ext (by dsimp only; omega)) (Fin.ext (by dsimp only; omega)))).trans ?_
  unfold proj
  refine congr (congrArg _ (congr (congrArg _ (congr (congrArg _ ?_) ?_)) ?_)) ?_ <;>
    exact Fin.sum_fin_congr fun p => congrArg (fun k => a0 (ix2 r k) * _) (Fin.ext (by simp))

/-- The gate. -/
def gate (r : Fin 2048) (n : Fin 1024) : EReal := Ideal.div 1 (1 + Ideal.exp (-proj a0 a2 r n))

/-- The output at row `r`, column `n`, which is column `k` of quarter `j`. -/
def val (r : Fin 2048) (n : Fin 1024) (j : Fin 4) (k : Fin 256) : EReal :=
  a0 (ix2 r n) + gate a0 a2 r n * ∑ q : Fin 256, a1 (ix2 r q) * a3 (ix3 j q k)

theorem val_congr {r r' : Fin 2048} {n n' : Fin 1024} {j j' : Fin 4} {k k' : Fin 256} (hr : r = r') (hn : n.val = n'.val) (hj : j.val = j'.val)
    (hk : k.val = k'.val) : val a0 a1 a2 a3 r n j k = val a0 a1 a2 a3 r' n' j' k' := by
  obtain rfl := hr; obtain rfl := Fin.ext hn; obtain rfl := Fin.ext hj; obtain rfl := Fin.ext hk; rfl

theorem ref_12 (r : Fin 2048) (n : Fin 1024) :
    ref_v12 a0 a1 a2 a3 (ix2 r n) = val a0 a1 a2 a3 r n ⟨n.val / 256, by omega⟩ ⟨n.val % 256, by omega⟩ := by
  pointwise [ref_v12]
  simp only [proj_eq]
  rfl

theorem pure_4 (x0 : Vec Ideal S512x1024 .f32) (x1 : Vec Ideal S512x256 .f32) (x2 : Vec Ideal S4x256x1024 .bf16) (x3 : Vec Ideal S4x256x256 .bf16)
    (row : Fin 512 → Fin 2048)
    (e0 : ∀ (i : Fin 512) (k : Fin 1024), x0 (ix2 i k) = a0 (ix2 (row i) k))
    (e1 : ∀ (i : Fin 512) (k : Fin 256), x1 (ix2 i k) = a1 (ix2 (row i) k))
    (e2 : ∀ (j : Fin 4) (k : Fin 256) (n : Fin 1024), x2 (ix3 j k n) = a2 (ix3 j k n))
    (e3 : ∀ (j : Fin 4) (k : Fin 256) (n : Fin 256), x3 (ix3 j k n) = a3 (ix3 j k n)) (y : S512x1024.Idx) :
    out0_4 x0 x1 x2 x3 y = val a0 a1 a2 a3 (row (y 0)) (y 1) ⟨(y 1 : ℕ) / 256, by have : (y 1 : ℕ) < 1024 := (y 1).isLt; omega⟩ ⟨(y 1 : ℕ) % 256, by omega⟩ := by
  canon_tiles x h
  case piece0 =>
    refine Eq.trans (b := val a0 a1 a2 a3 (row (x 0)) ⟨768 + (x 1 : ℕ), by omega⟩ 3 (x 1)) ?_
      (val_congr a0 a1 a2 a3 (congrArg row (Fin.ext h0.symm)) (by dsimp only; omega) (by simp; omega) (by dsimp only; omega))
    open_payloads
    pointwise [val, gate, proj, e0, e1, e2, e3]
    simp only [zero_sub]
  case piece1 =>
    refine Eq.trans (b := val a0 a1 a2 a3 (row (x 0)) ⟨512 + (x 1 : ℕ), by omega⟩ 2 (x 1)) ?_
      (val_congr a0 a1 a2 a3 (congrArg row (Fin.ext h0.symm)) (by dsimp only; omega) (by simp; omega) (by dsimp only; omega))
    open_payloads
    pointwise [val, gate, proj, e0, e1, e2, e3]
    simp only [zero_sub]
  case piece2 =>
    refine Eq.trans (b := val a0 a1 a2 a3 (row (x 0)) ⟨256 + (x 1 : ℕ), by omega⟩ 1 (x 1)) ?_
      (val_congr a0 a1 a2 a3 (congrArg row (Fin.ext h0.symm)) (by dsimp only; omega) (by simp; omega) (by dsimp only; omega))
    open_payloads
    pointwise [val, gate, proj, e0, e1, e2, e3]
    simp only [zero_sub]
  case piece3 =>
    refine Eq.trans (b := val a0 a1 a2 a3 (row (x 0)) ⟨(x 1 : ℕ), by omega⟩ 0 (x 1)) ?_
      (val_congr a0 a1 a2 a3 (congrArg row (Fin.ext h0.symm)) (by dsimp only; omega) (by simp; omega) (by dsimp only; omega))
    open_payloads
    pointwise [val, gate, proj, e0, e1, e2, e3]
    simp only [zero_sub]

end terms

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S2048x256 .f32 := m ((c : Thread nD τ).loc main_arg1)
abbrev in2 (c : Dev nD) : FVec Ideal S4x256x1024 .f32 := m ((c : Thread nD τ).loc main_arg2)
abbrev in3 (c : Dev nD) : FVec Ideal S4x256x256 .f32 := m ((c : Thread nD τ).loc main_arg3)

/-- Every window's block at every grid point. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

variable (c : Dev nD) (t : Fin cfg0.N)

theorem read_0 (i : Fin 512) (k : Fin 1024) : (iblk m c 0 t : Vec Ideal S512x1024 .f32) (ix2 i k) = in0 m c (ix2 (row t i) k) := by
  blk_ext [iblk, V, idx_val t, row]
theorem read_1 (i : Fin 512) (k : Fin 256) : (iblk m c 1 t : Vec Ideal S512x256 .f32) (ix2 i k) = in1 m c (ix2 (row t i) k) := by
  blk_ext [iblk, V, idx_val t, row]
theorem read_2 (j : Fin 4) (k : Fin 256) (n : Fin 1024) : (iblk m c 2 t : Vec Ideal S4x256x1024 .bf16) (ix3 j k n) = in2 m c (ix3 j k n) := by
  blk_simp [iblk, idx_val t]; entry_read; pointwise; blk_ext [idx_val t]
theorem read_3 (j : Fin 4) (k : Fin 256) (n : Fin 256) : (iblk m c 3 t : Vec Ideal S4x256x256 .bf16) (ix3 j k n) = in3 m c (ix3 j k n) := by
  blk_simp [iblk, idx_val t]; entry_read; pointwise; blk_ext [idx_val t]

/-- The output array after the run. -/
theorem final_4 (c : Dev nD) : (dats m 0 c).arrAt 4 (cfgs 0).N = ref_v12 (in0 m c) (in1 m c) (in2 m c) (in3 m c) := by
  refine (dats m 0 c).arrAt_eq_of_covers 4 _ (by decide +kernel) fun t hf y => ?_
  blk_simp; rw [after0_4]
  have hb : (t : ℕ) < 4 := t.isLt
  refine (pure_4 (in0 m c) (in1 m c) (in2 m c) (in3 m c) _ _ _ _ (row t) (read_0 m c t) (read_1 m c t) (read_2 m c t) (read_3 m c t) y).trans
    ((ref_12 (in0 m c) (in1 m c) (in2 m c) (in3 m c) (row t (y 0)) (y 1)).symm.trans ?_)
  blk_ext [idx_val t, row]

end Cert.PleFwdIdeal.Value

end
-- ==== Proof.PleBwdRef.lean ====
/- The results of the reference `PleBwdRefIdeal`, each as one function of the arguments. -/
module

public import proofs.«01_k».proof.Proof.Gen.PleBwdRefIdeal
public import proofs.«01_k».proof.Proof.Gen.PleBwdRefIdeal.Run
public import Idealize.ShloMosaic.Lib.Pipeline.ValueKit

@[expose] public section

set_option maxRecDepth 16384

noncomputable section

namespace Cert.PleBwdRefIdeal.Value

open Cert.PleBwdRefIdeal Cert.PleBwdRefIdeal.Gen Idealize.ShloMosaic Idealize.ShloMosaic.TcCoe Idealize.SL.Sem

/-- The result `v27`. -/
def ref_v27 (a0 : FVec Ideal S2048x1024 .f32) (a1 : FVec Ideal S2048x256 .f32) (a2 : FVec Ideal S4x256x1024 .f32) (a3 : FVec Ideal S4x256x256 .f32) (a4 : FVec Ideal S2048x1024 .f32) : FVec Ideal S2048x1024 .f32 :=
  addf a4 (Host.dotGeneral dot_S2048x1024_S1024x1024_S2048x1024_1_1_0_0_n_n none (mulf (mulf (shapeCast _ a4 shapeCasts_S2048x1024_S2048x1024) (Host.dotGeneral dot_S2048x256_S256x1024_S2048x1024_1_0_0_1_n_n none a1 (shapeCast _ (transpose S256x4x256 [1, 0, 2] a3 transposes_S4x256x256_S256x4x256_1_0_2) shapeCasts_S256x4x256_S256x1024))) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024)))))) (subf (broadcastInDim S2048x1024 ![] bcast_S_S2048x1024 (constant S_ .f32 0x3F800000#32)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024))))))))) (shapeCast _ a2 shapeCasts_S4x256x1024_S1024x1024))

/-- The result `v28`. -/
def ref_v28 (a0 : FVec Ideal S2048x1024 .f32) (a1 : FVec Ideal S2048x256 .f32) (a2 : FVec Ideal S4x256x1024 .f32) (a3 : FVec Ideal S4x256x256 .f32) (a4 : FVec Ideal S2048x1024 .f32) : FVec Ideal S4x256x1024 .f32 :=
  shapeCast _ (transpose S1024x1024 [1, 0] (Host.dotGeneral dot_S2048x1024_S2048x1024_S1024x1024_0_0_1_1_n_n none (mulf (mulf (shapeCast _ a4 shapeCasts_S2048x1024_S2048x1024) (Host.dotGeneral dot_S2048x256_S256x1024_S2048x1024_1_0_0_1_n_n none a1 (shapeCast _ (transpose S256x4x256 [1, 0, 2] a3 transposes_S4x256x256_S256x4x256_1_0_2) shapeCasts_S256x4x256_S256x1024))) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024)))))) (subf (broadcastInDim S2048x1024 ![] bcast_S_S2048x1024 (constant S_ .f32 0x3F800000#32)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024))))))))) a0) transposes_S1024x1024_S1024x1024_1_0) shapeCasts_S1024x1024_S4x256x1024

/-- The result `v22`. -/
def ref_v22 (a0 : FVec Ideal S2048x1024 .f32) (a1 : FVec Ideal S2048x256 .f32) (a2 : FVec Ideal S4x256x1024 .f32) (a3 : FVec Ideal S4x256x256 .f32) (a4 : FVec Ideal S2048x1024 .f32) : FVec Ideal S4x256x256 .f32 :=
  transpose S4x256x256 [1, 0, 2] (shapeCast _ (transpose S256x1024 [1, 0] (Host.dotGeneral dot_S2048x1024_S2048x256_S1024x256_0_0_1_1_n_n none (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none a0 (shapeCast _ a2 shapeCasts_S4x256x1024_S1024x1024)))))) (shapeCast _ a4 shapeCasts_S2048x1024_S2048x1024)) a1) transposes_S1024x256_S256x1024_1_0) shapeCasts_S256x1024_S256x4x256) transposes_S256x4x256_S4x256x256_1_0_2

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S2048x256 .f32) (h1 : ∀ c : Dev nD, m ((c.tc : Thread nD τ).loc main_arg1) = x1 c)
    (x2 : Dev nD → FVec Ideal S4x256x1024 .f32) (h2 : ∀ c : Dev nD, m ((c.tc : Thread nD τ).loc main_arg2) = x2 c)
    (x3 : Dev nD → FVec Ideal S4x256x256 .f32) (h3 : ∀ c : Dev nD, m ((c.tc : Thread nD τ).loc main_arg3) = x3 c)
    (x4 : Dev nD → FVec Ideal S2048x1024 .f32) (h4 : ∀ c : Dev nD, m ((c.tc : Thread nD τ).loc main_arg4) = x4 c) :
    θ_run defs (onTc (τ := τ) (main (F := Ideal))) ⟨m, fun _ => 0, ρ⟩ fun r => ∀ c : Dev nD,
      r.2.mem ((c.tc : Thread nD τ).loc main_v27) = ref_v27 (x0 c) (x1 c) (x2 c) (x3 c) (x4 c)
      ∧ r.2.mem ((c.tc : Thread nD τ).loc main_v28) = ref_v28 (x0 c) (x1 c) (x2 c) (x3 c) (x4 c)
      ∧ r.2.mem ((c.tc : Thread nD τ).loc main_v22) = ref_v22 (x0 c) (x1 c) (x2 c) (x3 c) (x4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  obtain rfl : x4 = fun c : Dev nD => m ((c.tc : Thread nD τ).loc main_arg4) := funext fun c => (h4 c).symm
  exact (θ_run _ _ _).mono (fun r h c => ⟨(h c).1, (h c).2.1, (h c).2.2.1, (h c).2.2.2⟩) (run m ρ)

end Cert.PleBwdRefIdeal.Value

end
-- ==== Proof.StoreOver.lean ====
/- A buffer filled whole and then stored tile by tile. -/
module

public import Idealize.ShloMosaic.Lib.Pipeline.ReadBack
public import Idealize.ShloMosaic.Lib.Pipeline.ValueKit

@[expose] public section

noncomputable section

open Idealize.ShloMosaic

namespace Cert.StoreOver

/-- Where later stores cover, a first store made before them is not seen. -/
theorem canon_over {Val : EltTy → Type} {S : Shape} {e : EltTy} [∀ e, Nonempty (Val e)] (z : View.Piece Val S e) :
    ∀ (L : List (View.Piece Val S e)) (y : S.Idx) (_ : ∃ p ∈ L, y ∈ p.1.set), View.canon (L ++ [z]) y = View.canon L y
  | [], _, h => by obtain ⟨_, hm, _⟩ := h; exact absurd hm List.not_mem_nil
  | p :: L, y, h => by
    by_cases hy : y ∈ p.1.set
    · obtain ⟨x, rfl⟩ := p.1.exists_idx_of_mem hy
      rw [List.cons_append, show p.1.idx x = p.1.emb x from rfl, View.canon_cons_emb, View.canon_cons_emb]
    · rw [List.cons_append, View.canon_cons_of_not_mem _ _ hy, View.canon_cons_of_not_mem _ _ hy]
      refine canon_over z L y ?_
      obtain ⟨q, hq, hyq⟩ := h
      rcases List.mem_cons.mp hq with rfl | hq'
      · exact absurd hyq hy
      · exact ⟨q, hq', hyq⟩

/-- An index of rank three from its coordinates. -/
theorem idx3_ext {A B C : ℕ} {j : Fin A} {k : Fin B} {n : Fin C} {y : (⟨3, ![A, B, C]⟩ : Shape).Idx} (hj : (y 0 : ℕ) = j) (hk : (y 1 : ℕ) = k)
    (hn : (y 2 : ℕ) = n) : ix3 j k n = y := by
  funext a
  fin_cases a
  · exact Fin.ext hj.symm
  · exact Fin.ext hk.symm
  · exact Fin.ext hn.symm

end Cert.StoreOver

end
-- ==== Proof.PleBwdPoint.lean ====
/- What one grid point of the gradient of the per-layer embedding's gated addition computes, against the reference's results. -/
module

public import proofs.«01_k».proof.Proof.Gen.PleBwdIdeal.Value
public import proofs.«01_k».proof.Proof.PleBwdRef
public import proofs.«01_k».proof.Proof.MixEntry
public import proofs.«01_k».proof.Proof.StoreOver
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PleBwdIdeal.Value

open Cert.PleBwdIdeal Cert.PleBwdIdeal.Gen Cert.PleBwdRefIdeal.Value Cert.StoreOver

section terms

variable (a0 : FVec Ideal S2048x1024 .f32) (a1 : FVec Ideal S2048x256 .f32) (a2 : FVec Ideal S4x256x1024 .f32) (a3 : FVec Ideal S4x256x256 .f32)
  (a4 : FVec Ideal S2048x1024 .f32)

/-- A row of the input against the gate's column `n`, quarter by quarter. -/
def proj (r : Fin 2048) (n : Fin 1024) : EReal :=
  ∑ p : Fin 256, a0 (ix2 r ⟨p.val, by omega⟩) * a2 (ix3 0 p n) + ∑ p : Fin 256, a0 (ix2 r ⟨256 + p.val, by omega⟩) * a2 (ix3 1 p n)
    + ∑ p : Fin 256, a0 (ix2 r ⟨512 + p.val, by omega⟩) * a2 (ix3 2 p n) + ∑ p : Fin 256, a0 (ix2 r ⟨768 + p.val, by omega⟩) * a2 (ix3 3 p n)

theorem proj_eq (r : Fin 2048) (n : Fin 1024) :
    ∑ k : Fin 1024, a0 (ix2 r k) * a2 (ix3 ⟨k.val / 256, by omega⟩ ⟨k.val % 256, by omega⟩ n) = proj a0 a2 r n := by
  refine (MixEntry.sum_quarters _ (fun j p => a0 (ix2 r ⟨j.val * 256 + p.val, by omega⟩) * a2 (ix3 j p n)) fun k j p h =>
    congrArg₂ (· * ·) (congrArg (fun k => a0 (ix2 r k)) (Fin.ext h))
      (congrArg₂ (fun j p => a2 (ix3 j p n)) (Fin.ext (by dsimp only; omega)) (Fin.ext (by dsimp only; omega)))).trans ?_
  unfold proj
  refine congr (congrArg _ (congr (congrArg _ (congr (congrArg _ ?_) ?_)) ?_)) ?_ <;>
    exact Fin.sum_fin_congr fun p => congrArg (fun k => a0 (ix2 r k) * _) (Fin.ext (by simp))

/-- The gate. -/
def gate (r : Fin 2048) (n : Fin 1024) : EReal := Ideal.div 1 (1 + Ideal.exp (-proj a0 a2 r n))

/-- The cotangent of the gate's argument at row `r`, column `n`, which is column `k` of quarter `j`. -/
def part (r : Fin 2048) (n : Fin 1024) (j : Fin 4) (k : Fin 256) : EReal :=
  a4 (ix2 r n) * gate a0 a2 r n * (1 - gate a0 a2 r n) * ∑ q : Fin 256, a1 (ix2 r q) * a3 (ix3 j q k)

theorem part_congr (r : Fin 2048) {n n' : Fin 1024} {j j' : Fin 4} {k k' : Fin 256} (hn : n.val = n'.val) (hj : j.val = j'.val)
    (hk : k.val = k'.val) : part a0 a1 a2 a3 a4 r n j k = part a0 a1 a2 a3 a4 r n' j' k' := by
  obtain rfl := Fin.ext hn; obtain rfl := Fin.ext hj; obtain rfl := Fin.ext hk; rfl

/-- The cotangent of the gate's argument, quarter by quarter. -/
def dpre (r : Fin 2048) (n : Fin 1024) : EReal :=
  if h : n.val < 256 then part a0 a1 a2 a3 a4 r n 0 ⟨n.val, h⟩
  else if h : n.val - 256 < 256 then part a0 a1 a2 a3 a4 r ⟨256 + (n.val - 256), by omega⟩ 1 ⟨n.val - 256, h⟩
  else if h : n.val - 256 - 256 < 256 then part a0 a1 a2 a3 a4 r ⟨512 + (n.val - 256 - 256), by omega⟩ 2 ⟨n.val - 256 - 256, h⟩
  else part a0 a1 a2 a3 a4 r ⟨768 + (n.val - 256 - 256 - 256), by omega⟩ 3 ⟨n.val - 256 - 256 - 256, by omega⟩

theorem dpre_eq (r : Fin 2048) (n : Fin 1024) : dpre a0 a1 a2 a3 a4 r n
    = a4 (ix2 r n) * (∑ q : Fin 256, a1 (ix2 r q) * a3 (ix3 ⟨n.val / 256, by omega⟩ q ⟨n.val % 256, by omega⟩))
      * (gate a0 a2 r n * (1 - gate a0 a2 r n)) := by
  refine Eq.trans (b := part a0 a1 a2 a3 a4 r n ⟨n.val / 256, by omega⟩ ⟨n.val % 256, by omega⟩) ?_ ?_
  · have hn := n.isLt
    unfold dpre
    split_ifs <;> exact part_congr a0 a1 a2 a3 a4 r (by first | rfl | (dsimp only; omega)) (by simp; omega) (by first | rfl | (dsimp only; omega))
  · unfold part
    rw [mul_assoc (a4 (ix2 r n)), mul_assoc (a4 (ix2 r n)), mul_assoc (a4 (ix2 r n))]
    exact congrArg _ (mul_comm _ _)

/-- What row `r` adds to the gradient of the gate's weights. -/
def dwgPart (k : Fin 1024) (n : Fin 1024) (r : Fin 2048) : EReal := a0 (ix2 r k) * dpre a0 a1 a2 a3 a4 r n

/-- What row `r` adds to the gradient of the embedding's projection. -/
def dwpPart (q : Fin 256) (n : Fin 1024) (r : Fin 2048) : EReal := a1 (ix2 r q) * (a4 (ix2 r n) * gate a0 a2 r n)

/-- The input's gradient at row `r`, column `n`, which is row `k` of quarter `j` of the gate's weights. -/
def val (r : Fin 2048) (n : Fin 1024) (j : Fin 4) (k : Fin 256) : EReal :=
  a4 (ix2 r n) + ∑ x : Fin 1024, dpre a0 a1 a2 a3 a4 r x * a2 (ix3 j k x)

theorem val_congr {r r' : Fin 2048} {n n' : Fin 1024} {j j' : Fin 4} {k k' : Fin 256} (hr : r = r') (hn : n.val = n'.val) (hj : j.val = j'.val)
    (hk : k.val = k'.val) : val a0 a1 a2 a3 a4 r n j k = val a0 a1 a2 a3 a4 r' n' j' k' := by
  obtain rfl := hr; obtain rfl := Fin.ext hn; obtain rfl := Fin.ext hj; obtain rfl := Fin.ext hk; rfl

theorem ref_27 (r : Fin 2048) (n : Fin 1024) :
    ref_v27 a0 a1 a2 a3 a4 (ix2 r n) = val a0 a1 a2 a3 a4 r n ⟨n.val / 256, by omega⟩ ⟨n.val % 256, by omega⟩ := by
  pointwise [ref_v27]
  unfold val
  simp only [dpre_eq, gate, proj_eq]

theorem ref_28 (j : Fin 4) (k : Fin 256) (n : Fin 1024) :
    ref_v28 a0 a1 a2 a3 a4 (ix3 j k n) = ∑ r : Fin 2048, dwgPart a0 a1 a2 a3 a4 ⟨j.val * 256 + k.val, by omega⟩ n r := by
  pointwise [ref_v28]
  unfold dwgPart
  simp only [dpre_eq, gate, proj_eq]
  exact Fin.sum_fin_congr fun r => mul_comm _ _

theorem ref_22 (j : Fin 4) (q : Fin 256) (k : Fin 256) :
    ref_v22 a0 a1 a2 a3 a4 (ix3 j q k) = ∑ r : Fin 2048, dwpPart a0 a1 a2 a4 q ⟨j.val * 256 + k.val, by omega⟩ r := by
  pointwise [ref_v22]
  unfold dwpPart
  simp only [gate, proj_eq]
  exact Fin.sum_fin_congr fun r => (congrArg (· * _) (mul_comm _ _)).trans (mul_comm _ _)

section blocks

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S4x256x1024 .bf16) (harg4 : arg4.IsWhole) (arg5 : Memref sig .tc .vmem S4x256x256 .bf16) (harg5 : arg5.IsWhole) (arg6 : Memref sig .tc .vmem S512x1024 .f32) (harg6 : arg6.IsWhole) (arg7 : Memref sig .tc .vmem S4x256x1024 .f32) (harg7 : arg7.IsWhole) (arg8 : Memref sig .tc .vmem S4x256x256 .f32) (harg8 : arg8.IsWhole)
  (x0 : Vec Ideal S512x1024 .f32) (x1 : Vec Ideal S512x1024 .f32) (x2 : Vec Ideal S512x256 .f32) (x3 : Vec Ideal S4x256x1024 .bf16) (x4 : Vec Ideal S4x256x256 .bf16)
  (xo6 : Vec Ideal S4x256x1024 .f32) (xo7 : Vec Ideal S4x256x256 .f32) (row : Fin 512 → Fin 2048)
  (e0 : ∀ (i : Fin 512) (k : Fin 1024), x0 (ix2 i k) = a4 (ix2 (row i) k))
  (e1 : ∀ (i : Fin 512) (k : Fin 1024), x1 (ix2 i k) = a0 (ix2 (row i) k))
  (e2 : ∀ (i : Fin 512) (k : Fin 256), x2 (ix2 i k) = a1 (ix2 (row i) k))
  (e3 : ∀ (j : Fin 4) (k : Fin 256) (n : Fin 1024), x3 (ix3 j k n) = a2 (ix3 j k n))
  (e4 : ∀ (j : Fin 4) (k : Fin 256) (n : Fin 256), x4 (ix3 j k n) = a3 (ix3 j k n))

include e0 e1 e2 e3 e4

theorem pure_A_5 (hc : cond0_0 i) (y : S512x1024.Idx) :
    out0_A_5 c i arg1 harg1 arg2 harg2 arg3 harg3 arg4 harg4 arg5 harg5 arg6 harg6 arg7 harg7 arg8 harg8 hc x0 x1 x2 x3 x4 y
      = val a0 a1 a2 a3 a4 (row (y 0)) (y 1) ⟨(y 1 : ℕ) / 256, by have : (y 1 : ℕ) < 1024 := (y 1).isLt; omega⟩ ⟨(y 1 : ℕ) % 256, by omega⟩ := by
  frame_out
  canon_tiles x h
  case piece0 =>
    refine Eq.trans (b := val a0 a1 a2 a3 a4 (row (x 0)) ⟨768 + (x 1 : ℕ), by omega⟩ 3 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece1 =>
    refine Eq.trans (b := val a0 a1 a2 a3 a4 (row (x 0)) ⟨512 + (x 1 : ℕ), by omega⟩ 2 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece2 =>
    refine Eq.trans (b := val a0 a1 a2 a3 a4 (row (x 0)) ⟨256 + (x 1 : ℕ), by omega⟩ 1 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece3 =>
    refine Eq.trans (b := val a0 a1 a2 a3 a4 (row (x 0)) ⟨(x 1 : ℕ), by omega⟩ 0 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]

theorem pure_A_6 (hc : cond0_0 i) (y : S4x256x1024.Idx) :
    out0_A_6 c i arg1 harg1 arg2 harg2 arg3 harg3 arg4 harg4 arg5 harg5 arg6 harg6 arg7 harg7 arg8 harg8 hc x0 x1 x2 x3 x4 y
      = 0 + ∑ p : Fin 512, dwgPart a0 a1 a2 a3 a4 ⟨(y 0 : ℕ) * 256 + (y 1 : ℕ), by have h0 : (y 0 : ℕ) < 4 := (y 0).isLt; have h1 : (y 1 : ℕ) < 256 := (y 1).isLt; omega⟩ (y 2) (row p) := by
  frame_open
  simp (disch := decide) only [↓ View.readCov_skip, ↓ View.readCov_fill]
  frame_out
  refine (canon_over _ [_, _, _, _] y (View.cover_of_tiled_head _ _ _ (by rfl) _)).trans ?_
  canon_tiles x h
  case piece0 =>
    refine Eq.trans (b := 0 + ∑ p : Fin 512, dwgPart a0 a1 a2 a3 a4 ⟨768 + (x 1 : ℕ), by omega⟩ (x 2) (row p)) ?_ (congrArg₂ (· + ·) rfl
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece1 =>
    refine Eq.trans (b := 0 + ∑ p : Fin 512, dwgPart a0 a1 a2 a3 a4 ⟨512 + (x 1 : ℕ), by omega⟩ (x 2) (row p)) ?_ (congrArg₂ (· + ·) rfl
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece2 =>
    refine Eq.trans (b := 0 + ∑ p : Fin 512, dwgPart a0 a1 a2 a3 a4 ⟨256 + (x 1 : ℕ), by omega⟩ (x 2) (row p)) ?_ (congrArg₂ (· + ·) rfl
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece3 =>
    refine Eq.trans (b := 0 + ∑ p : Fin 512, dwgPart a0 a1 a2 a3 a4 ⟨(x 1 : ℕ), by omega⟩ (x 2) (row p)) ?_ (congrArg₂ (· + ·) rfl
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]

theorem pure_A_7 (hc : cond0_0 i) (y : S4x256x256.Idx) :
    out0_A_7 c i arg1 harg1 arg2 harg2 arg3 harg3 arg4 harg4 arg5 harg5 arg6 harg6 arg7 harg7 arg8 harg8 hc x0 x1 x2 x3 x4 y
      = 0 + ∑ p : Fin 512, dwpPart a0 a1 a2 a4 (y 1) ⟨(y 0 : ℕ) * 256 + (y 2 : ℕ), by have h0 : (y 0 : ℕ) < 4 := (y 0).isLt; have h2 : (y 2 : ℕ) < 256 := (y 2).isLt; omega⟩ (row p) := by
  frame_open
  simp (disch := decide) only [↓ View.readCov_skip, ↓ View.readCov_fill]
  frame_out
  refine (canon_over _ [_, _, _, _] y (View.cover_of_tiled_head _ _ _ (by rfl) _)).trans ?_
  canon_tiles x h
  case piece0 =>
    refine Eq.trans (b := 0 + ∑ p : Fin 512, dwpPart a0 a1 a2 a4 (x 1) ⟨768 + (x 2 : ℕ), by omega⟩ (row p)) ?_ (congrArg₂ (· + ·) rfl
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece1 =>
    refine Eq.trans (b := 0 + ∑ p : Fin 512, dwpPart a0 a1 a2 a4 (x 1) ⟨512 + (x 2 : ℕ), by omega⟩ (row p)) ?_ (congrArg₂ (· + ·) rfl
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece2 =>
    refine Eq.trans (b := 0 + ∑ p : Fin 512, dwpPart a0 a1 a2 a4 (x 1) ⟨256 + (x 2 : ℕ), by omega⟩ (row p)) ?_ (congrArg₂ (· + ·) rfl
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece3 =>
    refine Eq.trans (b := 0 + ∑ p : Fin 512, dwpPart a0 a1 a2 a4 (x 1) ⟨(x 2 : ℕ), by omega⟩ (row p)) ?_ (congrArg₂ (· + ·) rfl
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]

theorem pure_B_5 (hc : ¬cond0_0 i) (y : S512x1024.Idx) :
    out0_B_5 c i arg1 harg1 arg2 harg2 arg3 harg3 arg4 harg4 arg5 harg5 arg6 harg6 arg7 harg7 arg8 harg8 hc x0 x1 x2 x3 x4 xo6 xo7 y
      = val a0 a1 a2 a3 a4 (row (y 0)) (y 1) ⟨(y 1 : ℕ) / 256, by have : (y 1 : ℕ) < 1024 := (y 1).isLt; omega⟩ ⟨(y 1 : ℕ) % 256, by omega⟩ := by
  frame_out
  canon_tiles x h
  case piece0 =>
    refine Eq.trans (b := val a0 a1 a2 a3 a4 (row (x 0)) ⟨768 + (x 1 : ℕ), by omega⟩ 3 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece1 =>
    refine Eq.trans (b := val a0 a1 a2 a3 a4 (row (x 0)) ⟨512 + (x 1 : ℕ), by omega⟩ 2 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece2 =>
    refine Eq.trans (b := val a0 a1 a2 a3 a4 (row (x 0)) ⟨256 + (x 1 : ℕ), by omega⟩ 1 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]
  case piece3 =>
    refine Eq.trans (b := val a0 a1 a2 a3 a4 (row (x 0)) ⟨(x 1 : ℕ), by omega⟩ 0 (x 1)) ?_
      (val_congr a0 a1 a2 a3 a4 (congrArg row (Fin.ext h0.symm)) (by dsimp only; omega) (by simp; omega) (by dsimp only; omega))
    open_payloads
    pointwise [val, dpre, part, gate, proj, e0, e1, e2, e3, e4]
    simp only [zero_sub]

theorem pure_B_6 (hc : ¬cond0_0 i) (y : S4x256x1024.Idx) :
    out0_B_6 c i arg1 harg1 arg2 harg2 arg3 harg3 arg4 harg4 arg5 harg5 arg6 harg6 arg7 harg7 arg8 harg8 hc x0 x1 x2 x3 x4 xo6 xo7 y
      = (xo6 y : EReal) + ∑ p : Fin 512, dwgPart a0 a1 a2 a3 a4 ⟨(y 0 : ℕ) * 256 + (y 1 : ℕ), by have h0 : (y 0 : ℕ) < 4 := (y 0).isLt; have h1 : (y 1 : ℕ) < 256 := (y 1).isLt; omega⟩ (y 2) (row p) := by
  frame_out
  canon_tiles x h
  case piece0 =>
    refine Eq.trans (b := (xo6 (ix3 3 (x 1) (x 2)) : EReal) + ∑ p : Fin 512, dwgPart a0 a1 a2 a3 a4 ⟨768 + (x 1 : ℕ), by omega⟩ (x 2) (row p)) ?_ (congrArg₂ (· + ·) (congrArg xo6 (idx3_ext (by simp; omega) h1 h2))
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece1 =>
    refine Eq.trans (b := (xo6 (ix3 2 (x 1) (x 2)) : EReal) + ∑ p : Fin 512, dwgPart a0 a1 a2 a3 a4 ⟨512 + (x 1 : ℕ), by omega⟩ (x 2) (row p)) ?_ (congrArg₂ (· + ·) (congrArg xo6 (idx3_ext (by simp; omega) h1 h2))
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece2 =>
    refine Eq.trans (b := (xo6 (ix3 1 (x 1) (x 2)) : EReal) + ∑ p : Fin 512, dwgPart a0 a1 a2 a3 a4 ⟨256 + (x 1 : ℕ), by omega⟩ (x 2) (row p)) ?_ (congrArg₂ (· + ·) (congrArg xo6 (idx3_ext (by simp; omega) h1 h2))
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]
  case piece3 =>
    refine Eq.trans (b := (xo6 (ix3 0 (x 1) (x 2)) : EReal) + ∑ p : Fin 512, dwgPart a0 a1 a2 a3 a4 ⟨(x 1 : ℕ), by omega⟩ (x 2) (row p)) ?_ (congrArg₂ (· + ·) (congrArg xo6 (idx3_ext (by simp; omega) h1 h2))
      (Fin.sum_fin_congr fun p => congrArg₂ (fun a b => dwgPart a0 a1 a2 a3 a4 a b (row p)) (Fin.ext (by dsimp only; omega)) (Fin.ext (by dsimp only; omega))))
    open_payloads
    pointwise [dwgPart, dpre, part, gate, proj, e0, e1, e2, e3, e4]
    simp only [zero_sub]

theorem pure_B_7 (hc : ¬cond0_0 i) (y : S4x256x256.Idx) :
    out0_B_7 c i arg1 harg1 arg2 harg2 arg3 harg3 arg4 harg4 arg5 harg5 arg6 harg6 arg7 harg7 arg8 harg8 hc x0 x1 x2 x3 x4 xo6 xo7 y
      = (xo7 y : EReal) + ∑ p : Fin 512, dwpPart a0 a1 a2 a4 (y 1) ⟨(y 0 : ℕ) * 256 + (y 2 : ℕ), by have h0 : (y 0 : ℕ) < 4 := (y 0).isLt; have h2 : (y 2 : ℕ) < 256 := (y 2).isLt; omega⟩ (row p) := by
  frame_out
  canon_tiles x h
  case piece0 =>
    refine Eq.trans (b := (xo7 (ix3 3 (x 1) (x 2)) : EReal) + ∑ p : Fin 512, dwpPart a0 a1 a2 a4 (x 1) ⟨768 + (x 2 : ℕ), by omega⟩ (row p)) ?_ (congrArg₂ (· + ·) (congrArg xo7 (idx3_ext (by simp; omega) h1 h2))
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece1 =>
    refine Eq.trans (b := (xo7 (ix3 2 (x 1) (x 2)) : EReal) + ∑ p : Fin 512, dwpPart a0 a1 a2 a4 (x 1) ⟨512 + (x 2 : ℕ), by omega⟩ (row p)) ?_ (congrArg₂ (· + ·) (congrArg xo7 (idx3_ext (by simp; omega) h1 h2))
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece2 =>
    refine Eq.trans (b := (xo7 (ix3 1 (x 1) (x 2)) : EReal) + ∑ p : Fin 512, dwpPart a0 a1 a2 a4 (x 1) ⟨256 + (x 2 : ℕ), by omega⟩ (row p)) ?_ (congrArg₂ (· + ·) (congrArg xo7 (idx3_ext (by simp; omega) h1 h2))
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]
  case piece3 =>
    refine Eq.trans (b := (xo7 (ix3 0 (x 1) (x 2)) : EReal) + ∑ p : Fin 512, dwpPart a0 a1 a2 a4 (x 1) ⟨(x 2 : ℕ), by omega⟩ (row p)) ?_ (congrArg₂ (· + ·) (congrArg xo7 (idx3_ext (by simp; omega) h1 h2))
      (Fin.sum_fin_congr fun p => congrArg₂ (fun a b => dwpPart a0 a1 a2 a4 a b (row p)) (Fin.ext (by dsimp only; omega)) (Fin.ext (by dsimp only; omega))))
    open_payloads
    pointwise [dwpPart, gate, proj, e0, e1, e2, e3, e4]
    simp only [zero_sub]

end blocks

end terms

end Cert.PleBwdIdeal.Value

end
-- ==== Proof.PleBwdValue.lean ====
/- The arrays the gradient of the per-layer embedding's gated addition leaves, against the reference's results. -/
module

public import proofs.«01_k».proof.Proof.Gen.PleBwdIdeal.Value
public import proofs.«01_k».proof.Proof.PleBwdPoint
public import proofs.«01_k».proof.Proof.AccSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PleBwdIdeal.Value

open Cert.PleBwdIdeal Cert.PleBwdIdeal.Gen Cert.PleBwdRefIdeal.Value

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S2048x256 .f32 := m ((c : Thread nD τ).loc main_arg1)
abbrev in2 (c : Dev nD) : FVec Ideal S4x256x1024 .f32 := m ((c : Thread nD τ).loc main_arg2)
abbrev in3 (c : Dev nD) : FVec Ideal S4x256x256 .f32 := m ((c : Thread nD τ).loc main_arg3)
abbrev in4 (c : Dev nD) : FVec Ideal S2048x1024 .f32 := m ((c : Thread nD τ).loc main_arg4)

/-- Every window's block at every grid point. -/
theorem idx_val : ∀ t : Fin cfg0.N, win0_0.index t = ![t.val, 0]
    ∧ win0_1.index t = ![t.val, 0]
    ∧ win0_2.index t = ![t.val, 0]
    ∧ win0_3.index t = ![0, 0, 0]
    ∧ win0_4.index t = ![0, 0, 0]
    ∧ win0_5.index t = ![t.val, 0]
    ∧ win0_6.index t = ![0, 0, 0]
    ∧ win0_7.index t = ![0, 0, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

section reads
variable (c : Dev nD) (t : Fin cfg0.N)

theorem read_0 (i : Fin 512) (k : Fin 1024) : (iblk m c 0 t : Vec Ideal S512x1024 .f32) (ix2 i k) = in4 m c (ix2 (row t i) k) := by
  blk_ext [iblk, V, idx_val t, row]
theorem read_1 (i : Fin 512) (k : Fin 1024) : (iblk m c 1 t : Vec Ideal S512x1024 .f32) (ix2 i k) = in0 m c (ix2 (row t i) k) := by
  blk_ext [iblk, V, idx_val t, row]
theorem read_2 (i : Fin 512) (k : Fin 256) : (iblk m c 2 t : Vec Ideal S512x256 .f32) (ix2 i k) = in1 m c (ix2 (row t i) k) := by
  blk_ext [iblk, V, idx_val t, row]
theorem read_3 (j : Fin 4) (k : Fin 256) (n : Fin 1024) : (iblk m c 3 t : Vec Ideal S4x256x1024 .bf16) (ix3 j k n) = in2 m c (ix3 j k n) := by
  blk_simp [iblk, idx_val t]; entry_read; pointwise; blk_ext [idx_val t]
theorem read_4 (j : Fin 4) (k : Fin 256) (n : Fin 256) : (iblk m c 4 t : Vec Ideal S4x256x256 .bf16) (ix3 j k n) = in3 m c (ix3 j k n) := by
  blk_simp [iblk, idx_val t]; entry_read; pointwise; blk_ext [idx_val t]

theorem outs_5 (y : S512x1024.Idx) : (outsAt0 m c t.val t.isLt).1 y
    = val (in0 m c) (in1 m c) (in2 m c) (in3 m c) (in4 m c) (row t (y 0)) (y 1) ⟨(y 1 : ℕ) / 256, by have : (y 1 : ℕ) < 1024 := (y 1).isLt; omega⟩ ⟨(y 1 : ℕ) % 256, by omega⟩ := by
  by_cases h : t.val % 4 = 0
  · rw [outsAt0_A m c t h]
    dsimp only
    exact pure_A_5 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ (row t) (read_0 m c t) (read_1 m c t) (read_2 m c t) (read_3 m c t) (read_4 m c t) ((hcond0_0 t).mpr h) y
  · rw [outsAt0_B m c t h]
    dsimp only
    generalize outsAt0 m c (t.val - 1) _ = z
    exact pure_B_5 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _ _ (row t) (read_0 m c t) (read_1 m c t) (read_2 m c t) (read_3 m c t) (read_4 m c t) (fun q => h ((hcond0_0 t).mp q)) y

theorem outs_6_A (h : t.val % 4 = 0) (y : S4x256x1024.Idx) : (outsAt0 m c t.val t.isLt).2.1 y
    = 0 + ∑ p : Fin 512, dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2) (row t p) := by
  rw [outsAt0_A m c t h]
  dsimp only
  exact pure_A_6 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ (row t) (read_0 m c t) (read_1 m c t) (read_2 m c t) (read_3 m c t) (read_4 m c t) ((hcond0_0 t).mpr h) y

theorem outs_6_B (h : ¬t.val % 4 = 0) (y : S4x256x1024.Idx) : (outsAt0 m c t.val t.isLt).2.1 y
    = (outsAt0 m c (t.val - 1) (Nat.lt_of_le_of_lt (Nat.sub_le _ _) t.isLt)).2.1 y + ∑ p : Fin 512, dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2) (row t p) := by
  rw [outsAt0_B m c t h]
  dsimp only
  generalize outsAt0 m c (t.val - 1) _ = z
  exact pure_B_6 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _ _ (row t) (read_0 m c t) (read_1 m c t) (read_2 m c t) (read_3 m c t) (read_4 m c t) (fun q => h ((hcond0_0 t).mp q)) y

theorem outs_7_A (h : t.val % 4 = 0) (y : S4x256x256.Idx) : (outsAt0 m c t.val t.isLt).2.2 y
    = 0 + ∑ p : Fin 512, dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩ (row t p) := by
  rw [outsAt0_A m c t h]
  dsimp only
  exact pure_A_7 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ (row t) (read_0 m c t) (read_1 m c t) (read_2 m c t) (read_3 m c t) (read_4 m c t) ((hcond0_0 t).mpr h) y

theorem outs_7_B (h : ¬t.val % 4 = 0) (y : S4x256x256.Idx) : (outsAt0 m c t.val t.isLt).2.2 y
    = (outsAt0 m c (t.val - 1) (Nat.lt_of_le_of_lt (Nat.sub_le _ _) t.isLt)).2.2 y + ∑ p : Fin 512, dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩ (row t p) := by
  rw [outsAt0_B m c t h]
  dsimp only
  generalize outsAt0 m c (t.val - 1) _ = z
  exact pure_B_7 (in0 m c) (in1 m c) (in2 m c) (in3 m c) (in4 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _ _ (row t) (read_0 m c t) (read_1 m c t) (read_2 m c t) (read_3 m c t) (read_4 m c t) (fun q => h ((hcond0_0 t).mp q)) y

end reads

/-- Output 1 at the last grid point: every row's part. -/
theorem outs_6 (c : Dev nD) (t : Fin cfg0.N) (ht : t.val % 4 = 3) (y : S4x256x1024.Idx) : (outsAt0 m c t.val t.isLt).2.1 y
    = ∑ r : Fin 2048, dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2) r := by
  have hN : (t : ℕ) < 4 := t.isLt
  have e := AccSum.eq_add_sum_fin (M := EReal) (N := cfg0.N) (fun k' h => (outsAt0 m c k' h).2.1 y) 0
    (fun s => ∑ p : Fin 512, dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2) ⟨s % 4 * 512 + p, by omega⟩)
    4 0 (fun h => outs_6_A m c ⟨0, h⟩ rfl y) (fun s hs h => ?_) (by omega) t.val (by omega) t.isLt
  · refine e.trans ((zero_add _).trans (Eq.symm ?_))
    refine Fin.sum_divmod_congr (A := 4) (S := 512) fun s p h => congrArg (dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2)) (Fin.ext ?_)
    have := s.isLt
    dsimp only
    omega
  · have h4 : 0 + (s + 1) < 4 := h
    have h1 := outs_6_B m c ⟨0 + (s + 1), h⟩ (by dsimp only; omega) y
    refine h1.trans (congrArg _ (Fin.sum_fin_congr fun p => congrArg (dwgPart (in0 m c) (in1 m c) (in2 m c) (in3 m c) (in4 m c) ⟨(y 0 : ℕ) * 256 + (y 1 : ℕ), by have h0 : (y 0 : ℕ) < 4 := (y 0).isLt; have h1 : (y 1 : ℕ) < 256 := (y 1).isLt; omega⟩ (y 2)) (Fin.ext ?_)))
    simp only [row]
    omega

/-- Output 2 at the last grid point: every row's part. -/
theorem outs_7 (c : Dev nD) (t : Fin cfg0.N) (ht : t.val % 4 = 3) (y : S4x256x256.Idx) : (outsAt0 m c t.val t.isLt).2.2 y
    = ∑ r : Fin 2048, dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩ r := by
  have hN : (t : ℕ) < 4 := t.isLt
  have e := AccSum.eq_add_sum_fin (M := EReal) (N := cfg0.N) (fun k' h => (outsAt0 m c k' h).2.2 y) 0
    (fun s => ∑ p : Fin 512, dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩ ⟨s % 4 * 512 + p, by omega⟩)
    4 0 (fun h => outs_7_A m c ⟨0, h⟩ rfl y) (fun s hs h => ?_) (by omega) t.val (by omega) t.isLt
  · refine e.trans ((zero_add _).trans (Eq.symm ?_))
    refine Fin.sum_divmod_congr (A := 4) (S := 512) fun s p h => congrArg (dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩) (Fin.ext ?_)
    have := s.isLt
    dsimp only
    omega
  · have h4 : 0 + (s + 1) < 4 := h
    have h1 := outs_7_B m c ⟨0 + (s + 1), h⟩ (by dsimp only; omega) y
    refine h1.trans (congrArg _ (Fin.sum_fin_congr fun p => congrArg (dwpPart (in0 m c) (in1 m c) (in2 m c) (in4 m c) (y 1) ⟨(y 0 : ℕ) * 256 + (y 2 : ℕ), by have h0 : (y 0 : ℕ) < 4 := (y 0).isLt; have h2 : (y 2 : ℕ) < 256 := (y 2).isLt; omega⟩) (Fin.ext ?_)))
    simp only [row]
    omega

/-- The array of output window 5 after the run. -/
theorem final_5 (c : Dev nD) : (dats m 0 c).arrAt 5 (cfgs 0).N = ref_v27 (in0 m c) (in1 m c) (in2 m c) (in3 m c) (in4 m c) := by
  refine (dats m 0 c).arrAt_eq_of_covers 5 _ (by decide +kernel) fun t hf y => ?_
  blk_simp; rw [after0_5]
  have hb : (t : ℕ) < 4 := t.isLt
  refine (outs_5 m c t y).trans ((ref_27 (in0 m c) (in1 m c) (in2 m c) (in3 m c) (in4 m c) (row t (y 0)) (y 1)).symm.trans ?_)
  blk_ext [idx_val t, row]

/-- The array of output window 6 after the run. -/
theorem final_6 (c : Dev nD) : (dats m 0 c).arrAt 6 (cfgs 0).N = ref_v28 (in0 m c) (in1 m c) (in2 m c) (in3 m c) (in4 m c) := by
  refine (dats m 0 c).arrAt_eq_of_covers 6 _ (by decide +kernel) fun t hf y => ?_
  blk_simp; rw [after0_6]
  have hb : (t : ℕ) < 4 := t.isLt
  refine (outs_6 m c t ((flush0_6 t).mp hf) y).trans ((ref_28 (in0 m c) (in1 m c) (in2 m c) (in3 m c) (in4 m c) (y 0) (y 1) (y 2)).symm.trans ?_)
  blk_ext [idx_val t, row]

/-- The array of output window 7 after the run. -/
theorem final_7 (c : Dev nD) : (dats m 0 c).arrAt 7 (cfgs 0).N = ref_v22 (in0 m c) (in1 m c) (in2 m c) (in3 m c) (in4 m c) := by
  refine (dats m 0 c).arrAt_eq_of_covers 7 _ (by decide +kernel) fun t hf y => ?_
  blk_simp; rw [after0_7]
  have hb : (t : ℕ) < 4 := t.isLt
  refine (outs_7 m c t ((flush0_7 t).mp hf) y).trans ((ref_22 (in0 m c) (in1 m c) (in2 m c) (in3 m c) (in4 m c) (y 0) (y 1) (y 2)).symm.trans ?_)
  blk_ext [idx_val t, row]

end Cert.PleBwdIdeal.Value

end
-- ==== Proof.PleClaim.lean ====
/- The claims of the per-layer embedding's gated addition and of its gradient. -/
module

public import proofs.«01_k».proof.Defs
public import proofs.«01_k».proof.Proof.Gen.PleFwdIdeal
public import proofs.«01_k».proof.Proof.Gen.PleFwdIdeal.Frame
public import proofs.«01_k».proof.Proof.Gen.PleFwdIdeal.Value
public import proofs.«01_k».proof.Proof.Gen.PleFwdRefIdeal
public import proofs.«01_k».proof.Proof.PleFwdRef
public import proofs.«01_k».proof.Proof.PleFwdValue
public import proofs.«01_k».proof.Proof.Gen.PleBwdIdeal
public import proofs.«01_k».proof.Proof.Gen.PleBwdIdeal.Frame
public import proofs.«01_k».proof.Proof.Gen.PleBwdIdeal.Value
public import proofs.«01_k».proof.Proof.Gen.PleBwdRefIdeal
public import proofs.«01_k».proof.Proof.PleBwdRef
public import proofs.«01_k».proof.Proof.PleBwdValue
public import proofs.«01_k».proof.Proof.RealEntry
public import Idealize.ShloMosaic.Lib.Claim
public import Idealize.ShloMosaic.Lib.Quiescent

@[expose] public section

set_option maxRecDepth 16384

noncomputable section

namespace Cert.Proof

open Idealize.ShloMosaic Idealize.SL.Sem Cert.RealEntry

/-- The reference of the per-layer embedding's gated addition runs and leaves its arguments. -/
theorem frame_pleFwdRef : Cert.quiescent_PleFwdRefIdeal := by
  intro m g _
  refine (θ_run _ _ _).mono (fun r h => ⟨fun c => (h c).2, sem_eq_zero_of_no_sems (by decide) _⟩)
    (Cert.PleFwdRefIdeal.Value.run m g)

/-- The per-layer embedding's gated addition equals its reference. -/
theorem pleFwd : Cert.algebraic_PleFwdIdeal_PleFwdRefIdeal := by
  intro m g m' g' hpre hagree
  refine ⟨fun c => Cert.PleFwdRefIdeal.Value.ref_v12 (Cert.PleFwdIdeal.Value.in0 m c) (Cert.PleFwdIdeal.Value.in1 m c) (Cert.PleFwdIdeal.Value.in2 m c) (Cert.PleFwdIdeal.Value.in3 m c),
    ?_, Cert.PleFwdRefIdeal.Value.run_at m' g' (Cert.PleFwdIdeal.Value.in0 m) (fun c => (hagree c).1) (Cert.PleFwdIdeal.Value.in1 m) (fun c => (hagree c).2.1) (Cert.PleFwdIdeal.Value.in2 m) (fun c => (hagree c).2.2.1) (Cert.PleFwdIdeal.Value.in3 m) (fun c => (hagree c).2.2.2)⟩
  run_from Cert.PleFwdIdeal.Gen.run_main m g
  · exact Cert.PleFwdIdeal.Value.final_4 m c

/-- The reference of the gradient of the per-layer embedding's gated addition runs and leaves its arguments. -/
theorem frame_pleBwdRef : Cert.quiescent_PleBwdRefIdeal := by
  intro m g _
  refine (θ_run _ _ _).mono (fun r h => ⟨fun c => (h c).2.2.2, sem_eq_zero_of_no_sems (by decide) _⟩)
    (Cert.PleBwdRefIdeal.Value.run m g)

/-- The gradient of the per-layer embedding's gated addition equals its reference. -/
theorem pleBwd : Cert.algebraic_PleBwdIdeal_PleBwdRefIdeal := by
  intro m g m' g' hpre hagree
  refine ⟨fun c => Cert.PleBwdRefIdeal.Value.ref_v27 (Cert.PleBwdIdeal.Value.in0 m c) (Cert.PleBwdIdeal.Value.in1 m c) (Cert.PleBwdIdeal.Value.in2 m c) (Cert.PleBwdIdeal.Value.in3 m c) (Cert.PleBwdIdeal.Value.in4 m c),
    fun c => Cert.PleBwdRefIdeal.Value.ref_v28 (Cert.PleBwdIdeal.Value.in0 m c) (Cert.PleBwdIdeal.Value.in1 m c) (Cert.PleBwdIdeal.Value.in2 m c) (Cert.PleBwdIdeal.Value.in3 m c) (Cert.PleBwdIdeal.Value.in4 m c),
    fun c => Cert.PleBwdRefIdeal.Value.ref_v22 (Cert.PleBwdIdeal.Value.in0 m c) (Cert.PleBwdIdeal.Value.in1 m c) (Cert.PleBwdIdeal.Value.in2 m c) (Cert.PleBwdIdeal.Value.in3 m c) (Cert.PleBwdIdeal.Value.in4 m c),
    ?_, Cert.PleBwdRefIdeal.Value.run_at m' g' (Cert.PleBwdIdeal.Value.in0 m) (fun c => (hagree c).1) (Cert.PleBwdIdeal.Value.in1 m) (fun c => (hagree c).2.1) (Cert.PleBwdIdeal.Value.in2 m) (fun c => (hagree c).2.2.1) (Cert.PleBwdIdeal.Value.in3 m) (fun c => (hagree c).2.2.2.1) (Cert.PleBwdIdeal.Value.in4 m) (fun c => (hagree c).2.2.2.2)⟩
  run_from Cert.PleBwdIdeal.Gen.run_main m g
  · exact Cert.PleBwdIdeal.Value.final_5 m c
  · exact Cert.PleBwdIdeal.Value.final_6 m c
  · exact Cert.PleBwdIdeal.Value.final_7 m c

end Cert.Proof

end
-- ==== Proof.OutFwdRef.lean ====
/- The results of the reference `OutFwdRefIdeal`, each as one function of the arguments. -/
module

public import proofs.«01_k».proof.Proof.Gen.OutFwdRefIdeal
public import proofs.«01_k».proof.Proof.Gen.OutFwdRefIdeal.Run
public import Idealize.ShloMosaic.Lib.Pipeline.ValueKit

@[expose] public section

set_option maxRecDepth 16384

noncomputable section

namespace Cert.OutFwdRefIdeal.Value

open Cert.OutFwdRefIdeal Cert.OutFwdRefIdeal.Gen Idealize.ShloMosaic Idealize.ShloMosaic.TcCoe Idealize.SL.Sem

/-- The mixers' outputs side by side. -/
def mixed (a1 : FVec Ideal S2048x512 .f32) (a2 a3 : FVec Ideal S2048x256 .f32) : FVec Ideal S2048x1024 .f32 :=
  (concatenate S2048x1024 1 [⟨S2048x512, (a1 : (⟨S2048x512, .f32⟩ : BufTy).Contents (Elt Ideal))⟩, ⟨S2048x256, (a2 : (⟨S2048x256, .f32⟩ : BufTy).Contents (Elt Ideal))⟩, ⟨S2048x256, (a3 : (⟨S2048x256, .f32⟩ : BufTy).Contents (Elt Ideal))⟩] concatenates_S2048x512_S2048x256_S2048x256_S2048x1024_d1 : (⟨S2048x1024, .f32⟩ : BufTy).Contents (Elt Ideal))

/-- The input and the projected mixers' outputs. -/
def residual (a0 : FVec Ideal S2048x1024 .f32) (a1 : FVec Ideal S2048x512 .f32) (a2 a3 : FVec Ideal S2048x256 .f32) (a4 : FVec Ideal S4x256x1024 .f32) : FVec Ideal S2048x1024 .f32 :=
  addf a0 (Host.dotGeneral dot_S2048x1024_S1024x1024_S2048x1024_1_0_0_1_n_n none (mixed a1 a2 a3) (shapeCast _ a4 shapeCasts_S4x256x1024_S1024x1024))

/-- The mean square of every row, and `ε`. -/
def meanSq (x1 : FVec Ideal S2048x1024 .f32) : FVec Ideal S2048x1 .f32 :=
  addf (Host.divf (broadcastInDim S2048x1 ![0] bcast_S2048_S2048x1_0 (Host.reduceAdd (mulf x1 x1) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The result `v3`. -/
def ref_v3 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) : FVec Ideal S2048x1024 .f32 :=
  addf a0 (Host.dotGeneral dot_S2048x1024_S1024x1024_S2048x1024_1_0_0_1_n_n none (mixed a1 a2 a3) (shapeCast _ a4 shapeCasts_S4x256x1024_S1024x1024))

/-- The result `v16`. -/
def ref_v16 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) : FVec Ideal S2048x1024 .bf16 :=
  truncf .bf16 (mulf (mulf (residual a0 a1 a2 a3 a4) (broadcastInDim S2048x1024 ![0, 1] bcast_S2048x1_S2048x1024_0_1 (Host.rsqrt (meanSq (residual a0 a1 a2 a3 a4))))) (broadcastInDim S2048x1024 ![0, 1] bcast_S1x1024_S2048x1024_0_1 a5)) bitsLt_bf16_f32

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S2048x512 .f32) (h1 : ∀ c : Dev nD, m ((c.tc : Thread nD τ).loc main_arg1) = x1 c)
    (x2 : Dev nD → FVec Ideal S2048x256 .f32) (h2 : ∀ c : Dev nD, m ((c.tc : Thread nD τ).loc main_arg2) = x2 c)
    (x3 : Dev nD → FVec Ideal S2048x256 .f32) (h3 : ∀ c : Dev nD, m ((c.tc : Thread nD τ).loc main_arg3) = x3 c)
    (x4 : Dev nD → FVec Ideal S4x256x1024 .f32) (h4 : ∀ c : Dev nD, m ((c.tc : Thread nD τ).loc main_arg4) = x4 c)
    (x5 : Dev nD → FVec Ideal S1x1024 .f32) (h5 : ∀ c : Dev nD, m ((c.tc : Thread nD τ).loc main_arg5) = x5 c) :
    θ_run defs (onTc (τ := τ) (main (F := Ideal))) ⟨m, fun _ => 0, ρ⟩ fun r => ∀ c : Dev nD,
      r.2.mem ((c.tc : Thread nD τ).loc main_v3) = ref_v3 (x0 c) (x1 c) (x2 c) (x3 c) (x4 c) (x5 c)
      ∧ r.2.mem ((c.tc : Thread nD τ).loc main_v16) = ref_v16 (x0 c) (x1 c) (x2 c) (x3 c) (x4 c) (x5 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  obtain rfl : x4 = fun c : Dev nD => m ((c.tc : Thread nD τ).loc main_arg4) := funext fun c => (h4 c).symm
  obtain rfl : x5 = fun c : Dev nD => m ((c.tc : Thread nD τ).loc main_arg5) := funext fun c => (h5 c).symm
  exact (θ_run _ _ _).mono (fun r h c => ⟨(h c).1, (h c).2.1, (h c).2.2⟩) (run m ρ)

end Cert.OutFwdRefIdeal.Value

end
-- ==== Proof.OutFwdValue.lean ====
/- The arrays the output projection leaves, against the reference's results. -/
module

public import proofs.«01_k».proof.Proof.Gen.OutFwdIdeal.Value
public import proofs.«01_k».proof.Proof.OutFwdRef
public import proofs.«01_k».proof.Proof.RmsEntry
public import proofs.«01_k».proof.Proof.MixEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutFwdIdeal.Value

open Cert.OutFwdIdeal Cert.OutFwdIdeal.Gen Cert.OutFwdRefIdeal.Value

section terms

variable (a0 : FVec Ideal S2048x1024 .f32) (a1 : FVec Ideal S2048x512 .f32) (a2 a3 : FVec Ideal S2048x256 .f32)
  (a4 : FVec Ideal S4x256x1024 .f32) (a5 : FVec Ideal S1x1024 .f32)

/-- The residual stream after the mixers: the input and the mixers' outputs through the projection, quarter by quarter. -/
def res (r : Fin 2048) (n : Fin 1024) : EReal :=
  a0 (ix2 r n) + ∑ p : Fin 256, a1 (ix2 r ⟨p.val, by omega⟩) * a4 (ix3 0 p n) + ∑ p : Fin 256, a1 (ix2 r ⟨256 + p.val, by omega⟩) * a4 (ix3 1 p n)
    + ∑ p : Fin 256, a2 (ix2 r p) * a4 (ix3 2 p n) + ∑ p : Fin 256, a3 (ix2 r p) * a4 (ix3 3 p n)

theorem residual_at (r : Fin 2048) (n : Fin 1024) : residual a0 a1 a2 a3 a4 (ix2 r n) = res a0 a1 a2 a3 a4 r n := by
  have e := MixEntry.cat_sum (fun k => a1 (ix2 r k)) (fun k => a2 (ix2 r k)) (fun k => a3 (ix2 r k))
    (fun k => a4 (ix3 ⟨k.val / 256, by omega⟩ ⟨k.val % 256, by omega⟩ n)) (fun j p => a4 (ix3 j p n)) fun k j p h =>
      congrArg a4 (congrArg₂ (fun j p => ix3 j p n) (Fin.ext (by dsimp only; omega)) (Fin.ext (by dsimp only; omega)))
  simp only [MixEntry.cat] at e
  pointwise [Cert.OutFwdRefIdeal.Value.residual, mixed, res]
  rw [e]
  simp only [add_assoc]

theorem ref_3 (r : Fin 2048) (n : Fin 1024) : ref_v3 a0 a1 a2 a3 a4 a5 (ix2 r n) = res a0 a1 a2 a3 a4 r n :=
  residual_at a0 a1 a2 a3 a4 r n

theorem ref_16 (r : Fin 2048) (n : Fin 1024) : ref_v16 a0 a1 a2 a3 a4 a5 (ix2 r n)
    = res a0 a1 a2 a3 a4 r n * Ideal.rsqrt (RmsEntry.meanSq (res a0 a1 a2 a3 a4 r)) * a5 (ix2 0 n) := by
  pointwise [ref_v16, Cert.OutFwdRefIdeal.Value.meanSq, RmsEntry.meanSq]
  simp only [residual_at]

section blocks

variable (x0 : Vec Ideal S512x1024 .f32) (x1 : Vec Ideal S512x512 .f32) (x2 x3 : Vec Ideal S512x256 .f32) (x4 : Vec Ideal S4x256x1024 .bf16)
  (x5 : Vec Ideal S1x1024 .f32) (row : Fin 512 → Fin 2048)
  (h0 : ∀ (i : Fin 512) (k : Fin 1024), x0 (ix2 i k) = a0 (ix2 (row i) k))
  (h1 : ∀ (i : Fin 512) (k : Fin 512), x1 (ix2 i k) = a1 (ix2 (row i) k))
  (h2 : ∀ (i : Fin 512) (k : Fin 256), x2 (ix2 i k) = a2 (ix2 (row i) k))
  (h3 : ∀ (i : Fin 512) (k : Fin 256), x3 (ix2 i k) = a3 (ix2 (row i) k))
  (h4 : ∀ (j : Fin 4) (k : Fin 256) (n : Fin 1024), x4 (ix3 j k n) = a4 (ix3 j k n))
  (h5 : ∀ (k : Fin 1024), x5 (ix2 0 k) = a5 (ix2 0 k))

include h0 h1 h2 h3 h4 h5

theorem pure_6 (p : Fin 512) (n : Fin 1024) : out0_6 x0 x1 x2 x3 x4 x5 (ix2 p n) = res a0 a1 a2 a3 a4 (row p) n := by
  frame_out
  open_payloads
  pointwise [res, h0, h1, h2, h3, h4, h5]

theorem pure_7 (p : Fin 512) (n : Fin 1024) : out0_7 x0 x1 x2 x3 x4 x5 (ix2 p n)
    = res a0 a1 a2 a3 a4 (row p) n * Ideal.rsqrt (RmsEntry.meanSq (res a0 a1 a2 a3 a4 (row p))) * a5 (ix2 0 n) := by
  frame_out
  open_payloads
  pointwise [res, RmsEntry.meanSq, h0, h1, h2, h3, h4, h5]

end blocks

end terms

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S2048x512 .f32 := m ((c : Thread nD τ).loc main_arg1)
abbrev in2 (c : Dev nD) : FVec Ideal S2048x256 .f32 := m ((c : Thread nD τ).loc main_arg2)
abbrev in3 (c : Dev nD) : FVec Ideal S2048x256 .f32 := m ((c : Thread nD τ).loc main_arg3)
abbrev in4 (c : Dev nD) : FVec Ideal S4x256x1024 .f32 := m ((c : Thread nD τ).loc main_arg4)
abbrev in5 (c : Dev nD) : FVec Ideal S1x1024 .f32 := m ((c : Thread nD τ).loc main_arg5)

/-- Every window's block at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![0, 0]
    ∧ win0_6.index t = ![t.val, 0]
    ∧ win0_7.index t = ![t.val, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

variable (c : Dev nD) (t : Fin cfg0.N)

theorem read_0 (i : Fin 512) (k : Fin 1024) : (iblk m c 0 t : Vec Ideal S512x1024 .f32) (ix2 i k) = in0 m c (ix2 (row t i) k) := by
  blk_ext [iblk, V, idx_val t, row]
theorem read_1 (i : Fin 512) (k : Fin 512) : (iblk m c 1 t : Vec Ideal S512x512 .f32) (ix2 i k) = in1 m c (ix2 (row t i) k) := by
  blk_ext [iblk, V, idx_val t, row]
theorem read_2 (i : Fin 512) (k : Fin 256) : (iblk m c 2 t : Vec Ideal S512x256 .f32) (ix2 i k) = in2 m c (ix2 (row t i) k) := by
  blk_ext [iblk, V, idx_val t, row]
theorem read_3 (i : Fin 512) (k : Fin 256) : (iblk m c 3 t : Vec Ideal S512x256 .f32) (ix2 i k) = in3 m c (ix2 (row t i) k) := by
  blk_ext [iblk, V, idx_val t, row]
theorem read_4 (j : Fin 4) (k : Fin 256) (n : Fin 1024) : (iblk m c 4 t : Vec Ideal S4x256x1024 .bf16) (ix3 j k n) = in4 m c (ix3 j k n) := by
  blk_simp [iblk, idx_val t]; entry_read; pointwise; blk_ext [idx_val t]
theorem read_5 (k : Fin 1024) : (iblk m c 5 t : Vec Ideal S1x1024 .f32) (ix2 0 k) = in5 m c (ix2 0 k) := by
  blk_ext [iblk, V, idx_val t]

/-- The array of output window 6 after the run. -/
theorem final_6 (c : Dev nD) : (dats m 0 c).arrAt 6 (cfgs 0).N = ref_v3 (in0 m c) (in1 m c) (in2 m c) (in3 m c) (in4 m c) (in5 m c) := by
  refine (dats m 0 c).arrAt_eq_of_covers 6 _ (by decide +kernel) fun t hf y => ?_
  blk_simp; rw [after0_6]
  have hb : (t : ℕ) < 4 := t.isLt
  idx_vars y
  refine (pure_6 (in0 m c) (in1 m c) (in2 m c) (in3 m c) (in4 m c) (in5 m c) _ _ _ _ _ _ (row t) (read_0 m c t) (read_1 m c t) (read_2 m c t) (read_3 m c t) (read_4 m c t) (read_5 m c t) y0 y1).trans
    ((ref_3 (in0 m c) (in1 m c) (in2 m c) (in3 m c) (in4 m c) (in5 m c) (row t y0) y1).symm.trans ?_)
  blk_ext [idx_val t, row]

/-- The array of output window 7 after the run. -/
theorem final_7 (c : Dev nD) : (dats m 0 c).arrAt 7 (cfgs 0).N = ref_v16 (in0 m c) (in1 m c) (in2 m c) (in3 m c) (in4 m c) (in5 m c) := by
  refine (dats m 0 c).arrAt_eq_of_covers 7 _ (by decide +kernel) fun t hf y => ?_
  blk_simp; rw [after0_7]
  have hb : (t : ℕ) < 4 := t.isLt
  idx_vars y
  refine (pure_7 (in0 m c) (in1 m c) (in2 m c) (in3 m c) (in4 m c) (in5 m c) _ _ _ _ _ _ (row t) (read_0 m c t) (read_1 m c t) (read_2 m c t) (read_3 m c t) (read_4 m c t) (read_5 m c t) y0 y1).trans
    ((ref_16 (in0 m c) (in1 m c) (in2 m c) (in3 m c) (in4 m c) (in5 m c) (row t y0) y1).symm.trans ?_)
  blk_ext [idx_val t, row]

end Cert.OutFwdIdeal.Value

end
-- ==== Proof.OutBwdRef.lean ====
/- The results of the reference `OutBwdRefIdeal`, each as one function of the arguments. -/
module

public import proofs.«01_k».proof.Proof.Gen.OutBwdRefIdeal
public import proofs.«01_k».proof.Proof.Gen.OutBwdRefIdeal.Run
public import Idealize.ShloMosaic.Lib.Pipeline.ValueKit

@[expose] public section

set_option maxRecDepth 16384

noncomputable section

namespace Cert.OutBwdRefIdeal.Value

open Cert.OutBwdRefIdeal Cert.OutBwdRefIdeal.Gen Idealize.ShloMosaic Idealize.ShloMosaic.TcCoe Idealize.SL.Sem

/-- The mixers' outputs side by side. -/
def mixed (a1 : FVec Ideal S2048x512 .f32) (a2 a3 : FVec Ideal S2048x256 .f32) : FVec Ideal S2048x1024 .f32 :=
  (concatenate S2048x1024 1 [⟨S2048x512, (a1 : (⟨S2048x512, .f32⟩ : BufTy).Contents (Elt Ideal))⟩, ⟨S2048x256, (a2 : (⟨S2048x256, .f32⟩ : BufTy).Contents (Elt Ideal))⟩, ⟨S2048x256, (a3 : (⟨S2048x256, .f32⟩ : BufTy).Contents (Elt Ideal))⟩] concatenates_S2048x512_S2048x256_S2048x256_S2048x1024_d1 : (⟨S2048x1024, .f32⟩ : BufTy).Contents (Elt Ideal))

/-- The input and the projected mixers' outputs. -/
def residual (a0 : FVec Ideal S2048x1024 .f32) (a1 : FVec Ideal S2048x512 .f32) (a2 a3 : FVec Ideal S2048x256 .f32) (a4 : FVec Ideal S4x256x1024 .f32) : FVec Ideal S2048x1024 .f32 :=
  addf a0 (Host.dotGeneral dot_S2048x1024_S1024x1024_S2048x1024_1_0_0_1_n_n none (mixed a1 a2 a3) (shapeCast _ a4 shapeCasts_S4x256x1024_S1024x1024))

/-- The mean square of every row, and `ε`. -/
def meanSq (x1 : FVec Ideal S2048x1024 .f32) : FVec Ideal S2048x1 .f32 :=
  addf (Host.divf (broadcastInDim S2048x1 ![0] bcast_S2048_S2048x1_0 (Host.reduceAdd (mulf x1 x1) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The result `v38`. -/
def ref_v38 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S2048x1024 .f32 :=
  addf (addf (addf a6 (mulf (mulf a7 (broadcastInDim S2048x1024 ![0, 1] bcast_S1x1024_S2048x1024_0_1 a5)) (broadcastInDim S2048x1024 ![0, 1] bcast_S2048x1_S2048x1024_0_1 (Host.rsqrt (meanSq (residual a0 a1 a2 a3 a4)))))) (mulf (residual a0 a1 a2 a3 a4) (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)) (residual a0 a1 a2 a3 a4))

/-- The result `v44`. -/
def ref_v44 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S2048x512 .f32 :=
  extractStridedSlice S2048x512 ![0, 0] (Host.dotGeneral dot_S2048x1024_S1024x1024_S2048x1024_1_1_0_0_n_n none (shapeCast _ (addf (addf (addf a6 (mulf (mulf a7 (broadcastInDim S2048x1024 ![0, 1] bcast_S1x1024_S2048x1024_0_1 a5)) (broadcastInDim S2048x1024 ![0, 1] bcast_S2048x1_S2048x1024_0_1 (Host.rsqrt (meanSq (residual a0 a1 a2 a3 a4)))))) (mulf (residual a0 a1 a2 a3 a4) (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)) (residual a0 a1 a2 a3 a4))) shapeCasts_S2048x1024_S2048x1024) (shapeCast _ a4 shapeCasts_S4x256x1024_S1024x1024)) slices_S2048x1024_S2048x512_0_0

/-- The result `v45`. -/
def ref_v45 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S2048x256 .f32 :=
  extractStridedSlice S2048x256 ![0, 512] (Host.dotGeneral dot_S2048x1024_S1024x1024_S2048x1024_1_1_0_0_n_n none (shapeCast _ (addf (addf (addf a6 (mulf (mulf a7 (broadcastInDim S2048x1024 ![0, 1] bcast_S1x1024_S2048x1024_0_1 a5)) (broadcastInDim S2048x1024 ![0, 1] bcast_S2048x1_S2048x1024_0_1 (Host.rsqrt (meanSq (residual a0 a1 a2 a3 a4)))))) (mulf (residual a0 a1 a2 a3 a4) (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)) (residual a0 a1 a2 a3 a4))) shapeCasts_S2048x1024_S2048x1024) (shapeCast _ a4 shapeCasts_S4x256x1024_S1024x1024)) slices_S2048x1024_S2048x256_0_512

/-- The result `v46`. -/
def ref_v46 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S2048x256 .f32 :=
  extractStridedSlice S2048x256 ![0, 768] (Host.dotGeneral dot_S2048x1024_S1024x1024_S2048x1024_1_1_0_0_n_n none (shapeCast _ (addf (addf (addf a6 (mulf (mulf a7 (broadcastInDim S2048x1024 ![0, 1] bcast_S1x1024_S2048x1024_0_1 a5)) (broadcastInDim S2048x1024 ![0, 1] bcast_S2048x1_S2048x1024_0_1 (Host.rsqrt (meanSq (residual a0 a1 a2 a3 a4)))))) (mulf (residual a0 a1 a2 a3 a4) (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)) (residual a0 a1 a2 a3 a4))) shapeCasts_S2048x1024_S2048x1024) (shapeCast _ a4 shapeCasts_S4x256x1024_S1024x1024)) slices_S2048x1024_S2048x256_0_768

/-- The result `v43`. -/
def ref_v43 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S4x256x1024 .f32 :=
  shapeCast _ (transpose S1024x1024 [1, 0] (Host.dotGeneral dot_S2048x1024_S2048x1024_S1024x1024_0_0_1_1_n_n none (shapeCast _ (addf (addf (addf a6 (mulf (mulf a7 (broadcastInDim S2048x1024 ![0, 1] bcast_S1x1024_S2048x1024_0_1 a5)) (broadcastInDim S2048x1024 ![0, 1] bcast_S2048x1_S2048x1024_0_1 (Host.rsqrt (meanSq (residual a0 a1 a2 a3 a4)))))) (mulf (residual a0 a1 a2 a3 a4) (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (residual a0 a1 a2 a3 a4) (mulf a7 (broadcastInDim S2048x1024 ![0, 1] bcast_S1x1024_S2048x1024_0_1 a5))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq (residual a0 a1 a2 a3 a4))) (meanSq (residual a0 a1 a2 a3 a4))))) (broadcastInDim S2048x1 ![] bcast_S_S2048x1 (constant S_ .f32 0x44800000#32))) (constant S_ .f32 0x00000000#32) reducesTo_S2048x1_S2048_d1 h_S_)) (residual a0 a1 a2 a3 a4))) shapeCasts_S2048x1024_S2048x1024) (mixed a1 a2 a3)) transposes_S1024x1024_S1024x1024_1_0) shapeCasts_S1024x1024_S4x256x1024

/-- The result `v21`. -/
def ref_v21 (a0 : FVec Ideal S2048x1024 .f32) (a1 : FVec Ideal S2048x512 .f32) (a2 : FVec Ideal S2048x256 .f32) (a3 : FVec Ideal S2048x256 .f32) (a4 : FVec Ideal S4x256x1024 .f32) (a5 : FVec Ideal S1x1024 .f32) (a6 : FVec Ideal S2048x1024 .f32) (a7 : FVec Ideal S2048x1024 .f32) : FVec Ideal S1x1024 .f32 :=
  shapeCast _ (Host.reduceAdd (mulf (mulf (residual a0 a1 a2 a3 a4) (broadcastInDim S2048x1024 ![0, 1] bcast_S2048x1_S2048x1024_0_1 (Host.rsqrt (meanSq (residual a0 a1 a2 a3 a4))))) a7) (constant S_ .f32 0x00000000#32) reducesTo_S2048x1024_S1024_d0 h_S_) shapeCasts_S1024_S1x1024

/-! The later results over the first. -/

theorem v44_eq (a0 : FVec Ideal S2048x1024 .f32) (a1 : FVec Ideal S2048x512 .f32) (a2 a3 : FVec Ideal S2048x256 .f32) (a4 : FVec Ideal S4x256x1024 .f32) (a5 : FVec Ideal S1x1024 .f32) (a6 a7 : FVec Ideal S2048x1024 .f32) : ref_v44 a0 a1 a2 a3 a4 a5 a6 a7 = extractStridedSlice S2048x512 ![0, 0] (Host.dotGeneral dot_S2048x1024_S1024x1024_S2048x1024_1_1_0_0_n_n none (shapeCast _ (ref_v38 a0 a1 a2 a3 a4 a5 a6 a7) shapeCasts_S2048x1024_S2048x1024) (shapeCast _ a4 shapeCasts_S4x256x1024_S1024x1024)) slices_S2048x1024_S2048x512_0_0 := rfl

theorem v45_eq (a0 : FVec Ideal S2048x1024 .f32) (a1 : FVec Ideal S2048x512 .f32) (a2 a3 : FVec Ideal S2048x256 .f32) (a4 : FVec Ideal S4x256x1024 .f32) (a5 : FVec Ideal S1x1024 .f32) (a6 a7 : FVec Ideal S2048x1024 .f32) : ref_v45 a0 a1 a2 a3 a4 a5 a6 a7 = extractStridedSlice S2048x256 ![0, 512] (Host.dotGeneral dot_S2048x1024_S1024x1024_S2048x1024_1_1_0_0_n_n none (shapeCast _ (ref_v38 a0 a1 a2 a3 a4 a5 a6 a7) shapeCasts_S2048x1024_S2048x1024) (shapeCast _ a4 shapeCasts_S4x256x1024_S1024x1024)) slices_S2048x1024_S2048x256_0_512 := rfl

theorem v46_eq (a0 : FVec Ideal S2048x1024 .f32) (a1 : FVec Ideal S2048x512 .f32) (a2 a3 : FVec Ideal S2048x256 .f32) (a4 : FVec Ideal S4x256x1024 .f32) (a5 : FVec Ideal S1x1024 .f32) (a6 a7 : FVec Ideal S2048x1024 .f32) : ref_v46 a0 a1 a2 a3 a4 a5 a6 a7 = extractStridedSlice S2048x256 ![0, 768] (Host.dotGeneral dot_S2048x1024_S1024x1024_S2048x1024_1_1_0_0_n_n none (shapeCast _ (ref_v38 a0 a1 a2 a3 a4 a5 a6 a7) shapeCasts_S2048x1024_S2048x1024) (shapeCast _ a4 shapeCasts_S4x256x1024_S1024x1024)) slices_S2048x1024_S2048x256_0_768 := rfl

theorem v43_eq (a0 : FVec Ideal S2048x1024 .f32) (a1 : FVec Ideal S2048x512 .f32) (a2 a3 : FVec Ideal S2048x256 .f32) (a4 : FVec Ideal S4x256x1024 .f32) (a5 : FVec Ideal S1x1024 .f32) (a6 a7 : FVec Ideal S2048x1024 .f32) : ref_v43 a0 a1 a2 a3 a4 a5 a6 a7 = shapeCast _ (transpose S1024x1024 [1, 0] (Host.dotGeneral dot_S2048x1024_S2048x1024_S1024x1024_0_0_1_1_n_n none (shapeCast _ (ref_v38 a0 a1 a2 a3 a4 a5 a6 a7) shapeCasts_S2048x1024_S2048x1024) (mixed a1 a2 a3)) transposes_S1024x1024_S1024x1024_1_0) shapeCasts_S1024x1024_S4x256x1024 := rfl

/-- The run of the reference at named arguments. -/
theorem run_at (m : (ℓ : Loc nD τ sig) → Buf (Elt Ideal) ℓ) (ρ : Dev nD → PrngReg)
    (x0 : Dev nD → FVec Ideal S2048x1024 .f32) (h0 : ∀ c : Dev nD, m ((c.tc : Thread nD τ).loc main_arg0) = x0 c)
    (x1 : Dev nD → FVec Ideal S2048x512 .f32) (h1 : ∀ c : Dev nD, m ((c.tc : Thread nD τ).loc main_arg1) = x1 c)
    (x2 : Dev nD → FVec Ideal S2048x256 .f32) (h2 : ∀ c : Dev nD, m ((c.tc : Thread nD τ).loc main_arg2) = x2 c)
    (x3 : Dev nD → FVec Ideal S2048x256 .f32) (h3 : ∀ c : Dev nD, m ((c.tc : Thread nD τ).loc main_arg3) = x3 c)
    (x4 : Dev nD → FVec Ideal S4x256x1024 .f32) (h4 : ∀ c : Dev nD, m ((c.tc : Thread nD τ).loc main_arg4) = x4 c)
    (x5 : Dev nD → FVec Ideal S1x1024 .f32) (h5 : ∀ c : Dev nD, m ((c.tc : Thread nD τ).loc main_arg5) = x5 c)
    (x6 : Dev nD → FVec Ideal S2048x1024 .f32) (h6 : ∀ c : Dev nD, m ((c.tc : Thread nD τ).loc main_arg6) = x6 c)
    (x7 : Dev nD → FVec Ideal S2048x1024 .f32) (h7 : ∀ c : Dev nD, m ((c.tc : Thread nD τ).loc main_arg7) = x7 c) :
    θ_run defs (onTc (τ := τ) (main (F := Ideal))) ⟨m, fun _ => 0, ρ⟩ fun r => ∀ c : Dev nD,
      r.2.mem ((c.tc : Thread nD τ).loc main_v38) = ref_v38 (x0 c) (x1 c) (x2 c) (x3 c) (x4 c) (x5 c) (x6 c) (x7 c)
      ∧ r.2.mem ((c.tc : Thread nD τ).loc main_v44) = ref_v44 (x0 c) (x1 c) (x2 c) (x3 c) (x4 c) (x5 c) (x6 c) (x7 c)
      ∧ r.2.mem ((c.tc : Thread nD τ).loc main_v45) = ref_v45 (x0 c) (x1 c) (x2 c) (x3 c) (x4 c) (x5 c) (x6 c) (x7 c)
      ∧ r.2.mem ((c.tc : Thread nD τ).loc main_v46) = ref_v46 (x0 c) (x1 c) (x2 c) (x3 c) (x4 c) (x5 c) (x6 c) (x7 c)
      ∧ r.2.mem ((c.tc : Thread nD τ).loc main_v43) = ref_v43 (x0 c) (x1 c) (x2 c) (x3 c) (x4 c) (x5 c) (x6 c) (x7 c)
      ∧ r.2.mem ((c.tc : Thread nD τ).loc main_v21) = ref_v21 (x0 c) (x1 c) (x2 c) (x3 c) (x4 c) (x5 c) (x6 c) (x7 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  obtain rfl : x0 = fun c : Dev nD => m ((c.tc : Thread nD τ).loc main_arg0) := funext fun c => (h0 c).symm
  obtain rfl : x1 = fun c : Dev nD => m ((c.tc : Thread nD τ).loc main_arg1) := funext fun c => (h1 c).symm
  obtain rfl : x2 = fun c : Dev nD => m ((c.tc : Thread nD τ).loc main_arg2) := funext fun c => (h2 c).symm
  obtain rfl : x3 = fun c : Dev nD => m ((c.tc : Thread nD τ).loc main_arg3) := funext fun c => (h3 c).symm
  obtain rfl : x4 = fun c : Dev nD => m ((c.tc : Thread nD τ).loc main_arg4) := funext fun c => (h4 c).symm
  obtain rfl : x5 = fun c : Dev nD => m ((c.tc : Thread nD τ).loc main_arg5) := funext fun c => (h5 c).symm
  obtain rfl : x6 = fun c : Dev nD => m ((c.tc : Thread nD τ).loc main_arg6) := funext fun c => (h6 c).symm
  obtain rfl : x7 = fun c : Dev nD => m ((c.tc : Thread nD τ).loc main_arg7) := funext fun c => (h7 c).symm
  exact (θ_run _ _ _).mono (fun r h c => ⟨(h c).1, (h c).2.1, (h c).2.2.1, (h c).2.2.2.1, (h c).2.2.2.2.1, (h c).2.2.2.2.2.1, (h c).2.2.2.2.2.2⟩) (run m ρ)

end Cert.OutBwdRefIdeal.Value

end
-- ==== Proof.OutBwdPoint.lean ====
/- What one grid point of the output projection's gradient computes, against the reference's results. -/
module

public import proofs.«01_k».proof.Proof.Gen.OutBwdIdeal.Value
public import proofs.«01_k».proof.Proof.OutBwdRef
public import proofs.«01_k».proof.Proof.RmsEntry
public import proofs.«01_k».proof.Proof.MixEntry
public import proofs.«01_k».proof.Proof.StoreOver
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Value

open Cert.OutBwdIdeal Cert.OutBwdIdeal.Gen Cert.OutBwdRefIdeal.Value Cert.RealEntry Cert.StoreOver

section terms

variable (a0 : FVec Ideal S2048x1024 .f32) (a1 : FVec Ideal S2048x512 .f32) (a2 a3 : FVec Ideal S2048x256 .f32)
  (a4 : FVec Ideal S4x256x1024 .f32) (a5 : FVec Ideal S1x1024 .f32) (a6 a7 : FVec Ideal S2048x1024 .f32)

/-- Entry `k` of the mixers' outputs of row `r`, side by side. -/
def mix (r : Fin 2048) (k : Fin 1024) : EReal :=
  MixEntry.cat (fun k => a1 (ix2 r k)) (fun k => a2 (ix2 r k)) (fun k => a3 (ix2 r k)) k

/-- The residual stream after the mixers. -/
def res (r : Fin 2048) (n : Fin 1024) : EReal :=
  a0 (ix2 r n) + ∑ k : Fin 1024, mix a1 a2 a3 r k * a4 (ix3 ⟨k.val / 256, by omega⟩ ⟨k.val % 256, by omega⟩ n)

/-- The cotangent of the normalised residual stream. -/
def dn (r : Fin 2048) (n : Fin 1024) : EReal := a7 (ix2 r n) * a5 (ix2 0 n)

/-- The cotangent of the residual stream. -/
def dx (r : Fin 2048) (n : Fin 1024) : EReal := a6 (ix2 r n) + RmsEntry.back (res a0 a1 a2 a3 a4 r) (dn a5 a7 r) n

/-- The cotangent of the mixers' outputs, at row `k` of quarter `j` of the projection. -/
def dm (r : Fin 2048) (j : Fin 4) (k : Fin 256) : EReal := ∑ x : Fin 1024, dx a0 a1 a2 a3 a4 a5 a6 a7 r x * a4 (ix3 j k x)

/-- What row `r` adds to the gradient of the projection. -/
def dwPart (k : Fin 1024) (n : Fin 1024) (r : Fin 2048) : EReal := mix a1 a2 a3 r k * dx a0 a1 a2 a3 a4 a5 a6 a7 r n

/-- What row `r` adds to the gradient of the scale. -/
def dgPart (n : Fin 1024) (r : Fin 2048) : EReal :=
  a7 (ix2 r n) * (res a0 a1 a2 a3 a4 r n * Ideal.rsqrt (RmsEntry.meanSq (res a0 a1 a2 a3 a4 r)))

theorem dm_congr {r r' : Fin 2048} {j j' : Fin 4} {k k' : Fin 256} (hr : r = r') (hj : j.val = j'.val) (hk : k.val = k'.val) :
    dm a0 a1 a2 a3 a4 a5 a6 a7 r j k = dm a0 a1 a2 a3 a4 a5 a6 a7 r' j' k' := by
  obtain rfl := hr; obtain rfl := Fin.ext hj; obtain rfl := Fin.ext hk; rfl

theorem isReal_res (h0 : ∀ i, IsReal (a0 i)) (h1 : ∀ i, IsReal (a1 i)) (h2 : ∀ i, IsReal (a2 i)) (h3 : ∀ i, IsReal (a3 i)) (h4 : ∀ i, IsReal (a4 i))
    (r : Fin 2048) (n : Fin 1024) : IsReal (res a0 a1 a2 a3 a4 r n) := by
  refine (h0 _).add (isReal_sum _ _ fun k => IsReal.mul ?_ (h4 _))
  unfold mix MixEntry.cat
  split_ifs
  · exact h1 _
  · exact h2 _
  · exact h3 _

theorem residual_at (r : Fin 2048) (n : Fin 1024) :
    Cert.OutBwdRefIdeal.Value.residual a0 a1 a2 a3 a4 (ix2 r n) = res a0 a1 a2 a3 a4 r n := by
  pointwise [Cert.OutBwdRefIdeal.Value.residual, mixed, res, mix, MixEntry.cat]

theorem ref_38 (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h7 : ∀ i, IsReal (a7 i)) (r : Fin 2048) (n : Fin 1024) :
    ref_v38 a0 a1 a2 a3 a4 a5 a6 a7 (ix2 r n) = dx a0 a1 a2 a3 a4 a5 a6 a7 r n := by
  unfold dx
  rw [← RmsEntry.back_eq (res a0 a1 a2 a3 a4 r) (dn a5 a7 r) (isReal_res a0 a1 a2 a3 a4 h0 h1 h2 h3 h4 r) fun k => (h7 _).mul (h5 _)]
  pointwise [ref_v38, Cert.OutBwdRefIdeal.Value.meanSq, RmsEntry.meanSq, RmsEntry.share, dn]
  simp only [Fin.sum_univ_one, residual_at, add_assoc]

section refs

variable (h0 : ∀ i, IsReal (a0 i)) (h1 : ∀ i, IsReal (a1 i)) (h2 : ∀ i, IsReal (a2 i)) (h3 : ∀ i, IsReal (a3 i)) (h4 : ∀ i, IsReal (a4 i))
  (h5 : ∀ i, IsReal (a5 i)) (h7 : ∀ i, IsReal (a7 i))

include h0 h1 h2 h3 h4 h5 h7

theorem ref_44 (r : Fin 2048) (n : Fin 512) :
    ref_v44 a0 a1 a2 a3 a4 a5 a6 a7 (ix2 r n) = dm a0 a1 a2 a3 a4 a5 a6 a7 r ⟨n.val / 256, by omega⟩ ⟨n.val % 256, by omega⟩ := by
  rw [v44_eq]
  pointwise [dm]
  simp only [ref_38 a0 a1 a2 a3 a4 a5 a6 a7 h0 h1 h2 h3 h4 h5 h7]

theorem ref_45 (r : Fin 2048) (n : Fin 256) : ref_v45 a0 a1 a2 a3 a4 a5 a6 a7 (ix2 r n) = dm a0 a1 a2 a3 a4 a5 a6 a7 r 2 n := by
  rw [v45_eq]
  pointwise [dm]
  simp only [ref_38 a0 a1 a2 a3 a4 a5 a6 a7 h0 h1 h2 h3 h4 h5 h7]
  exact Fin.sum_fin_congr fun x => congrArg₂ (fun j k => _ * a4 (ix3 j k x)) (Fin.ext (by simp; omega)) (Fin.ext (by simp))

theorem ref_46 (r : Fin 2048) (n : Fin 256) : ref_v46 a0 a1 a2 a3 a4 a5 a6 a7 (ix2 r n) = dm a0 a1 a2 a3 a4 a5 a6 a7 r 3 n := by
  rw [v46_eq]
  pointwise [dm]
  simp only [ref_38 a0 a1 a2 a3 a4 a5 a6 a7 h0 h1 h2 h3 h4 h5 h7]
  exact Fin.sum_fin_congr fun x => congrArg₂ (fun j k => _ * a4 (ix3 j k x)) (Fin.ext (by simp; omega)) (Fin.ext (by simp))

theorem ref_43 (j : Fin 4) (k : Fin 256) (n : Fin 1024) :
    ref_v43 a0 a1 a2 a3 a4 a5 a6 a7 (ix3 j k n) = ∑ r : Fin 2048, dwPart a0 a1 a2 a3 a4 a5 a6 a7 ⟨j.val * 256 + k.val, by omega⟩ n r := by
  rw [v43_eq]
  pointwise [dwPart, mixed, mix, MixEntry.cat]
  simp only [ref_38 a0 a1 a2 a3 a4 a5 a6 a7 h0 h1 h2 h3 h4 h5 h7]
  exact Fin.sum_fin_congr fun r => mul_comm _ _

end refs

theorem ref_21 (u : Fin 1) (n : Fin 1024) : ref_v21 a0 a1 a2 a3 a4 a5 a6 a7 (ix2 u n) = ∑ r : Fin 2048, dgPart a0 a1 a2 a3 a4 a7 n r := by
  pointwise [ref_v21, Cert.OutBwdRefIdeal.Value.meanSq, dgPart, RmsEntry.meanSq]
  simp only [residual_at]
  exact Fin.sum_fin_congr fun r => mul_comm _ _

section blocks

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S4x256x1024 .bf16) (harg8 : arg8.IsWhole) (arg9 : Memref sig .tc .vmem S512x1024 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S4x256x1024 .f32) (harg13 : arg13.IsWhole) (arg14 : Memref sig .tc .vmem S1x1024 .f32) (harg14 : arg14.IsWhole)
  (x0 : Vec Ideal S512x1024 .f32) (x1 : Vec Ideal S512x1024 .f32) (x2 : Vec Ideal S512x1024 .f32) (x3 : Vec Ideal S1x1024 .f32) (x4 : Vec Ideal S512x512 .f32) (x5 : Vec Ideal S512x256 .f32) (x6 : Vec Ideal S512x256 .f32) (x7 : Vec Ideal S4x256x1024 .bf16)
  (xo12 : Vec Ideal S4x256x1024 .f32) (xo13 : Vec Ideal S1x1024 .f32) (row : Fin 512 → Fin 2048)
  (e0 : ∀ (i : Fin 512) (k : Fin 1024), x0 (ix2 i k) = a6 (ix2 (row i) k))
  (e1 : ∀ (i : Fin 512) (k : Fin 1024), x1 (ix2 i k) = a7 (ix2 (row i) k))
  (e2 : ∀ (i : Fin 512) (k : Fin 1024), x2 (ix2 i k) = res a0 a1 a2 a3 a4 (row i) k)
  (e3 : ∀ (k : Fin 1024), x3 (ix2 0 k) = a5 (ix2 0 k))
  (e4 : ∀ (i : Fin 512) (k : Fin 512), x4 (ix2 i k) = a1 (ix2 (row i) k))
  (e5 : ∀ (i : Fin 512) (k : Fin 256), x5 (ix2 i k) = a2 (ix2 (row i) k))
  (e6 : ∀ (i : Fin 512) (k : Fin 256), x6 (ix2 i k) = a3 (ix2 (row i) k))
  (e7 : ∀ (j : Fin 4) (k : Fin 256) (n : Fin 1024), x7 (ix3 j k n) = a4 (ix3 j k n))

include e0 e1 e2 e3 e4 e5 e6 e7

theorem pure_A_8 (hc : cond0_0 i) (p : Fin 512) (n : Fin 1024) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 (ix2 p n) = dx a0 a1 a2 a3 a4 a5 a6 a7 (row p) n := by
  frame_out
  open_payloads
  pointwise [dx, dn, RmsEntry.back, RmsEntry.meanSq, e0, e1, e2, e3, e4, e5, e6, e7]

theorem pure_A_9 (hc : cond0_0 i) (y : S512x512.Idx) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y
    = dm a0 a1 a2 a3 a4 a5 a6 a7 (row (y 0)) ⟨(y 1 : ℕ) / 256, by have : (y 1 : ℕ) < 512 := (y 1).isLt; omega⟩ ⟨(y 1 : ℕ) % 256, by omega⟩ := by
  frame_out
  canon_tiles x h
  case piece0 =>
    refine Eq.trans (b := dm a0 a1 a2 a3 a4 a5 a6 a7 (row (x 0)) 1 (x 1)) ?_
      (dm_congr a0 a1 a2 a3 a4 a5 a6 a7 (congrArg row (Fin.ext h0.symm)) (by simp; omega) (by dsimp only; omega))
    open_payloads
    pointwise [dm, dx, dn, RmsEntry.back, RmsEntry.meanSq, e0, e1, e2, e3, e4, e5, e6, e7]
  case piece1 =>
    refine Eq.trans (b := dm a0 a1 a2 a3 a4 a5 a6 a7 (row (x 0)) 0 (x 1)) ?_
      (dm_congr a0 a1 a2 a3 a4 a5 a6 a7 (congrArg row (Fin.ext h0.symm)) (by simp; omega) (by dsimp only; omega))
    open_payloads
    pointwise [dm, dx, dn, RmsEntry.back, RmsEntry.meanSq, e0, e1, e2, e3, e4, e5, e6, e7]

theorem pure_A_10 (hc : cond0_0 i) (p : Fin 512) (n : Fin 256) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 (ix2 p n) = dm a0 a1 a2 a3 a4 a5 a6 a7 (row p) 2 n := by
  frame_out
  open_payloads
  pointwise [dm, dx, dn, RmsEntry.back, RmsEntry.meanSq, e0, e1, e2, e3, e4, e5, e6, e7]

theorem pure_A_11 (hc : cond0_0 i) (p : Fin 512) (n : Fin 256) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 (ix2 p n) = dm a0 a1 a2 a3 a4 a5 a6 a7 (row p) 3 n := by
  frame_out
  open_payloads
  pointwise [dm, dx, dn, RmsEntry.back, RmsEntry.meanSq, e0, e1, e2, e3, e4, e5, e6, e7]

theorem pure_A_12 (hc : cond0_0 i) (y : S4x256x1024.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y
      = 0 + ∑ p : Fin 512, dwPart a0 a1 a2 a3 a4 a5 a6 a7 ⟨(y 0 : ℕ) * 256 + (y 1 : ℕ), by have h0 : (y 0 : ℕ) < 4 := (y 0).isLt; have h1 : (y 1 : ℕ) < 256 := (y 1).isLt; omega⟩ (y 2) (row p) := by
  frame_open
  simp (disch := decide) only [↓ View.readCov_skip, ↓ View.readCov_fill]
  frame_out
  refine (canon_over _ [_, _, _, _] y (View.cover_of_tiled_head _ _ _ (by rfl) _)).trans ?_
  canon_tiles x h
  case piece0 =>
    refine Eq.trans (b := 0 + ∑ p : Fin 512, dwPart a0 a1 a2 a3 a4 a5 a6 a7 ⟨768 + (x 1 : ℕ), by omega⟩ (x 2) (row p)) ?_ (congrArg₂ (· + ·) rfl
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_3 _ _ _ ⟨768 + (x 1 : ℕ), _⟩ (x 1) rfl]
    open_payloads
    pointwise [dx, dn, RmsEntry.back, RmsEntry.meanSq, e0, e1, e2, e3, e4, e5, e6, e7]
  case piece1 =>
    refine Eq.trans (b := 0 + ∑ p : Fin 512, dwPart a0 a1 a2 a3 a4 a5 a6 a7 ⟨512 + (x 1 : ℕ), by omega⟩ (x 2) (row p)) ?_ (congrArg₂ (· + ·) rfl
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_2 _ _ _ ⟨512 + (x 1 : ℕ), _⟩ (x 1) rfl]
    open_payloads
    pointwise [dx, dn, RmsEntry.back, RmsEntry.meanSq, e0, e1, e2, e3, e4, e5, e6, e7]
  case piece2 =>
    refine Eq.trans (b := 0 + ∑ p : Fin 512, dwPart a0 a1 a2 a3 a4 a5 a6 a7 ⟨256 + (x 1 : ℕ), by omega⟩ (x 2) (row p)) ?_ (congrArg₂ (· + ·) rfl
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_1 _ _ _ ⟨256 + (x 1 : ℕ), _⟩ (x 1) rfl]
    open_payloads
    pointwise [dx, dn, RmsEntry.back, RmsEntry.meanSq, e0, e1, e2, e3, e4, e5, e6, e7]
  case piece3 =>
    refine Eq.trans (b := 0 + ∑ p : Fin 512, dwPart a0 a1 a2 a3 a4 a5 a6 a7 ⟨(x 1 : ℕ), by omega⟩ (x 2) (row p)) ?_ (congrArg₂ (· + ·) rfl
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_0 _ _ _ ⟨(x 1 : ℕ), _⟩ (x 1) rfl]
    open_payloads
    pointwise [dx, dn, RmsEntry.back, RmsEntry.meanSq, e0, e1, e2, e3, e4, e5, e6, e7]

theorem pure_A_13 (hc : cond0_0 i) (u : Fin 1) (n : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 (ix2 u n)
      = 0 + ∑ p : Fin 512, dgPart a0 a1 a2 a3 a4 a7 n (row p) := by
  frame_out
  open_payloads
  pointwise [dgPart, RmsEntry.meanSq, e0, e1, e2, e3, e4, e5, e6, e7]

theorem pure_B_8 (hc : ¬cond0_0 i) (p : Fin 512) (n : Fin 1024) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 (ix2 p n) = dx a0 a1 a2 a3 a4 a5 a6 a7 (row p) n := by
  frame_out
  open_payloads
  pointwise [dx, dn, RmsEntry.back, RmsEntry.meanSq, e0, e1, e2, e3, e4, e5, e6, e7]

theorem pure_B_9 (hc : ¬cond0_0 i) (y : S512x512.Idx) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 y
    = dm a0 a1 a2 a3 a4 a5 a6 a7 (row (y 0)) ⟨(y 1 : ℕ) / 256, by have : (y 1 : ℕ) < 512 := (y 1).isLt; omega⟩ ⟨(y 1 : ℕ) % 256, by omega⟩ := by
  frame_out
  canon_tiles x h
  case piece0 =>
    refine Eq.trans (b := dm a0 a1 a2 a3 a4 a5 a6 a7 (row (x 0)) 1 (x 1)) ?_
      (dm_congr a0 a1 a2 a3 a4 a5 a6 a7 (congrArg row (Fin.ext h0.symm)) (by simp; omega) (by dsimp only; omega))
    open_payloads
    pointwise [dm, dx, dn, RmsEntry.back, RmsEntry.meanSq, e0, e1, e2, e3, e4, e5, e6, e7]
  case piece1 =>
    refine Eq.trans (b := dm a0 a1 a2 a3 a4 a5 a6 a7 (row (x 0)) 0 (x 1)) ?_
      (dm_congr a0 a1 a2 a3 a4 a5 a6 a7 (congrArg row (Fin.ext h0.symm)) (by simp; omega) (by dsimp only; omega))
    open_payloads
    pointwise [dm, dx, dn, RmsEntry.back, RmsEntry.meanSq, e0, e1, e2, e3, e4, e5, e6, e7]

theorem pure_B_10 (hc : ¬cond0_0 i) (p : Fin 512) (n : Fin 256) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 (ix2 p n) = dm a0 a1 a2 a3 a4 a5 a6 a7 (row p) 2 n := by
  frame_out
  open_payloads
  pointwise [dm, dx, dn, RmsEntry.back, RmsEntry.meanSq, e0, e1, e2, e3, e4, e5, e6, e7]

theorem pure_B_11 (hc : ¬cond0_0 i) (p : Fin 512) (n : Fin 256) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 (ix2 p n) = dm a0 a1 a2 a3 a4 a5 a6 a7 (row p) 3 n := by
  frame_out
  open_payloads
  pointwise [dm, dx, dn, RmsEntry.back, RmsEntry.meanSq, e0, e1, e2, e3, e4, e5, e6, e7]

theorem pure_B_12 (hc : ¬cond0_0 i) (y : S4x256x1024.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 y
      = (xo12 y : EReal) + ∑ p : Fin 512, dwPart a0 a1 a2 a3 a4 a5 a6 a7 ⟨(y 0 : ℕ) * 256 + (y 1 : ℕ), by have h0 : (y 0 : ℕ) < 4 := (y 0).isLt; have h1 : (y 1 : ℕ) < 256 := (y 1).isLt; omega⟩ (y 2) (row p) := by
  frame_out
  canon_tiles x h
  case piece0 =>
    refine Eq.trans (b := (xo12 (ix3 3 (x 1) (x 2)) : EReal) + ∑ p : Fin 512, dwPart a0 a1 a2 a3 a4 a5 a6 a7 ⟨768 + (x 1 : ℕ), by omega⟩ (x 2) (row p)) ?_ (congrArg₂ (· + ·) (congrArg xo12 (idx3_ext (by simp; omega) h1 h2))
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_3 _ _ _ ⟨768 + (x 1 : ℕ), _⟩ (x 1) rfl]
    open_payloads
    pointwise [dx, dn, RmsEntry.back, RmsEntry.meanSq, e0, e1, e2, e3, e4, e5, e6, e7]
  case piece1 =>
    refine Eq.trans (b := (xo12 (ix3 2 (x 1) (x 2)) : EReal) + ∑ p : Fin 512, dwPart a0 a1 a2 a3 a4 a5 a6 a7 ⟨512 + (x 1 : ℕ), by omega⟩ (x 2) (row p)) ?_ (congrArg₂ (· + ·) (congrArg xo12 (idx3_ext (by simp; omega) h1 h2))
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_2 _ _ _ ⟨512 + (x 1 : ℕ), _⟩ (x 1) rfl]
    open_payloads
    pointwise [dx, dn, RmsEntry.back, RmsEntry.meanSq, e0, e1, e2, e3, e4, e5, e6, e7]
  case piece2 =>
    refine Eq.trans (b := (xo12 (ix3 1 (x 1) (x 2)) : EReal) + ∑ p : Fin 512, dwPart a0 a1 a2 a3 a4 a5 a6 a7 ⟨256 + (x 1 : ℕ), by omega⟩ (x 2) (row p)) ?_ (congrArg₂ (· + ·) (congrArg xo12 (idx3_ext (by simp; omega) h1 h2))
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_1 _ _ _ ⟨256 + (x 1 : ℕ), _⟩ (x 1) rfl]
    open_payloads
    pointwise [dx, dn, RmsEntry.back, RmsEntry.meanSq, e0, e1, e2, e3, e4, e5, e6, e7]
  case piece3 =>
    refine Eq.trans (b := (xo12 (ix3 0 (x 1) (x 2)) : EReal) + ∑ p : Fin 512, dwPart a0 a1 a2 a3 a4 a5 a6 a7 ⟨(x 1 : ℕ), by omega⟩ (x 2) (row p)) ?_ (congrArg₂ (· + ·) (congrArg xo12 (idx3_ext (by simp; omega) h1 h2))
      (Fin.sum_fin_congr fun p => congrArg₂ (fun a b => dwPart a0 a1 a2 a3 a4 a5 a6 a7 a b (row p)) (Fin.ext (by dsimp only; omega)) (Fin.ext (by dsimp only; omega))))
    simp only [dwPart, mix, MixEntry.cat_0 _ _ _ ⟨(x 1 : ℕ), _⟩ (x 1) rfl]
    open_payloads
    pointwise [dx, dn, RmsEntry.back, RmsEntry.meanSq, e0, e1, e2, e3, e4, e5, e6, e7]

theorem pure_B_13 (hc : ¬cond0_0 i) (u : Fin 1) (n : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo12 xo13 (ix2 u n)
      = (xo13 (ix2 u n) : EReal) + ∑ p : Fin 512, dgPart a0 a1 a2 a3 a4 a7 n (row p) := by
  frame_out
  open_payloads
  pointwise [dgPart, RmsEntry.meanSq, e0, e1, e2, e3, e4, e5, e6, e7]

end blocks

end terms

end Cert.OutBwdIdeal.Value

end
-- ==== Proof.OutBwdValue.lean ====
/- The arrays the output projection's gradient leaves, against the reference's results. -/
module

public import proofs.«01_k».proof.Proof.Gen.OutBwdIdeal.Value
public import proofs.«01_k».proof.Proof.OutBwdPoint
public import proofs.«01_k».proof.Proof.AccSum
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Value

open Cert.OutBwdIdeal Cert.OutBwdIdeal.Gen Cert.OutBwdRefIdeal.Value Cert.RealEntry

variable (m : (ℓ : Loc nD τ sig) → Buf (Elt Ideal) ℓ)

/-- The arguments as launched. -/
abbrev in0 (c : Dev nD) : FVec Ideal S2048x1024 .f32 := m ((c : Thread nD τ).loc main_arg0)
abbrev in1 (c : Dev nD) : FVec Ideal S2048x512 .f32 := m ((c : Thread nD τ).loc main_arg1)
abbrev in2 (c : Dev nD) : FVec Ideal S2048x256 .f32 := m ((c : Thread nD τ).loc main_arg2)
abbrev in3 (c : Dev nD) : FVec Ideal S2048x256 .f32 := m ((c : Thread nD τ).loc main_arg3)
abbrev in4 (c : Dev nD) : FVec Ideal S4x256x1024 .f32 := m ((c : Thread nD τ).loc main_arg4)
abbrev in5 (c : Dev nD) : FVec Ideal S1x1024 .f32 := m ((c : Thread nD τ).loc main_arg5)
abbrev in6 (c : Dev nD) : FVec Ideal S2048x1024 .f32 := m ((c : Thread nD τ).loc main_arg6)
abbrev in7 (c : Dev nD) : FVec Ideal S2048x1024 .f32 := m ((c : Thread nD τ).loc main_arg7)

/-- Every window's block at every grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0, 0]
    ∧ win0_8.index t = ![t.val, 0]
    ∧ win0_9.index t = ![t.val, 0]
    ∧ win0_10.index t = ![t.val, 0]
    ∧ win0_11.index t = ![t.val, 0]
    ∧ win0_12.index t = ![0, 0, 0]
    ∧ win0_13.index t = ![0, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

section reads
variable (c : Dev nD) (t : Fin cfg0.N)

theorem read_0 (i : Fin 512) (k : Fin 1024) : (iblk m c 0 t : Vec Ideal S512x1024 .f32) (ix2 i k) = in6 m c (ix2 (row t i) k) := by
  blk_ext [iblk, V, idx_val t, row]
theorem read_1 (i : Fin 512) (k : Fin 1024) : (iblk m c 1 t : Vec Ideal S512x1024 .f32) (ix2 i k) = in7 m c (ix2 (row t i) k) := by
  blk_ext [iblk, V, idx_val t, row]
theorem read_4 (i : Fin 512) (k : Fin 512) : (iblk m c 4 t : Vec Ideal S512x512 .f32) (ix2 i k) = in1 m c (ix2 (row t i) k) := by
  blk_ext [iblk, V, idx_val t, row]
theorem read_5 (i : Fin 512) (k : Fin 256) : (iblk m c 5 t : Vec Ideal S512x256 .f32) (ix2 i k) = in2 m c (ix2 (row t i) k) := by
  blk_ext [iblk, V, idx_val t, row]
theorem read_6 (i : Fin 512) (k : Fin 256) : (iblk m c 6 t : Vec Ideal S512x256 .f32) (ix2 i k) = in3 m c (ix2 (row t i) k) := by
  blk_ext [iblk, V, idx_val t, row]
theorem read_3 (k : Fin 1024) : (iblk m c 3 t : Vec Ideal S1x1024 .f32) (ix2 0 k) = in5 m c (ix2 0 k) := by
  blk_ext [iblk, V, idx_val t]
theorem read_7 (j : Fin 4) (k : Fin 256) (n : Fin 1024) : (iblk m c 7 t : Vec Ideal S4x256x1024 .bf16) (ix3 j k n) = in4 m c (ix3 j k n) := by
  blk_simp [iblk, idx_val t]; entry_read; pointwise; blk_ext [idx_val t]
theorem read_2 (i : Fin 512) (k : Fin 1024) : (iblk m c 2 t : Vec Ideal S512x1024 .f32) (ix2 i k) = res (in0 m c) (in1 m c) (in2 m c) (in3 m c) (in4 m c) (row t i) k := by
  have e : ∀ f : S2048x1024.Idx → Prop, f ((win0_2.blk t).view.emb (ix2 i k)) = f (ix2 (row t i) k) := fun f => by blk_ext [idx_val t, row]
  blk_simp [iblk, idx_val t]; entry_read
  rw [show (win0_2.blk t).view.emb (ix2 i k) = ix2 (row t i) k from (e (· = ix2 (row t i) k)).mpr rfl]
  pointwise [res, mix, MixEntry.cat]

theorem outs_8 (p : Fin 512) (n : Fin 1024) : (outsAt0 m c t.val t.isLt).1 (ix2 p n)
    = dx (in0 m c) (in1 m c) (in2 m c) (in3 m c) (in4 m c) (in5 m c) (in6 m c) (in7 m c) (row t p) n := by
  by_cases h : t.val % 4 = 0
  · rw [outsAt0_A m c t h]
    dsimp only
    exact pure_A_8 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) p n
  · rw [outsAt0_B m c t h]
    dsimp only
    generalize outsAt0 m c (t.val - 1) _ = z
    exact pure_B_8 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) p n

theorem outs_9 (y : S512x512.Idx) : (outsAt0 m c t.val t.isLt).2.1 y
    = dm (in0 m c) (in1 m c) (in2 m c) (in3 m c) (in4 m c) (in5 m c) (in6 m c) (in7 m c) (row t (y 0)) ⟨(y 1 : ℕ) / 256, by have : (y 1 : ℕ) < 512 := (y 1).isLt; omega⟩ ⟨(y 1 : ℕ) % 256, by omega⟩ := by
  by_cases h : t.val % 4 = 0
  · rw [outsAt0_A m c t h]
    dsimp only
    exact pure_A_9 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) y
  · rw [outsAt0_B m c t h]
    dsimp only
    generalize outsAt0 m c (t.val - 1) _ = z
    exact pure_B_9 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) y

theorem outs_10 (p : Fin 512) (n : Fin 256) : (outsAt0 m c t.val t.isLt).2.2.1 (ix2 p n)
    = dm (in0 m c) (in1 m c) (in2 m c) (in3 m c) (in4 m c) (in5 m c) (in6 m c) (in7 m c) (row t p) 2 n := by
  by_cases h : t.val % 4 = 0
  · rw [outsAt0_A m c t h]
    dsimp only
    exact pure_A_10 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) p n
  · rw [outsAt0_B m c t h]
    dsimp only
    generalize outsAt0 m c (t.val - 1) _ = z
    exact pure_B_10 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) p n

theorem outs_11 (p : Fin 512) (n : Fin 256) : (outsAt0 m c t.val t.isLt).2.2.2.1 (ix2 p n)
    = dm (in0 m c) (in1 m c) (in2 m c) (in3 m c) (in4 m c) (in5 m c) (in6 m c) (in7 m c) (row t p) 3 n := by
  by_cases h : t.val % 4 = 0
  · rw [outsAt0_A m c t h]
    dsimp only
    exact pure_A_11 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) p n
  · rw [outsAt0_B m c t h]
    dsimp only
    generalize outsAt0 m c (t.val - 1) _ = z
    exact pure_B_11 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) p n

theorem outs_12_A (h : t.val % 4 = 0) (y : S4x256x1024.Idx) : (outsAt0 m c t.val t.isLt).2.2.2.2.1 y
    = 0 + ∑ p : Fin 512, dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2) (row t p) := by
  rw [outsAt0_A m c t h]
  dsimp only
  exact pure_A_12 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) y

theorem outs_12_B (h : ¬t.val % 4 = 0) (y : S4x256x1024.Idx) : (outsAt0 m c t.val t.isLt).2.2.2.2.1 y
    = (outsAt0 m c (t.val - 1) (Nat.lt_of_le_of_lt (Nat.sub_le _ _) t.isLt)).2.2.2.2.1 y + ∑ p : Fin 512, dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2) (row t p) := by
  rw [outsAt0_B m c t h]
  dsimp only
  generalize outsAt0 m c (t.val - 1) _ = z
  exact pure_B_12 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) y

theorem outs_13_A (h : t.val % 4 = 0) (u : Fin 1) (n : Fin 1024) : (outsAt0 m c t.val t.isLt).2.2.2.2.2 (ix2 u n)
    = 0 + ∑ p : Fin 512, dgPart (in0 m c) (in1 m c) (in2 m c) (in3 m c) (in4 m c) (in7 m c) n (row t p) := by
  rw [outsAt0_A m c t h]
  dsimp only
  exact pure_A_13 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ (row t) (read_0 m c t) (read_1 m c t) (read_2 m c t) (read_3 m c t) (read_4 m c t) (read_5 m c t) (read_6 m c t) (read_7 m c t) ((hcond0_0 t).mpr h) u n

theorem outs_13_B (h : ¬t.val % 4 = 0) (u : Fin 1) (n : Fin 1024) : (outsAt0 m c t.val t.isLt).2.2.2.2.2 (ix2 u n)
    = (outsAt0 m c (t.val - 1) (Nat.lt_of_le_of_lt (Nat.sub_le _ _) t.isLt)).2.2.2.2.2 (ix2 u n) + ∑ p : Fin 512, dgPart (in0 m c) (in1 m c) (in2 m c) (in3 m c) (in4 m c) (in7 m c) n (row t p) := by
  rw [outsAt0_B m c t h]
  dsimp only
  generalize outsAt0 m c (t.val - 1) _ = z
  exact pure_B_13 (in0 m c) (in1 m c) (in2 m c) (in3 m c) (in4 m c) (in5 m c) (in6 m c) (in7 m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) _ _ _ _ _ _ _ _ _ _ (row t) (read_0 m c t) (read_1 m c t) (read_2 m c t) (read_3 m c t) (read_4 m c t) (read_5 m c t) (read_6 m c t) (read_7 m c t) (fun q => h ((hcond0_0 t).mp q)) u n

end reads

/-- Output 4 at the last grid point: every row's part. -/
theorem outs_12 (c : Dev nD) (t : Fin cfg0.N) (ht : t.val % 4 = 3) (y : S4x256x1024.Idx) : (outsAt0 m c t.val t.isLt).2.2.2.2.1 y
    = ∑ r : Fin 2048, dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2) r := by
  have hN : (t : ℕ) < 4 := t.isLt
  have e := AccSum.eq_add_sum_fin (M := EReal) (N := cfg0.N) (fun k' h => (outsAt0 m c k' h).2.2.2.2.1 y) 0
    (fun s => ∑ p : Fin 512, dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2) ⟨s % 4 * 512 + p, by omega⟩)
    4 0 (fun h => outs_12_A m c ⟨0, h⟩ rfl y) (fun s hs h => ?_) (by omega) t.val (by omega) t.isLt
  · refine e.trans ((zero_add _).trans (Eq.symm ?_))
    refine Fin.sum_divmod_congr (A := 4) (S := 512) fun s p h => congrArg (dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2)) (Fin.ext ?_)
    have := s.isLt
    dsimp only
    omega
  · have h4 : 0 + (s + 1) < 4 := h
    have h1 := outs_12_B m c ⟨0 + (s + 1), h⟩ (by dsimp only; omega) y
    refine h1.trans (congrArg _ (Fin.sum_fin_congr fun p => congrArg (dwPart (in0 m c) (in1 m c) (in2 m c) (in3 m c) (in4 m c) (in5 m c) (in6 m c) (in7 m c) ⟨(y 0 : ℕ) * 256 + (y 1 : ℕ), by have h0 : (y 0 : ℕ) < 4 := (y 0).isLt; have h1 : (y 1 : ℕ) < 256 := (y 1).isLt; omega⟩ (y 2)) (Fin.ext ?_)))
    simp only [row]
    omega

/-- Output 5 at the last grid point: every row's part. -/
theorem outs_13 (c : Dev nD) (t : Fin cfg0.N) (ht : t.val % 4 = 3) (u : Fin 1) (n : Fin 1024) : (outsAt0 m c t.val t.isLt).2.2.2.2.2 (ix2 u n)
    = ∑ r : Fin 2048, dgPart (in0 m c) (in1 m c) (in2 m c) (in3 m c) (in4 m c) (in7 m c) n r := by
  have hN : (t : ℕ) < 4 := t.isLt
  have e := AccSum.eq_add_sum_fin (M := EReal) (N := cfg0.N) (fun k' h => (outsAt0 m c k' h).2.2.2.2.2 (ix2 u n)) 0
    (fun s => ∑ p : Fin 512, dgPart (in0 m c) (in1 m c) (in2 m c) (in3 m c) (in4 m c) (in7 m c) n ⟨s % 4 * 512 + p, by omega⟩)
    4 0 (fun h => outs_13_A m c ⟨0, h⟩ rfl u n) (fun s hs h => ?_) (by omega) t.val (by omega) t.isLt
  · refine e.trans ((zero_add _).trans (Eq.symm ?_))
    refine Fin.sum_divmod_congr (A := 4) (S := 512) fun s p h => congrArg (dgPart (in0 m c) (in1 m c) (in2 m c) (in3 m c) (in4 m c) (in7 m c) n) (Fin.ext ?_)
    have := s.isLt
    dsimp only
    omega
  · have h4 : 0 + (s + 1) < 4 := h
    have h1 := outs_13_B m c ⟨0 + (s + 1), h⟩ (by dsimp only; omega) u n
    refine h1.trans (congrArg _ (Fin.sum_fin_congr fun p => congrArg (dgPart (in0 m c) (in1 m c) (in2 m c) (in3 m c) (in4 m c) (in7 m c) n) (Fin.ext ?_)))
    simp only [row]
    omega

/-- The array of output window 8 after the run. -/
theorem final_8 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h7 : ∀ i, IsReal (in7 m c i)) :
    (dats m 0 c).arrAt 8 (cfgs 0).N = ref_v38 (in0 m c) (in1 m c) (in2 m c) (in3 m c) (in4 m c) (in5 m c) (in6 m c) (in7 m c) := by
  refine (dats m 0 c).arrAt_eq_of_covers 8 _ (by decide +kernel) fun t hf y => ?_
  blk_simp; rw [after0_8]
  have hb : (t : ℕ) < 4 := t.isLt
  idx_vars y
  refine (outs_8 m c t y0 y1).trans ((ref_38 (in0 m c) (in1 m c) (in2 m c) (in3 m c) (in4 m c) (in5 m c) (in6 m c) (in7 m c) h0 h1 h2 h3 h4 h5 h7 (row t y0) y1).symm.trans ?_)
  blk_ext [idx_val t, row]

/-- The array of output window 9 after the run. -/
theorem final_9 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h7 : ∀ i, IsReal (in7 m c i)) :
    (dats m 0 c).arrAt 9 (cfgs 0).N = ref_v44 (in0 m c) (in1 m c) (in2 m c) (in3 m c) (in4 m c) (in5 m c) (in6 m c) (in7 m c) := by
  refine (dats m 0 c).arrAt_eq_of_covers 9 _ (by decide +kernel) fun t hf y => ?_
  blk_simp; rw [after0_9]
  have hb : (t : ℕ) < 4 := t.isLt
  refine (outs_9 m c t y).trans ((ref_44 (in0 m c) (in1 m c) (in2 m c) (in3 m c) (in4 m c) (in5 m c) (in6 m c) (in7 m c) h0 h1 h2 h3 h4 h5 h7 (row t (y 0)) (y 1)).symm.trans ?_)
  blk_ext [idx_val t, row]

/-- The array of output window 10 after the run. -/
theorem final_10 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h7 : ∀ i, IsReal (in7 m c i)) :
    (dats m 0 c).arrAt 10 (cfgs 0).N = ref_v45 (in0 m c) (in1 m c) (in2 m c) (in3 m c) (in4 m c) (in5 m c) (in6 m c) (in7 m c) := by
  refine (dats m 0 c).arrAt_eq_of_covers 10 _ (by decide +kernel) fun t hf y => ?_
  blk_simp; rw [after0_10]
  have hb : (t : ℕ) < 4 := t.isLt
  idx_vars y
  refine (outs_10 m c t y0 y1).trans ((ref_45 (in0 m c) (in1 m c) (in2 m c) (in3 m c) (in4 m c) (in5 m c) (in6 m c) (in7 m c) h0 h1 h2 h3 h4 h5 h7 (row t y0) y1).symm.trans ?_)
  blk_ext [idx_val t, row]

/-- The array of output window 11 after the run. -/
theorem final_11 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h7 : ∀ i, IsReal (in7 m c i)) :
    (dats m 0 c).arrAt 11 (cfgs 0).N = ref_v46 (in0 m c) (in1 m c) (in2 m c) (in3 m c) (in4 m c) (in5 m c) (in6 m c) (in7 m c) := by
  refine (dats m 0 c).arrAt_eq_of_covers 11 _ (by decide +kernel) fun t hf y => ?_
  blk_simp; rw [after0_11]
  have hb : (t : ℕ) < 4 := t.isLt
  idx_vars y
  refine (outs_11 m c t y0 y1).trans ((ref_46 (in0 m c) (in1 m c) (in2 m c) (in3 m c) (in4 m c) (in5 m c) (in6 m c) (in7 m c) h0 h1 h2 h3 h4 h5 h7 (row t y0) y1).symm.trans ?_)
  blk_ext [idx_val t, row]

/-- The array of output window 12 after the run. -/
theorem final_12 (c : Dev nD) (h0 : ∀ i, IsReal (in0 m c i)) (h1 : ∀ i, IsReal (in1 m c i)) (h2 : ∀ i, IsReal (in2 m c i)) (h3 : ∀ i, IsReal (in3 m c i)) (h4 : ∀ i, IsReal (in4 m c i)) (h5 : ∀ i, IsReal (in5 m c i)) (h7 : ∀ i, IsReal (in7 m c i)) :
    (dats m 0 c).arrAt 12 (cfgs 0).N = ref_v43 (in0 m c) (in1 m c) (in2 m c) (in3 m c) (in4 m c) (in5 m c) (in6 m c) (in7 m c) := by
  refine (dats m 0 c).arrAt_eq_of_covers 12 _ (by decide +kernel) fun t hf y => ?_
  blk_simp; rw [after0_12]
  have hb : (t : ℕ) < 4 := t.isLt
  refine (outs_12 m c t ((flush0_12 t).mp hf) y).trans ((ref_43 (in0 m c) (in1 m c) (in2 m c) (in3 m c) (in4 m c) (in5 m c) (in6 m c) (in7 m c) h0 h1 h2 h3 h4 h5 h7 (y 0) (y 1) (y 2)).symm.trans ?_)
  blk_ext [idx_val t, row]

/-- The array of output window 13 after the run. -/
theorem final_13 (c : Dev nD)  :
    (dats m 0 c).arrAt 13 (cfgs 0).N = ref_v21 (in0 m c) (in1 m c) (in2 m c) (in3 m c) (in4 m c) (in5 m c) (in6 m c) (in7 m c) := by
  refine (dats m 0 c).arrAt_eq_of_covers 13 _ (by decide +kernel) fun t hf y => ?_
  blk_simp; rw [after0_13]
  have hb : (t : ℕ) < 4 := t.isLt
  idx_vars y
  refine (outs_13 m c t ((flush0_13 t).mp hf) y0 y1).trans ((ref_21 (in0 m c) (in1 m c) (in2 m c) (in3 m c) (in4 m c) (in5 m c) (in6 m c) (in7 m c) y0 y1).symm.trans ?_)
  blk_ext [idx_val t, row]

end Cert.OutBwdIdeal.Value

end
-- ==== Proof.OutClaim.lean ====
/- The claims of the output projection and of its gradient. -/
module

public import proofs.«01_k».proof.Defs
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.OutFwdRef
public import proofs.«01_k».proof.Proof.OutFwdValue
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.OutBwdRef
public import proofs.«01_k».proof.Proof.OutBwdValue
public import proofs.«01_k».proof.Proof.Gen.Pre_finite_out
public import proofs.«01_k».proof.Proof.RealEntry
public import Idealize.ShloMosaic.Lib.Claim
public import Idealize.ShloMosaic.Lib.Quiescent

@[expose] public section

set_option maxRecDepth 16384

noncomputable section

namespace Cert.Proof

open Idealize.ShloMosaic Idealize.SL.Sem Cert.RealEntry

/-- The reference of the output projection runs and leaves its arguments. -/
theorem frame_outFwdRef : Cert.quiescent_OutFwdRefIdeal := by
  intro m g _
  refine (θ_run _ _ _).mono (fun r h => ⟨fun c => (h c).2.2, sem_eq_zero_of_no_sems (by decide) _⟩)
    (Cert.OutFwdRefIdeal.Value.run m g)

/-- The output projection equals its reference. -/
theorem outFwd : Cert.algebraic_OutFwdIdeal_OutFwdRefIdeal := by
  intro m g m' g' hpre hagree
  refine ⟨fun c => Cert.OutFwdRefIdeal.Value.ref_v3 (Cert.OutFwdIdeal.Value.in0 m c) (Cert.OutFwdIdeal.Value.in1 m c) (Cert.OutFwdIdeal.Value.in2 m c) (Cert.OutFwdIdeal.Value.in3 m c) (Cert.OutFwdIdeal.Value.in4 m c) (Cert.OutFwdIdeal.Value.in5 m c),
    fun c => Cert.OutFwdRefIdeal.Value.ref_v16 (Cert.OutFwdIdeal.Value.in0 m c) (Cert.OutFwdIdeal.Value.in1 m c) (Cert.OutFwdIdeal.Value.in2 m c) (Cert.OutFwdIdeal.Value.in3 m c) (Cert.OutFwdIdeal.Value.in4 m c) (Cert.OutFwdIdeal.Value.in5 m c),
    ?_, Cert.OutFwdRefIdeal.Value.run_at m' g' (Cert.OutFwdIdeal.Value.in0 m) (fun c => (hagree c).1) (Cert.OutFwdIdeal.Value.in1 m) (fun c => (hagree c).2.1) (Cert.OutFwdIdeal.Value.in2 m) (fun c => (hagree c).2.2.1) (Cert.OutFwdIdeal.Value.in3 m) (fun c => (hagree c).2.2.2.1) (Cert.OutFwdIdeal.Value.in4 m) (fun c => (hagree c).2.2.2.2.1) (Cert.OutFwdIdeal.Value.in5 m) (fun c => (hagree c).2.2.2.2.2)⟩
  run_from Cert.OutFwdIdeal.Gen.run_main m g
  · exact Cert.OutFwdIdeal.Value.final_6 m c
  · exact Cert.OutFwdIdeal.Value.final_7 m c

/-- The reference of the output projection's gradient runs and leaves its arguments. -/
theorem frame_outBwdRef : Cert.quiescent_OutBwdRefIdeal := by
  intro m g _
  refine (θ_run _ _ _).mono (fun r h => ⟨fun c => (h c).2.2.2.2.2.2, sem_eq_zero_of_no_sems (by decide) _⟩)
    (Cert.OutBwdRefIdeal.Value.run m g)

/-- Arguments that the precondition holds of have real entries only. -/
theorem real_of_finite_out (m : (ℓ : Loc Cert.OutBwdIdeal.nD Cert.OutBwdIdeal.τ Cert.OutBwdIdeal.sig) → Buf (Elt Ideal) ℓ)
    (h : Cert.Pre_OutBwdIdeal_finite_out m) (c : Dev Cert.OutBwdIdeal.nD) :
    (∀ i, IsReal (Cert.OutBwdIdeal.Value.in0 m c i)) ∧ (∀ i, IsReal (Cert.OutBwdIdeal.Value.in1 m c i)) ∧ (∀ i, IsReal (Cert.OutBwdIdeal.Value.in2 m c i)) ∧ (∀ i, IsReal (Cert.OutBwdIdeal.Value.in3 m c i)) ∧ (∀ i, IsReal (Cert.OutBwdIdeal.Value.in4 m c i)) ∧ (∀ i, IsReal (Cert.OutBwdIdeal.Value.in5 m c i)) ∧ (∀ i, IsReal (Cert.OutBwdIdeal.Value.in7 m c i)) := by
  have e := congrFun (h c) ix0
  dsimp only [Cert.Pre_finite_out.fn, Cert.Pre_finite_out.fn_part1] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i)⟩

set_option maxHeartbeats 3200000 in
/-- At finite arguments the output projection's gradient equals its reference. -/
theorem outBwd : Cert.algebraic_OutBwdIdeal_OutBwdRefIdeal_pre_finite_out := by
  intro m g m' g' hpre hagree
  have hr := real_of_finite_out m hpre
  refine ⟨fun c => Cert.OutBwdRefIdeal.Value.ref_v38 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    fun c => Cert.OutBwdRefIdeal.Value.ref_v44 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    fun c => Cert.OutBwdRefIdeal.Value.ref_v45 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    fun c => Cert.OutBwdRefIdeal.Value.ref_v46 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    fun c => Cert.OutBwdRefIdeal.Value.ref_v43 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    fun c => Cert.OutBwdRefIdeal.Value.ref_v21 (Cert.OutBwdIdeal.Value.in0 m c) (Cert.OutBwdIdeal.Value.in1 m c) (Cert.OutBwdIdeal.Value.in2 m c) (Cert.OutBwdIdeal.Value.in3 m c) (Cert.OutBwdIdeal.Value.in4 m c) (Cert.OutBwdIdeal.Value.in5 m c) (Cert.OutBwdIdeal.Value.in6 m c) (Cert.OutBwdIdeal.Value.in7 m c),
    ?_, Cert.OutBwdRefIdeal.Value.run_at m' g' (Cert.OutBwdIdeal.Value.in0 m) (fun c => (hagree c).1) (Cert.OutBwdIdeal.Value.in1 m) (fun c => (hagree c).2.1) (Cert.OutBwdIdeal.Value.in2 m) (fun c => (hagree c).2.2.1) (Cert.OutBwdIdeal.Value.in3 m) (fun c => (hagree c).2.2.2.1) (Cert.OutBwdIdeal.Value.in4 m) (fun c => (hagree c).2.2.2.2.1) (Cert.OutBwdIdeal.Value.in5 m) (fun c => (hagree c).2.2.2.2.2.1) (Cert.OutBwdIdeal.Value.in6 m) (fun c => (hagree c).2.2.2.2.2.2.1) (Cert.OutBwdIdeal.Value.in7 m) (fun c => (hagree c).2.2.2.2.2.2.2)⟩
  run_from Cert.OutBwdIdeal.Gen.run_main m g
  · exact Cert.OutBwdIdeal.Value.final_8 m c (hr c).1 (hr c).2.1 (hr c).2.2.1 (hr c).2.2.2.1 (hr c).2.2.2.2.1 (hr c).2.2.2.2.2.1 (hr c).2.2.2.2.2.2
  · exact Cert.OutBwdIdeal.Value.final_9 m c (hr c).1 (hr c).2.1 (hr c).2.2.1 (hr c).2.2.2.1 (hr c).2.2.2.2.1 (hr c).2.2.2.2.2.1 (hr c).2.2.2.2.2.2
  · exact Cert.OutBwdIdeal.Value.final_10 m c (hr c).1 (hr c).2.1 (hr c).2.2.1 (hr c).2.2.2.1 (hr c).2.2.2.2.1 (hr c).2.2.2.2.2.1 (hr c).2.2.2.2.2.2
  · exact Cert.OutBwdIdeal.Value.final_11 m c (hr c).1 (hr c).2.1 (hr c).2.2.1 (hr c).2.2.2.1 (hr c).2.2.2.2.1 (hr c).2.2.2.2.2.1 (hr c).2.2.2.2.2.2
  · exact Cert.OutBwdIdeal.Value.final_12 m c (hr c).1 (hr c).2.1 (hr c).2.2.1 (hr c).2.2.2.1 (hr c).2.2.2.2.1 (hr c).2.2.2.2.2.1 (hr c).2.2.2.2.2.2
  · exact Cert.OutBwdIdeal.Value.final_13 m c

end Cert.Proof

end
-- ==== Proof.AdamEntry.lean ====
/- One entry of the weights' update: the kernel scales the moments by the reciprocals of the numbers by which the reference divides them. -/
module

public import Idealize.ShloMosaic.PureOps.Ideal

@[expose] public section

noncomputable section

namespace Cert.AdamEntry

open Idealize.ShloMosaic

theorem bias1_coe : Ideal.ofBits .f32 0x3F26BD02#32 = ((5463681 / 8388608 : ℝ) : EReal) := by
  simp [Ideal.ofBits, Ideal.ieee, -EReal.coe_mul]; norm_num

theorem bias2_coe : Ideal.ofBits .f32 0x3C231ACC#32 = ((2672307 / 268435456 : ℝ) : EReal) := by
  simp [Ideal.ofBits, Ideal.ieee, -EReal.coe_mul]; norm_num

/-- The reference's quotients are the kernel's products. -/
theorem div_bias1 (x : EReal) : Ideal.div x (Ideal.ofBits .f32 0x3F26BD02#32) = x * ((8388608 / 5463681 : ℝ) : EReal) := by
  rw [bias1_coe, Ideal.div_coe (by norm_num)]; norm_num

theorem div_bias2 (x : EReal) : Ideal.div x (Ideal.ofBits .f32 0x3C231ACC#32) = x * ((268435456 / 2672307 : ℝ) : EReal) := by
  rw [bias2_coe, Ideal.div_coe (by norm_num)]; norm_num

/-- The first moment after the step. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The weight's change, in the kernel's form and in the reference's. -/
def delta (w g m v : EReal) : EReal :=
  Ideal.ofBits .f32 0xBA83126F#32 * (Ideal.div (mom g m * ((8388608 / 5463681 : ℝ) : EReal))
    (Ideal.sqrt (vel g v * ((268435456 / 2672307 : ℝ) : EReal)) + Ideal.ofBits .f32 0x322BCC77#32) + Ideal.ofBits .f32 0x3C23D70A#32 * w)

def deltaRef (w g m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

theorem delta_eq (w g m v : EReal) : delta w g m v = deltaRef w g m v := by
  unfold delta deltaRef; rw [div_bias1, div_bias2]

/-! The reference's arrays, from arrays equal to the kernel's arguments. -/

theorem delta_of {ι : Type} {w w' g g' m m' v v' : ι → EReal} (hw : w' = w) (hg : g' = g) (hm : m' = m) (hv : v' = v) :
    (fun i => deltaRef (w' i) (g' i) (m' i) (v' i)) = fun i => delta (w i) (g i) (m i) (v i) := by
  subst hw hg hm hv; exact funext fun i => (delta_eq _ _ _ _).symm

theorem mom_of {ι : Type} {g g' m m' : ι → EReal} (hg : g' = g) (hm : m' = m) :
    (fun i => mom (g' i) (m' i)) = fun i => mom (g i) (m i) := by
  subst hg hm; rfl

theorem vel_of {ι : Type} {g g' v v' : ι → EReal} (hg : g' = g) (hv : v' = v) :
    (fun i => vel (g' i) (v' i)) = fun i => vel (g i) (v i) := by
  subst hg hv; rfl

end Cert.AdamEntry

end
-- ==== Proof.AdamInValue.lean ====
/- The arrays the update of the input projection's weight leaves, entry by entry. -/
module

public import proofs.«01_k».proof.Proof.Gen.AdamInIdeal.Value
public import proofs.«01_k».proof.Proof.AdamEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamInIdeal.Value

open Cert.AdamInIdeal Cert.AdamInIdeal.Gen Cert.AdamEntry

section block

variable (x0 x1 x2 x3 : Vec Ideal S512x770 .f32) (y : S512x770.Idx)

/-- Each array is stored once, whole. -/
theorem hz : (![0, 0] : Fin 2 → Nat) = fun _ => 0 := funext fun a => by fin_cases a <;> rfl

theorem pure_4 : out0_4 x0 x1 x2 x3 y = delta (x0 y) (x1 y) (x2 y) (x3 y) := by
  unfold out0_4
  rw [View.canon_unit_zero hz]
  simp only [View.ld_unit_zero (S := S512x770) hz]
  rfl

theorem pure_5 : out0_5 x0 x1 x2 x3 y = mom (x1 y) (x2 y) := by
  unfold out0_5
  rw [View.canon_unit_zero hz]
  simp only [View.ld_unit_zero (S := S512x770) hz]
  rfl

theorem pure_6 : out0_6 x0 x1 x2 x3 y = vel (x1 y) (x3 y) := by
  unfold out0_6
  rw [View.canon_unit_zero hz]
  simp only [View.ld_unit_zero (S := S512x770) hz]
  rfl

theorem pure_7 : out0_7 x0 x1 x2 x3 y = x1 y := by
  unfold out0_7
  rw [View.canon_unit_zero hz]
  exact congrFun (View.ld_unit_zero (S := S512x770) hz _ x1) y

end block

variable (m : (ℓ : Loc nD τ sig) → Buf (Elt Ideal) ℓ)

/-- The arguments as launched: the weight, its gradient and the two moments. -/
abbrev in0 (c : Dev nD) : FVec Ideal S2048x770 .f32 := m ((c : Thread nD τ).loc main_arg0)
abbrev in1 (c : Dev nD) : FVec Ideal S2048x770 .f32 := m ((c : Thread nD τ).loc main_arg1)
abbrev in2 (c : Dev nD) : FVec Ideal S2048x770 .f32 := m ((c : Thread nD τ).loc main_arg2)
abbrev in3 (c : Dev nD) : FVec Ideal S2048x770 .f32 := m ((c : Thread nD τ).loc main_arg3)

/-- Every window's block at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the arrays which grid point `t` has at row `p` of its block. -/
def row (t : Fin cfg0.N) (p : Fin 512) : Fin 2048 := ⟨t.val * 512 + p, by have : (t : ℕ) < 4 := t.isLt; omega⟩

section reads

variable (c : Dev nD) (t : Fin cfg0.N) (y : S512x770.Idx)

theorem read_0 : (iblk m c 0 t : Vec Ideal S512x770 .f32) y = in0 m c (ix2 (row t (y 0)) (y 1)) := by
  blk_ext [iblk, V, idx_val t, row]
theorem at_4 (X : S2048x770.Idx → EReal) : X (ix2 (row t (y 0)) (y 1)) = X ((win0_4.blk t).view.emb y) := by
  blk_ext [idx_val t, row]
theorem read_1 : (iblk m c 1 t : Vec Ideal S512x770 .f32) y = in1 m c (ix2 (row t (y 0)) (y 1)) := by
  blk_ext [iblk, V, idx_val t, row]
theorem at_5 (X : S2048x770.Idx → EReal) : X (ix2 (row t (y 0)) (y 1)) = X ((win0_5.blk t).view.emb y) := by
  blk_ext [idx_val t, row]
theorem read_2 : (iblk m c 2 t : Vec Ideal S512x770 .f32) y = in2 m c (ix2 (row t (y 0)) (y 1)) := by
  blk_ext [iblk, V, idx_val t, row]
theorem at_6 (X : S2048x770.Idx → EReal) : X (ix2 (row t (y 0)) (y 1)) = X ((win0_6.blk t).view.emb y) := by
  blk_ext [idx_val t, row]
theorem read_3 : (iblk m c 3 t : Vec Ideal S512x770 .f32) y = in3 m c (ix2 (row t (y 0)) (y 1)) := by
  blk_ext [iblk, V, idx_val t, row]
theorem at_7 (X : S2048x770.Idx → EReal) : X (ix2 (row t (y 0)) (y 1)) = X ((win0_7.blk t).view.emb y) := by
  blk_ext [idx_val t, row]

end reads

/-- The weight's change. -/
theorem final_4 (c : Dev nD) : (dats m 0 c).arrAt 4 (cfgs 0).N = fun i => delta (in0 m c i) (in1 m c i) (in2 m c i) (in3 m c i) := by
  refine (dats m 0 c).arrAt_eq_of_covers 4 _ (by decide +kernel) fun t hf y => ?_
  blk_simp; rw [after0_4]
  have hb : (t : ℕ) < 4 := t.isLt
  refine (pure_4 _ _ _ _ y).trans ?_
  rw [read_0 m c t, read_1 m c t, read_2 m c t, read_3 m c t]
  exact at_4 t y fun i => delta (in0 m c i) (in1 m c i) (in2 m c i) (in3 m c i)

/-- The first moment. -/
theorem final_5 (c : Dev nD) : (dats m 0 c).arrAt 5 (cfgs 0).N = fun i => mom (in1 m c i) (in2 m c i) := by
  refine (dats m 0 c).arrAt_eq_of_covers 5 _ (by decide +kernel) fun t hf y => ?_
  blk_simp; rw [after0_5]
  have hb : (t : ℕ) < 4 := t.isLt
  refine (pure_5 _ _ _ _ y).trans ?_
  rw [read_1 m c t, read_2 m c t]
  exact at_5 t y fun i => mom (in1 m c i) (in2 m c i)

/-- The second moment. -/
theorem final_6 (c : Dev nD) : (dats m 0 c).arrAt 6 (cfgs 0).N = fun i => vel (in1 m c i) (in3 m c i) := by
  refine (dats m 0 c).arrAt_eq_of_covers 6 _ (by decide +kernel) fun t hf y => ?_
  blk_simp; rw [after0_6]
  have hb : (t : ℕ) < 4 := t.isLt
  refine (pure_6 _ _ _ _ y).trans ?_
  rw [read_1 m c t, read_3 m c t]
  exact at_6 t y fun i => vel (in1 m c i) (in3 m c i)

/-- The gradient, passed on. -/
theorem final_7 (c : Dev nD) : (dats m 0 c).arrAt 7 (cfgs 0).N = fun i => in1 m c i := by
  refine (dats m 0 c).arrAt_eq_of_covers 7 _ (by decide +kernel) fun t hf y => ?_
  blk_simp; rw [after0_7]
  have hb : (t : ℕ) < 4 := t.isLt
  refine (pure_7 _ _ _ _ y).trans ?_
  rw [read_1 m c t]
  exact at_7 t y fun i => in1 m c i

end Cert.AdamInIdeal.Value

end
-- ==== Proof.AdamFfnValue.lean ====
/- The arrays the update of a weight of the gated linear units leaves, entry by entry. -/
module

public import proofs.«01_k».proof.Proof.Gen.AdamFfnIdeal.Value
public import proofs.«01_k».proof.Proof.AdamEntry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamFfnIdeal.Value

open Cert.AdamFfnIdeal Cert.AdamFfnIdeal.Gen Cert.AdamEntry

section block

variable (x0 x1 x2 x3 : Vec Ideal S352x1024 .f32) (y : S352x1024.Idx)

/-- Each array is stored once, whole. -/
theorem hz : (![0, 0] : Fin 2 → Nat) = fun _ => 0 := funext fun a => by fin_cases a <;> rfl

theorem pure_4 : out0_4 x0 x1 x2 x3 y = delta (x0 y) (x1 y) (x2 y) (x3 y) := by
  unfold out0_4
  rw [View.canon_unit_zero hz]
  simp only [View.ld_unit_zero (S := S352x1024) hz]
  rfl

theorem pure_5 : out0_5 x0 x1 x2 x3 y = mom (x1 y) (x2 y) := by
  unfold out0_5
  rw [View.canon_unit_zero hz]
  simp only [View.ld_unit_zero (S := S352x1024) hz]
  rfl

theorem pure_6 : out0_6 x0 x1 x2 x3 y = vel (x1 y) (x3 y) := by
  unfold out0_6
  rw [View.canon_unit_zero hz]
  simp only [View.ld_unit_zero (S := S352x1024) hz]
  rfl

theorem pure_7 : out0_7 x0 x1 x2 x3 y = x1 y := by
  unfold out0_7
  rw [View.canon_unit_zero hz]
  exact congrFun (View.ld_unit_zero (S := S352x1024) hz _ x1) y

end block

variable (m : (ℓ : Loc nD τ sig) → Buf (Elt Ideal) ℓ)

/-- The arguments as launched: the weight, its gradient and the two moments. -/
abbrev in0 (c : Dev nD) : FVec Ideal S1408x1024 .f32 := m ((c : Thread nD τ).loc main_arg0)
abbrev in1 (c : Dev nD) : FVec Ideal S1408x1024 .f32 := m ((c : Thread nD τ).loc main_arg1)
abbrev in2 (c : Dev nD) : FVec Ideal S1408x1024 .f32 := m ((c : Thread nD τ).loc main_arg2)
abbrev in3 (c : Dev nD) : FVec Ideal S1408x1024 .f32 := m ((c : Thread nD τ).loc main_arg3)

/-- Every window's block at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the arrays which grid point `t` has at row `p` of its block. -/
def row (t : Fin cfg0.N) (p : Fin 352) : Fin 1408 := ⟨t.val * 352 + p, by have : (t : ℕ) < 4 := t.isLt; omega⟩

section reads

variable (c : Dev nD) (t : Fin cfg0.N) (y : S352x1024.Idx)

theorem read_0 : (iblk m c 0 t : Vec Ideal S352x1024 .f32) y = in0 m c (ix2 (row t (y 0)) (y 1)) := by
  blk_ext [iblk, V, idx_val t, row]
theorem at_4 (X : S1408x1024.Idx → EReal) : X (ix2 (row t (y 0)) (y 1)) = X ((win0_4.blk t).view.emb y) := by
  blk_ext [idx_val t, row]
theorem read_1 : (iblk m c 1 t : Vec Ideal S352x1024 .f32) y = in1 m c (ix2 (row t (y 0)) (y 1)) := by
  blk_ext [iblk, V, idx_val t, row]
theorem at_5 (X : S1408x1024.Idx → EReal) : X (ix2 (row t (y 0)) (y 1)) = X ((win0_5.blk t).view.emb y) := by
  blk_ext [idx_val t, row]
theorem read_2 : (iblk m c 2 t : Vec Ideal S352x1024 .f32) y = in2 m c (ix2 (row t (y 0)) (y 1)) := by
  blk_ext [iblk, V, idx_val t, row]
theorem at_6 (X : S1408x1024.Idx → EReal) : X (ix2 (row t (y 0)) (y 1)) = X ((win0_6.blk t).view.emb y) := by
  blk_ext [idx_val t, row]
theorem read_3 : (iblk m c 3 t : Vec Ideal S352x1024 .f32) y = in3 m c (ix2 (row t (y 0)) (y 1)) := by
  blk_ext [iblk, V, idx_val t, row]
theorem at_7 (X : S1408x1024.Idx → EReal) : X (ix2 (row t (y 0)) (y 1)) = X ((win0_7.blk t).view.emb y) := by
  blk_ext [idx_val t, row]

end reads

/-- The weight's change. -/
theorem final_4 (c : Dev nD) : (dats m 0 c).arrAt 4 (cfgs 0).N = fun i => delta (in0 m c i) (in1 m c i) (in2 m c i) (in3 m c i) := by
  refine (dats m 0 c).arrAt_eq_of_covers 4 _ (by decide +kernel) fun t hf y => ?_
  blk_simp; rw [after0_4]
  have hb : (t : ℕ) < 4 := t.isLt
  refine (pure_4 _ _ _ _ y).trans ?_
  rw [read_0 m c t, read_1 m c t, read_2 m c t, read_3 m c t]
  exact at_4 t y fun i => delta (in0 m c i) (in1 m c i) (in2 m c i) (in3 m c i)

/-- The first moment. -/
theorem final_5 (c : Dev nD) : (dats m 0 c).arrAt 5 (cfgs 0).N = fun i => mom (in1 m c i) (in2 m c i) := by
  refine (dats m 0 c).arrAt_eq_of_covers 5 _ (by decide +kernel) fun t hf y => ?_
  blk_simp; rw [after0_5]
  have hb : (t : ℕ) < 4 := t.isLt
  refine (pure_5 _ _ _ _ y).trans ?_
  rw [read_1 m c t, read_2 m c t]
  exact at_5 t y fun i => mom (in1 m c i) (in2 m c i)

/-- The second moment. -/
theorem final_6 (c : Dev nD) : (dats m 0 c).arrAt 6 (cfgs 0).N = fun i => vel (in1 m c i) (in3 m c i) := by
  refine (dats m 0 c).arrAt_eq_of_covers 6 _ (by decide +kernel) fun t hf y => ?_
  blk_simp; rw [after0_6]
  have hb : (t : ℕ) < 4 := t.isLt
  refine (pure_6 _ _ _ _ y).trans ?_
  rw [read_1 m c t, read_3 m c t]
  exact at_6 t y fun i => vel (in1 m c i) (in3 m c i)

/-- The gradient, passed on. -/
theorem final_7 (c : Dev nD) : (dats m 0 c).arrAt 7 (cfgs 0).N = fun i => in1 m c i := by
  refine (dats m 0 c).arrAt_eq_of_covers 7 _ (by decide +kernel) fun t hf y => ?_
  blk_simp; rw [after0_7]
  have hb : (t : ℕ) < 4 := t.isLt
  refine (pure_7 _ _ _ _ y).trans ?_
  rw [read_1 m c t]
  exact at_7 t y fun i => in1 m c i

end Cert.AdamFfnIdeal.Value

end
-- ==== Proof.AdamClaim.lean ====
/- The claims of the updates of the large weights. -/
module

public import proofs.«01_k».proof.Defs
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.AdamInValue
public import proofs.«01_k».proof.Proof.Gen.AdamFfnIdeal
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.AdamFfnValue
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamPleIdeal
public import proofs.«01_k».proof.Proof.Gen.AdamPleIdeal.Frame
public import proofs.«01_k».proof.Proof.Gen.AdamPleIdeal.Value
public import proofs.«01_k».proof.Proof.Gen.AdamPleRefIdeal
public import proofs.«01_k».proof.Proof.Gen.AdamPleRefIdeal.Run
public import proofs.«01_k».proof.Proof.AdamEntry
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem Cert.AdamEntry

/-- The reference of the update of the input projection's weight runs and leaves its arguments. -/
theorem frame_adamInRef : Cert.quiescent_AdamInRefIdeal := by
  intro m g _
  refine (θ_run _ _ _).mono (fun r h => ⟨fun c => (h c).2.2.2.2, sem_eq_zero_of_no_sems (by decide) _⟩)
    (Cert.AdamInRefIdeal.Value.run m g)

/-- The two numbers by which the kernel of the update of the input projection's weight scales the moments round to the literals it is written with. -/
theorem preserves_adamIn : Cert.preserves_AdamIn_AdamInIdeal :=
  ⟨IdealRules.named_const.statement Cert.AdamInIdeal.κ "bias1" .f32 0x3FC48605#32 ((8388608 / 5463681 : ℝ) : EReal) rfl,
    IdealRules.named_const.statement Cert.AdamInIdeal.κ "bias2" .f32 0x42C8E6D3#32 ((268435456 / 2672307 : ℝ) : EReal) rfl⟩

namespace AdamIn

variable (m : (ℓ : Loc Cert.AdamInIdeal.nD Cert.AdamInIdeal.τ Cert.AdamInIdeal.sig) → Buf (Elt Ideal) ℓ) (c : Dev Cert.AdamInIdeal.nD)

/-! The arguments as launched: the weights, their gradients, their first and second moments. -/

abbrev x0 : Cert.AdamInIdeal.S2048x770.Idx → EReal := m ((c.tc : Thread Cert.AdamInIdeal.nD Cert.AdamInIdeal.τ).loc Cert.AdamInIdeal.main_arg0)
abbrev x1 : Cert.AdamInIdeal.S2048x770.Idx → EReal := m ((c.tc : Thread Cert.AdamInIdeal.nD Cert.AdamInIdeal.τ).loc Cert.AdamInIdeal.main_arg1)
abbrev x2 : Cert.AdamInIdeal.S2048x770.Idx → EReal := m ((c.tc : Thread Cert.AdamInIdeal.nD Cert.AdamInIdeal.τ).loc Cert.AdamInIdeal.main_arg2)
abbrev x3 : Cert.AdamInIdeal.S2048x770.Idx → EReal := m ((c.tc : Thread Cert.AdamInIdeal.nD Cert.AdamInIdeal.τ).loc Cert.AdamInIdeal.main_arg3)

end AdamIn

open AdamIn in
/-- The update of the input projection's weight equals its reference. -/
theorem adamIn : Cert.algebraic_AdamInIdeal_AdamInRefIdeal := by
  intro m g m' g' _ hagree
  refine ⟨fun c i => delta (x0 m c i) (x1 m c i) (x2 m c i) (x3 m c i),
    fun c i => mom (x1 m c i) (x2 m c i),
    fun c i => vel (x1 m c i) (x3 m c i),
    fun c => x1 m c,
    ?_, ?_⟩
  · run_from Cert.AdamInIdeal.Gen.run_main m g
    · exact Cert.AdamInIdeal.Value.final_4 m c
    · exact Cert.AdamInIdeal.Value.final_5 m c
    · exact Cert.AdamInIdeal.Value.final_6 m c
    · exact Cert.AdamInIdeal.Value.final_7 m c
  · refine (θ_run _ _ _).mono (fun r h c => ?_) (Cert.AdamInRefIdeal.Value.run m' g')
    obtain ⟨h0, h1, h2, h3, hk⟩ := h c
    obtain ⟨e0, e1, e2, e3⟩ := hagree c
    exact ⟨h0.trans (show _ = _ by have q := delta_of (ι := Cert.AdamInIdeal.S2048x770.Idx) e0 e1 e2 e3; exact q),
      h1.trans (show _ = _ by have q := mom_of (ι := Cert.AdamInIdeal.S2048x770.Idx) e1 e2; exact q),
      h2.trans (show _ = _ by have q := vel_of (ι := Cert.AdamInIdeal.S2048x770.Idx) e1 e3; exact q),
      h3.trans e1, hk⟩

/-- The reference of the update of a weight of the gated linear units runs and leaves its arguments. -/
theorem frame_adamFfnRef : Cert.quiescent_AdamFfnRefIdeal := by
  intro m g _
  refine (θ_run _ _ _).mono (fun r h => ⟨fun c => (h c).2.2.2.2, sem_eq_zero_of_no_sems (by decide) _⟩)
    (Cert.AdamFfnRefIdeal.Value.run m g)

/-- The two numbers by which the kernel of the update of a weight of the gated linear units scales the moments round to the literals it is written with. -/
theorem preserves_adamFfn : Cert.preserves_AdamFfn_AdamFfnIdeal :=
  ⟨IdealRules.named_const.statement Cert.AdamFfnIdeal.κ "bias1" .f32 0x3FC48605#32 ((8388608 / 5463681 : ℝ) : EReal) rfl,
    IdealRules.named_const.statement Cert.AdamFfnIdeal.κ "bias2" .f32 0x42C8E6D3#32 ((268435456 / 2672307 : ℝ) : EReal) rfl⟩

namespace AdamFfn

variable (m : (ℓ : Loc Cert.AdamFfnIdeal.nD Cert.AdamFfnIdeal.τ Cert.AdamFfnIdeal.sig) → Buf (Elt Ideal) ℓ) (c : Dev Cert.AdamFfnIdeal.nD)

/-! The arguments as launched: the weights, their gradients, their first and second moments. -/

abbrev x0 : Cert.AdamFfnIdeal.S1408x1024.Idx → EReal := m ((c.tc : Thread Cert.AdamFfnIdeal.nD Cert.AdamFfnIdeal.τ).loc Cert.AdamFfnIdeal.main_arg0)
abbrev x1 : Cert.AdamFfnIdeal.S1408x1024.Idx → EReal := m ((c.tc : Thread Cert.AdamFfnIdeal.nD Cert.AdamFfnIdeal.τ).loc Cert.AdamFfnIdeal.main_arg1)
abbrev x2 : Cert.AdamFfnIdeal.S1408x1024.Idx → EReal := m ((c.tc : Thread Cert.AdamFfnIdeal.nD Cert.AdamFfnIdeal.τ).loc Cert.AdamFfnIdeal.main_arg2)
abbrev x3 : Cert.AdamFfnIdeal.S1408x1024.Idx → EReal := m ((c.tc : Thread Cert.AdamFfnIdeal.nD Cert.AdamFfnIdeal.τ).loc Cert.AdamFfnIdeal.main_arg3)

end AdamFfn

open AdamFfn in
/-- The update of a weight of the gated linear units equals its reference. -/
theorem adamFfn : Cert.algebraic_AdamFfnIdeal_AdamFfnRefIdeal := by
  intro m g m' g' _ hagree
  refine ⟨fun c i => delta (x0 m c i) (x1 m c i) (x2 m c i) (x3 m c i),
    fun c i => mom (x1 m c i) (x2 m c i),
    fun c i => vel (x1 m c i) (x3 m c i),
    fun c => x1 m c,
    ?_, ?_⟩
  · run_from Cert.AdamFfnIdeal.Gen.run_main m g
    · exact Cert.AdamFfnIdeal.Value.final_4 m c
    · exact Cert.AdamFfnIdeal.Value.final_5 m c
    · exact Cert.AdamFfnIdeal.Value.final_6 m c
    · exact Cert.AdamFfnIdeal.Value.final_7 m c
  · refine (θ_run _ _ _).mono (fun r h c => ?_) (Cert.AdamFfnRefIdeal.Value.run m' g')
    obtain ⟨h0, h1, h2, h3, hk⟩ := h c
    obtain ⟨e0, e1, e2, e3⟩ := hagree c
    exact ⟨h0.trans (show _ = _ by have q := delta_of (ι := Cert.AdamFfnIdeal.S1408x1024.Idx) e0 e1 e2 e3; exact q),
      h1.trans (show _ = _ by have q := mom_of (ι := Cert.AdamFfnIdeal.S1408x1024.Idx) e1 e2; exact q),
      h2.trans (show _ = _ by have q := vel_of (ι := Cert.AdamFfnIdeal.S1408x1024.Idx) e1 e3; exact q),
      h3.trans e1, hk⟩

/-- The reference of the update of the output projection's weight runs and leaves its arguments. -/
theorem frame_adamOutRef : Cert.quiescent_AdamOutRefIdeal := by
  intro m g _
  refine (θ_run _ _ _).mono (fun r h => ⟨fun c => (h c).2.2.2.2, sem_eq_zero_of_no_sems (by decide) _⟩)
    (Cert.AdamOutRefIdeal.Value.run m g)

/-- The two numbers by which the kernel of the update of the output projection's weight scales the moments round to the literals it is written with. -/
theorem preserves_adamOut : Cert.preserves_AdamOut_AdamOutIdeal :=
  ⟨IdealRules.named_const.statement Cert.AdamOutIdeal.κ "bias1" .f32 0x3FC48605#32 ((8388608 / 5463681 : ℝ) : EReal) rfl,
    IdealRules.named_const.statement Cert.AdamOutIdeal.κ "bias2" .f32 0x42C8E6D3#32 ((268435456 / 2672307 : ℝ) : EReal) rfl⟩

namespace AdamOut

variable (m : (ℓ : Loc Cert.AdamOutIdeal.nD Cert.AdamOutIdeal.τ Cert.AdamOutIdeal.sig) → Buf (Elt Ideal) ℓ) (c : Dev Cert.AdamOutIdeal.nD)

/-! The arguments as launched: the weights, their gradients, their first and second moments. -/

abbrev x0 : Cert.AdamOutIdeal.S512x1024.Idx → EReal := m ((c.tc : Thread Cert.AdamOutIdeal.nD Cert.AdamOutIdeal.τ).loc Cert.AdamOutIdeal.main_arg0)
abbrev x1 : Cert.AdamOutIdeal.S512x1024.Idx → EReal := m ((c.tc : Thread Cert.AdamOutIdeal.nD Cert.AdamOutIdeal.τ).loc Cert.AdamOutIdeal.main_arg1)
abbrev x2 : Cert.AdamOutIdeal.S512x1024.Idx → EReal := m ((c.tc : Thread Cert.AdamOutIdeal.nD Cert.AdamOutIdeal.τ).loc Cert.AdamOutIdeal.main_arg2)
abbrev x3 : Cert.AdamOutIdeal.S512x1024.Idx → EReal := m ((c.tc : Thread Cert.AdamOutIdeal.nD Cert.AdamOutIdeal.τ).loc Cert.AdamOutIdeal.main_arg3)

end AdamOut

open AdamOut in
/-- The update of the output projection's weight equals its reference. -/
theorem adamOut : Cert.algebraic_AdamOutIdeal_AdamOutRefIdeal := by
  intro m g m' g' _ hagree
  refine ⟨fun c i => delta (x0 m c i) (x1 m c i) (x2 m c i) (x3 m c i),
    fun c i => mom (x1 m c i) (x2 m c i),
    fun c i => vel (x1 m c i) (x3 m c i),
    fun c => x1 m c,
    ?_, ?_⟩
  · refine (θ_run _ _ _).mono (fun r h c => ?_) (Cert.AdamOutIdeal.Value.run m g)
    obtain ⟨h0, h1, h2, h3, hk⟩ := h c
    exact ⟨h0, h1, h2, h3, hk⟩
  · refine (θ_run _ _ _).mono (fun r h c => ?_) (Cert.AdamOutRefIdeal.Value.run m' g')
    obtain ⟨h0, h1, h2, h3, hk⟩ := h c
    obtain ⟨e0, e1, e2, e3⟩ := hagree c
    exact ⟨h0.trans (show _ = _ by have q := delta_of (ι := Cert.AdamOutIdeal.S512x1024.Idx) e0 e1 e2 e3; exact q),
      h1.trans (show _ = _ by have q := mom_of (ι := Cert.AdamOutIdeal.S512x1024.Idx) e1 e2; exact q),
      h2.trans (show _ = _ by have q := vel_of (ι := Cert.AdamOutIdeal.S512x1024.Idx) e1 e3; exact q),
      h3.trans e1, hk⟩

/-- The reference of the update of a weight of the per-layer embedding runs and leaves its arguments. -/
theorem frame_adamPleRef : Cert.quiescent_AdamPleRefIdeal := by
  intro m g _
  refine (θ_run _ _ _).mono (fun r h => ⟨fun c => (h c).2.2.2.2, sem_eq_zero_of_no_sems (by decide) _⟩)
    (Cert.AdamPleRefIdeal.Value.run m g)

/-- The two numbers by which the kernel of the update of a weight of the per-layer embedding scales the moments round to the literals it is written with. -/
theorem preserves_adamPle : Cert.preserves_AdamPle_AdamPleIdeal :=
  ⟨IdealRules.named_const.statement Cert.AdamPleIdeal.κ "bias1" .f32 0x3FC48605#32 ((8388608 / 5463681 : ℝ) : EReal) rfl,
    IdealRules.named_const.statement Cert.AdamPleIdeal.κ "bias2" .f32 0x42C8E6D3#32 ((268435456 / 2672307 : ℝ) : EReal) rfl⟩

namespace AdamPle

variable (m : (ℓ : Loc Cert.AdamPleIdeal.nD Cert.AdamPleIdeal.τ Cert.AdamPleIdeal.sig) → Buf (Elt Ideal) ℓ) (c : Dev Cert.AdamPleIdeal.nD)

/-! The arguments as launched: the weights, their gradients, their first and second moments. -/

abbrev x0 : Cert.AdamPleIdeal.S512x256.Idx → EReal := m ((c.tc : Thread Cert.AdamPleIdeal.nD Cert.AdamPleIdeal.τ).loc Cert.AdamPleIdeal.main_arg0)
abbrev x1 : Cert.AdamPleIdeal.S512x256.Idx → EReal := m ((c.tc : Thread Cert.AdamPleIdeal.nD Cert.AdamPleIdeal.τ).loc Cert.AdamPleIdeal.main_arg1)
abbrev x2 : Cert.AdamPleIdeal.S512x256.Idx → EReal := m ((c.tc : Thread Cert.AdamPleIdeal.nD Cert.AdamPleIdeal.τ).loc Cert.AdamPleIdeal.main_arg2)
abbrev x3 : Cert.AdamPleIdeal.S512x256.Idx → EReal := m ((c.tc : Thread Cert.AdamPleIdeal.nD Cert.AdamPleIdeal.τ).loc Cert.AdamPleIdeal.main_arg3)

end AdamPle

open AdamPle in
/-- The update of a weight of the per-layer embedding equals its reference. -/
theorem adamPle : Cert.algebraic_AdamPleIdeal_AdamPleRefIdeal := by
  intro m g m' g' _ hagree
  refine ⟨fun c i => delta (x0 m c i) (x1 m c i) (x2 m c i) (x3 m c i),
    fun c i => mom (x1 m c i) (x2 m c i),
    fun c i => vel (x1 m c i) (x3 m c i),
    fun c => x1 m c,
    ?_, ?_⟩
  · refine (θ_run _ _ _).mono (fun r h c => ?_) (Cert.AdamPleIdeal.Value.run m g)
    obtain ⟨h0, h1, h2, h3, hk⟩ := h c
    exact ⟨h0, h1, h2, h3, hk⟩
  · refine (θ_run _ _ _).mono (fun r h c => ?_) (Cert.AdamPleRefIdeal.Value.run m' g')
    obtain ⟨h0, h1, h2, h3, hk⟩ := h c
    obtain ⟨e0, e1, e2, e3⟩ := hagree c
    exact ⟨h0.trans (show _ = _ by have q := delta_of (ι := Cert.AdamPleIdeal.S512x256.Idx) e0 e1 e2 e3; exact q),
      h1.trans (show _ = _ by have q := mom_of (ι := Cert.AdamPleIdeal.S512x256.Idx) e1 e2; exact q),
      h2.trans (show _ = _ by have q := vel_of (ι := Cert.AdamPleIdeal.S512x256.Idx) e1 e3; exact q),
      h3.trans e1, hk⟩

end Cert.Proof

end
-- ==== Proof.WholeStore.lean ====
/- A buffer stored once, whole. -/
module

public import Idealize.ShloMosaic.Lib.Pipeline.FrameBody
public import Idealize.ShloMosaic.Lib.Pipeline.Value

@[expose] public section

noncomputable section

open Idealize.ShloMosaic

namespace Cert.WholeStore

theorem hz : (![0, 0] : Fin 2 → Nat) = fun _ => 0 := funext fun a => by fin_cases a <;> rfl

/-- What is read back is what was stored. -/
theorem read_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0) (inb : ∀ a, off a + S.size a ≤ S.size a)
    (w : S.Idx → Val e) : v.read Val (v.writes Val f [⟨Rect.unit off S.size inb, w⟩]) = w := by
  refine (View.read_writes_eq_canon v f _ fun y => ⟨_, List.mem_singleton_self _, ?_⟩).trans (View.canon_unit_zero h inb w)
  subst h
  exact (LoadRect.mem_set _).mpr fun a => ⟨(y a).val, (y a).isLt, by simp [Rect.unit]⟩

end Cert.WholeStore

end
-- ==== Proof.AdamSmallIdealFrame.lean ====
/- The run of the small weights' update, idealized. -/
module

public import proofs.«01_k».proof.Proof.Gen.AdamSmallIdeal.Launch
public import proofs.«01_k».proof.Proof.Gen.AdamSmallIdeal.Skeleton
public import proofs.«01_k».proof.Proof.Gen.AdamSmallIdeal.Points
public import proofs.«01_k».proof.Proof.WholeStore
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmallIdeal.Own

open Cert.AdamSmallIdeal Cert.AdamSmallIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region is entered: as launched. -/
abbrev V (c : Dev nD) (b : Ref sig .tc) : Buf (Elt F) ((c : Thread nD τ).loc b) := m ((c : Thread nD τ).loc b)

set_option maxHeartbeats 20000000 in
/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r2x1024 : Rect S2x1024 := Rect.unit (s := S2x1024) ![0, 0] S2x1024.size inb_S2x1024_S2x1024_0_0
abbrev r8x384 : Rect S8x384 := Rect.unit (s := S8x384) ![0, 0] S8x384.size inb_S8x384_S8x384_0_0
abbrev r2x4 : Rect S2x4 := Rect.unit (s := S2x4) ![0, 0] S2x4.size inb_S2x4_S2x4_0_0
abbrev r2x128 : Rect S2x128 := Rect.unit (s := S2x128) ![0, 0] S2x128.size inb_S2x128_S2x128_0_0
abbrev r512x64 : Rect S512x64 := Rect.unit (s := S512x64) ![0, 0] S512x64.size inb_S512x64_S512x64_0_0
abbrev r2x256 : Rect S2x256 := Rect.unit (s := S2x256) ![0, 0] S2x256.size inb_S2x256_S2x256_0_0
abbrev r6x64 : Rect S6x64 := Rect.unit (s := S6x64) ![0, 0] S6x64.size inb_S6x64_S6x64_0_0
abbrev r1x1024 : Rect S1x1024 := Rect.unit (s := S1x1024) ![0, 0] S1x1024.size inb_S1x1024_S1x1024_0_0

/-! What the body reads of the inputs' blocks. -/

abbrev b0 (c : Dev nD) (t : Fin cfg0.N) : Vec F S2x1024 .f32 := View.ld (iblk m c 0 t : Vec F S2x1024 .f32) r2x1024
abbrev b1 (c : Dev nD) (t : Fin cfg0.N) : Vec F S2x1024 .f32 := View.ld (iblk m c 1 t : Vec F S2x1024 .f32) r2x1024
abbrev b2 (c : Dev nD) (t : Fin cfg0.N) : Vec F S2x1024 .f32 := View.ld (iblk m c 2 t : Vec F S2x1024 .f32) r2x1024
abbrev b3 (c : Dev nD) (t : Fin cfg0.N) : Vec F S2x1024 .f32 := View.ld (iblk m c 3 t : Vec F S2x1024 .f32) r2x1024
abbrev b4 (c : Dev nD) (t : Fin cfg0.N) : Vec F S8x384 .f32 := View.ld (iblk m c 4 t : Vec F S8x384 .f32) r8x384
abbrev b5 (c : Dev nD) (t : Fin cfg0.N) : Vec F S8x384 .f32 := View.ld (iblk m c 5 t : Vec F S8x384 .f32) r8x384
abbrev b6 (c : Dev nD) (t : Fin cfg0.N) : Vec F S8x384 .f32 := View.ld (iblk m c 6 t : Vec F S8x384 .f32) r8x384
abbrev b7 (c : Dev nD) (t : Fin cfg0.N) : Vec F S8x384 .f32 := View.ld (iblk m c 7 t : Vec F S8x384 .f32) r8x384
abbrev b8 (c : Dev nD) (t : Fin cfg0.N) : Vec F S2x4 .f32 := View.ld (iblk m c 8 t : Vec F S2x4 .f32) r2x4
abbrev b9 (c : Dev nD) (t : Fin cfg0.N) : Vec F S2x4 .f32 := View.ld (iblk m c 9 t : Vec F S2x4 .f32) r2x4
abbrev b10 (c : Dev nD) (t : Fin cfg0.N) : Vec F S2x4 .f32 := View.ld (iblk m c 10 t : Vec F S2x4 .f32) r2x4
abbrev b11 (c : Dev nD) (t : Fin cfg0.N) : Vec F S2x4 .f32 := View.ld (iblk m c 11 t : Vec F S2x4 .f32) r2x4
abbrev b12 (c : Dev nD) (t : Fin cfg0.N) : Vec F S2x4 .f32 := View.ld (iblk m c 12 t : Vec F S2x4 .f32) r2x4
abbrev b13 (c : Dev nD) (t : Fin cfg0.N) : Vec F S2x4 .f32 := View.ld (iblk m c 13 t : Vec F S2x4 .f32) r2x4
abbrev b14 (c : Dev nD) (t : Fin cfg0.N) : Vec F S2x4 .f32 := View.ld (iblk m c 14 t : Vec F S2x4 .f32) r2x4
abbrev b15 (c : Dev nD) (t : Fin cfg0.N) : Vec F S2x4 .f32 := View.ld (iblk m c 15 t : Vec F S2x4 .f32) r2x4
abbrev b16 (c : Dev nD) (t : Fin cfg0.N) : Vec F S2x128 .f32 := View.ld (iblk m c 16 t : Vec F S2x128 .f32) r2x128
abbrev b17 (c : Dev nD) (t : Fin cfg0.N) : Vec F S2x128 .f32 := View.ld (iblk m c 17 t : Vec F S2x128 .f32) r2x128
abbrev b18 (c : Dev nD) (t : Fin cfg0.N) : Vec F S2x128 .f32 := View.ld (iblk m c 18 t : Vec F S2x128 .f32) r2x128
abbrev b19 (c : Dev nD) (t : Fin cfg0.N) : Vec F S2x128 .f32 := View.ld (iblk m c 19 t : Vec F S2x128 .f32) r2x128
abbrev b20 (c : Dev nD) (t : Fin cfg0.N) : Vec F S512x64 .f32 := View.ld (iblk m c 20 t : Vec F S512x64 .f32) r512x64
abbrev b21 (c : Dev nD) (t : Fin cfg0.N) : Vec F S512x64 .f32 := View.ld (iblk m c 21 t : Vec F S512x64 .f32) r512x64
abbrev b22 (c : Dev nD) (t : Fin cfg0.N) : Vec F S512x64 .f32 := View.ld (iblk m c 22 t : Vec F S512x64 .f32) r512x64
abbrev b23 (c : Dev nD) (t : Fin cfg0.N) : Vec F S512x64 .f32 := View.ld (iblk m c 23 t : Vec F S512x64 .f32) r512x64
abbrev b24 (c : Dev nD) (t : Fin cfg0.N) : Vec F S2x256 .f32 := View.ld (iblk m c 24 t : Vec F S2x256 .f32) r2x256
abbrev b25 (c : Dev nD) (t : Fin cfg0.N) : Vec F S2x256 .f32 := View.ld (iblk m c 25 t : Vec F S2x256 .f32) r2x256
abbrev b26 (c : Dev nD) (t : Fin cfg0.N) : Vec F S2x256 .f32 := View.ld (iblk m c 26 t : Vec F S2x256 .f32) r2x256
abbrev b27 (c : Dev nD) (t : Fin cfg0.N) : Vec F S2x256 .f32 := View.ld (iblk m c 27 t : Vec F S2x256 .f32) r2x256
abbrev b28 (c : Dev nD) (t : Fin cfg0.N) : Vec F S6x64 .f32 := View.ld (iblk m c 28 t : Vec F S6x64 .f32) r6x64
abbrev b29 (c : Dev nD) (t : Fin cfg0.N) : Vec F S6x64 .f32 := View.ld (iblk m c 29 t : Vec F S6x64 .f32) r6x64
abbrev b30 (c : Dev nD) (t : Fin cfg0.N) : Vec F S6x64 .f32 := View.ld (iblk m c 30 t : Vec F S6x64 .f32) r6x64
abbrev b31 (c : Dev nD) (t : Fin cfg0.N) : Vec F S6x64 .f32 := View.ld (iblk m c 31 t : Vec F S6x64 .f32) r6x64
abbrev b32 (c : Dev nD) (t : Fin cfg0.N) : Vec F S2x1024 .f32 := View.ld (iblk m c 32 t : Vec F S2x1024 .f32) r2x1024
abbrev b33 (c : Dev nD) (t : Fin cfg0.N) : Vec F S2x1024 .f32 := View.ld (iblk m c 33 t : Vec F S2x1024 .f32) r2x1024
abbrev b34 (c : Dev nD) (t : Fin cfg0.N) : Vec F S2x1024 .f32 := View.ld (iblk m c 34 t : Vec F S2x1024 .f32) r2x1024
abbrev b35 (c : Dev nD) (t : Fin cfg0.N) : Vec F S2x1024 .f32 := View.ld (iblk m c 35 t : Vec F S2x1024 .f32) r2x1024
abbrev b36 (c : Dev nD) (t : Fin cfg0.N) : Vec F S1x1024 .f32 := View.ld (iblk m c 36 t : Vec F S1x1024 .f32) r1x1024
abbrev b37 (c : Dev nD) (t : Fin cfg0.N) : Vec F S1x1024 .f32 := View.ld (iblk m c 37 t : Vec F S1x1024 .f32) r1x1024
abbrev b38 (c : Dev nD) (t : Fin cfg0.N) : Vec F S1x1024 .f32 := View.ld (iblk m c 38 t : Vec F S1x1024 .f32) r1x1024
abbrev b39 (c : Dev nD) (t : Fin cfg0.N) : Vec F S1x1024 .f32 := View.ld (iblk m c 39 t : Vec F S1x1024 .f32) r1x1024

/-- The proof data: the body leaves the inputs' blocks, and stores every output whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => k0_pay3 (b1 m c t) (b0 m c t) (b2 m c t) (b3 m c t)
    | ⟨41, _⟩ => k0_pay1 (b1 m c t) (b2 m c t)
    | ⟨42, _⟩ => k0_pay2 (b1 m c t) (b3 m c t)
    | ⟨43, _⟩ => b1 m c t
    | ⟨44, _⟩ => k0_pay6 (b5 m c t) (b4 m c t) (b6 m c t) (b7 m c t)
    | ⟨45, _⟩ => k0_pay4 (b5 m c t) (b6 m c t)
    | ⟨46, _⟩ => k0_pay5 (b5 m c t) (b7 m c t)
    | ⟨47, _⟩ => b5 m c t
    | ⟨48, _⟩ => k0_pay9 (b9 m c t) (b8 m c t) (b10 m c t) (b11 m c t)
    | ⟨49, _⟩ => k0_pay7 (b9 m c t) (b10 m c t)
    | ⟨50, _⟩ => k0_pay8 (b9 m c t) (b11 m c t)
    | ⟨51, _⟩ => b9 m c t
    | ⟨52, _⟩ => k0_pay12 (b13 m c t) (b12 m c t) (b14 m c t) (b15 m c t)
    | ⟨53, _⟩ => k0_pay10 (b13 m c t) (b14 m c t)
    | ⟨54, _⟩ => k0_pay11 (b13 m c t) (b15 m c t)
    | ⟨55, _⟩ => b13 m c t
    | ⟨56, _⟩ => k0_pay15 (b17 m c t) (b16 m c t) (b18 m c t) (b19 m c t)
    | ⟨57, _⟩ => k0_pay13 (b17 m c t) (b18 m c t)
    | ⟨58, _⟩ => k0_pay14 (b17 m c t) (b19 m c t)
    | ⟨59, _⟩ => b17 m c t
    | ⟨60, _⟩ => k0_pay18 (b21 m c t) (b20 m c t) (b22 m c t) (b23 m c t)
    | ⟨61, _⟩ => k0_pay16 (b21 m c t) (b22 m c t)
    | ⟨62, _⟩ => k0_pay17 (b21 m c t) (b23 m c t)
    | ⟨63, _⟩ => b21 m c t
    | ⟨64, _⟩ => k0_pay21 (b25 m c t) (b24 m c t) (b26 m c t) (b27 m c t)
    | ⟨65, _⟩ => k0_pay19 (b25 m c t) (b26 m c t)
    | ⟨66, _⟩ => k0_pay20 (b25 m c t) (b27 m c t)
    | ⟨67, _⟩ => b25 m c t
    | ⟨68, _⟩ => k0_pay24 (b29 m c t) (b28 m c t) (b30 m c t) (b31 m c t)
    | ⟨69, _⟩ => k0_pay22 (b29 m c t) (b30 m c t)
    | ⟨70, _⟩ => k0_pay23 (b29 m c t) (b31 m c t)
    | ⟨71, _⟩ => b29 m c t
    | ⟨72, _⟩ => k0_pay27 (b33 m c t) (b32 m c t) (b34 m c t) (b35 m c t)
    | ⟨73, _⟩ => k0_pay25 (b33 m c t) (b34 m c t)
    | ⟨74, _⟩ => k0_pay26 (b33 m c t) (b35 m c t)
    | ⟨75, _⟩ => b33 m c t
    | ⟨76, _⟩ => k0_pay30 (b37 m c t) (b36 m c t) (b38 m c t) (b39 m c t)
    | ⟨77, _⟩ => k0_pay28 (b37 m c t) (b38 m c t)
    | ⟨78, _⟩ => k0_pay29 (b37 m c t) (b39 m c t)
    | ⟨79, _⟩ => b37 m c t
    | ⟨_ + 80, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section points

variable (c : Dev nD) (t : Fin cfg0.N)

theorem a0 : (dats m 0 c).after 0 t = iblk m c 0 t := by dsimp only [dats]
theorem a1 : (dats m 0 c).after 1 t = iblk m c 1 t := by dsimp only [dats]
theorem a2 : (dats m 0 c).after 2 t = iblk m c 2 t := by dsimp only [dats]
theorem a3 : (dats m 0 c).after 3 t = iblk m c 3 t := by dsimp only [dats]
theorem a4 : (dats m 0 c).after 4 t = iblk m c 4 t := by dsimp only [dats]
theorem a5 : (dats m 0 c).after 5 t = iblk m c 5 t := by dsimp only [dats]
theorem a6 : (dats m 0 c).after 6 t = iblk m c 6 t := by dsimp only [dats]
theorem a7 : (dats m 0 c).after 7 t = iblk m c 7 t := by dsimp only [dats]
theorem a8 : (dats m 0 c).after 8 t = iblk m c 8 t := by dsimp only [dats]
theorem a9 : (dats m 0 c).after 9 t = iblk m c 9 t := by dsimp only [dats]
theorem a10 : (dats m 0 c).after 10 t = iblk m c 10 t := by dsimp only [dats]
theorem a11 : (dats m 0 c).after 11 t = iblk m c 11 t := by dsimp only [dats]
theorem a12 : (dats m 0 c).after 12 t = iblk m c 12 t := by dsimp only [dats]
theorem a13 : (dats m 0 c).after 13 t = iblk m c 13 t := by dsimp only [dats]
theorem a14 : (dats m 0 c).after 14 t = iblk m c 14 t := by dsimp only [dats]
theorem a15 : (dats m 0 c).after 15 t = iblk m c 15 t := by dsimp only [dats]
theorem a16 : (dats m 0 c).after 16 t = iblk m c 16 t := by dsimp only [dats]
theorem a17 : (dats m 0 c).after 17 t = iblk m c 17 t := by dsimp only [dats]
theorem a18 : (dats m 0 c).after 18 t = iblk m c 18 t := by dsimp only [dats]
theorem a19 : (dats m 0 c).after 19 t = iblk m c 19 t := by dsimp only [dats]
theorem a20 : (dats m 0 c).after 20 t = iblk m c 20 t := by dsimp only [dats]
theorem a21 : (dats m 0 c).after 21 t = iblk m c 21 t := by dsimp only [dats]
theorem a22 : (dats m 0 c).after 22 t = iblk m c 22 t := by dsimp only [dats]
theorem a23 : (dats m 0 c).after 23 t = iblk m c 23 t := by dsimp only [dats]
theorem a24 : (dats m 0 c).after 24 t = iblk m c 24 t := by dsimp only [dats]
theorem a25 : (dats m 0 c).after 25 t = iblk m c 25 t := by dsimp only [dats]
theorem a26 : (dats m 0 c).after 26 t = iblk m c 26 t := by dsimp only [dats]
theorem a27 : (dats m 0 c).after 27 t = iblk m c 27 t := by dsimp only [dats]
theorem a28 : (dats m 0 c).after 28 t = iblk m c 28 t := by dsimp only [dats]
theorem a29 : (dats m 0 c).after 29 t = iblk m c 29 t := by dsimp only [dats]
theorem a30 : (dats m 0 c).after 30 t = iblk m c 30 t := by dsimp only [dats]
theorem a31 : (dats m 0 c).after 31 t = iblk m c 31 t := by dsimp only [dats]
theorem a32 : (dats m 0 c).after 32 t = iblk m c 32 t := by dsimp only [dats]
theorem a33 : (dats m 0 c).after 33 t = iblk m c 33 t := by dsimp only [dats]
theorem a34 : (dats m 0 c).after 34 t = iblk m c 34 t := by dsimp only [dats]
theorem a35 : (dats m 0 c).after 35 t = iblk m c 35 t := by dsimp only [dats]
theorem a36 : (dats m 0 c).after 36 t = iblk m c 36 t := by dsimp only [dats]
theorem a37 : (dats m 0 c).after 37 t = iblk m c 37 t := by dsimp only [dats]
theorem a38 : (dats m 0 c).after 38 t = iblk m c 38 t := by dsimp only [dats]
theorem a39 : (dats m 0 c).after 39 t = iblk m c 39 t := by dsimp only [dats]
theorem a40 : (dats m 0 c).after 40 t = k0_pay3 (b1 m c t) (b0 m c t) (b2 m c t) (b3 m c t) := by dsimp only [dats]
theorem a41 : (dats m 0 c).after 41 t = k0_pay1 (b1 m c t) (b2 m c t) := by dsimp only [dats]
theorem a42 : (dats m 0 c).after 42 t = k0_pay2 (b1 m c t) (b3 m c t) := by dsimp only [dats]
theorem a43 : (dats m 0 c).after 43 t = b1 m c t := by dsimp only [dats]
theorem a44 : (dats m 0 c).after 44 t = k0_pay6 (b5 m c t) (b4 m c t) (b6 m c t) (b7 m c t) := by dsimp only [dats]
theorem a45 : (dats m 0 c).after 45 t = k0_pay4 (b5 m c t) (b6 m c t) := by dsimp only [dats]
theorem a46 : (dats m 0 c).after 46 t = k0_pay5 (b5 m c t) (b7 m c t) := by dsimp only [dats]
theorem a47 : (dats m 0 c).after 47 t = b5 m c t := by dsimp only [dats]
theorem a48 : (dats m 0 c).after 48 t = k0_pay9 (b9 m c t) (b8 m c t) (b10 m c t) (b11 m c t) := by dsimp only [dats]
theorem a49 : (dats m 0 c).after 49 t = k0_pay7 (b9 m c t) (b10 m c t) := by dsimp only [dats]
theorem a50 : (dats m 0 c).after 50 t = k0_pay8 (b9 m c t) (b11 m c t) := by dsimp only [dats]
theorem a51 : (dats m 0 c).after 51 t = b9 m c t := by dsimp only [dats]
theorem a52 : (dats m 0 c).after 52 t = k0_pay12 (b13 m c t) (b12 m c t) (b14 m c t) (b15 m c t) := by dsimp only [dats]
theorem a53 : (dats m 0 c).after 53 t = k0_pay10 (b13 m c t) (b14 m c t) := by dsimp only [dats]
theorem a54 : (dats m 0 c).after 54 t = k0_pay11 (b13 m c t) (b15 m c t) := by dsimp only [dats]
theorem a55 : (dats m 0 c).after 55 t = b13 m c t := by dsimp only [dats]
theorem a56 : (dats m 0 c).after 56 t = k0_pay15 (b17 m c t) (b16 m c t) (b18 m c t) (b19 m c t) := by dsimp only [dats]
theorem a57 : (dats m 0 c).after 57 t = k0_pay13 (b17 m c t) (b18 m c t) := by dsimp only [dats]
theorem a58 : (dats m 0 c).after 58 t = k0_pay14 (b17 m c t) (b19 m c t) := by dsimp only [dats]
theorem a59 : (dats m 0 c).after 59 t = b17 m c t := by dsimp only [dats]
theorem a60 : (dats m 0 c).after 60 t = k0_pay18 (b21 m c t) (b20 m c t) (b22 m c t) (b23 m c t) := by dsimp only [dats]
theorem a61 : (dats m 0 c).after 61 t = k0_pay16 (b21 m c t) (b22 m c t) := by dsimp only [dats]
theorem a62 : (dats m 0 c).after 62 t = k0_pay17 (b21 m c t) (b23 m c t) := by dsimp only [dats]
theorem a63 : (dats m 0 c).after 63 t = b21 m c t := by dsimp only [dats]
theorem a64 : (dats m 0 c).after 64 t = k0_pay21 (b25 m c t) (b24 m c t) (b26 m c t) (b27 m c t) := by dsimp only [dats]
theorem a65 : (dats m 0 c).after 65 t = k0_pay19 (b25 m c t) (b26 m c t) := by dsimp only [dats]
theorem a66 : (dats m 0 c).after 66 t = k0_pay20 (b25 m c t) (b27 m c t) := by dsimp only [dats]
theorem a67 : (dats m 0 c).after 67 t = b25 m c t := by dsimp only [dats]
theorem a68 : (dats m 0 c).after 68 t = k0_pay24 (b29 m c t) (b28 m c t) (b30 m c t) (b31 m c t) := by dsimp only [dats]
theorem a69 : (dats m 0 c).after 69 t = k0_pay22 (b29 m c t) (b30 m c t) := by dsimp only [dats]
theorem a70 : (dats m 0 c).after 70 t = k0_pay23 (b29 m c t) (b31 m c t) := by dsimp only [dats]
theorem a71 : (dats m 0 c).after 71 t = b29 m c t := by dsimp only [dats]
theorem a72 : (dats m 0 c).after 72 t = k0_pay27 (b33 m c t) (b32 m c t) (b34 m c t) (b35 m c t) := by dsimp only [dats]
theorem a73 : (dats m 0 c).after 73 t = k0_pay25 (b33 m c t) (b34 m c t) := by dsimp only [dats]
theorem a74 : (dats m 0 c).after 74 t = k0_pay26 (b33 m c t) (b35 m c t) := by dsimp only [dats]
theorem a75 : (dats m 0 c).after 75 t = b33 m c t := by dsimp only [dats]
theorem a76 : (dats m 0 c).after 76 t = k0_pay30 (b37 m c t) (b36 m c t) (b38 m c t) (b39 m c t) := by dsimp only [dats]
theorem a77 : (dats m 0 c).after 77 t = k0_pay28 (b37 m c t) (b38 m c t) := by dsimp only [dats]
theorem a78 : (dats m 0 c).after 78 t = k0_pay29 (b37 m c t) (b39 m c t) := by dsimp only [dats]
theorem a79 : (dats m 0 c).after 79 t = b37 m c t := by dsimp only [dats]

theorem i0 (d) : (dats m 0 c).before 0 t d = iblk m c 0 t :=
  ((dats m 0 c).before_in_eq_fetched 0 rfl (fun _ => rfl) (fun _ _ _ => rfl) (fun t => by rw [a0]; rfl) t d).trans rfl
theorem i1 (d) : (dats m 0 c).before 1 t d = iblk m c 1 t :=
  ((dats m 0 c).before_in_eq_fetched 1 rfl (fun _ => rfl) (fun _ _ _ => rfl) (fun t => by rw [a1]; rfl) t d).trans rfl
theorem i2 (d) : (dats m 0 c).before 2 t d = iblk m c 2 t :=
  ((dats m 0 c).before_in_eq_fetched 2 rfl (fun _ => rfl) (fun _ _ _ => rfl) (fun t => by rw [a2]; rfl) t d).trans rfl
theorem i3 (d) : (dats m 0 c).before 3 t d = iblk m c 3 t :=
  ((dats m 0 c).before_in_eq_fetched 3 rfl (fun _ => rfl) (fun _ _ _ => rfl) (fun t => by rw [a3]; rfl) t d).trans rfl
theorem i4 (d) : (dats m 0 c).before 4 t d = iblk m c 4 t :=
  ((dats m 0 c).before_in_eq_fetched 4 rfl (fun _ => rfl) (fun _ _ _ => rfl) (fun t => by rw [a4]; rfl) t d).trans rfl
theorem i5 (d) : (dats m 0 c).before 5 t d = iblk m c 5 t :=
  ((dats m 0 c).before_in_eq_fetched 5 rfl (fun _ => rfl) (fun _ _ _ => rfl) (fun t => by rw [a5]; rfl) t d).trans rfl
theorem i6 (d) : (dats m 0 c).before 6 t d = iblk m c 6 t :=
  ((dats m 0 c).before_in_eq_fetched 6 rfl (fun _ => rfl) (fun _ _ _ => rfl) (fun t => by rw [a6]; rfl) t d).trans rfl
theorem i7 (d) : (dats m 0 c).before 7 t d = iblk m c 7 t :=
  ((dats m 0 c).before_in_eq_fetched 7 rfl (fun _ => rfl) (fun _ _ _ => rfl) (fun t => by rw [a7]; rfl) t d).trans rfl
theorem i8 (d) : (dats m 0 c).before 8 t d = iblk m c 8 t :=
  ((dats m 0 c).before_in_eq_fetched 8 rfl (fun _ => rfl) (fun _ _ _ => rfl) (fun t => by rw [a8]; rfl) t d).trans rfl
theorem i9 (d) : (dats m 0 c).before 9 t d = iblk m c 9 t :=
  ((dats m 0 c).before_in_eq_fetched 9 rfl (fun _ => rfl) (fun _ _ _ => rfl) (fun t => by rw [a9]; rfl) t d).trans rfl
theorem i10 (d) : (dats m 0 c).before 10 t d = iblk m c 10 t :=
  ((dats m 0 c).before_in_eq_fetched 10 rfl (fun _ => rfl) (fun _ _ _ => rfl) (fun t => by rw [a10]; rfl) t d).trans rfl
theorem i11 (d) : (dats m 0 c).before 11 t d = iblk m c 11 t :=
  ((dats m 0 c).before_in_eq_fetched 11 rfl (fun _ => rfl) (fun _ _ _ => rfl) (fun t => by rw [a11]; rfl) t d).trans rfl
theorem i12 (d) : (dats m 0 c).before 12 t d = iblk m c 12 t :=
  ((dats m 0 c).before_in_eq_fetched 12 rfl (fun _ => rfl) (fun _ _ _ => rfl) (fun t => by rw [a12]; rfl) t d).trans rfl
theorem i13 (d) : (dats m 0 c).before 13 t d = iblk m c 13 t :=
  ((dats m 0 c).before_in_eq_fetched 13 rfl (fun _ => rfl) (fun _ _ _ => rfl) (fun t => by rw [a13]; rfl) t d).trans rfl
theorem i14 (d) : (dats m 0 c).before 14 t d = iblk m c 14 t :=
  ((dats m 0 c).before_in_eq_fetched 14 rfl (fun _ => rfl) (fun _ _ _ => rfl) (fun t => by rw [a14]; rfl) t d).trans rfl
theorem i15 (d) : (dats m 0 c).before 15 t d = iblk m c 15 t :=
  ((dats m 0 c).before_in_eq_fetched 15 rfl (fun _ => rfl) (fun _ _ _ => rfl) (fun t => by rw [a15]; rfl) t d).trans rfl
theorem i16 (d) : (dats m 0 c).before 16 t d = iblk m c 16 t :=
  ((dats m 0 c).before_in_eq_fetched 16 rfl (fun _ => rfl) (fun _ _ _ => rfl) (fun t => by rw [a16]; rfl) t d).trans rfl
theorem i17 (d) : (dats m 0 c).before 17 t d = iblk m c 17 t :=
  ((dats m 0 c).before_in_eq_fetched 17 rfl (fun _ => rfl) (fun _ _ _ => rfl) (fun t => by rw [a17]; rfl) t d).trans rfl
theorem i18 (d) : (dats m 0 c).before 18 t d = iblk m c 18 t :=
  ((dats m 0 c).before_in_eq_fetched 18 rfl (fun _ => rfl) (fun _ _ _ => rfl) (fun t => by rw [a18]; rfl) t d).trans rfl
theorem i19 (d) : (dats m 0 c).before 19 t d = iblk m c 19 t :=
  ((dats m 0 c).before_in_eq_fetched 19 rfl (fun _ => rfl) (fun _ _ _ => rfl) (fun t => by rw [a19]; rfl) t d).trans rfl
theorem i20 (d) : (dats m 0 c).before 20 t d = iblk m c 20 t :=
  ((dats m 0 c).before_in_eq_fetched 20 rfl (fun _ => rfl) (fun _ _ _ => rfl) (fun t => by rw [a20]; rfl) t d).trans rfl
theorem i21 (d) : (dats m 0 c).before 21 t d = iblk m c 21 t :=
  ((dats m 0 c).before_in_eq_fetched 21 rfl (fun _ => rfl) (fun _ _ _ => rfl) (fun t => by rw [a21]; rfl) t d).trans rfl
theorem i22 (d) : (dats m 0 c).before 22 t d = iblk m c 22 t :=
  ((dats m 0 c).before_in_eq_fetched 22 rfl (fun _ => rfl) (fun _ _ _ => rfl) (fun t => by rw [a22]; rfl) t d).trans rfl
theorem i23 (d) : (dats m 0 c).before 23 t d = iblk m c 23 t :=
  ((dats m 0 c).before_in_eq_fetched 23 rfl (fun _ => rfl) (fun _ _ _ => rfl) (fun t => by rw [a23]; rfl) t d).trans rfl
theorem i24 (d) : (dats m 0 c).before 24 t d = iblk m c 24 t :=
  ((dats m 0 c).before_in_eq_fetched 24 rfl (fun _ => rfl) (fun _ _ _ => rfl) (fun t => by rw [a24]; rfl) t d).trans rfl
theorem i25 (d) : (dats m 0 c).before 25 t d = iblk m c 25 t :=
  ((dats m 0 c).before_in_eq_fetched 25 rfl (fun _ => rfl) (fun _ _ _ => rfl) (fun t => by rw [a25]; rfl) t d).trans rfl
theorem i26 (d) : (dats m 0 c).before 26 t d = iblk m c 26 t :=
  ((dats m 0 c).before_in_eq_fetched 26 rfl (fun _ => rfl) (fun _ _ _ => rfl) (fun t => by rw [a26]; rfl) t d).trans rfl
theorem i27 (d) : (dats m 0 c).before 27 t d = iblk m c 27 t :=
  ((dats m 0 c).before_in_eq_fetched 27 rfl (fun _ => rfl) (fun _ _ _ => rfl) (fun t => by rw [a27]; rfl) t d).trans rfl
theorem i28 (d) : (dats m 0 c).before 28 t d = iblk m c 28 t :=
  ((dats m 0 c).before_in_eq_fetched 28 rfl (fun _ => rfl) (fun _ _ _ => rfl) (fun t => by rw [a28]; rfl) t d).trans rfl
theorem i29 (d) : (dats m 0 c).before 29 t d = iblk m c 29 t :=
  ((dats m 0 c).before_in_eq_fetched 29 rfl (fun _ => rfl) (fun _ _ _ => rfl) (fun t => by rw [a29]; rfl) t d).trans rfl
theorem i30 (d) : (dats m 0 c).before 30 t d = iblk m c 30 t :=
  ((dats m 0 c).before_in_eq_fetched 30 rfl (fun _ => rfl) (fun _ _ _ => rfl) (fun t => by rw [a30]; rfl) t d).trans rfl
theorem i31 (d) : (dats m 0 c).before 31 t d = iblk m c 31 t :=
  ((dats m 0 c).before_in_eq_fetched 31 rfl (fun _ => rfl) (fun _ _ _ => rfl) (fun t => by rw [a31]; rfl) t d).trans rfl
theorem i32 (d) : (dats m 0 c).before 32 t d = iblk m c 32 t :=
  ((dats m 0 c).before_in_eq_fetched 32 rfl (fun _ => rfl) (fun _ _ _ => rfl) (fun t => by rw [a32]; rfl) t d).trans rfl
theorem i33 (d) : (dats m 0 c).before 33 t d = iblk m c 33 t :=
  ((dats m 0 c).before_in_eq_fetched 33 rfl (fun _ => rfl) (fun _ _ _ => rfl) (fun t => by rw [a33]; rfl) t d).trans rfl
theorem i34 (d) : (dats m 0 c).before 34 t d = iblk m c 34 t :=
  ((dats m 0 c).before_in_eq_fetched 34 rfl (fun _ => rfl) (fun _ _ _ => rfl) (fun t => by rw [a34]; rfl) t d).trans rfl
theorem i35 (d) : (dats m 0 c).before 35 t d = iblk m c 35 t :=
  ((dats m 0 c).before_in_eq_fetched 35 rfl (fun _ => rfl) (fun _ _ _ => rfl) (fun t => by rw [a35]; rfl) t d).trans rfl
theorem i36 (d) : (dats m 0 c).before 36 t d = iblk m c 36 t :=
  ((dats m 0 c).before_in_eq_fetched 36 rfl (fun _ => rfl) (fun _ _ _ => rfl) (fun t => by rw [a36]; rfl) t d).trans rfl
theorem i37 (d) : (dats m 0 c).before 37 t d = iblk m c 37 t :=
  ((dats m 0 c).before_in_eq_fetched 37 rfl (fun _ => rfl) (fun _ _ _ => rfl) (fun t => by rw [a37]; rfl) t d).trans rfl
theorem i38 (d) : (dats m 0 c).before 38 t d = iblk m c 38 t :=
  ((dats m 0 c).before_in_eq_fetched 38 rfl (fun _ => rfl) (fun _ _ _ => rfl) (fun t => by rw [a38]; rfl) t d).trans rfl
theorem i39 (d) : (dats m 0 c).before 39 t d = iblk m c 39 t :=
  ((dats m 0 c).before_in_eq_fetched 39 rfl (fun _ => rfl) (fun _ _ _ => rfl) (fun t => by rw [a39]; rfl) t d).trans rfl

end points

abbrev M (S : Shape) := Memref sig .tc .vmem S .f32

/-- A staging buffer at named contents, and at any. -/
def own {S : Shape} (c : Dev nD) (a : M S) (x : Vec F S .f32) : sProp 𝕄 := owns (c : Thread nD τ) a fullShare x
def any {S : Shape} (c : Dev nD) (a : M S) : sProp 𝕄 := iprop(∃ x : Vec F S .f32, owns (c : Thread nD τ) a fullShare x)

set_option maxHeartbeats 20000000 in
/-- The body, on whole buffers. -/
theorem sound_kernel (c : Dev nD) (E : Set ℕ) (i : grid0.Coords)
    (a0 : M S2x1024) (h0 : a0.IsWhole) (a1 : M S2x1024) (h1 : a1.IsWhole) (a2 : M S2x1024) (h2 : a2.IsWhole) (a3 : M S2x1024) (h3 : a3.IsWhole) (a4 : M S8x384) (h4 : a4.IsWhole) (a5 : M S8x384) (h5 : a5.IsWhole) (a6 : M S8x384) (h6 : a6.IsWhole) (a7 : M S8x384) (h7 : a7.IsWhole) (a8 : M S2x4) (h8 : a8.IsWhole) (a9 : M S2x4) (h9 : a9.IsWhole) (a10 : M S2x4) (h10 : a10.IsWhole) (a11 : M S2x4) (h11 : a11.IsWhole) (a12 : M S2x4) (h12 : a12.IsWhole) (a13 : M S2x4) (h13 : a13.IsWhole) (a14 : M S2x4) (h14 : a14.IsWhole) (a15 : M S2x4) (h15 : a15.IsWhole) (a16 : M S2x128) (h16 : a16.IsWhole) (a17 : M S2x128) (h17 : a17.IsWhole) (a18 : M S2x128) (h18 : a18.IsWhole) (a19 : M S2x128) (h19 : a19.IsWhole) (a20 : M S512x64) (h20 : a20.IsWhole) (a21 : M S512x64) (h21 : a21.IsWhole) (a22 : M S512x64) (h22 : a22.IsWhole) (a23 : M S512x64) (h23 : a23.IsWhole) (a24 : M S2x256) (h24 : a24.IsWhole) (a25 : M S2x256) (h25 : a25.IsWhole) (a26 : M S2x256) (h26 : a26.IsWhole) (a27 : M S2x256) (h27 : a27.IsWhole) (a28 : M S6x64) (h28 : a28.IsWhole) (a29 : M S6x64) (h29 : a29.IsWhole) (a30 : M S6x64) (h30 : a30.IsWhole) (a31 : M S6x64) (h31 : a31.IsWhole) (a32 : M S2x1024) (h32 : a32.IsWhole) (a33 : M S2x1024) (h33 : a33.IsWhole) (a34 : M S2x1024) (h34 : a34.IsWhole) (a35 : M S2x1024) (h35 : a35.IsWhole) (a36 : M S1x1024) (h36 : a36.IsWhole) (a37 : M S1x1024) (h37 : a37.IsWhole) (a38 : M S1x1024) (h38 : a38.IsWhole) (a39 : M S1x1024) (h39 : a39.IsWhole) (a40 : M S2x1024) (h40 : a40.IsWhole) (a41 : M S2x1024) (h41 : a41.IsWhole) (a42 : M S2x1024) (h42 : a42.IsWhole) (a43 : M S2x1024) (h43 : a43.IsWhole) (a44 : M S8x384) (h44 : a44.IsWhole) (a45 : M S8x384) (h45 : a45.IsWhole) (a46 : M S8x384) (h46 : a46.IsWhole) (a47 : M S8x384) (h47 : a47.IsWhole) (a48 : M S2x4) (h48 : a48.IsWhole) (a49 : M S2x4) (h49 : a49.IsWhole) (a50 : M S2x4) (h50 : a50.IsWhole) (a51 : M S2x4) (h51 : a51.IsWhole) (a52 : M S2x4) (h52 : a52.IsWhole) (a53 : M S2x4) (h53 : a53.IsWhole) (a54 : M S2x4) (h54 : a54.IsWhole) (a55 : M S2x4) (h55 : a55.IsWhole) (a56 : M S2x128) (h56 : a56.IsWhole) (a57 : M S2x128) (h57 : a57.IsWhole) (a58 : M S2x128) (h58 : a58.IsWhole) (a59 : M S2x128) (h59 : a59.IsWhole) (a60 : M S512x64) (h60 : a60.IsWhole) (a61 : M S512x64) (h61 : a61.IsWhole) (a62 : M S512x64) (h62 : a62.IsWhole) (a63 : M S512x64) (h63 : a63.IsWhole) (a64 : M S2x256) (h64 : a64.IsWhole) (a65 : M S2x256) (h65 : a65.IsWhole) (a66 : M S2x256) (h66 : a66.IsWhole) (a67 : M S2x256) (h67 : a67.IsWhole) (a68 : M S6x64) (h68 : a68.IsWhole) (a69 : M S6x64) (h69 : a69.IsWhole) (a70 : M S6x64) (h70 : a70.IsWhole) (a71 : M S6x64) (h71 : a71.IsWhole) (a72 : M S2x1024) (h72 : a72.IsWhole) (a73 : M S2x1024) (h73 : a73.IsWhole) (a74 : M S2x1024) (h74 : a74.IsWhole) (a75 : M S2x1024) (h75 : a75.IsWhole) (a76 : M S1x1024) (h76 : a76.IsWhole) (a77 : M S1x1024) (h77 : a77.IsWhole) (a78 : M S1x1024) (h78 : a78.IsWhole) (a79 : M S1x1024) (h79 : a79.IsWhole)
    (x0 : Vec F S2x1024 .f32) (x1 : Vec F S2x1024 .f32) (x2 : Vec F S2x1024 .f32) (x3 : Vec F S2x1024 .f32) (x4 : Vec F S8x384 .f32) (x5 : Vec F S8x384 .f32) (x6 : Vec F S8x384 .f32) (x7 : Vec F S8x384 .f32) (x8 : Vec F S2x4 .f32) (x9 : Vec F S2x4 .f32) (x10 : Vec F S2x4 .f32) (x11 : Vec F S2x4 .f32) (x12 : Vec F S2x4 .f32) (x13 : Vec F S2x4 .f32) (x14 : Vec F S2x4 .f32) (x15 : Vec F S2x4 .f32) (x16 : Vec F S2x128 .f32) (x17 : Vec F S2x128 .f32) (x18 : Vec F S2x128 .f32) (x19 : Vec F S2x128 .f32) (x20 : Vec F S512x64 .f32) (x21 : Vec F S512x64 .f32) (x22 : Vec F S512x64 .f32) (x23 : Vec F S512x64 .f32) (x24 : Vec F S2x256 .f32) (x25 : Vec F S2x256 .f32) (x26 : Vec F S2x256 .f32) (x27 : Vec F S2x256 .f32) (x28 : Vec F S6x64 .f32) (x29 : Vec F S6x64 .f32) (x30 : Vec F S6x64 .f32) (x31 : Vec F S6x64 .f32) (x32 : Vec F S2x1024 .f32) (x33 : Vec F S2x1024 .f32) (x34 : Vec F S2x1024 .f32) (x35 : Vec F S2x1024 .f32) (x36 : Vec F S1x1024 .f32) (x37 : Vec F S1x1024 .f32) (x38 : Vec F S1x1024 .f32) (x39 : Vec F S1x1024 .f32) (K : PUnit → sProp 𝕄) :
    iprop(own c a0 x0 ∗ own c a1 x1 ∗ own c a2 x2 ∗ own c a3 x3 ∗ own c a4 x4 ∗ own c a5 x5 ∗ own c a6 x6 ∗ own c a7 x7 ∗
      own c a8 x8 ∗ own c a9 x9 ∗ own c a10 x10 ∗ own c a11 x11 ∗ own c a12 x12 ∗ own c a13 x13 ∗ own c a14 x14 ∗ own c a15 x15 ∗
      own c a16 x16 ∗ own c a17 x17 ∗ own c a18 x18 ∗ own c a19 x19 ∗ own c a20 x20 ∗ own c a21 x21 ∗ own c a22 x22 ∗ own c a23 x23 ∗
      own c a24 x24 ∗ own c a25 x25 ∗ own c a26 x26 ∗ own c a27 x27 ∗ own c a28 x28 ∗ own c a29 x29 ∗ own c a30 x30 ∗ own c a31 x31 ∗
      own c a32 x32 ∗ own c a33 x33 ∗ own c a34 x34 ∗ own c a35 x35 ∗ own c a36 x36 ∗ own c a37 x37 ∗ own c a38 x38 ∗ own c a39 x39 ∗
      any c a40 ∗ any c a41 ∗ any c a42 ∗ any c a43 ∗ any c a44 ∗ any c a45 ∗ any c a46 ∗ any c a47 ∗
      any c a48 ∗ any c a49 ∗ any c a50 ∗ any c a51 ∗ any c a52 ∗ any c a53 ∗ any c a54 ∗ any c a55 ∗
      any c a56 ∗ any c a57 ∗ any c a58 ∗ any c a59 ∗ any c a60 ∗ any c a61 ∗ any c a62 ∗ any c a63 ∗
      any c a64 ∗ any c a65 ∗ any c a66 ∗ any c a67 ∗ any c a68 ∗ any c a69 ∗ any c a70 ∗ any c a71 ∗
      any c a72 ∗ any c a73 ∗ any c a74 ∗ any c a75 ∗ any c a76 ∗ any c a77 ∗ any c a78 ∗ any c a79
      ∗ (iprop(own c a0 x0 ∗ own c a1 x1 ∗ own c a2 x2 ∗ own c a3 x3 ∗ own c a4 x4 ∗ own c a5 x5 ∗ own c a6 x6 ∗ own c a7 x7 ∗
      own c a8 x8 ∗ own c a9 x9 ∗ own c a10 x10 ∗ own c a11 x11 ∗ own c a12 x12 ∗ own c a13 x13 ∗ own c a14 x14 ∗ own c a15 x15 ∗
      own c a16 x16 ∗ own c a17 x17 ∗ own c a18 x18 ∗ own c a19 x19 ∗ own c a20 x20 ∗ own c a21 x21 ∗ own c a22 x22 ∗ own c a23 x23 ∗
      own c a24 x24 ∗ own c a25 x25 ∗ own c a26 x26 ∗ own c a27 x27 ∗ own c a28 x28 ∗ own c a29 x29 ∗ own c a30 x30 ∗ own c a31 x31 ∗
      own c a32 x32 ∗ own c a33 x33 ∗ own c a34 x34 ∗ own c a35 x35 ∗ own c a36 x36 ∗ own c a37 x37 ∗ own c a38 x38 ∗ own c a39 x39 ∗
      own c a40 (k0_pay3 (View.ld x1 r2x1024) (View.ld x0 r2x1024) (View.ld x2 r2x1024) (View.ld x3 r2x1024)) ∗ own c a41 (k0_pay1 (View.ld x1 r2x1024) (View.ld x2 r2x1024)) ∗ own c a42 (k0_pay2 (View.ld x1 r2x1024) (View.ld x3 r2x1024)) ∗ own c a43 (View.ld x1 r2x1024) ∗ own c a44 (k0_pay6 (View.ld x5 r8x384) (View.ld x4 r8x384) (View.ld x6 r8x384) (View.ld x7 r8x384)) ∗ own c a45 (k0_pay4 (View.ld x5 r8x384) (View.ld x6 r8x384)) ∗ own c a46 (k0_pay5 (View.ld x5 r8x384) (View.ld x7 r8x384)) ∗ own c a47 (View.ld x5 r8x384) ∗
      own c a48 (k0_pay9 (View.ld x9 r2x4) (View.ld x8 r2x4) (View.ld x10 r2x4) (View.ld x11 r2x4)) ∗ own c a49 (k0_pay7 (View.ld x9 r2x4) (View.ld x10 r2x4)) ∗ own c a50 (k0_pay8 (View.ld x9 r2x4) (View.ld x11 r2x4)) ∗ own c a51 (View.ld x9 r2x4) ∗ own c a52 (k0_pay12 (View.ld x13 r2x4) (View.ld x12 r2x4) (View.ld x14 r2x4) (View.ld x15 r2x4)) ∗ own c a53 (k0_pay10 (View.ld x13 r2x4) (View.ld x14 r2x4)) ∗ own c a54 (k0_pay11 (View.ld x13 r2x4) (View.ld x15 r2x4)) ∗ own c a55 (View.ld x13 r2x4) ∗
      own c a56 (k0_pay15 (View.ld x17 r2x128) (View.ld x16 r2x128) (View.ld x18 r2x128) (View.ld x19 r2x128)) ∗ own c a57 (k0_pay13 (View.ld x17 r2x128) (View.ld x18 r2x128)) ∗ own c a58 (k0_pay14 (View.ld x17 r2x128) (View.ld x19 r2x128)) ∗ own c a59 (View.ld x17 r2x128) ∗ own c a60 (k0_pay18 (View.ld x21 r512x64) (View.ld x20 r512x64) (View.ld x22 r512x64) (View.ld x23 r512x64)) ∗ own c a61 (k0_pay16 (View.ld x21 r512x64) (View.ld x22 r512x64)) ∗ own c a62 (k0_pay17 (View.ld x21 r512x64) (View.ld x23 r512x64)) ∗ own c a63 (View.ld x21 r512x64) ∗
      own c a64 (k0_pay21 (View.ld x25 r2x256) (View.ld x24 r2x256) (View.ld x26 r2x256) (View.ld x27 r2x256)) ∗ own c a65 (k0_pay19 (View.ld x25 r2x256) (View.ld x26 r2x256)) ∗ own c a66 (k0_pay20 (View.ld x25 r2x256) (View.ld x27 r2x256)) ∗ own c a67 (View.ld x25 r2x256) ∗ own c a68 (k0_pay24 (View.ld x29 r6x64) (View.ld x28 r6x64) (View.ld x30 r6x64) (View.ld x31 r6x64)) ∗ own c a69 (k0_pay22 (View.ld x29 r6x64) (View.ld x30 r6x64)) ∗ own c a70 (k0_pay23 (View.ld x29 r6x64) (View.ld x31 r6x64)) ∗ own c a71 (View.ld x29 r6x64) ∗
      own c a72 (k0_pay27 (View.ld x33 r2x1024) (View.ld x32 r2x1024) (View.ld x34 r2x1024) (View.ld x35 r2x1024)) ∗ own c a73 (k0_pay25 (View.ld x33 r2x1024) (View.ld x34 r2x1024)) ∗ own c a74 (k0_pay26 (View.ld x33 r2x1024) (View.ld x35 r2x1024)) ∗ own c a75 (View.ld x33 r2x1024) ∗ own c a76 (k0_pay30 (View.ld x37 r1x1024) (View.ld x36 r1x1024) (View.ld x38 r1x1024) (View.ld x39 r1x1024)) ∗ own c a77 (k0_pay28 (View.ld x37 r1x1024) (View.ld x38 r1x1024)) ∗ own c a78 (k0_pay29 (View.ld x37 r1x1024) (View.ld x39 r1x1024)) ∗ own c a79 (View.ld x37 r1x1024)) -∗ K ⟨⟩))
      ⊢ wp frame (wpE (defs₀ (F := F)) Variants.none c none) E (cc0_adamw_together i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79) K := by
  simp only [cc0_adamw_together_eq_skeleton]; unfold cc0_adamw_together_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold own any owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%f35, %e35, H35⟩, ⟨%f36, %e36, H36⟩, ⟨%f37, %e37, H37⟩, ⟨%f38, %e38, H38⟩, ⟨%f39, %e39, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, Hk⟩
  subst e0 e1 e2 e3 e4 e5 e6 e7 e8 e9 e10 e11 e12 e13 e14 e15 e16 e17 e18 e19 e20 e21 e22 e23 e24 e25 e26 e27 e28 e29 e30 e31 e32 e33 e34 e35 e36 e37 e38 e39
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  isplitl [H15]; · iexists f15; isplitr; (· ipureintro; rfl); iexact H15
  isplitl [H16]; · iexists f16; isplitr; (· ipureintro; rfl); iexact H16
  isplitl [H17]; · iexists f17; isplitr; (· ipureintro; rfl); iexact H17
  isplitl [H18]; · iexists f18; isplitr; (· ipureintro; rfl); iexact H18
  isplitl [H19]; · iexists f19; isplitr; (· ipureintro; rfl); iexact H19
  isplitl [H20]; · iexists f20; isplitr; (· ipureintro; rfl); iexact H20
  isplitl [H21]; · iexists f21; isplitr; (· ipureintro; rfl); iexact H21
  isplitl [H22]; · iexists f22; isplitr; (· ipureintro; rfl); iexact H22
  isplitl [H23]; · iexists f23; isplitr; (· ipureintro; rfl); iexact H23
  isplitl [H24]; · iexists f24; isplitr; (· ipureintro; rfl); iexact H24
  isplitl [H25]; · iexists f25; isplitr; (· ipureintro; rfl); iexact H25
  isplitl [H26]; · iexists f26; isplitr; (· ipureintro; rfl); iexact H26
  isplitl [H27]; · iexists f27; isplitr; (· ipureintro; rfl); iexact H27
  isplitl [H28]; · iexists f28; isplitr; (· ipureintro; rfl); iexact H28
  isplitl [H29]; · iexists f29; isplitr; (· ipureintro; rfl); iexact H29
  isplitl [H30]; · iexists f30; isplitr; (· ipureintro; rfl); iexact H30
  isplitl [H31]; · iexists f31; isplitr; (· ipureintro; rfl); iexact H31
  isplitl [H32]; · iexists f32; isplitr; (· ipureintro; rfl); iexact H32
  isplitl [H33]; · iexists f33; isplitr; (· ipureintro; rfl); iexact H33
  isplitl [H34]; · iexists f34; isplitr; (· ipureintro; rfl); iexact H34
  isplitl [H35]; · iexists f35; isplitr; (· ipureintro; rfl); iexact H35
  isplitl [H36]; · iexists f36; isplitr; (· ipureintro; rfl); iexact H36
  isplitl [H37]; · iexists f37; isplitr; (· ipureintro; rfl); iexact H37
  isplitl [H38]; · iexists f38; isplitr; (· ipureintro; rfl); iexact H38
  isplitl [H39]; · iexists f39; isplitr; (· ipureintro; rfl); iexact H39
  isplitl [H40]; · iexists _; isplitr; swap; (· iexact H40); ipureintro; exact read_whole _ _ hz _ _
  isplitl [H41]; · iexists _; isplitr; swap; (· iexact H41); ipureintro; exact read_whole _ _ hz _ _
  isplitl [H42]; · iexists _; isplitr; swap; (· iexact H42); ipureintro; exact read_whole _ _ hz _ _
  isplitl [H43]; · iexists _; isplitr; swap; (· iexact H43); ipureintro; exact read_whole _ _ hz _ _
  isplitl [H44]; · iexists _; isplitr; swap; (· iexact H44); ipureintro; exact read_whole _ _ hz _ _
  isplitl [H45]; · iexists _; isplitr; swap; (· iexact H45); ipureintro; exact read_whole _ _ hz _ _
  isplitl [H46]; · iexists _; isplitr; swap; (· iexact H46); ipureintro; exact read_whole _ _ hz _ _
  isplitl [H47]; · iexists _; isplitr; swap; (· iexact H47); ipureintro; exact read_whole _ _ hz _ _
  isplitl [H48]; · iexists _; isplitr; swap; (· iexact H48); ipureintro; exact read_whole _ _ hz _ _
  isplitl [H49]; · iexists _; isplitr; swap; (· iexact H49); ipureintro; exact read_whole _ _ hz _ _
  isplitl [H50]; · iexists _; isplitr; swap; (· iexact H50); ipureintro; exact read_whole _ _ hz _ _
  isplitl [H51]; · iexists _; isplitr; swap; (· iexact H51); ipureintro; exact read_whole _ _ hz _ _
  isplitl [H52]; · iexists _; isplitr; swap; (· iexact H52); ipureintro; exact read_whole _ _ hz _ _
  isplitl [H53]; · iexists _; isplitr; swap; (· iexact H53); ipureintro; exact read_whole _ _ hz _ _
  isplitl [H54]; · iexists _; isplitr; swap; (· iexact H54); ipureintro; exact read_whole _ _ hz _ _
  isplitl [H55]; · iexists _; isplitr; swap; (· iexact H55); ipureintro; exact read_whole _ _ hz _ _
  isplitl [H56]; · iexists _; isplitr; swap; (· iexact H56); ipureintro; exact read_whole _ _ hz _ _
  isplitl [H57]; · iexists _; isplitr; swap; (· iexact H57); ipureintro; exact read_whole _ _ hz _ _
  isplitl [H58]; · iexists _; isplitr; swap; (· iexact H58); ipureintro; exact read_whole _ _ hz _ _
  isplitl [H59]; · iexists _; isplitr; swap; (· iexact H59); ipureintro; exact read_whole _ _ hz _ _
  isplitl [H60]; · iexists _; isplitr; swap; (· iexact H60); ipureintro; exact read_whole _ _ hz _ _
  isplitl [H61]; · iexists _; isplitr; swap; (· iexact H61); ipureintro; exact read_whole _ _ hz _ _
  isplitl [H62]; · iexists _; isplitr; swap; (· iexact H62); ipureintro; exact read_whole _ _ hz _ _
  isplitl [H63]; · iexists _; isplitr; swap; (· iexact H63); ipureintro; exact read_whole _ _ hz _ _
  isplitl [H64]; · iexists _; isplitr; swap; (· iexact H64); ipureintro; exact read_whole _ _ hz _ _
  isplitl [H65]; · iexists _; isplitr; swap; (· iexact H65); ipureintro; exact read_whole _ _ hz _ _
  isplitl [H66]; · iexists _; isplitr; swap; (· iexact H66); ipureintro; exact read_whole _ _ hz _ _
  isplitl [H67]; · iexists _; isplitr; swap; (· iexact H67); ipureintro; exact read_whole _ _ hz _ _
  isplitl [H68]; · iexists _; isplitr; swap; (· iexact H68); ipureintro; exact read_whole _ _ hz _ _
  isplitl [H69]; · iexists _; isplitr; swap; (· iexact H69); ipureintro; exact read_whole _ _ hz _ _
  isplitl [H70]; · iexists _; isplitr; swap; (· iexact H70); ipureintro; exact read_whole _ _ hz _ _
  isplitl [H71]; · iexists _; isplitr; swap; (· iexact H71); ipureintro; exact read_whole _ _ hz _ _
  isplitl [H72]; · iexists _; isplitr; swap; (· iexact H72); ipureintro; exact read_whole _ _ hz _ _
  isplitl [H73]; · iexists _; isplitr; swap; (· iexact H73); ipureintro; exact read_whole _ _ hz _ _
  isplitl [H74]; · iexists _; isplitr; swap; (· iexact H74); ipureintro; exact read_whole _ _ hz _ _
  isplitl [H75]; · iexists _; isplitr; swap; (· iexact H75); ipureintro; exact read_whole _ _ hz _ _
  isplitl [H76]; · iexists _; isplitr; swap; (· iexact H76); ipureintro; exact read_whole _ _ hz _ _
  isplitl [H77]; · iexists _; isplitr; swap; (· iexact H77); ipureintro; exact read_whole _ _ hz _ _
  isplitl [H78]; · iexists _; isplitr; swap; (· iexact H78); ipureintro; exact read_whole _ _ hz _ _
  iexists _; isplitr; swap; (· iexact H79); ipureintro; exact read_whole _ _ hz _ _

set_option maxHeartbeats 20000000 in
/-- The body at a point of the grid. -/
theorem sound_body (c : Dev nD) (t : Fin cfg0.N) :
    iprop((dats m 0 c).Φ t.castSucc ∗ (dats m 0 c).owesAt () t.castSucc ∗ bigSep Finset.univ fun w : Fin cfg0.W =>
        iprop(∃ d, owns (c : Thread nD τ) ((cfg0.win w).stage (cfg0.slots t w)) fullShare ((dats m 0 c).before w t d)))
      ⊢ wp frame (wpE (defs₀ (F := F)) Variants.none c none) Set.univ (bodyAt0 t) fun _ =>
        iprop((dats m 0 c).Φ t.succ ∗ (dats m 0 c).owesAt () t.succ ∗ bigSep Finset.univ fun w : Fin cfg0.W =>
          owns (c : Thread nD τ) ((cfg0.win w).stage (cfg0.slots t w)) fullShare ((dats m 0 c).after w t)) := by
  rw [bigSep_W0, bigSep_W0]
  unfold bodyAt0
  simp only [i0, i1, i2, i3, i4, i5, i6, i7, i8, i9, i10, i11, i12, i13, i14, i15, i16, i17, i18, i19, i20, i21, i22, i23, i24, i25, i26, i27, i28, i29, i30, i31, i32, i33, i34, i35, i36, i37, i38, i39]
  rw [show (dats m 0 c).Φ t.succ = (dats m 0 c).Φ t.castSucc from rfl,
    show (dats m 0 c).owesAt () t.succ = (dats m 0 c).owesAt () t.castSucc from rfl,
    a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) _)
  unfold own any
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  iintro H
  isplitl [HΦ]; · iexact HΦ
  isplitl [Ho]; · iexact Ho
  iexact H

theorem defs₀_row (t : Fin cfg0.N) : defs₀ (F := F) .tc cfg0.body (cfg0.bodyArgs t (cfg0.slots t)) = bodyAt0 t := by
  unfold defs₀; rw [Defs.onTc_tc]

set_option maxHeartbeats 20000000 in
theorem body_obligation (c : Dev nD) : BodyObligation (dats (F := F) m 0 c) (defs₀ (F := F)) Variants.none () Set.univ := fun t => by
  have q := sound_body m c t
  rw [bigSep_W0, bigSep_W0] at q
  rw [bigSep_W0, bigSep_W0, defs₀_row]
  exact triple_restated q rfl .rfl fun _ => .rfl

set_option backward.isDefEq.respectTransparency.types false in
set_option maxHeartbeats 20000000 in
/-- The run: every array of the region ends at what the proof data says, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- An argument ends as launched, if a window stages it as an input. -/
theorem kept (r : PUnit × MemSt nD τ sig (Elt F)) (h : Pipeline.FramePost cfgs (dats m) 0 (V m) r) (c : Dev nD) (w : Fin cfg0.W)
    (hw : (cfg0.win w).isOut = false) : r.2.mem ((c : Thread nD τ).loc (Pipeline.arrRef spec0 w)) = m ((c : Thread nD τ).loc (Pipeline.arrRef spec0 w)) :=
  ((h c).1 w).trans (((dats m 0 c).arrAt_in w hw _).trans (A_eq m c w))

end Cert.AdamSmallIdeal.Own

end
-- ==== Proof.AdamSmallValue.lean ====
/- The arrays the update of the small weights leaves, entry by entry. -/
module

public import proofs.«01_k».proof.Proof.AdamSmallIdealFrame
public import proofs.«01_k».proof.Proof.AdamEntry
public import Idealize.ShloMosaic.Lib.Pipeline.ValueKit

@[expose] public section

set_option maxRecDepth 16384

noncomputable section

namespace Cert.AdamSmallIdeal.Own

open Cert.AdamSmallIdeal Cert.AdamSmallIdeal.Gen Cert.AdamEntry Cert.WholeStore
open Idealize.ShloMosaic Idealize.ShloMosaic.TcCoe

/-- An index of a block which is the whole array is that index of the array. -/
theorem same {S : Shape} {i j : S.Idx} (h : ∀ a, (i a).val = 0 * S.size a + 1 * (j a).val) : i = j :=
  funext fun a => Fin.ext ((h a).trans (by omega))

section arguments

variable (m : (ℓ : Loc nD τ sig) → Buf (Elt Ideal) ℓ) (c : Dev nD)

/-! The arguments as launched: the weights, their gradients, their first and second moments. -/

abbrev x0 : S2x1024.Idx → EReal := m ((c : Thread nD τ).loc main_arg0)
abbrev x1 : S8x384.Idx → EReal := m ((c : Thread nD τ).loc main_arg1)
abbrev x2 : S2x4.Idx → EReal := m ((c : Thread nD τ).loc main_arg2)
abbrev x3 : S2x4.Idx → EReal := m ((c : Thread nD τ).loc main_arg3)
abbrev x4 : S2x128.Idx → EReal := m ((c : Thread nD τ).loc main_arg4)
abbrev x5 : S512x64.Idx → EReal := m ((c : Thread nD τ).loc main_arg5)
abbrev x6 : S2x256.Idx → EReal := m ((c : Thread nD τ).loc main_arg6)
abbrev x7 : S6x64.Idx → EReal := m ((c : Thread nD τ).loc main_arg7)
abbrev x8 : S2x1024.Idx → EReal := m ((c : Thread nD τ).loc main_arg8)
abbrev x9 : S1x1024.Idx → EReal := m ((c : Thread nD τ).loc main_arg9)
abbrev x10 : S2x1024.Idx → EReal := m ((c : Thread nD τ).loc main_arg10)
abbrev x11 : S8x384.Idx → EReal := m ((c : Thread nD τ).loc main_arg11)
abbrev x12 : S2x4.Idx → EReal := m ((c : Thread nD τ).loc main_arg12)
abbrev x13 : S2x4.Idx → EReal := m ((c : Thread nD τ).loc main_arg13)
abbrev x14 : S2x128.Idx → EReal := m ((c : Thread nD τ).loc main_arg14)
abbrev x15 : S512x64.Idx → EReal := m ((c : Thread nD τ).loc main_arg15)
abbrev x16 : S2x256.Idx → EReal := m ((c : Thread nD τ).loc main_arg16)
abbrev x17 : S6x64.Idx → EReal := m ((c : Thread nD τ).loc main_arg17)
abbrev x18 : S2x1024.Idx → EReal := m ((c : Thread nD τ).loc main_arg18)
abbrev x19 : S1x1024.Idx → EReal := m ((c : Thread nD τ).loc main_arg19)
abbrev x20 : S2x1024.Idx → EReal := m ((c : Thread nD τ).loc main_arg20)
abbrev x21 : S8x384.Idx → EReal := m ((c : Thread nD τ).loc main_arg21)
abbrev x22 : S2x4.Idx → EReal := m ((c : Thread nD τ).loc main_arg22)
abbrev x23 : S2x4.Idx → EReal := m ((c : Thread nD τ).loc main_arg23)
abbrev x24 : S2x128.Idx → EReal := m ((c : Thread nD τ).loc main_arg24)
abbrev x25 : S512x64.Idx → EReal := m ((c : Thread nD τ).loc main_arg25)
abbrev x26 : S2x256.Idx → EReal := m ((c : Thread nD τ).loc main_arg26)
abbrev x27 : S6x64.Idx → EReal := m ((c : Thread nD τ).loc main_arg27)
abbrev x28 : S2x1024.Idx → EReal := m ((c : Thread nD τ).loc main_arg28)
abbrev x29 : S1x1024.Idx → EReal := m ((c : Thread nD τ).loc main_arg29)
abbrev x30 : S2x1024.Idx → EReal := m ((c : Thread nD τ).loc main_arg30)
abbrev x31 : S8x384.Idx → EReal := m ((c : Thread nD τ).loc main_arg31)
abbrev x32 : S2x4.Idx → EReal := m ((c : Thread nD τ).loc main_arg32)
abbrev x33 : S2x4.Idx → EReal := m ((c : Thread nD τ).loc main_arg33)
abbrev x34 : S2x128.Idx → EReal := m ((c : Thread nD τ).loc main_arg34)
abbrev x35 : S512x64.Idx → EReal := m ((c : Thread nD τ).loc main_arg35)
abbrev x36 : S2x256.Idx → EReal := m ((c : Thread nD τ).loc main_arg36)
abbrev x37 : S6x64.Idx → EReal := m ((c : Thread nD τ).loc main_arg37)
abbrev x38 : S2x1024.Idx → EReal := m ((c : Thread nD τ).loc main_arg38)
abbrev x39 : S1x1024.Idx → EReal := m ((c : Thread nD τ).loc main_arg39)

/-! What every output holds: a weight's change, its two moments, its gradient. -/

abbrev y40 : S2x1024.Idx → EReal := fun i => delta (x0 m c i) (x10 m c i) (x20 m c i) (x30 m c i)
abbrev y41 : S2x1024.Idx → EReal := fun i => mom (x10 m c i) (x20 m c i)
abbrev y42 : S2x1024.Idx → EReal := fun i => vel (x10 m c i) (x30 m c i)
abbrev y43 : S2x1024.Idx → EReal := x10 m c
abbrev y44 : S8x384.Idx → EReal := fun i => delta (x1 m c i) (x11 m c i) (x21 m c i) (x31 m c i)
abbrev y45 : S8x384.Idx → EReal := fun i => mom (x11 m c i) (x21 m c i)
abbrev y46 : S8x384.Idx → EReal := fun i => vel (x11 m c i) (x31 m c i)
abbrev y47 : S8x384.Idx → EReal := x11 m c
abbrev y48 : S2x4.Idx → EReal := fun i => delta (x2 m c i) (x12 m c i) (x22 m c i) (x32 m c i)
abbrev y49 : S2x4.Idx → EReal := fun i => mom (x12 m c i) (x22 m c i)
abbrev y50 : S2x4.Idx → EReal := fun i => vel (x12 m c i) (x32 m c i)
abbrev y51 : S2x4.Idx → EReal := x12 m c
abbrev y52 : S2x4.Idx → EReal := fun i => delta (x3 m c i) (x13 m c i) (x23 m c i) (x33 m c i)
abbrev y53 : S2x4.Idx → EReal := fun i => mom (x13 m c i) (x23 m c i)
abbrev y54 : S2x4.Idx → EReal := fun i => vel (x13 m c i) (x33 m c i)
abbrev y55 : S2x4.Idx → EReal := x13 m c
abbrev y56 : S2x128.Idx → EReal := fun i => delta (x4 m c i) (x14 m c i) (x24 m c i) (x34 m c i)
abbrev y57 : S2x128.Idx → EReal := fun i => mom (x14 m c i) (x24 m c i)
abbrev y58 : S2x128.Idx → EReal := fun i => vel (x14 m c i) (x34 m c i)
abbrev y59 : S2x128.Idx → EReal := x14 m c
abbrev y60 : S512x64.Idx → EReal := fun i => delta (x5 m c i) (x15 m c i) (x25 m c i) (x35 m c i)
abbrev y61 : S512x64.Idx → EReal := fun i => mom (x15 m c i) (x25 m c i)
abbrev y62 : S512x64.Idx → EReal := fun i => vel (x15 m c i) (x35 m c i)
abbrev y63 : S512x64.Idx → EReal := x15 m c
abbrev y64 : S2x256.Idx → EReal := fun i => delta (x6 m c i) (x16 m c i) (x26 m c i) (x36 m c i)
abbrev y65 : S2x256.Idx → EReal := fun i => mom (x16 m c i) (x26 m c i)
abbrev y66 : S2x256.Idx → EReal := fun i => vel (x16 m c i) (x36 m c i)
abbrev y67 : S2x256.Idx → EReal := x16 m c
abbrev y68 : S6x64.Idx → EReal := fun i => delta (x7 m c i) (x17 m c i) (x27 m c i) (x37 m c i)
abbrev y69 : S6x64.Idx → EReal := fun i => mom (x17 m c i) (x27 m c i)
abbrev y70 : S6x64.Idx → EReal := fun i => vel (x17 m c i) (x37 m c i)
abbrev y71 : S6x64.Idx → EReal := x17 m c
abbrev y72 : S2x1024.Idx → EReal := fun i => delta (x8 m c i) (x18 m c i) (x28 m c i) (x38 m c i)
abbrev y73 : S2x1024.Idx → EReal := fun i => mom (x18 m c i) (x28 m c i)
abbrev y74 : S2x1024.Idx → EReal := fun i => vel (x18 m c i) (x38 m c i)
abbrev y75 : S2x1024.Idx → EReal := x18 m c
abbrev y76 : S1x1024.Idx → EReal := fun i => delta (x9 m c i) (x19 m c i) (x29 m c i) (x39 m c i)
abbrev y77 : S1x1024.Idx → EReal := fun i => mom (x19 m c i) (x29 m c i)
abbrev y78 : S1x1024.Idx → EReal := fun i => vel (x19 m c i) (x39 m c i)
abbrev y79 : S1x1024.Idx → EReal := x19 m c

variable (t : Fin cfg0.N)

/-! Every block is its whole array. -/

theorem g0 : b0 m c t = x0 m c := (View.ld_unit_zero (S := S2x1024) hz _ _).trans (funext fun j => congrArg (x0 m c) (same fun | 0 => rfl | 1 => rfl))
theorem g1 : b1 m c t = x10 m c := (View.ld_unit_zero (S := S2x1024) hz _ _).trans (funext fun j => congrArg (x10 m c) (same fun | 0 => rfl | 1 => rfl))
theorem g2 : b2 m c t = x20 m c := (View.ld_unit_zero (S := S2x1024) hz _ _).trans (funext fun j => congrArg (x20 m c) (same fun | 0 => rfl | 1 => rfl))
theorem g3 : b3 m c t = x30 m c := (View.ld_unit_zero (S := S2x1024) hz _ _).trans (funext fun j => congrArg (x30 m c) (same fun | 0 => rfl | 1 => rfl))
theorem g4 : b4 m c t = x1 m c := (View.ld_unit_zero (S := S8x384) hz _ _).trans (funext fun j => congrArg (x1 m c) (same fun | 0 => rfl | 1 => rfl))
theorem g5 : b5 m c t = x11 m c := (View.ld_unit_zero (S := S8x384) hz _ _).trans (funext fun j => congrArg (x11 m c) (same fun | 0 => rfl | 1 => rfl))
theorem g6 : b6 m c t = x21 m c := (View.ld_unit_zero (S := S8x384) hz _ _).trans (funext fun j => congrArg (x21 m c) (same fun | 0 => rfl | 1 => rfl))
theorem g7 : b7 m c t = x31 m c := (View.ld_unit_zero (S := S8x384) hz _ _).trans (funext fun j => congrArg (x31 m c) (same fun | 0 => rfl | 1 => rfl))
theorem g8 : b8 m c t = x2 m c := (View.ld_unit_zero (S := S2x4) hz _ _).trans (funext fun j => congrArg (x2 m c) (same fun | 0 => rfl | 1 => rfl))
theorem g9 : b9 m c t = x12 m c := (View.ld_unit_zero (S := S2x4) hz _ _).trans (funext fun j => congrArg (x12 m c) (same fun | 0 => rfl | 1 => rfl))
theorem g10 : b10 m c t = x22 m c := (View.ld_unit_zero (S := S2x4) hz _ _).trans (funext fun j => congrArg (x22 m c) (same fun | 0 => rfl | 1 => rfl))
theorem g11 : b11 m c t = x32 m c := (View.ld_unit_zero (S := S2x4) hz _ _).trans (funext fun j => congrArg (x32 m c) (same fun | 0 => rfl | 1 => rfl))
theorem g12 : b12 m c t = x3 m c := (View.ld_unit_zero (S := S2x4) hz _ _).trans (funext fun j => congrArg (x3 m c) (same fun | 0 => rfl | 1 => rfl))
theorem g13 : b13 m c t = x13 m c := (View.ld_unit_zero (S := S2x4) hz _ _).trans (funext fun j => congrArg (x13 m c) (same fun | 0 => rfl | 1 => rfl))
theorem g14 : b14 m c t = x23 m c := (View.ld_unit_zero (S := S2x4) hz _ _).trans (funext fun j => congrArg (x23 m c) (same fun | 0 => rfl | 1 => rfl))
theorem g15 : b15 m c t = x33 m c := (View.ld_unit_zero (S := S2x4) hz _ _).trans (funext fun j => congrArg (x33 m c) (same fun | 0 => rfl | 1 => rfl))
theorem g16 : b16 m c t = x4 m c := (View.ld_unit_zero (S := S2x128) hz _ _).trans (funext fun j => congrArg (x4 m c) (same fun | 0 => rfl | 1 => rfl))
theorem g17 : b17 m c t = x14 m c := (View.ld_unit_zero (S := S2x128) hz _ _).trans (funext fun j => congrArg (x14 m c) (same fun | 0 => rfl | 1 => rfl))
theorem g18 : b18 m c t = x24 m c := (View.ld_unit_zero (S := S2x128) hz _ _).trans (funext fun j => congrArg (x24 m c) (same fun | 0 => rfl | 1 => rfl))
theorem g19 : b19 m c t = x34 m c := (View.ld_unit_zero (S := S2x128) hz _ _).trans (funext fun j => congrArg (x34 m c) (same fun | 0 => rfl | 1 => rfl))
theorem g20 : b20 m c t = x5 m c := (View.ld_unit_zero (S := S512x64) hz _ _).trans (funext fun j => congrArg (x5 m c) (same fun | 0 => rfl | 1 => rfl))
theorem g21 : b21 m c t = x15 m c := (View.ld_unit_zero (S := S512x64) hz _ _).trans (funext fun j => congrArg (x15 m c) (same fun | 0 => rfl | 1 => rfl))
theorem g22 : b22 m c t = x25 m c := (View.ld_unit_zero (S := S512x64) hz _ _).trans (funext fun j => congrArg (x25 m c) (same fun | 0 => rfl | 1 => rfl))
theorem g23 : b23 m c t = x35 m c := (View.ld_unit_zero (S := S512x64) hz _ _).trans (funext fun j => congrArg (x35 m c) (same fun | 0 => rfl | 1 => rfl))
theorem g24 : b24 m c t = x6 m c := (View.ld_unit_zero (S := S2x256) hz _ _).trans (funext fun j => congrArg (x6 m c) (same fun | 0 => rfl | 1 => rfl))
theorem g25 : b25 m c t = x16 m c := (View.ld_unit_zero (S := S2x256) hz _ _).trans (funext fun j => congrArg (x16 m c) (same fun | 0 => rfl | 1 => rfl))
theorem g26 : b26 m c t = x26 m c := (View.ld_unit_zero (S := S2x256) hz _ _).trans (funext fun j => congrArg (x26 m c) (same fun | 0 => rfl | 1 => rfl))
theorem g27 : b27 m c t = x36 m c := (View.ld_unit_zero (S := S2x256) hz _ _).trans (funext fun j => congrArg (x36 m c) (same fun | 0 => rfl | 1 => rfl))
theorem g28 : b28 m c t = x7 m c := (View.ld_unit_zero (S := S6x64) hz _ _).trans (funext fun j => congrArg (x7 m c) (same fun | 0 => rfl | 1 => rfl))
theorem g29 : b29 m c t = x17 m c := (View.ld_unit_zero (S := S6x64) hz _ _).trans (funext fun j => congrArg (x17 m c) (same fun | 0 => rfl | 1 => rfl))
theorem g30 : b30 m c t = x27 m c := (View.ld_unit_zero (S := S6x64) hz _ _).trans (funext fun j => congrArg (x27 m c) (same fun | 0 => rfl | 1 => rfl))
theorem g31 : b31 m c t = x37 m c := (View.ld_unit_zero (S := S6x64) hz _ _).trans (funext fun j => congrArg (x37 m c) (same fun | 0 => rfl | 1 => rfl))
theorem g32 : b32 m c t = x8 m c := (View.ld_unit_zero (S := S2x1024) hz _ _).trans (funext fun j => congrArg (x8 m c) (same fun | 0 => rfl | 1 => rfl))
theorem g33 : b33 m c t = x18 m c := (View.ld_unit_zero (S := S2x1024) hz _ _).trans (funext fun j => congrArg (x18 m c) (same fun | 0 => rfl | 1 => rfl))
theorem g34 : b34 m c t = x28 m c := (View.ld_unit_zero (S := S2x1024) hz _ _).trans (funext fun j => congrArg (x28 m c) (same fun | 0 => rfl | 1 => rfl))
theorem g35 : b35 m c t = x38 m c := (View.ld_unit_zero (S := S2x1024) hz _ _).trans (funext fun j => congrArg (x38 m c) (same fun | 0 => rfl | 1 => rfl))
theorem g36 : b36 m c t = x9 m c := (View.ld_unit_zero (S := S1x1024) hz _ _).trans (funext fun j => congrArg (x9 m c) (same fun | 0 => rfl | 1 => rfl))
theorem g37 : b37 m c t = x19 m c := (View.ld_unit_zero (S := S1x1024) hz _ _).trans (funext fun j => congrArg (x19 m c) (same fun | 0 => rfl | 1 => rfl))
theorem g38 : b38 m c t = x29 m c := (View.ld_unit_zero (S := S1x1024) hz _ _).trans (funext fun j => congrArg (x29 m c) (same fun | 0 => rfl | 1 => rfl))
theorem g39 : b39 m c t = x39 m c := (View.ld_unit_zero (S := S1x1024) hz _ _).trans (funext fun j => congrArg (x39 m c) (same fun | 0 => rfl | 1 => rfl))
theorem e40 (j : S2x1024.Idx) : ((cfg0.win 40).blk t).view.emb j = j := same fun | 0 => rfl | 1 => rfl
theorem e41 (j : S2x1024.Idx) : ((cfg0.win 41).blk t).view.emb j = j := same fun | 0 => rfl | 1 => rfl
theorem e42 (j : S2x1024.Idx) : ((cfg0.win 42).blk t).view.emb j = j := same fun | 0 => rfl | 1 => rfl
theorem e43 (j : S2x1024.Idx) : ((cfg0.win 43).blk t).view.emb j = j := same fun | 0 => rfl | 1 => rfl
theorem e44 (j : S8x384.Idx) : ((cfg0.win 44).blk t).view.emb j = j := same fun | 0 => rfl | 1 => rfl
theorem e45 (j : S8x384.Idx) : ((cfg0.win 45).blk t).view.emb j = j := same fun | 0 => rfl | 1 => rfl
theorem e46 (j : S8x384.Idx) : ((cfg0.win 46).blk t).view.emb j = j := same fun | 0 => rfl | 1 => rfl
theorem e47 (j : S8x384.Idx) : ((cfg0.win 47).blk t).view.emb j = j := same fun | 0 => rfl | 1 => rfl
theorem e48 (j : S2x4.Idx) : ((cfg0.win 48).blk t).view.emb j = j := same fun | 0 => rfl | 1 => rfl
theorem e49 (j : S2x4.Idx) : ((cfg0.win 49).blk t).view.emb j = j := same fun | 0 => rfl | 1 => rfl
theorem e50 (j : S2x4.Idx) : ((cfg0.win 50).blk t).view.emb j = j := same fun | 0 => rfl | 1 => rfl
theorem e51 (j : S2x4.Idx) : ((cfg0.win 51).blk t).view.emb j = j := same fun | 0 => rfl | 1 => rfl
theorem e52 (j : S2x4.Idx) : ((cfg0.win 52).blk t).view.emb j = j := same fun | 0 => rfl | 1 => rfl
theorem e53 (j : S2x4.Idx) : ((cfg0.win 53).blk t).view.emb j = j := same fun | 0 => rfl | 1 => rfl
theorem e54 (j : S2x4.Idx) : ((cfg0.win 54).blk t).view.emb j = j := same fun | 0 => rfl | 1 => rfl
theorem e55 (j : S2x4.Idx) : ((cfg0.win 55).blk t).view.emb j = j := same fun | 0 => rfl | 1 => rfl
theorem e56 (j : S2x128.Idx) : ((cfg0.win 56).blk t).view.emb j = j := same fun | 0 => rfl | 1 => rfl
theorem e57 (j : S2x128.Idx) : ((cfg0.win 57).blk t).view.emb j = j := same fun | 0 => rfl | 1 => rfl
theorem e58 (j : S2x128.Idx) : ((cfg0.win 58).blk t).view.emb j = j := same fun | 0 => rfl | 1 => rfl
theorem e59 (j : S2x128.Idx) : ((cfg0.win 59).blk t).view.emb j = j := same fun | 0 => rfl | 1 => rfl
theorem e60 (j : S512x64.Idx) : ((cfg0.win 60).blk t).view.emb j = j := same fun | 0 => rfl | 1 => rfl
theorem e61 (j : S512x64.Idx) : ((cfg0.win 61).blk t).view.emb j = j := same fun | 0 => rfl | 1 => rfl
theorem e62 (j : S512x64.Idx) : ((cfg0.win 62).blk t).view.emb j = j := same fun | 0 => rfl | 1 => rfl
theorem e63 (j : S512x64.Idx) : ((cfg0.win 63).blk t).view.emb j = j := same fun | 0 => rfl | 1 => rfl
theorem e64 (j : S2x256.Idx) : ((cfg0.win 64).blk t).view.emb j = j := same fun | 0 => rfl | 1 => rfl
theorem e65 (j : S2x256.Idx) : ((cfg0.win 65).blk t).view.emb j = j := same fun | 0 => rfl | 1 => rfl
theorem e66 (j : S2x256.Idx) : ((cfg0.win 66).blk t).view.emb j = j := same fun | 0 => rfl | 1 => rfl
theorem e67 (j : S2x256.Idx) : ((cfg0.win 67).blk t).view.emb j = j := same fun | 0 => rfl | 1 => rfl
theorem e68 (j : S6x64.Idx) : ((cfg0.win 68).blk t).view.emb j = j := same fun | 0 => rfl | 1 => rfl
theorem e69 (j : S6x64.Idx) : ((cfg0.win 69).blk t).view.emb j = j := same fun | 0 => rfl | 1 => rfl
theorem e70 (j : S6x64.Idx) : ((cfg0.win 70).blk t).view.emb j = j := same fun | 0 => rfl | 1 => rfl
theorem e71 (j : S6x64.Idx) : ((cfg0.win 71).blk t).view.emb j = j := same fun | 0 => rfl | 1 => rfl
theorem e72 (j : S2x1024.Idx) : ((cfg0.win 72).blk t).view.emb j = j := same fun | 0 => rfl | 1 => rfl
theorem e73 (j : S2x1024.Idx) : ((cfg0.win 73).blk t).view.emb j = j := same fun | 0 => rfl | 1 => rfl
theorem e74 (j : S2x1024.Idx) : ((cfg0.win 74).blk t).view.emb j = j := same fun | 0 => rfl | 1 => rfl
theorem e75 (j : S2x1024.Idx) : ((cfg0.win 75).blk t).view.emb j = j := same fun | 0 => rfl | 1 => rfl
theorem e76 (j : S1x1024.Idx) : ((cfg0.win 76).blk t).view.emb j = j := same fun | 0 => rfl | 1 => rfl
theorem e77 (j : S1x1024.Idx) : ((cfg0.win 77).blk t).view.emb j = j := same fun | 0 => rfl | 1 => rfl
theorem e78 (j : S1x1024.Idx) : ((cfg0.win 78).blk t).view.emb j = j := same fun | 0 => rfl | 1 => rfl
theorem e79 (j : S1x1024.Idx) : ((cfg0.win 79).blk t).view.emb j = j := same fun | 0 => rfl | 1 => rfl

end arguments

variable (m : (ℓ : Loc nD τ sig) → Buf (Elt Ideal) ℓ) (c : Dev nD)

/-- The grid's point. -/
abbrev t₀ : Fin cfg0.N := ⟨0, by decide⟩

theorem mem {w : Fin cfg0.W} {t : Fin cfg0.N} {i j} (h : ((cfg0.win w).blk t).view.emb i = j) : j ∈ ((cfg0.win w).blk t).view.set :=
  h ▸ ((cfg0.win w).blk t).view.emb_mem_set i

/-! The outputs after the run. -/

theorem f40 : (dats m 0 c).arrAt 40 cfg0.N = y40 m c := (dats m 0 c).arrAt_eq_of_cover 40 (y40 m c) (fun t _ => by
  show (cfg0.win 40).cut (grid0.coords t) ((dats m 0 c).after 40 t) = _
  rw [a40, g1, g0, g2, g3]; exact funext fun j => congrArg (y40 m c) (e40 t j).symm)
  fun i => ⟨t₀, flush0_40 _, mem (e40 t₀ i)⟩
theorem f41 : (dats m 0 c).arrAt 41 cfg0.N = y41 m c := (dats m 0 c).arrAt_eq_of_cover 41 (y41 m c) (fun t _ => by
  show (cfg0.win 41).cut (grid0.coords t) ((dats m 0 c).after 41 t) = _
  rw [a41, g1, g2]; exact funext fun j => congrArg (y41 m c) (e41 t j).symm)
  fun i => ⟨t₀, flush0_41 _, mem (e41 t₀ i)⟩
theorem f42 : (dats m 0 c).arrAt 42 cfg0.N = y42 m c := (dats m 0 c).arrAt_eq_of_cover 42 (y42 m c) (fun t _ => by
  show (cfg0.win 42).cut (grid0.coords t) ((dats m 0 c).after 42 t) = _
  rw [a42, g1, g3]; exact funext fun j => congrArg (y42 m c) (e42 t j).symm)
  fun i => ⟨t₀, flush0_42 _, mem (e42 t₀ i)⟩
theorem f43 : (dats m 0 c).arrAt 43 cfg0.N = y43 m c := (dats m 0 c).arrAt_eq_of_cover 43 (y43 m c) (fun t _ => by
  show (cfg0.win 43).cut (grid0.coords t) ((dats m 0 c).after 43 t) = _
  rw [a43, g1]; exact funext fun j => congrArg (y43 m c) (e43 t j).symm)
  fun i => ⟨t₀, flush0_43 _, mem (e43 t₀ i)⟩
theorem f44 : (dats m 0 c).arrAt 44 cfg0.N = y44 m c := (dats m 0 c).arrAt_eq_of_cover 44 (y44 m c) (fun t _ => by
  show (cfg0.win 44).cut (grid0.coords t) ((dats m 0 c).after 44 t) = _
  rw [a44, g5, g4, g6, g7]; exact funext fun j => congrArg (y44 m c) (e44 t j).symm)
  fun i => ⟨t₀, flush0_44 _, mem (e44 t₀ i)⟩
theorem f45 : (dats m 0 c).arrAt 45 cfg0.N = y45 m c := (dats m 0 c).arrAt_eq_of_cover 45 (y45 m c) (fun t _ => by
  show (cfg0.win 45).cut (grid0.coords t) ((dats m 0 c).after 45 t) = _
  rw [a45, g5, g6]; exact funext fun j => congrArg (y45 m c) (e45 t j).symm)
  fun i => ⟨t₀, flush0_45 _, mem (e45 t₀ i)⟩
theorem f46 : (dats m 0 c).arrAt 46 cfg0.N = y46 m c := (dats m 0 c).arrAt_eq_of_cover 46 (y46 m c) (fun t _ => by
  show (cfg0.win 46).cut (grid0.coords t) ((dats m 0 c).after 46 t) = _
  rw [a46, g5, g7]; exact funext fun j => congrArg (y46 m c) (e46 t j).symm)
  fun i => ⟨t₀, flush0_46 _, mem (e46 t₀ i)⟩
theorem f47 : (dats m 0 c).arrAt 47 cfg0.N = y47 m c := (dats m 0 c).arrAt_eq_of_cover 47 (y47 m c) (fun t _ => by
  show (cfg0.win 47).cut (grid0.coords t) ((dats m 0 c).after 47 t) = _
  rw [a47, g5]; exact funext fun j => congrArg (y47 m c) (e47 t j).symm)
  fun i => ⟨t₀, flush0_47 _, mem (e47 t₀ i)⟩
theorem f48 : (dats m 0 c).arrAt 48 cfg0.N = y48 m c := (dats m 0 c).arrAt_eq_of_cover 48 (y48 m c) (fun t _ => by
  show (cfg0.win 48).cut (grid0.coords t) ((dats m 0 c).after 48 t) = _
  rw [a48, g9, g8, g10, g11]; exact funext fun j => congrArg (y48 m c) (e48 t j).symm)
  fun i => ⟨t₀, flush0_48 _, mem (e48 t₀ i)⟩
theorem f49 : (dats m 0 c).arrAt 49 cfg0.N = y49 m c := (dats m 0 c).arrAt_eq_of_cover 49 (y49 m c) (fun t _ => by
  show (cfg0.win 49).cut (grid0.coords t) ((dats m 0 c).after 49 t) = _
  rw [a49, g9, g10]; exact funext fun j => congrArg (y49 m c) (e49 t j).symm)
  fun i => ⟨t₀, flush0_49 _, mem (e49 t₀ i)⟩
theorem f50 : (dats m 0 c).arrAt 50 cfg0.N = y50 m c := (dats m 0 c).arrAt_eq_of_cover 50 (y50 m c) (fun t _ => by
  show (cfg0.win 50).cut (grid0.coords t) ((dats m 0 c).after 50 t) = _
  rw [a50, g9, g11]; exact funext fun j => congrArg (y50 m c) (e50 t j).symm)
  fun i => ⟨t₀, flush0_50 _, mem (e50 t₀ i)⟩
theorem f51 : (dats m 0 c).arrAt 51 cfg0.N = y51 m c := (dats m 0 c).arrAt_eq_of_cover 51 (y51 m c) (fun t _ => by
  show (cfg0.win 51).cut (grid0.coords t) ((dats m 0 c).after 51 t) = _
  rw [a51, g9]; exact funext fun j => congrArg (y51 m c) (e51 t j).symm)
  fun i => ⟨t₀, flush0_51 _, mem (e51 t₀ i)⟩
theorem f52 : (dats m 0 c).arrAt 52 cfg0.N = y52 m c := (dats m 0 c).arrAt_eq_of_cover 52 (y52 m c) (fun t _ => by
  show (cfg0.win 52).cut (grid0.coords t) ((dats m 0 c).after 52 t) = _
  rw [a52, g13, g12, g14, g15]; exact funext fun j => congrArg (y52 m c) (e52 t j).symm)
  fun i => ⟨t₀, flush0_52 _, mem (e52 t₀ i)⟩
theorem f53 : (dats m 0 c).arrAt 53 cfg0.N = y53 m c := (dats m 0 c).arrAt_eq_of_cover 53 (y53 m c) (fun t _ => by
  show (cfg0.win 53).cut (grid0.coords t) ((dats m 0 c).after 53 t) = _
  rw [a53, g13, g14]; exact funext fun j => congrArg (y53 m c) (e53 t j).symm)
  fun i => ⟨t₀, flush0_53 _, mem (e53 t₀ i)⟩
theorem f54 : (dats m 0 c).arrAt 54 cfg0.N = y54 m c := (dats m 0 c).arrAt_eq_of_cover 54 (y54 m c) (fun t _ => by
  show (cfg0.win 54).cut (grid0.coords t) ((dats m 0 c).after 54 t) = _
  rw [a54, g13, g15]; exact funext fun j => congrArg (y54 m c) (e54 t j).symm)
  fun i => ⟨t₀, flush0_54 _, mem (e54 t₀ i)⟩
theorem f55 : (dats m 0 c).arrAt 55 cfg0.N = y55 m c := (dats m 0 c).arrAt_eq_of_cover 55 (y55 m c) (fun t _ => by
  show (cfg0.win 55).cut (grid0.coords t) ((dats m 0 c).after 55 t) = _
  rw [a55, g13]; exact funext fun j => congrArg (y55 m c) (e55 t j).symm)
  fun i => ⟨t₀, flush0_55 _, mem (e55 t₀ i)⟩
theorem f56 : (dats m 0 c).arrAt 56 cfg0.N = y56 m c := (dats m 0 c).arrAt_eq_of_cover 56 (y56 m c) (fun t _ => by
  show (cfg0.win 56).cut (grid0.coords t) ((dats m 0 c).after 56 t) = _
  rw [a56, g17, g16, g18, g19]; exact funext fun j => congrArg (y56 m c) (e56 t j).symm)
  fun i => ⟨t₀, flush0_56 _, mem (e56 t₀ i)⟩
theorem f57 : (dats m 0 c).arrAt 57 cfg0.N = y57 m c := (dats m 0 c).arrAt_eq_of_cover 57 (y57 m c) (fun t _ => by
  show (cfg0.win 57).cut (grid0.coords t) ((dats m 0 c).after 57 t) = _
  rw [a57, g17, g18]; exact funext fun j => congrArg (y57 m c) (e57 t j).symm)
  fun i => ⟨t₀, flush0_57 _, mem (e57 t₀ i)⟩
theorem f58 : (dats m 0 c).arrAt 58 cfg0.N = y58 m c := (dats m 0 c).arrAt_eq_of_cover 58 (y58 m c) (fun t _ => by
  show (cfg0.win 58).cut (grid0.coords t) ((dats m 0 c).after 58 t) = _
  rw [a58, g17, g19]; exact funext fun j => congrArg (y58 m c) (e58 t j).symm)
  fun i => ⟨t₀, flush0_58 _, mem (e58 t₀ i)⟩
theorem f59 : (dats m 0 c).arrAt 59 cfg0.N = y59 m c := (dats m 0 c).arrAt_eq_of_cover 59 (y59 m c) (fun t _ => by
  show (cfg0.win 59).cut (grid0.coords t) ((dats m 0 c).after 59 t) = _
  rw [a59, g17]; exact funext fun j => congrArg (y59 m c) (e59 t j).symm)
  fun i => ⟨t₀, flush0_59 _, mem (e59 t₀ i)⟩
theorem f60 : (dats m 0 c).arrAt 60 cfg0.N = y60 m c := (dats m 0 c).arrAt_eq_of_cover 60 (y60 m c) (fun t _ => by
  show (cfg0.win 60).cut (grid0.coords t) ((dats m 0 c).after 60 t) = _
  rw [a60, g21, g20, g22, g23]; exact funext fun j => congrArg (y60 m c) (e60 t j).symm)
  fun i => ⟨t₀, flush0_60 _, mem (e60 t₀ i)⟩
theorem f61 : (dats m 0 c).arrAt 61 cfg0.N = y61 m c := (dats m 0 c).arrAt_eq_of_cover 61 (y61 m c) (fun t _ => by
  show (cfg0.win 61).cut (grid0.coords t) ((dats m 0 c).after 61 t) = _
  rw [a61, g21, g22]; exact funext fun j => congrArg (y61 m c) (e61 t j).symm)
  fun i => ⟨t₀, flush0_61 _, mem (e61 t₀ i)⟩
theorem f62 : (dats m 0 c).arrAt 62 cfg0.N = y62 m c := (dats m 0 c).arrAt_eq_of_cover 62 (y62 m c) (fun t _ => by
  show (cfg0.win 62).cut (grid0.coords t) ((dats m 0 c).after 62 t) = _
  rw [a62, g21, g23]; exact funext fun j => congrArg (y62 m c) (e62 t j).symm)
  fun i => ⟨t₀, flush0_62 _, mem (e62 t₀ i)⟩
theorem f63 : (dats m 0 c).arrAt 63 cfg0.N = y63 m c := (dats m 0 c).arrAt_eq_of_cover 63 (y63 m c) (fun t _ => by
  show (cfg0.win 63).cut (grid0.coords t) ((dats m 0 c).after 63 t) = _
  rw [a63, g21]; exact funext fun j => congrArg (y63 m c) (e63 t j).symm)
  fun i => ⟨t₀, flush0_63 _, mem (e63 t₀ i)⟩
theorem f64 : (dats m 0 c).arrAt 64 cfg0.N = y64 m c := (dats m 0 c).arrAt_eq_of_cover 64 (y64 m c) (fun t _ => by
  show (cfg0.win 64).cut (grid0.coords t) ((dats m 0 c).after 64 t) = _
  rw [a64, g25, g24, g26, g27]; exact funext fun j => congrArg (y64 m c) (e64 t j).symm)
  fun i => ⟨t₀, flush0_64 _, mem (e64 t₀ i)⟩
theorem f65 : (dats m 0 c).arrAt 65 cfg0.N = y65 m c := (dats m 0 c).arrAt_eq_of_cover 65 (y65 m c) (fun t _ => by
  show (cfg0.win 65).cut (grid0.coords t) ((dats m 0 c).after 65 t) = _
  rw [a65, g25, g26]; exact funext fun j => congrArg (y65 m c) (e65 t j).symm)
  fun i => ⟨t₀, flush0_65 _, mem (e65 t₀ i)⟩
theorem f66 : (dats m 0 c).arrAt 66 cfg0.N = y66 m c := (dats m 0 c).arrAt_eq_of_cover 66 (y66 m c) (fun t _ => by
  show (cfg0.win 66).cut (grid0.coords t) ((dats m 0 c).after 66 t) = _
  rw [a66, g25, g27]; exact funext fun j => congrArg (y66 m c) (e66 t j).symm)
  fun i => ⟨t₀, flush0_66 _, mem (e66 t₀ i)⟩
theorem f67 : (dats m 0 c).arrAt 67 cfg0.N = y67 m c := (dats m 0 c).arrAt_eq_of_cover 67 (y67 m c) (fun t _ => by
  show (cfg0.win 67).cut (grid0.coords t) ((dats m 0 c).after 67 t) = _
  rw [a67, g25]; exact funext fun j => congrArg (y67 m c) (e67 t j).symm)
  fun i => ⟨t₀, flush0_67 _, mem (e67 t₀ i)⟩
theorem f68 : (dats m 0 c).arrAt 68 cfg0.N = y68 m c := (dats m 0 c).arrAt_eq_of_cover 68 (y68 m c) (fun t _ => by
  show (cfg0.win 68).cut (grid0.coords t) ((dats m 0 c).after 68 t) = _
  rw [a68, g29, g28, g30, g31]; exact funext fun j => congrArg (y68 m c) (e68 t j).symm)
  fun i => ⟨t₀, flush0_68 _, mem (e68 t₀ i)⟩
theorem f69 : (dats m 0 c).arrAt 69 cfg0.N = y69 m c := (dats m 0 c).arrAt_eq_of_cover 69 (y69 m c) (fun t _ => by
  show (cfg0.win 69).cut (grid0.coords t) ((dats m 0 c).after 69 t) = _
  rw [a69, g29, g30]; exact funext fun j => congrArg (y69 m c) (e69 t j).symm)
  fun i => ⟨t₀, flush0_69 _, mem (e69 t₀ i)⟩
theorem f70 : (dats m 0 c).arrAt 70 cfg0.N = y70 m c := (dats m 0 c).arrAt_eq_of_cover 70 (y70 m c) (fun t _ => by
  show (cfg0.win 70).cut (grid0.coords t) ((dats m 0 c).after 70 t) = _
  rw [a70, g29, g31]; exact funext fun j => congrArg (y70 m c) (e70 t j).symm)
  fun i => ⟨t₀, flush0_70 _, mem (e70 t₀ i)⟩
theorem f71 : (dats m 0 c).arrAt 71 cfg0.N = y71 m c := (dats m 0 c).arrAt_eq_of_cover 71 (y71 m c) (fun t _ => by
  show (cfg0.win 71).cut (grid0.coords t) ((dats m 0 c).after 71 t) = _
  rw [a71, g29]; exact funext fun j => congrArg (y71 m c) (e71 t j).symm)
  fun i => ⟨t₀, flush0_71 _, mem (e71 t₀ i)⟩
theorem f72 : (dats m 0 c).arrAt 72 cfg0.N = y72 m c := (dats m 0 c).arrAt_eq_of_cover 72 (y72 m c) (fun t _ => by
  show (cfg0.win 72).cut (grid0.coords t) ((dats m 0 c).after 72 t) = _
  rw [a72, g33, g32, g34, g35]; exact funext fun j => congrArg (y72 m c) (e72 t j).symm)
  fun i => ⟨t₀, flush0_72 _, mem (e72 t₀ i)⟩
theorem f73 : (dats m 0 c).arrAt 73 cfg0.N = y73 m c := (dats m 0 c).arrAt_eq_of_cover 73 (y73 m c) (fun t _ => by
  show (cfg0.win 73).cut (grid0.coords t) ((dats m 0 c).after 73 t) = _
  rw [a73, g33, g34]; exact funext fun j => congrArg (y73 m c) (e73 t j).symm)
  fun i => ⟨t₀, flush0_73 _, mem (e73 t₀ i)⟩
theorem f74 : (dats m 0 c).arrAt 74 cfg0.N = y74 m c := (dats m 0 c).arrAt_eq_of_cover 74 (y74 m c) (fun t _ => by
  show (cfg0.win 74).cut (grid0.coords t) ((dats m 0 c).after 74 t) = _
  rw [a74, g33, g35]; exact funext fun j => congrArg (y74 m c) (e74 t j).symm)
  fun i => ⟨t₀, flush0_74 _, mem (e74 t₀ i)⟩
theorem f75 : (dats m 0 c).arrAt 75 cfg0.N = y75 m c := (dats m 0 c).arrAt_eq_of_cover 75 (y75 m c) (fun t _ => by
  show (cfg0.win 75).cut (grid0.coords t) ((dats m 0 c).after 75 t) = _
  rw [a75, g33]; exact funext fun j => congrArg (y75 m c) (e75 t j).symm)
  fun i => ⟨t₀, flush0_75 _, mem (e75 t₀ i)⟩
theorem f76 : (dats m 0 c).arrAt 76 cfg0.N = y76 m c := (dats m 0 c).arrAt_eq_of_cover 76 (y76 m c) (fun t _ => by
  show (cfg0.win 76).cut (grid0.coords t) ((dats m 0 c).after 76 t) = _
  rw [a76, g37, g36, g38, g39]; exact funext fun j => congrArg (y76 m c) (e76 t j).symm)
  fun i => ⟨t₀, flush0_76 _, mem (e76 t₀ i)⟩
theorem f77 : (dats m 0 c).arrAt 77 cfg0.N = y77 m c := (dats m 0 c).arrAt_eq_of_cover 77 (y77 m c) (fun t _ => by
  show (cfg0.win 77).cut (grid0.coords t) ((dats m 0 c).after 77 t) = _
  rw [a77, g37, g38]; exact funext fun j => congrArg (y77 m c) (e77 t j).symm)
  fun i => ⟨t₀, flush0_77 _, mem (e77 t₀ i)⟩
theorem f78 : (dats m 0 c).arrAt 78 cfg0.N = y78 m c := (dats m 0 c).arrAt_eq_of_cover 78 (y78 m c) (fun t _ => by
  show (cfg0.win 78).cut (grid0.coords t) ((dats m 0 c).after 78 t) = _
  rw [a78, g37, g39]; exact funext fun j => congrArg (y78 m c) (e78 t j).symm)
  fun i => ⟨t₀, flush0_78 _, mem (e78 t₀ i)⟩
theorem f79 : (dats m 0 c).arrAt 79 cfg0.N = y79 m c := (dats m 0 c).arrAt_eq_of_cover 79 (y79 m c) (fun t _ => by
  show (cfg0.win 79).cut (grid0.coords t) ((dats m 0 c).after 79 t) = _
  rw [a79, g37]; exact funext fun j => congrArg (y79 m c) (e79 t j).symm)
  fun i => ⟨t₀, flush0_79 _, mem (e79 t₀ i)⟩

end Cert.AdamSmallIdeal.Own

end
-- ==== Proof.AdamSmallClaim.lean ====
/- The claims of the small weights' update in one call. -/
module

public import proofs.«01_k».proof.Defs
public import proofs.«01_k».proof.Proof.AdamSmallFrame
public import proofs.«01_k».proof.Proof.AdamSmallValue
public import proofs.«01_k».proof.Proof.Gen.AdamSmallRefIdeal
public import proofs.«01_k».proof.Proof.Gen.AdamSmallRefIdeal.Run
public import proofs.«01_k».proof.Proof.AdamEntry
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem Cert.AdamEntry

open Cert.AdamSmall.Own in
set_option maxHeartbeats 6400000 in
/-- The update of the small weights runs and leaves its arguments; so does its idealization, and the reference. -/
theorem frame_adamSmall : Cert.quiescent_AdamSmall := fun m ρ _ => (θ_run _ _ _).mono (fun r h => ⟨fun c =>
  ⟨kept m r h.1 c 0 rfl, kept m r h.1 c 4 rfl, kept m r h.1 c 8 rfl, kept m r h.1 c 12 rfl, kept m r h.1 c 16 rfl, kept m r h.1 c 20 rfl, kept m r h.1 c 24 rfl, kept m r h.1 c 28 rfl, kept m r h.1 c 32 rfl, kept m r h.1 c 36 rfl, kept m r h.1 c 1 rfl, kept m r h.1 c 5 rfl, kept m r h.1 c 9 rfl, kept m r h.1 c 13 rfl, kept m r h.1 c 17 rfl, kept m r h.1 c 21 rfl, kept m r h.1 c 25 rfl, kept m r h.1 c 29 rfl, kept m r h.1 c 33 rfl, kept m r h.1 c 37 rfl, kept m r h.1 c 2 rfl, kept m r h.1 c 6 rfl, kept m r h.1 c 10 rfl, kept m r h.1 c 14 rfl, kept m r h.1 c 18 rfl, kept m r h.1 c 22 rfl, kept m r h.1 c 26 rfl, kept m r h.1 c 30 rfl, kept m r h.1 c 34 rfl, kept m r h.1 c 38 rfl, kept m r h.1 c 3 rfl, kept m r h.1 c 7 rfl, kept m r h.1 c 11 rfl, kept m r h.1 c 15 rfl, kept m r h.1 c 19 rfl, kept m r h.1 c 23 rfl, kept m r h.1 c 27 rfl, kept m r h.1 c 31 rfl, kept m r h.1 c 35 rfl, kept m r h.1 c 39 rfl⟩, h.2⟩) (run_quiet m ρ)

open Cert.AdamSmallIdeal.Own in
set_option maxHeartbeats 6400000 in
theorem frame_adamSmallIdeal : Cert.quiescent_AdamSmallIdeal := fun m ρ _ => (θ_run _ _ _).mono (fun r h => ⟨fun c =>
  ⟨kept m r h.1 c 0 rfl, kept m r h.1 c 4 rfl, kept m r h.1 c 8 rfl, kept m r h.1 c 12 rfl, kept m r h.1 c 16 rfl, kept m r h.1 c 20 rfl, kept m r h.1 c 24 rfl, kept m r h.1 c 28 rfl, kept m r h.1 c 32 rfl, kept m r h.1 c 36 rfl, kept m r h.1 c 1 rfl, kept m r h.1 c 5 rfl, kept m r h.1 c 9 rfl, kept m r h.1 c 13 rfl, kept m r h.1 c 17 rfl, kept m r h.1 c 21 rfl, kept m r h.1 c 25 rfl, kept m r h.1 c 29 rfl, kept m r h.1 c 33 rfl, kept m r h.1 c 37 rfl, kept m r h.1 c 2 rfl, kept m r h.1 c 6 rfl, kept m r h.1 c 10 rfl, kept m r h.1 c 14 rfl, kept m r h.1 c 18 rfl, kept m r h.1 c 22 rfl, kept m r h.1 c 26 rfl, kept m r h.1 c 30 rfl, kept m r h.1 c 34 rfl, kept m r h.1 c 38 rfl, kept m r h.1 c 3 rfl, kept m r h.1 c 7 rfl, kept m r h.1 c 11 rfl, kept m r h.1 c 15 rfl, kept m r h.1 c 19 rfl, kept m r h.1 c 23 rfl, kept m r h.1 c 27 rfl, kept m r h.1 c 31 rfl, kept m r h.1 c 35 rfl, kept m r h.1 c 39 rfl⟩, h.2⟩) (run_quiet m ρ)

theorem frame_adamSmallRef : Cert.quiescent_AdamSmallRefIdeal := by
  intro m g _
  refine (θ_run _ _ _).mono (fun r h => ⟨fun c => (h c).2.2.2.2.2.2.2.2.2.2.2.2.2.2.2.2.2.2.2.2.2.2.2.2.2.2.2.2.2.2.2.2.2.2.2.2.2.2.2.2, sem_eq_zero_of_no_sems (by decide) _⟩)
    (Cert.AdamSmallRefIdeal.Value.run m g)

/-- The two numbers by which the kernel of the update of the small weights scales the moments round to the literals it is written with. -/
theorem preserves_adamSmall : Cert.preserves_AdamSmall_AdamSmallIdeal :=
  ⟨IdealRules.named_const.statement Cert.AdamSmallIdeal.κ "bias1" .f32 0x3FC48605#32 ((8388608 / 5463681 : ℝ) : EReal) rfl,
    IdealRules.named_const.statement Cert.AdamSmallIdeal.κ "bias2" .f32 0x42C8E6D3#32 ((268435456 / 2672307 : ℝ) : EReal) rfl⟩

open Cert.AdamSmallIdeal.Own Cert.AdamSmallIdeal in
set_option maxHeartbeats 6400000 in
/-- The update of the small weights equals its reference. -/
theorem adamSmall : Cert.algebraic_AdamSmallIdeal_AdamSmallRefIdeal := by
  intro m g m' g' _ hagree
  refine ⟨fun c => y40 m c, fun c => y41 m c, fun c => y42 m c, fun c => y43 m c, fun c => y44 m c, fun c => y45 m c, fun c => y46 m c, fun c => y47 m c, fun c => y48 m c, fun c => y49 m c, fun c => y50 m c, fun c => y51 m c, fun c => y52 m c, fun c => y53 m c, fun c => y54 m c, fun c => y55 m c, fun c => y56 m c, fun c => y57 m c, fun c => y58 m c, fun c => y59 m c, fun c => y60 m c, fun c => y61 m c, fun c => y62 m c, fun c => y63 m c, fun c => y64 m c, fun c => y65 m c, fun c => y66 m c, fun c => y67 m c, fun c => y68 m c, fun c => y69 m c, fun c => y70 m c, fun c => y71 m c, fun c => y72 m c, fun c => y73 m c, fun c => y74 m c, fun c => y75 m c, fun c => y76 m c, fun c => y77 m c, fun c => y78 m c, fun c => y79 m c, ?_, ?_⟩
  · exact (θ_run _ _ _).mono (fun r h c => ⟨((h c).1 40).trans (f40 m c), ((h c).1 41).trans (f41 m c), ((h c).1 42).trans (f42 m c), ((h c).1 43).trans (f43 m c), ((h c).1 44).trans (f44 m c), ((h c).1 45).trans (f45 m c), ((h c).1 46).trans (f46 m c), ((h c).1 47).trans (f47 m c), ((h c).1 48).trans (f48 m c), ((h c).1 49).trans (f49 m c), ((h c).1 50).trans (f50 m c), ((h c).1 51).trans (f51 m c), ((h c).1 52).trans (f52 m c), ((h c).1 53).trans (f53 m c), ((h c).1 54).trans (f54 m c), ((h c).1 55).trans (f55 m c), ((h c).1 56).trans (f56 m c), ((h c).1 57).trans (f57 m c), ((h c).1 58).trans (f58 m c), ((h c).1 59).trans (f59 m c), ((h c).1 60).trans (f60 m c), ((h c).1 61).trans (f61 m c), ((h c).1 62).trans (f62 m c), ((h c).1 63).trans (f63 m c), ((h c).1 64).trans (f64 m c), ((h c).1 65).trans (f65 m c), ((h c).1 66).trans (f66 m c), ((h c).1 67).trans (f67 m c), ((h c).1 68).trans (f68 m c), ((h c).1 69).trans (f69 m c), ((h c).1 70).trans (f70 m c), ((h c).1 71).trans (f71 m c), ((h c).1 72).trans (f72 m c), ((h c).1 73).trans (f73 m c), ((h c).1 74).trans (f74 m c), ((h c).1 75).trans (f75 m c), ((h c).1 76).trans (f76 m c), ((h c).1 77).trans (f77 m c), ((h c).1 78).trans (f78 m c), ((h c).1 79).trans (f79 m c),
      kept m r h c 0 rfl, kept m r h c 4 rfl, kept m r h c 8 rfl, kept m r h c 12 rfl, kept m r h c 16 rfl, kept m r h c 20 rfl, kept m r h c 24 rfl, kept m r h c 28 rfl, kept m r h c 32 rfl, kept m r h c 36 rfl, kept m r h c 1 rfl, kept m r h c 5 rfl, kept m r h c 9 rfl, kept m r h c 13 rfl, kept m r h c 17 rfl, kept m r h c 21 rfl, kept m r h c 25 rfl, kept m r h c 29 rfl, kept m r h c 33 rfl, kept m r h c 37 rfl, kept m r h c 2 rfl, kept m r h c 6 rfl, kept m r h c 10 rfl, kept m r h c 14 rfl, kept m r h c 18 rfl, kept m r h c 22 rfl, kept m r h c 26 rfl, kept m r h c 30 rfl, kept m r h c 34 rfl, kept m r h c 38 rfl, kept m r h c 3 rfl, kept m r h c 7 rfl, kept m r h c 11 rfl, kept m r h c 15 rfl, kept m r h c 19 rfl, kept m r h c 23 rfl, kept m r h c 27 rfl, kept m r h c 31 rfl, kept m r h c 35 rfl, kept m r h c 39 rfl⟩) (run_main m g)
  · refine (θ_run _ _ _).mono (fun r h c => ?_) (Cert.AdamSmallRefIdeal.Value.run m' g')
    obtain ⟨h40, h41, h42, h43, h44, h45, h46, h47, h48, h49, h50, h51, h52, h53, h54, h55, h56, h57, h58, h59, h60, h61, h62, h63, h64, h65, h66, h67, h68, h69, h70, h71, h72, h73, h74, h75, h76, h77, h78, h79, hk⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := hagree c
    exact ⟨h40.trans (show _ = _ by have q := delta_of (ι := S2x1024.Idx) e0 e10 e20 e30; exact q),
      h41.trans (show _ = _ by have q := mom_of (ι := S2x1024.Idx) e10 e20; exact q),
      h42.trans (show _ = _ by have q := vel_of (ι := S2x1024.Idx) e10 e30; exact q),
      h43.trans e10,
      h44.trans (show _ = _ by have q := delta_of (ι := S8x384.Idx) e1 e11 e21 e31; exact q),
      h45.trans (show _ = _ by have q := mom_of (ι := S8x384.Idx) e11 e21; exact q),
      h46.trans (show _ = _ by have q := vel_of (ι := S8x384.Idx) e11 e31; exact q),
      h47.trans e11,
      h48.trans (show _ = _ by have q := delta_of (ι := S2x4.Idx) e2 e12 e22 e32; exact q),
      h49.trans (show _ = _ by have q := mom_of (ι := S2x4.Idx) e12 e22; exact q),
      h50.trans (show _ = _ by have q := vel_of (ι := S2x4.Idx) e12 e32; exact q),
      h51.trans e12,
      h52.trans (show _ = _ by have q := delta_of (ι := S2x4.Idx) e3 e13 e23 e33; exact q),
      h53.trans (show _ = _ by have q := mom_of (ι := S2x4.Idx) e13 e23; exact q),
      h54.trans (show _ = _ by have q := vel_of (ι := S2x4.Idx) e13 e33; exact q),
      h55.trans e13,
      h56.trans (show _ = _ by have q := delta_of (ι := S2x128.Idx) e4 e14 e24 e34; exact q),
      h57.trans (show _ = _ by have q := mom_of (ι := S2x128.Idx) e14 e24; exact q),
      h58.trans (show _ = _ by have q := vel_of (ι := S2x128.Idx) e14 e34; exact q),
      h59.trans e14,
      h60.trans (show _ = _ by have q := delta_of (ι := S512x64.Idx) e5 e15 e25 e35; exact q),
      h61.trans (show _ = _ by have q := mom_of (ι := S512x64.Idx) e15 e25; exact q),
      h62.trans (show _ = _ by have q := vel_of (ι := S512x64.Idx) e15 e35; exact q),
      h63.trans e15,
      h64.trans (show _ = _ by have q := delta_of (ι := S2x256.Idx) e6 e16 e26 e36; exact q),
      h65.trans (show _ = _ by have q := mom_of (ι := S2x256.Idx) e16 e26; exact q),
      h66.trans (show _ = _ by have q := vel_of (ι := S2x256.Idx) e16 e36; exact q),
      h67.trans e16,
      h68.trans (show _ = _ by have q := delta_of (ι := S6x64.Idx) e7 e17 e27 e37; exact q),
      h69.trans (show _ = _ by have q := mom_of (ι := S6x64.Idx) e17 e27; exact q),
      h70.trans (show _ = _ by have q := vel_of (ι := S6x64.Idx) e17 e37; exact q),
      h71.trans e17,
      h72.trans (show _ = _ by have q := delta_of (ι := S2x1024.Idx) e8 e18 e28 e38; exact q),
      h73.trans (show _ = _ by have q := mom_of (ι := S2x1024.Idx) e18 e28; exact q),
      h74.trans (show _ = _ by have q := vel_of (ι := S2x1024.Idx) e18 e38; exact q),
      h75.trans e18,
      h76.trans (show _ = _ by have q := delta_of (ι := S1x1024.Idx) e9 e19 e29 e39; exact q),
      h77.trans (show _ = _ by have q := mom_of (ι := S1x1024.Idx) e19 e29; exact q),
      h78.trans (show _ = _ by have q := vel_of (ι := S1x1024.Idx) e19 e39; exact q),
      h79.trans e19, hk⟩

end Cert.Proof

end
-- ==== Proof.SumDevClaim.lean ====
/- The sum of the eight devices' parts, against the reference's; and its claims. -/
module
public import proofs.«01_k».proof.Defs
public import proofs.«01_k».proof.Proof.Gen.SumDev.Frame
public import proofs.«01_k».proof.Proof.Gen.SumDevIdeal
public import proofs.«01_k».proof.Proof.Gen.SumDevIdeal.Frame
public import proofs.«01_k».proof.Proof.Gen.SumDevRefIdeal
public import proofs.«01_k».proof.Proof.Gen.SumDevRefIdeal.Run
public import proofs.«01_k».proof.Proof.WholeStore
public import Idealize.ShloMosaic.Lib.Pipeline.ValueKit
public import Idealize.ShloMosaic.Lib.WholeRead
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.SumDevRefIdeal.Value

open Cert.SumDevRefIdeal Cert.SumDevRefIdeal.Gen

/-- The reference's sum of a device's own part and the others'. -/
def ref_v5 (a0 : FVec Ideal S416x128 .f32) (a1 : FVec Ideal S8x416x128 .f32) (a2 : IVec S1 32) : FVec Ideal S416x128 .f32 :=
  Host.reduceAdd (select (broadcastInDim S8x416x128 ![0, 1, 2] bcast_S8x1x1_S8x416x128_0_1_2 (broadcastInDim S8x1x1 ![0] bcast_S8_S8x1x1_0 (cmpi .eq (iotaInDim S8 32 0) (broadcastInDim S8 ![0] bcast_S1_S8_0 a2)))) (broadcastInDim S8x416x128 ![1, 2] bcast_S416x128_S8x416x128_1_2 a0) a1) (constant S_ .f32 0x00000000#32) reducesTo_S8x416x128_S416x128_d0 h_S_

end Cert.SumDevRefIdeal.Value

namespace Cert.SumDevIdeal.Value

open Cert.SumDevIdeal Cert.SumDevIdeal.Gen Cert.SumDevRefIdeal.Value Cert.WholeStore

/-- A choice of arrays is the choice at each entry. -/
theorem sel_fun {α : Type} {ι : Type} (c : BitVec 1) (f g : ι → α) (i : ι) : Scalar.select c f g i = Scalar.select c (f i) (g i) := by
  unfold Scalar.select; split <;> rfl

/-- What the body leaves is the reference's sum. -/
theorem out_eq (c : Dev nD) (i : grid0.Coords) (arg2 : Memref sig .tc .vmem S416x128 .f32) (harg2 : arg2.IsWhole) (arg3 : Memref sig .tc .vmem S8x416x128 .f32) (harg3 : arg3.IsWhole) (arg4 : Memref sig .tc .vmem S416x128 .f32) (harg4 : arg4.IsWhole)
    (x0 : Vec Ideal S416x128 .f32) (x1 : Vec Ideal S8x416x128 .f32) (xt0 : TbBuf0 (F := Ideal) c tbM0_0) (j : S416x128.Idx) :
    out0_A_2 c i arg2 harg2 arg3 harg3 arg4 harg4 x0 x1 xt0 j = ref_v5 x0 x1 xt0 j := by
  idx_vars j
  unfold out0_A_2 kernelRun0_A
  dsimp only
  rw [read_whole _ _ hz]
  unfold k0_pay1 kernelRun0_A.sl.r_1 kernelRun0_A.sl.r_2 kernelRun0_A.sl.v28 kernelRun0_A.sl.r
  unfold k0_pay2
  dsimp only
  pointwise [ref_v5, sel_fun, Memref.IsWhole.readAt_unread]
  have hw : ∀ p q, View.readAt (Elt Ideal) (View.whole main_arg2) (Rect.unit ![0] ![1] inb_S1_S1_0).toLoadRect xt0 (Shape.Idx.first p) = q → q = xt0 (ix1 0) := by
    rintro p q rfl
    exact congrArg xt0 (show (_ : S1.Idx) = _ from funext fun k => by fin_cases k; exact Subsingleton.elim (α := Fin 1) _ _)
  have hc : ∀ u v : BitVec 32, Scalar.cmpi .eq u v = IntOp.cmpi .eq v u := fun u v => congrArg BitVec.ofBool (Bool.beq_comm)
  simp only [hw _ _ rfl, Fin.sum_univ_eight, hc]
  rfl

variable (m : (ℓ : Loc nD τ sig) → Buf (Elt Ideal) ℓ)

/-- No index of a block reads the table. -/
theorem ok : Ok m := trivial

/-! The block of each array is the whole array. -/

theorem i0 (a : (pcfg0 (F := Ideal)).Adm) : ∀ t : Fin (cfg0 a).N, ((cfg0 a).win 0).index t = ![0, 0] :=
  (by decide +kernel : ∀ t : Fin grid0.N, cc0_transform_0 (grid0.coords t) = ![0, 0])
theorem i1 (a : (pcfg0 (F := Ideal)).Adm) : ∀ t : Fin (cfg0 a).N, ((cfg0 a).win 1).index t = ![0, 0, 0] :=
  (by decide +kernel : ∀ t : Fin grid0.N, cc0_transform_1 (grid0.coords t) = ![0, 0, 0])
theorem i2 (a : (pcfg0 (F := Ideal)).Adm) : ∀ t : Fin (cfg0 a).N, ((cfg0 a).win 2).index t = ![0, 0] :=
  (by decide +kernel : ∀ t : Fin grid0.N, cc0_transform_2 (grid0.coords t) = ![0, 0])

theorem e0 (a : (pcfg0 (F := Ideal)).Adm) (t : Fin (cfg0 a).N) (j : S416x128.Idx) : (((cfg0 a).win 0).blk t).view.emb j = j := by
  idx_vars j; blk_ext [i0 a t]
theorem e1 (a : (pcfg0 (F := Ideal)).Adm) (t : Fin (cfg0 a).N) (j : S8x416x128.Idx) : (((cfg0 a).win 1).blk t).view.emb j = j := by
  idx_vars j; blk_ext [i1 a t]
theorem e2 (a : (pcfg0 (F := Ideal)).Adm) (t : Fin (cfg0 a).N) (j : S416x128.Idx) : (((cfg0 a).win 2).blk t).view.emb j = j := by
  idx_vars j; blk_ext [i2 a t]

abbrev y2 (c : Dev nD) : FVec Ideal S416x128 .f32 :=
  ref_v5 (m ((c : Thread nD τ).loc main_arg0)) (m ((c : Thread nD τ).loc main_arg1)) (m ((c : Thread nD τ).loc main_arg2))

/-- The array the sum leaves. -/
theorem final_2 (c : Dev nD) : (dats m (ok m) 0 c).arrAt 2 (cfgM m (ok m)).N = y2 m c :=
  (dats m (ok m) 0 c).arrAt_eq_of_cover 2 (y2 m c) (fun t _ => by
    obtain rfl : c = 0 := Subsingleton.elim _ _
    show ((cfgM m (ok m)).win 2).cut (grid0.coords t) ((dats m (ok m) 0 0).after 2 t) = _
    have i0 : iblk m (ok m) 0 0 t = m (((0 : Dev nD) : Thread nD τ).loc main_arg0) := funext fun j => congrArg (m _) (e0 _ t j)
    have i1 : iblk m (ok m) 0 1 t = m (((0 : Dev nD) : Thread nD τ).loc main_arg1) := funext fun j => congrArg (m _) (e1 _ t j)
    rw [after0_2]
    unfold outsAt0
    rw [i0, i1]
    funext j
    refine (show _ = y2 m 0 j from ?_).trans (congrArg (y2 m 0) (e2 _ t j).symm)
    exact out_eq _ _ _ _ _ _ _ _ _ _ _ j)
  fun i => ⟨t0_0, flush0_2 _ _, by have h := (((cfgM m (ok m)).win 2).blk t0_0).view.emb_mem_set i; exact (congrArg (· ∈ _) (e2 _ t0_0 i)).mp h⟩

end Cert.SumDevIdeal.Value

namespace Cert.Proof

/-- The sum of the devices' parts runs and leaves its arguments; so does its idealization, and the reference. -/
theorem frame_sumDev : Cert.quiescent_SumDev := fun m ρ _ => Cert.SumDev.Gen.frame m ρ trivial

theorem frame_sumDevIdeal : Cert.quiescent_SumDevIdeal := fun m ρ _ => Cert.SumDevIdeal.Gen.frame m ρ trivial

theorem frame_sumDevRef : Cert.quiescent_SumDevRefIdeal := fun m g _ =>
  (θ_run _ _ _).mono (fun r h => ⟨fun c => (h c).2, sem_eq_zero_of_no_sems (by decide) _⟩) (Cert.SumDevRefIdeal.Value.run m g)

open Cert.SumDevIdeal.Value in
/-- The sum of the devices' parts equals its reference. -/
theorem sumDev : Cert.algebraic_SumDevIdeal_SumDevRefIdeal := by
  intro m g m' g' _ hagree
  refine ⟨y2 m, (θ_run _ _ _).mono (fun r h c => ?_) (Cert.SumDevIdeal.Gen.run_main m g (ok m)),
    (θ_run _ _ _).mono (fun r h c => ⟨(h c).1.trans ?_, (h c).2⟩) (Cert.SumDevRefIdeal.Value.run m' g')⟩
  · exact ⟨((h c).1 2).trans (final_2 m c),
      ((h c).1 0).trans ((Cert.SumDevIdeal.Gen.dats m (ok m) 0 c).arrAt_in 0 rfl _),
      ((h c).1 1).trans ((Cert.SumDevIdeal.Gen.dats m (ok m) 0 c).arrAt_in 1 rfl _),
      (h c).2 _ (by decide : Cert.SumDevIdeal.main_arg2 ∈ Pipeline.restRefs _ Cert.SumDevIdeal.spec0)⟩
  · obtain ⟨e0, e1, e2⟩ := hagree c
    show Cert.SumDevRefIdeal.Value.ref_v5 _ _ _ = _
    rw [e0, e1, e2]

end Cert.Proof

end
-- ==== Proof.lean ====
/- The certificate: the frames of the programs and the value claims. -/
module

public import proofs.«01_k».proof.Defs
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvRefIdeal
public import proofs.«01_k».proof.Proof.Gen.SconvRefIdeal.Run
public import proofs.«01_k».proof.Proof.Gen.SconvIdeal.Value
public import proofs.«01_k».proof.Proof.SconvValue
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnFwdRefIdeal
public import proofs.«01_k».proof.Proof.Gen.FfnFwdRefIdeal.Run
public import proofs.«01_k».proof.Proof.Gen.FfnBwdRefIdeal
public import proofs.«01_k».proof.Proof.Gen.FfnBwdRefIdeal.Run
public import proofs.«01_k».proof.Proof.Gen.FfnFwdIdeal.Value
public import proofs.«01_k».proof.Proof.Gen.Pre_finite
public import proofs.«01_k».proof.Proof.FfnFwdValue
public import proofs.«01_k».proof.Proof.FfnBwdValue
public import proofs.«01_k».proof.Proof.FfnBwdFrame
public import proofs.«01_k».proof.Proof.InClaim
public import proofs.«01_k».proof.Proof.PleClaim
public import proofs.«01_k».proof.Proof.OutClaim
public import proofs.«01_k».proof.Proof.AdamClaim
public import proofs.«01_k».proof.Proof.AdamSmallClaim
public import proofs.«01_k».proof.Proof.SumDevClaim
public import Idealize.ShloMosaic.Lib.Claim
public import Idealize.ShloMosaic.Lib.Quiescent
public import Idealize.ShloMosaic.Adequacy
public import Idealize.ShloMosaic.Init
public import proofs.«01_k».proof.Proof.Gen.Pre_finite_out
public import proofs.«01_k».proof.Proof.Gen.OutBwdRefIdeal.Run
public import proofs.«01_k».proof.Proof.Gen.OutBwdRefIdeal
public import proofs.«01_k».proof.Proof.Gen.OutBwdIdeal.Value
public import proofs.«01_k».proof.Proof.Gen.OutBwdIdeal
public import proofs.«01_k».proof.Proof.Gen.OutBwd
public import proofs.«01_k».proof.Proof.Gen.OutFwdRefIdeal.Run
public import proofs.«01_k».proof.Proof.Gen.OutFwdRefIdeal
public import proofs.«01_k».proof.Proof.Gen.OutFwdIdeal.Value
public import proofs.«01_k».proof.Proof.Gen.OutFwdIdeal
public import proofs.«01_k».proof.Proof.Gen.OutFwd
public import proofs.«01_k».proof.Proof.Gen.PleBwdRefIdeal.Run
public import proofs.«01_k».proof.Proof.Gen.PleBwdRefIdeal
public import proofs.«01_k».proof.Proof.Gen.PleBwdIdeal.Value
public import proofs.«01_k».proof.Proof.Gen.PleBwdIdeal
public import proofs.«01_k».proof.Proof.Gen.PleBwd
public import proofs.«01_k».proof.Proof.Gen.PleFwdRefIdeal.Run
public import proofs.«01_k».proof.Proof.Gen.PleFwdRefIdeal
public import proofs.«01_k».proof.Proof.Gen.PleFwdIdeal.Value
public import proofs.«01_k».proof.Proof.Gen.PleFwdIdeal
public import proofs.«01_k».proof.Proof.Gen.PleFwd
public import proofs.«01_k».proof.Proof.Gen.Pre_finite_in
public import proofs.«01_k».proof.Proof.Gen.InBwdRefIdeal.Run
public import proofs.«01_k».proof.Proof.Gen.InBwdRefIdeal
public import proofs.«01_k».proof.Proof.Gen.InBwdIdeal.Value
public import proofs.«01_k».proof.Proof.Gen.InBwdIdeal
public import proofs.«01_k».proof.Proof.Gen.InBwd
public import proofs.«01_k».proof.Proof.Gen.InFwdRefIdeal.Run
public import proofs.«01_k».proof.Proof.Gen.InFwdRefIdeal
public import proofs.«01_k».proof.Proof.Gen.InFwdIdeal.Value
public import proofs.«01_k».proof.Proof.Gen.InFwdIdeal
public import proofs.«01_k».proof.Proof.Gen.InFwd
public import proofs.«01_k».proof.Proof.Gen.OutBwdIdeal.Frame
public import proofs.«01_k».proof.Proof.Gen.OutBwd.Frame
public import proofs.«01_k».proof.Proof.Gen.OutBwdIdeal.Points
public import proofs.«01_k».proof.Proof.Gen.OutBwd.Points
public import proofs.«01_k».proof.Proof.Gen.OutBwdIdeal.Launch
public import proofs.«01_k».proof.Proof.Gen.OutBwd.Launch
public import proofs.«01_k».proof.Proof.Gen.OutBwdIdeal.Skeleton
public import proofs.«01_k».proof.Proof.Gen.OutBwd.Skeleton
public import proofs.«01_k».proof.Proof.Gen.OutFwdIdeal.Frame
public import proofs.«01_k».proof.Proof.Gen.OutFwd.Frame
public import proofs.«01_k».proof.Proof.Gen.OutFwdIdeal.Points
public import proofs.«01_k».proof.Proof.Gen.OutFwd.Points
public import proofs.«01_k».proof.Proof.Gen.OutFwdIdeal.Launch
public import proofs.«01_k».proof.Proof.Gen.OutFwd.Launch
public import proofs.«01_k».proof.Proof.Gen.OutFwdIdeal.Skeleton
public import proofs.«01_k».proof.Proof.Gen.OutFwd.Skeleton
public import proofs.«01_k».proof.Proof.Gen.PleBwdIdeal.Frame
public import proofs.«01_k».proof.Proof.Gen.PleBwd.Frame
public import proofs.«01_k».proof.Proof.Gen.PleBwdIdeal.Points
public import proofs.«01_k».proof.Proof.Gen.PleBwd.Points
public import proofs.«01_k».proof.Proof.Gen.PleBwdIdeal.Launch
public import proofs.«01_k».proof.Proof.Gen.PleBwd.Launch
public import proofs.«01_k».proof.Proof.Gen.PleBwdIdeal.Skeleton
public import proofs.«01_k».proof.Proof.Gen.PleBwd.Skeleton
public import proofs.«01_k».proof.Proof.Gen.PleFwdIdeal.Frame
public import proofs.«01_k».proof.Proof.Gen.PleFwd.Frame
public import proofs.«01_k».proof.Proof.Gen.PleFwdIdeal.Points
public import proofs.«01_k».proof.Proof.Gen.PleFwd.Points
public import proofs.«01_k».proof.Proof.Gen.PleFwdIdeal.Launch
public import proofs.«01_k».proof.Proof.Gen.PleFwd.Launch
public import proofs.«01_k».proof.Proof.Gen.PleFwdIdeal.Skeleton
public import proofs.«01_k».proof.Proof.Gen.PleFwd.Skeleton
public import proofs.«01_k».proof.Proof.Gen.InBwdIdeal.Frame
public import proofs.«01_k».proof.Proof.Gen.InBwd.Frame
public import proofs.«01_k».proof.Proof.Gen.InBwdIdeal.Points
public import proofs.«01_k».proof.Proof.Gen.InBwd.Points
public import proofs.«01_k».proof.Proof.Gen.InBwdIdeal.Launch
public import proofs.«01_k».proof.Proof.Gen.InBwd.Launch
public import proofs.«01_k».proof.Proof.Gen.InBwdIdeal.Skeleton
public import proofs.«01_k».proof.Proof.Gen.InBwd.Skeleton
public import proofs.«01_k».proof.Proof.Gen.InFwdIdeal.Frame
public import proofs.«01_k».proof.Proof.Gen.InFwd.Frame
public import proofs.«01_k».proof.Proof.Gen.InFwdIdeal.Points
public import proofs.«01_k».proof.Proof.Gen.InFwd.Points
public import proofs.«01_k».proof.Proof.Gen.InFwdIdeal.Launch
public import proofs.«01_k».proof.Proof.Gen.InFwd.Launch
public import proofs.«01_k».proof.Proof.Gen.InFwdIdeal.Skeleton
public import proofs.«01_k».proof.Proof.Gen.InFwd.Skeleton
public import proofs.«01_k».proof.Proof.Gen.AdamSmallRefIdeal.Run
public import proofs.«01_k».proof.Proof.Gen.AdamSmallRefIdeal
public import proofs.«01_k».proof.Proof.Gen.AdamSmallIdeal
public import proofs.«01_k».proof.Proof.Gen.AdamSmall
public import proofs.«01_k».proof.Proof.Gen.AdamPleRefIdeal.Run
public import proofs.«01_k».proof.Proof.Gen.AdamPleRefIdeal
public import proofs.«01_k».proof.Proof.Gen.AdamPleIdeal.Value
public import proofs.«01_k».proof.Proof.Gen.AdamPleIdeal
public import proofs.«01_k».proof.Proof.Gen.AdamPle
public import proofs.«01_k».proof.Proof.Gen.AdamOutRefIdeal.Run
public import proofs.«01_k».proof.Proof.Gen.AdamOutRefIdeal
public import proofs.«01_k».proof.Proof.Gen.AdamOutIdeal.Value
public import proofs.«01_k».proof.Proof.Gen.AdamOutIdeal
public import proofs.«01_k».proof.Proof.Gen.AdamOut
public import proofs.«01_k».proof.Proof.Gen.AdamFfnRefIdeal.Run
public import proofs.«01_k».proof.Proof.Gen.AdamFfnRefIdeal
public import proofs.«01_k».proof.Proof.Gen.AdamFfnIdeal.Value
public import proofs.«01_k».proof.Proof.Gen.AdamFfnIdeal
public import proofs.«01_k».proof.Proof.Gen.AdamFfn
public import proofs.«01_k».proof.Proof.Gen.AdamInRefIdeal.Run
public import proofs.«01_k».proof.Proof.Gen.AdamInRefIdeal
public import proofs.«01_k».proof.Proof.Gen.AdamInIdeal.Value
public import proofs.«01_k».proof.Proof.Gen.AdamInIdeal
public import proofs.«01_k».proof.Proof.Gen.AdamIn
public import proofs.«01_k».proof.Proof.Gen.AdamPleIdeal.Frame
public import proofs.«01_k».proof.Proof.Gen.AdamPle.Frame
public import proofs.«01_k».proof.Proof.Gen.AdamOutIdeal.Frame
public import proofs.«01_k».proof.Proof.Gen.AdamOut.Frame
public import proofs.«01_k».proof.Proof.Gen.AdamFfnIdeal.Frame
public import proofs.«01_k».proof.Proof.Gen.AdamFfn.Frame
public import proofs.«01_k».proof.Proof.Gen.AdamInIdeal.Frame
public import proofs.«01_k».proof.Proof.Gen.AdamIn.Frame
public import proofs.«01_k».proof.Proof.Gen.SumDevRefIdeal.Run
public import proofs.«01_k».proof.Proof.Gen.SumDevRefIdeal
public import proofs.«01_k».proof.Proof.Gen.SumDevIdeal.Frame
public import proofs.«01_k».proof.Proof.Gen.SumDevIdeal
public import proofs.«01_k».proof.Proof.Gen.SumDev.Frame
public import proofs.«01_k».proof.Proof.Gen.SumDev

@[expose] public section

noncomputable section

namespace Cert.Proof

open Idealize.ShloMosaic Idealize.SL.Sem Cert.RealEntry

/-- The reference of the short convolution's gradient runs and leaves its arguments. -/
theorem frame_sconvRef : Cert.quiescent_SconvRefIdeal := by
  intro m g _
  refine (θ_run _ _ _).mono (fun r h => ⟨fun c => (h c).2.2.2.2, sem_eq_zero_of_no_sems (by decide) _⟩)
    (Cert.SconvRefIdeal.Value.run m g)

/-- The short convolution's gradient equals its reference. -/
theorem sconv : Cert.algebraic_SconvIdeal_SconvRefIdeal := by
  pair_intro
  · run_from Cert.SconvIdeal.Gen.run_main m g
  · run_from Cert.SconvRefIdeal.Value.run m' g'
    · exact (Cert.SconvIdeal.Value.final_5 m c).symm
    · exact (Cert.SconvIdeal.Value.final_6 m c).symm
    · exact (Cert.SconvIdeal.Value.final_7 m c).symm
    · exact (Cert.SconvIdeal.Value.final_8 m c).symm

/-- The reference of the feed-forward block runs and leaves its arguments. -/
theorem frame_ffnFwdRef : Cert.quiescent_FfnFwdRefIdeal := by
  intro m g _
  refine (θ_run _ _ _).mono (fun r h => ⟨fun c => (h c).2.2.2, sem_eq_zero_of_no_sems (by decide) _⟩)
    (Cert.FfnFwdRefIdeal.Value.run m g)

/-- The feed-forward block equals its reference. -/
theorem ffnFwd : Cert.algebraic_FfnFwdIdeal_FfnFwdRefIdeal := by
  pair_intro
  · run_from Cert.FfnFwdIdeal.Gen.run_main m g
  · run_from Cert.FfnFwdRefIdeal.Value.run m' g'
    · exact (Cert.FfnFwdIdeal.Value.final_5 m c).symm
    · exact (Cert.FfnFwdIdeal.Value.final_6 m c).symm
    · exact (Cert.FfnFwdIdeal.Value.final_7 m c).symm

/-- The reference of the feed-forward block's gradient runs and leaves its arguments. -/
theorem frame_ffnBwdRef : Cert.quiescent_FfnBwdRefIdeal := by
  intro m g _
  refine (θ_run _ _ _).mono (fun r h => ⟨fun c => (h c).2.2.2.2, sem_eq_zero_of_no_sems (by decide) _⟩)
    (Cert.FfnBwdRefIdeal.Value.run m g)

/-- Arguments that the precondition holds of have real entries only. -/
theorem real_of_finite (m : (ℓ : Loc Cert.FfnBwdIdeal.nD Cert.FfnBwdIdeal.τ Cert.FfnBwdIdeal.sig) → Buf (Elt Ideal) ℓ)
    (h : Cert.Pre_FfnBwdIdeal_finite m) (c : Dev Cert.FfnBwdIdeal.nD) :
    (∀ i, IsReal (Cert.FfnBwdIdeal.Body.in0 m c i)) ∧ (∀ i, IsReal (Cert.FfnBwdIdeal.Body.in1 m c i))
      ∧ (∀ i, IsReal (Cert.FfnBwdIdeal.Body.in2 m c i)) ∧ (∀ i, IsReal (Cert.FfnBwdIdeal.Body.in3 m c i))
      ∧ (∀ i, IsReal (Cert.FfnBwdIdeal.Body.in4 m c i)) := by
  have e := congrFun (h c) ix0
  dsimp only [Cert.Pre_finite.fn, Cert.Pre_finite.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => isReal_of_abs_lt _ (Host.reduce_andi_all _ _ _ _ _ e0 i), fun i => isReal_of_abs_lt _ (Host.reduce_andi_all _ _ _ _ _ e1 i),
    fun i => isReal_of_abs_lt _ (Host.reduce_andi_all _ _ _ _ _ e2 i), fun i => isReal_of_abs_lt _ (Host.reduce_andi_all _ _ _ _ _ e3 i),
    fun i => isReal_of_abs_lt _ (Host.reduce_andi_all _ _ _ _ _ e4 i)⟩

/-- At finite arguments the feed-forward block's gradient equals its reference. -/
theorem ffnBwd : Cert.algebraic_FfnBwdIdeal_FfnBwdRefIdeal_pre_finite := by
  intro m g m' g' hpre hagree
  have hr := real_of_finite m hpre
  have hrun := Cert.FfnBwdIdeal.Body.run m g (fun c => (hr c).1) (fun c => (hr c).2.1) (fun c => (hr c).2.2.1) (fun c => (hr c).2.2.2.1)
    (fun c => (hr c).2.2.2.2)
  refine ⟨fun c => Cert.FfnBwdRefIdeal.Value.ref_v22 (Cert.FfnBwdIdeal.Body.in0 m c) (Cert.FfnBwdIdeal.Body.in1 m c) (Cert.FfnBwdIdeal.Body.in2 m c) (Cert.FfnBwdIdeal.Body.in3 m c) (Cert.FfnBwdIdeal.Body.in4 m c),
    fun c => Cert.FfnBwdRefIdeal.Value.ref_v27 (Cert.FfnBwdIdeal.Body.in0 m c) (Cert.FfnBwdIdeal.Body.in1 m c) (Cert.FfnBwdIdeal.Body.in2 m c) (Cert.FfnBwdIdeal.Body.in3 m c) (Cert.FfnBwdIdeal.Body.in4 m c),
    fun c => Cert.FfnBwdRefIdeal.Value.ref_v25 (Cert.FfnBwdIdeal.Body.in0 m c) (Cert.FfnBwdIdeal.Body.in1 m c) (Cert.FfnBwdIdeal.Body.in2 m c) (Cert.FfnBwdIdeal.Body.in3 m c) (Cert.FfnBwdIdeal.Body.in4 m c),
    fun c => Cert.FfnBwdRefIdeal.Value.ref_v23 (Cert.FfnBwdIdeal.Body.in0 m c) (Cert.FfnBwdIdeal.Body.in1 m c) (Cert.FfnBwdIdeal.Body.in2 m c) (Cert.FfnBwdIdeal.Body.in3 m c) (Cert.FfnBwdIdeal.Body.in4 m c),
    hrun, Cert.FfnBwdRefIdeal.Value.run_at m' g' (Cert.FfnBwdIdeal.Body.in0 m) (fun c => (hagree c).1) (Cert.FfnBwdIdeal.Body.in1 m)
      (fun c => (hagree c).2.1) (Cert.FfnBwdIdeal.Body.in2 m) (fun c => (hagree c).2.2.1) (Cert.FfnBwdIdeal.Body.in3 m)
      (fun c => (hagree c).2.2.2.1) (Cert.FfnBwdIdeal.Body.in4 m) (fun c => (hagree c).2.2.2.2)⟩

theorem claim : Cert.Claim :=
  ⟨Cert.Sconv.Gen.facts, Cert.SconvIdeal.Gen.facts, Cert.SconvRefIdeal.Gen.facts, Cert.Delta.Gen.facts, Cert.DeltaIdeal.Gen.facts,
    Cert.FfnFwd.Gen.facts, Cert.FfnFwdIdeal.Gen.facts, Cert.FfnFwdRefIdeal.Gen.facts,
    Cert.FfnBwd.Gen.facts, Cert.FfnBwdIdeal.Gen.facts, Cert.FfnBwdRefIdeal.Gen.facts,
    Cert.InFwd.Gen.facts, Cert.InFwdIdeal.Gen.facts, Cert.InFwdRefIdeal.Gen.facts,
    Cert.InBwd.Gen.facts, Cert.InBwdIdeal.Gen.facts, Cert.InBwdRefIdeal.Gen.facts,
    Cert.PleFwd.Gen.facts, Cert.PleFwdIdeal.Gen.facts, Cert.PleFwdRefIdeal.Gen.facts,
    Cert.PleBwd.Gen.facts, Cert.PleBwdIdeal.Gen.facts, Cert.PleBwdRefIdeal.Gen.facts,
    Cert.OutFwd.Gen.facts, Cert.OutFwdIdeal.Gen.facts, Cert.OutFwdRefIdeal.Gen.facts,
    Cert.OutBwd.Gen.facts, Cert.OutBwdIdeal.Gen.facts, Cert.OutBwdRefIdeal.Gen.facts,
    Cert.AdamIn.Gen.facts, Cert.AdamInIdeal.Gen.facts, Cert.AdamInRefIdeal.Gen.facts,
    Cert.AdamFfn.Gen.facts, Cert.AdamFfnIdeal.Gen.facts, Cert.AdamFfnRefIdeal.Gen.facts,
    Cert.AdamOut.Gen.facts, Cert.AdamOutIdeal.Gen.facts, Cert.AdamOutRefIdeal.Gen.facts,
    Cert.AdamPle.Gen.facts, Cert.AdamPleIdeal.Gen.facts, Cert.AdamPleRefIdeal.Gen.facts,
    Cert.AdamSmall.Gen.facts, Cert.AdamSmallIdeal.Gen.facts, Cert.AdamSmallRefIdeal.Gen.facts,
    Cert.SumDev.Gen.facts, Cert.SumDevIdeal.Gen.facts, Cert.SumDevRefIdeal.Gen.facts,
    Cert.Pre_finite.Gen.facts, Cert.Pre_finite_in.Gen.facts, Cert.Pre_finite_out.Gen.facts,
    fun m ρ _ => Cert.Sconv.Gen.frame m ρ, fun m ρ _ => Cert.SconvIdeal.Gen.frame m ρ, frame_sconvRef,
    fun m ρ _ => Cert.Delta.Gen.frame m ρ, fun m ρ _ => Cert.DeltaIdeal.Gen.frame m ρ,
    fun m ρ _ => Cert.FfnFwd.Gen.frame m ρ, fun m ρ _ => Cert.FfnFwdIdeal.Gen.frame m ρ, frame_ffnFwdRef,
    fun m ρ _ => Cert.FfnBwd.Body.frame m ρ, fun m ρ _ => Cert.FfnBwdIdeal.Body.frame m ρ, fun m ρ _ => Cert.FfnBwdIdeal.Body.frame m ρ,
    frame_ffnBwdRef, fun m ρ _ => frame_ffnBwdRef m ρ trivial,
    fun m ρ _ => Cert.InFwd.Gen.frame m ρ, fun m ρ _ => Cert.InFwdIdeal.Gen.frame m ρ, frame_inFwdRef,
    fun m ρ _ => Cert.InBwd.Gen.frame m ρ, fun m ρ _ => Cert.InBwdIdeal.Gen.frame m ρ, fun m ρ _ => Cert.InBwdIdeal.Gen.frame m ρ,
    frame_inBwdRef, fun m ρ _ => frame_inBwdRef m ρ trivial,
    fun m ρ _ => Cert.PleFwd.Gen.frame m ρ, fun m ρ _ => Cert.PleFwdIdeal.Gen.frame m ρ, frame_pleFwdRef,
    fun m ρ _ => Cert.PleBwd.Gen.frame m ρ, fun m ρ _ => Cert.PleBwdIdeal.Gen.frame m ρ, frame_pleBwdRef,
    fun m ρ _ => Cert.OutFwd.Gen.frame m ρ, fun m ρ _ => Cert.OutFwdIdeal.Gen.frame m ρ, frame_outFwdRef,
    fun m ρ _ => Cert.OutBwd.Gen.frame m ρ, fun m ρ _ => Cert.OutBwdIdeal.Gen.frame m ρ, fun m ρ _ => Cert.OutBwdIdeal.Gen.frame m ρ,
    frame_outBwdRef, fun m ρ _ => frame_outBwdRef m ρ trivial,
    fun m ρ _ => Cert.AdamIn.Gen.frame m ρ, fun m ρ _ => Cert.AdamInIdeal.Gen.frame m ρ, frame_adamInRef,
    fun m ρ _ => Cert.AdamFfn.Gen.frame m ρ, fun m ρ _ => Cert.AdamFfnIdeal.Gen.frame m ρ, frame_adamFfnRef,
    fun m ρ _ => Cert.AdamOut.Gen.frame m ρ, fun m ρ _ => Cert.AdamOutIdeal.Gen.frame m ρ, frame_adamOutRef,
    fun m ρ _ => Cert.AdamPle.Gen.frame m ρ, fun m ρ _ => Cert.AdamPleIdeal.Gen.frame m ρ, frame_adamPleRef,
    frame_adamSmall, frame_adamSmallIdeal, frame_adamSmallRef, frame_sumDev, frame_sumDevIdeal, frame_sumDevRef,
    trivial, sconv, trivial, trivial, ffnFwd, trivial, ffnBwd, trivial, inFwd, trivial, inBwd, trivial, pleFwd, trivial, pleBwd, trivial, outFwd, trivial, outBwd,
    preserves_adamIn, adamIn, preserves_adamFfn, adamFfn, preserves_adamOut, adamOut, preserves_adamPle, adamPle, preserves_adamSmall, adamSmall, trivial, sumDev⟩

end Cert.Proof

end
